-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12)
      ∧ r.2.mem ((c.tc : Thread Cert.Kernel6.nD Cert.Kernel6.τ).loc Cert.Kernel6.main_arg13) = m ((c.tc : Thread Cert.Kernel6.nD Cert.Kernel6.τ).loc Cert.Kernel6.main_arg13))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_v47) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_v14) = v1 c
          ∧ r.2.mem ((c.tc : Thread Cert.Reference2Ideal.nD Cert.Reference2Ideal.τ).loc Cert.Reference2Ideal.main_v15) = v2 c
          ∧ r.2.mem ((c.tc : Thread Cert.Reference2Ideal.nD Cert.Reference2Ideal.τ).loc Cert.Reference2Ideal.main_v16) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_v4) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)) (v4 : (c : Dev Cert.Kernel4Ideal.nD) → Buf (Elt Ideal) ((c.tc : Thread Cert.Kernel4Ideal.nD Cert.Kernel4Ideal.τ).loc Cert.Kernel4Ideal.main_v0_4)) (v5 : (c : Dev Cert.Kernel4Ideal.nD) → Buf (Elt Ideal) ((c.tc : Thread Cert.Kernel4Ideal.nD Cert.Kernel4Ideal.τ).loc Cert.Kernel4Ideal.main_v0_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_v0_4) = v4 c
          ∧ r.2.mem ((c.tc : Thread Cert.Kernel4Ideal.nD Cert.Kernel4Ideal.τ).loc Cert.Kernel4Ideal.main_v0_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v87) = v0 c
          ∧ r.2.mem ((c.tc : Thread Cert.Reference4Ideal.nD Cert.Reference4Ideal.τ).loc Cert.Reference4Ideal.main_v89) = v1 c
          ∧ r.2.mem ((c.tc : Thread Cert.Reference4Ideal.nD Cert.Reference4Ideal.τ).loc Cert.Reference4Ideal.main_v52) = v2 c
          ∧ r.2.mem ((c.tc : Thread Cert.Reference4Ideal.nD Cert.Reference4Ideal.τ).loc Cert.Reference4Ideal.main_v55) = v3 c
          ∧ r.2.mem ((c.tc : Thread Cert.Reference4Ideal.nD Cert.Reference4Ideal.τ).loc Cert.Reference4Ideal.main_v86) = v4 c
          ∧ r.2.mem ((c.tc : Thread Cert.Reference4Ideal.nD Cert.Reference4Ideal.τ).loc Cert.Reference4Ideal.main_v90) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)) (v4 : (c : Dev Cert.Kernel5Ideal.nD) → Buf (Elt Ideal) ((c.tc : Thread Cert.Kernel5Ideal.nD Cert.Kernel5Ideal.τ).loc Cert.Kernel5Ideal.main_v0_4)) (v5 : (c : Dev Cert.Kernel5Ideal.nD) → Buf (Elt Ideal) ((c.tc : Thread Cert.Kernel5Ideal.nD Cert.Kernel5Ideal.τ).loc Cert.Kernel5Ideal.main_v0_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_v0_4) = v4 c
          ∧ r.2.mem ((c.tc : Thread Cert.Kernel5Ideal.nD Cert.Kernel5Ideal.τ).loc Cert.Kernel5Ideal.main_v0_5) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v84) = v0 c
          ∧ r.2.mem ((c.tc : Thread Cert.Reference5Ideal.nD Cert.Reference5Ideal.τ).loc Cert.Reference5Ideal.main_v85) = v1 c
          ∧ r.2.mem ((c.tc : Thread Cert.Reference5Ideal.nD Cert.Reference5Ideal.τ).loc Cert.Reference5Ideal.main_v5) = v2 c
          ∧ r.2.mem ((c.tc : Thread Cert.Reference5Ideal.nD Cert.Reference5Ideal.τ).loc Cert.Reference5Ideal.main_v86) = v3 c
          ∧ r.2.mem ((c.tc : Thread Cert.Reference5Ideal.nD Cert.Reference5Ideal.τ).loc Cert.Reference5Ideal.main_v87) = v4 c
          ∧ r.2.mem ((c.tc : Thread Cert.Reference5Ideal.nD Cert.Reference5Ideal.τ).loc Cert.Reference5Ideal.main_v88) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)
      ∧ m' ((c.tc : Thread Cert.Reference6Ideal.nD Cert.Reference6Ideal.τ).loc Cert.Reference6Ideal.main_arg13) = m ((c.tc : Thread Cert.Kernel6Ideal.nD Cert.Kernel6Ideal.τ).loc Cert.Kernel6Ideal.main_arg13)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)) (v2 : (c : Dev Cert.Kernel6Ideal.nD) → Buf (Elt Ideal) ((c.tc : Thread Cert.Kernel6Ideal.nD Cert.Kernel6Ideal.τ).loc Cert.Kernel6Ideal.main_v4_2)) (v3 : (c : Dev Cert.Kernel6Ideal.nD) → Buf (Elt Ideal) ((c.tc : Thread Cert.Kernel6Ideal.nD Cert.Kernel6Ideal.τ).loc Cert.Kernel6Ideal.main_v4_3)) (v4 : (c : Dev Cert.Kernel6Ideal.nD) → Buf (Elt Ideal) ((c.tc : Thread Cert.Kernel6Ideal.nD Cert.Kernel6Ideal.τ).loc Cert.Kernel6Ideal.main_v4_4)) (v5 : (c : Dev Cert.Kernel6Ideal.nD) → Buf (Elt Ideal) ((c.tc : Thread Cert.Kernel6Ideal.nD Cert.Kernel6Ideal.τ).loc Cert.Kernel6Ideal.main_v4_5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_v4_2) = v2 c
          ∧ r.2.mem ((c.tc : Thread Cert.Kernel6Ideal.nD Cert.Kernel6Ideal.τ).loc Cert.Kernel6Ideal.main_v4_3) = v3 c
          ∧ r.2.mem ((c.tc : Thread Cert.Kernel6Ideal.nD Cert.Kernel6Ideal.τ).loc Cert.Kernel6Ideal.main_v4_4) = v4 c
          ∧ r.2.mem ((c.tc : Thread Cert.Kernel6Ideal.nD Cert.Kernel6Ideal.τ).loc Cert.Kernel6Ideal.main_v4_5) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
          ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v118) = v0 c
          ∧ r.2.mem ((c.tc : Thread Cert.Reference6Ideal.nD Cert.Reference6Ideal.τ).loc Cert.Reference6Ideal.main_v119) = v1 c
          ∧ r.2.mem ((c.tc : Thread Cert.Reference6Ideal.nD Cert.Reference6Ideal.τ).loc Cert.Reference6Ideal.main_v121) = v2 c
          ∧ r.2.mem ((c.tc : Thread Cert.Reference6Ideal.nD Cert.Reference6Ideal.τ).loc Cert.Reference6Ideal.main_v91) = v3 c
          ∧ r.2.mem ((c.tc : Thread Cert.Reference6Ideal.nD Cert.Reference6Ideal.τ).loc Cert.Reference6Ideal.main_v94) = v4 c
          ∧ r.2.mem ((c.tc : Thread Cert.Reference6Ideal.nD Cert.Reference6Ideal.τ).loc Cert.Reference6Ideal.main_v122) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12)
          ∧ r.2.mem ((c.tc : Thread Cert.Reference6Ideal.nD Cert.Reference6Ideal.τ).loc Cert.Reference6Ideal.main_arg13) = m' ((c.tc : Thread Cert.Reference6Ideal.nD Cert.Reference6Ideal.τ).loc Cert.Reference6Ideal.main_arg13))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v14) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)) (v4 : (c : Dev Cert.Kernel8Ideal.nD) → Buf (Elt Ideal) ((c.tc : Thread Cert.Kernel8Ideal.nD Cert.Kernel8Ideal.τ).loc Cert.Kernel8Ideal.main_v0_4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_v0_4) = v4 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v72) = v0 c
          ∧ r.2.mem ((c.tc : Thread Cert.Reference8Ideal.nD Cert.Reference8Ideal.τ).loc Cert.Reference8Ideal.main_v74) = v1 c
          ∧ r.2.mem ((c.tc : Thread Cert.Reference8Ideal.nD Cert.Reference8Ideal.τ).loc Cert.Reference8Ideal.main_v75) = v2 c
          ∧ r.2.mem ((c.tc : Thread Cert.Reference8Ideal.nD Cert.Reference8Ideal.τ).loc Cert.Reference8Ideal.main_v71) = v3 c
          ∧ r.2.mem ((c.tc : Thread Cert.Reference8Ideal.nD Cert.Reference8Ideal.τ).loc Cert.Reference8Ideal.main_v76) = v4 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v62) = v0 c
          ∧ r.2.mem ((c.tc : Thread Cert.Reference9Ideal.nD Cert.Reference9Ideal.τ).loc Cert.Reference9Ideal.main_v36) = v1 c
          ∧ r.2.mem ((c.tc : Thread Cert.Reference9Ideal.nD Cert.Reference9Ideal.τ).loc Cert.Reference9Ideal.main_v63) = v2 c
          ∧ r.2.mem ((c.tc : Thread Cert.Reference9Ideal.nD Cert.Reference9Ideal.τ).loc Cert.Reference9Ideal.main_v65) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v4_0)) (v1 : (c : Dev Cert.Kernel10Ideal.nD) → Buf (Elt Ideal) ((c.tc : Thread Cert.Kernel10Ideal.nD Cert.Kernel10Ideal.τ).loc Cert.Kernel10Ideal.main_v4_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4_0) = v0 c
          ∧ r.2.mem ((c.tc : Thread Cert.Kernel10Ideal.nD Cert.Kernel10Ideal.τ).loc Cert.Kernel10Ideal.main_v4_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v71) = v0 c
          ∧ r.2.mem ((c.tc : Thread Cert.Reference10Ideal.nD Cert.Reference10Ideal.τ).loc Cert.Reference10Ideal.main_v74) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite.lean ====
abbrev S4096x1024 : Shape := ⟨2, ![4096, 1024]⟩
abbrev S2816x1024 : Shape := ⟨2, ![2816, 1024]⟩
abbrev S2x4096x2816 : Shape := ⟨3, ![2, 4096, 2816]⟩
abbrev S3x2816 : Shape := ⟨2, ![3, 2816]⟩
abbrev S1x2816 : Shape := ⟨2, ![1, 2816]⟩
abbrev S_ : Shape := ⟨0, ![]⟩
abbrev S1x4096x2816 : Shape := ⟨3, ![1, 4096, 2816]⟩
abbrev S4096x2816 : Shape := ⟨2, ![4096, 2816]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  slices_S2x4096x2816_S1x4096x2816_0_0_0 : S2x4096x2816.Slices ![0, 0, 0] S1x4096x2816
  shapeCasts_S1x4096x2816_S4096x2816 : S1x4096x2816.ShapeCasts S4096x2816
  bcast_S_S4096x2816 : S_.BroadcastsInDim S4096x2816 (![] : Fin 0 → Fin S4096x2816.rank)
  reducesTo_S4096x2816_S_d0_1 : S4096x2816.ReducesTo [0, 1] S_

variable [Facts]

def fn_part1 {F : FTy → Type} [FloatOps F] (main_v10 : IVec S_ 1) (main_v17 : IVec S_ 1) : IVec S_ 1 :=
  let main_v18 : IVec S_ 1 := andi main_v10 main_v17
  main_v18

def fn {F : FTy → Type} [FloatOps F] (main_arg0 : FVec F S4096x1024 .bf16) (main_arg1 : FVec F S2816x1024 .bf16) (main_arg2 : FVec F S2x4096x2816 .bf16) (main_arg3 : FVec F S3x2816 .f32) (main_arg4 : FVec F S1x2816 .f32) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S2816x1024 .f32 := (extf .f32 · bitsLt_bf16_f32) main_arg1
  let main_v6 : FVec F S2816x1024 .f32 := Host.absf main_v5
  let main_cst_0 : FVec F S_ .f32 := constant S_ .f32 0x7F800000#32
  let main_v7 : FVec F S2816x1024 .f32 := broadcastInDim S2816x1024 ![] bcast_S_S2816x1024 main_cst_0
  let main_v8 : IVec S2816x1024 1 := cmpf .olt main_v6 main_v7
  let main_c_1 : IVec S_ 1 := constantI S_ 1 1#1
  let main_v9 : IVec S_ 1 := (fun x v => Host.reduce IntOp.andi x v reducesTo_S2816x1024_S_d0_1 h_S_) main_v8 main_c_1
  let main_v10 : IVec S_ 1 := andi main_v4 main_v9
  let main_v11 : FVec F S1x4096x2816 .bf16 := (extractStridedSlice S1x4096x2816 ![0, 0, 0] · slices_S2x4096x2816_S1x4096x2816_0_0_0) main_arg2
  let main_v12 : FVec F S4096x2816 .bf16 := shapeCast S4096x2816 main_v11 shapeCasts_S1x4096x2816_S4096x2816
  let main_v13 : FVec F S4096x2816 .f32 := (extf .f32 · bitsLt_bf16_f32) main_v12
  let main_v14 : FVec F S4096x2816 .f32 := Host.absf main_v13
  let main_cst_2 : FVec F S_ .f32 := constant S_ .f32 0x7F800000#32
  let main_v15 : FVec F S4096x2816 .f32 := broadcastInDim S4096x2816 ![] bcast_S_S4096x2816 main_cst_2
  let main_v16 : IVec S4096x2816 1 := cmpf .olt main_v14 main_v15
  let main_c_3 : IVec S_ 1 := constantI S_ 1 1#1
  let main_v17 : IVec S_ 1 := (fun x v => Host.reduce IntOp.andi x v reducesTo_S4096x2816_S_d0_1 h_S_) main_v16 main_c_3
  fn_part1 (F := F) main_v10 main_v17
-- ==== Kernel.lean ====
abbrev S4096x1024 : Shape := ⟨2, ![4096, 1024]⟩
abbrev S2816x1024 : Shape := ⟨2, ![2816, 1024]⟩
abbrev S2x4096x2816 : Shape := ⟨3, ![2, 4096, 2816]⟩
abbrev S3x2816 : Shape := ⟨2, ![3, 2816]⟩
abbrev S1x2816 : Shape := ⟨2, ![1, 2816]⟩
abbrev S2048x1024 : Shape := ⟨2, ![2048, 1024]⟩
abbrev S256x1024 : Shape := ⟨2, ![256, 1024]⟩
abbrev S2x2048x256 : Shape := ⟨3, ![2, 2048, 256]⟩
abbrev S3x256 : Shape := ⟨2, ![3, 256]⟩
abbrev S1x256 : Shape := ⟨2, ![1, 256]⟩
abbrev S2048x256 : Shape := ⟨2, ![2048, 256]⟩
abbrev S8x256 : Shape := ⟨2, ![8, 256]⟩
abbrev S1x512x256 : Shape := ⟨3, ![1, 512, 256]⟩
abbrev S512x256 : Shape := ⟨2, ![512, 256]⟩
abbrev S1x16x256 : Shape := ⟨3, ![1, 16, 256]⟩
abbrev S16x256 : Shape := ⟨2, ![16, 256]⟩
abbrev S64x8x256 : Shape := ⟨3, ![64, 8, 256]⟩
abbrev S256 : Shape := ⟨1, ![256]⟩

abbrev nBuf : Space → Nat
  | .hbm => 8
  | .vmem => 18
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2x4096x2816, .bf16⟩
  | .hbm, ⟨3, _⟩ => ⟨S3x2816, .f32⟩
  | .hbm, ⟨4, _⟩ => ⟨S1x2816, .f32⟩
  | .hbm, ⟨5, _⟩ => ⟨S2x4096x2816, .bf16⟩
  | .hbm, ⟨6, _⟩ => ⟨S3x2816, .f32⟩
  | .hbm, ⟨7, _⟩ => ⟨S1x2816, .f32⟩
  | .local _ .vmem, ⟨0, _⟩ => ⟨S2048x1024, .bf16⟩
  | .local _ .vmem, ⟨1, _⟩ => ⟨S2048x1024, .bf16⟩
  | .local _ .vmem, ⟨2, _⟩ => ⟨S256x1024, .bf16⟩
  | .local _ .vmem, ⟨3, _⟩ => ⟨S256x1024, .bf16⟩
  | .local _ .vmem, ⟨4, _⟩ => ⟨S2x2048x256, .bf16⟩
  | .local _ .vmem, ⟨5, _⟩ => ⟨S2x2048x256, .bf16⟩
  | .local _ .vmem, ⟨6, _⟩ => ⟨S3x256, .f32⟩
  | .local _ .vmem, ⟨7, _⟩ => ⟨S3x256, .f32⟩
  | .local _ .vmem, ⟨8, _⟩ => ⟨S1x256, .f32⟩
  | .local _ .vmem, ⟨9, _⟩ => ⟨S1x256, .f32⟩
  | .local _ .vmem, ⟨10, _⟩ => ⟨S2x2048x256, .bf16⟩
  | .local _ .vmem, ⟨11, _⟩ => ⟨S2x2048x256, .bf16⟩
  | .local _ .vmem, ⟨12, _⟩ => ⟨S3x256, .f32⟩
  | .local _ .vmem, ⟨13, _⟩ => ⟨S3x256, .f32⟩
  | .local _ .vmem, ⟨14, _⟩ => ⟨S1x256, .f32⟩
  | .local _ .vmem, ⟨15, _⟩ => ⟨S1x256, .f32⟩
  | .local _ .vmem, ⟨16, _⟩ => ⟨S2048x256, .f32⟩
  | .local _ .vmem, ⟨17, _⟩ => ⟨S2048x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![11, 2], ![false, false]⟩

@[reducible] def k0_t1_loop : Scf.Loop 32 :=
  let c0_i32_7 : BitVec 32 := 0#32
  let c4_i32 : BitVec 32 := 4#32
  let v10 : BitVec 32 := Scalar.addi c0_i32_7 c4_i32
  let c1_i32 : BitVec 32 := 1#32
  ⟨c0_i32_7, v10, c1_i32⟩
def k0_mult1 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c512_i32 : BitVec 32 := 512#32
  let v37 : BitVec 32 := Scalar.muli arg12 c512_i32
  v37
def k0_off1 (k0_t1 : Fin k0_t1_loop.trips) : Fin 3 → Nat :=
  let c1_31 : Index := 1#32
  let c0_i32_7 : BitVec 32 := 0#32
  let c1_i32 : BitVec 32 := 1#32
  let arg12 : BitVec 32 := Scf.iv c0_i32_7 c1_i32 k0_t1
  let c512_i32 : BitVec 32 := 512#32
  let v37 : BitVec 32 := Scalar.muli arg12 c512_i32
  let v38 : BitVec 32 := v37
  let v39 : Index := Scalar.indexCast v38
  let c0_32 : Index := 0#32
  ![1, v39.toNat, 0]
def k0_mult2 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c512_i32 : BitVec 32 := 512#32
  let v37 : BitVec 32 := Scalar.muli arg12 c512_i32
  let v38 : BitVec 32 := v37
  let c16_i32 : BitVec 32 := 16#32
  let v43 : BitVec 32 := Scalar.subi v38 c16_i32
  let c0_i32_33 : BitVec 32 := 0#32
  let v44 : BitVec 32 := Scalar.maxsi v43 c0_i32_33
  v44
def k0_off2 (k0_t1 : Fin k0_t1_loop.trips) : Fin 3 → Nat :=
  let c1_34 : Index := 1#32
  let c0_i32_7 : BitVec 32 := 0#32
  let c1_i32 : BitVec 32 := 1#32
  let arg12 : BitVec 32 := Scf.iv c0_i32_7 c1_i32 k0_t1
  let c512_i32 : BitVec 32 := 512#32
  let v37 : BitVec 32 := Scalar.muli arg12 c512_i32
  let v38 : BitVec 32 := v37
  let c16_i32 : BitVec 32 := 16#32
  let v43 : BitVec 32 := Scalar.subi v38 c16_i32
  let c0_i32_33 : BitVec 32 := 0#32
  let v44 : BitVec 32 := Scalar.maxsi v43 c0_i32_33
  let v45 : BitVec 32 := v44
  let v46 : Index := Scalar.indexCast v45
  let c0_35 : Index := 0#32
  ![1, v46.toNat, 0]
def k0_mult3 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c512_i32 : BitVec 32 := 512#32
  let v37 : BitVec 32 := Scalar.muli arg12 c512_i32
  let v38 : BitVec 32 := v37
  let c512_i32_36 : BitVec 32 := 512#32
  let v50 : BitVec 32 := Scalar.addi v38 c512_i32_36
  let c2032_i32 : BitVec 32 := 2032#32
  let v51 : BitVec 32 := Scalar.minsi v50 c2032_i32
  v51
def k0_off3 (k0_t1 : Fin k0_t1_loop.trips) : Fin 3 → Nat :=
  let c1_37 : Index := 1#32
  let c0_i32_7 : BitVec 32 := 0#32
  let c1_i32 : BitVec 32 := 1#32
  let arg12 : BitVec 32 := Scf.iv c0_i32_7 c1_i32 k0_t1
  let c512_i32 : BitVec 32 := 512#32
  let v37 : BitVec 32 := Scalar.muli arg12 c512_i32
  let v38 : BitVec 32 := v37
  let c512_i32_36 : BitVec 32 := 512#32
  let v50 : BitVec 32 := Scalar.addi v38 c512_i32_36
  let c2032_i32 : BitVec 32 := 2032#32
  let v51 : BitVec 32 := Scalar.minsi v50 c2032_i32
  let v52 : BitVec 32 := v51
  let v53 : Index := Scalar.indexCast v52
  let c0_38 : Index := 0#32
  ![1, v53.toNat, 0]
def k0_off4 (k0_t1 : Fin k0_t1_loop.trips) : Fin 3 → Nat :=
  let c0_46 : Index := 0#32
  let c0_i32_7 : BitVec 32 := 0#32
  let c1_i32 : BitVec 32 := 1#32
  let arg12 : BitVec 32 := Scf.iv c0_i32_7 c1_i32 k0_t1
  let c512_i32 : BitVec 32 := 512#32
  let v37 : BitVec 32 := Scalar.muli arg12 c512_i32
  let v38 : BitVec 32 := v37
  let v79 : Index := Scalar.indexCast v38
  let c0_47 : Index := 0#32
  ![0, v79.toNat, 0]
def k0_off5 (k0_t1 : Fin k0_t1_loop.trips) : Fin 2 → Nat :=
  let c0_i32_7 : BitVec 32 := 0#32
  let c1_i32 : BitVec 32 := 1#32
  let arg12 : BitVec 32 := Scf.iv c0_i32_7 c1_i32 k0_t1
  let c512_i32 : BitVec 32 := 512#32
  let v37 : BitVec 32 := Scalar.muli arg12 c512_i32
  let v38 : BitVec 32 := v37
  let v83 : Index := Scalar.indexCast v38
  let c0_48 : Index := 0#32
  ![v83.toNat, 0]
@[reducible] def k0_t2_loop : Scf.Loop 32 :=
  let c0_i32_27 : BitVec 32 := 0#32
  let c4_i32_28 : BitVec 32 := 4#32
  let v36 : BitVec 32 := Scalar.addi c0_i32_27 c4_i32_28
  let c1_i32_29 : BitVec 32 := 1#32
  ⟨c0_i32_27, v36, c1_i32_29⟩
def k0_mult4 (k0_t2 : Fin k0_t2_loop.trips) : BitVec 32 :=
  let c0_i32_27 : BitVec 32 := 0#32
  let c1_i32_29 : BitVec 32 := 1#32
  let arg12 : BitVec 32 := Scf.iv c0_i32_27 c1_i32_29 k0_t2
  let c512_i32 : BitVec 32 := 512#32
  let v37 : BitVec 32 := Scalar.muli arg12 c512_i32
  v37
def k0_off6 (k0_t2 : Fin k0_t2_loop.trips) : Fin 2 → Nat :=
  let c0_i32_27 : BitVec 32 := 0#32
  let c1_i32_29 : BitVec 32 := 1#32
  let arg12 : BitVec 32 := Scf.iv c0_i32_27 c1_i32_29 k0_t2
  let c512_i32 : BitVec 32 := 512#32
  let v37 : BitVec 32 := Scalar.muli arg12 c512_i32
  let v38 : BitVec 32 := v37
  let v39 : Index := Scalar.indexCast v38
  let c0_31 : Index := 0#32
  ![v39.toNat, 0]
def k0_mult5 (k0_t2 : Fin k0_t2_loop.trips) : BitVec 32 :=
  let c0_i32_27 : BitVec 32 := 0#32
  let c1_i32_29 : BitVec 32 := 1#32
  let arg12 : BitVec 32 := Scf.iv c0_i32_27 c1_i32_29 k0_t2
  let c512_i32 : BitVec 32 := 512#32
  let v37 : BitVec 32 := Scalar.muli arg12 c512_i32
  let v38 : BitVec 32 := v37
  let c16_i32 : BitVec 32 := 16#32
  let v41 : BitVec 32 := Scalar.subi v38 c16_i32
  let c0_i32_32 : BitVec 32 := 0#32
  let v42 : BitVec 32 := Scalar.maxsi v41 c0_i32_32
  v42
def k0_off7 (k0_t2 : Fin k0_t2_loop.trips) : Fin 2 → Nat :=
  let c0_i32_27 : BitVec 32 := 0#32
  let c1_i32_29 : BitVec 32 := 1#32
  let arg12 : BitVec 32 := Scf.iv c0_i32_27 c1_i32_29 k0_t2
  let c512_i32 : BitVec 32 := 512#32
  let v37 : BitVec 32 := Scalar.muli arg12 c512_i32
  let v38 : BitVec 32 := v37
  let c16_i32 : BitVec 32 := 16#32
  let v41 : BitVec 32 := Scalar.subi v38 c16_i32
  let c0_i32_32 : BitVec 32 := 0#32
  let v42 : BitVec 32 := Scalar.maxsi v41 c0_i32_32
  let v43 : BitVec 32 := v42
  let v44 : Index := Scalar.indexCast v43
  let c0_33 : Index := 0#32
  ![v44.toNat, 0]
def k0_mult6 (k0_t2 : Fin k0_t2_loop.trips) : BitVec 32 :=
  let c0_i32_27 : BitVec 32 := 0#32
  let c1_i32_29 : BitVec 32 := 1#32
  let arg12 : BitVec 32 := Scf.iv c0_i32_27 c1_i32_29 k0_t2
  let c512_i32 : BitVec 32 := 512#32
  let v37 : BitVec 32 := Scalar.muli arg12 c512_i32
  let v38 : BitVec 32 := v37
  let c512_i32_34 : BitVec 32 := 512#32
  let v46 : BitVec 32 := Scalar.addi v38 c512_i32_34
  let c2032_i32 : BitVec 32 := 2032#32
  let v47 : BitVec 32 := Scalar.minsi v46 c2032_i32
  v47
def k0_off8 (k0_t2 : Fin k0_t2_loop.trips) : Fin 2 → Nat :=
  let c0_i32_27 : BitVec 32 := 0#32
  let c1_i32_29 : BitVec 32 := 1#32
  let arg12 : BitVec 32 := Scf.iv c0_i32_27 c1_i32_29 k0_t2
  let c512_i32 : BitVec 32 := 512#32
  let v37 : BitVec 32 := Scalar.muli arg12 c512_i32
  let v38 : BitVec 32 := v37
  let c512_i32_34 : BitVec 32 := 512#32
  let v46 : BitVec 32 := Scalar.addi v38 c512_i32_34
  let c2032_i32 : BitVec 32 := 2032#32
  let v47 : BitVec 32 := Scalar.minsi v46 c2032_i32
  let v48 : BitVec 32 := v47
  let v49 : Index := Scalar.indexCast v48
  let c0_35 : Index := 0#32
  ![v49.toNat, 0]
def k0_off9 (k0_t2 : Fin k0_t2_loop.trips) : Fin 3 → Nat :=
  let c1_49 : Index := 1#32
  let c0_i32_27 : BitVec 32 := 0#32
  let c1_i32_29 : BitVec 32 := 1#32
  let arg12 : BitVec 32 := Scf.iv c0_i32_27 c1_i32_29 k0_t2
  let c512_i32 : BitVec 32 := 512#32
  let v37 : BitVec 32 := Scalar.muli arg12 c512_i32
  let v38 : BitVec 32 := v37
  let v85 : Index := Scalar.indexCast v38
  let c0_50 : Index := 0#32
  ![1, v85.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S4096x1024 : Shape := ⟨2, ![4096, 1024]⟩
abbrev S2816x1024 : Shape := ⟨2, ![2816, 1024]⟩
abbrev S2x4096x2816 : Shape := ⟨3, ![2, 4096, 2816]⟩
abbrev S3x2816 : Shape := ⟨2, ![3, 2816]⟩
abbrev S1x2816 : Shape := ⟨2, ![1, 2816]⟩
abbrev S2x2x2048x2816 : Shape := ⟨4, ![2, 2, 2048, 2816]⟩
abbrev S1x2x2048x2816 : Shape := ⟨4, ![1, 2, 2048, 2816]⟩
abbrev S2x2048x2816 : Shape := ⟨3, ![2, 2048, 2816]⟩
abbrev S2x2048x1024 : Shape := ⟨3, ![2, 2048, 1024]⟩
abbrev S_ : Shape := ⟨0, ![]⟩
abbrev S2x1x2816 : Shape := ⟨3, ![2, 1, 2816]⟩
abbrev S2x2050x2816 : Shape := ⟨3, ![2, 2050, 2816]⟩
abbrev S2816 : Shape := ⟨1, ![2816]⟩
abbrev S1x1x2816 : Shape := ⟨3, ![1, 1, 2816]⟩

abbrev nBuf : Space → Nat
  | .hbm => 124
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2x4096x2816, .bf16⟩
  | .hbm, ⟨3, _⟩ => ⟨S3x2816, .f32⟩
  | .hbm, ⟨4, _⟩ => ⟨S1x2816, .f32⟩
  | .hbm, ⟨5, _⟩ => ⟨S2x4096x2816, .f32⟩
  | .hbm, ⟨6, _⟩ => ⟨S2x2x2048x2816, .f32⟩
  | .hbm, ⟨7, _⟩ => ⟨S1x2x2048x2816, .f32⟩
  | .hbm, ⟨8, _⟩ => ⟨S2x2048x2816, .f32⟩
  | .hbm, ⟨9, _⟩ => ⟨S1x2x2048x2816, .f32⟩
  | .hbm, ⟨10, _⟩ => ⟨S2x2048x2816, .f32⟩
  | .hbm, ⟨11, _⟩ => ⟨S4096x1024, .f32⟩
  | .hbm, ⟨12, _⟩ => ⟨S2x2048x1024, .f32⟩
  | .hbm, ⟨13, _⟩ => ⟨S2816x1024, .f32⟩
  | .hbm, ⟨14, _⟩ => ⟨S_, .f32⟩
  | .hbm, ⟨15, _⟩ => ⟨S2x1x2816, .f32⟩
  | .hbm, ⟨16, _⟩ => ⟨S2x2050x2816, .f32⟩
  | .hbm, ⟨17, _⟩ => ⟨S_, .f32⟩
  | .hbm, ⟨18, _⟩ => ⟨S2x1x2816, .f32⟩
  | .hbm, ⟨19, _⟩ => ⟨S_, .f32⟩
  | .hbm, ⟨20, _⟩ => ⟨S2x1x2816, .f32⟩
  | .hbm, ⟨21, _⟩ => ⟨S2x2048x2816, .f32⟩
  | .hbm, ⟨22, _⟩ => ⟨S1x2816, .f32⟩
  | .hbm, ⟨23, _⟩ => ⟨S2816, .f32⟩
  | .hbm, ⟨24, _⟩ => ⟨S1x1x2816, .f32⟩
  | .hbm, ⟨25, _⟩ => ⟨S2x2048x2816, .f32⟩
  | .hbm, ⟨26, _⟩ => ⟨S2x2048x2816, .f32⟩
  | .hbm, ⟨27, _⟩ => ⟨S2x2048x2816, .f32⟩
  | .hbm, ⟨28, _⟩ => ⟨S1x2816, .f32⟩
  | .hbm, ⟨29, _⟩ => ⟨S2816, .f32⟩
  | .hbm, ⟨30, _⟩ => ⟨S1x1x2816, .f32⟩
  | .hbm, ⟨31, _⟩ => ⟨S2x2048x2816, .f32⟩
  | .hbm, ⟨32, _⟩ => ⟨S2x2048x2816, .f32⟩
  | .hbm, ⟨33, _⟩ => ⟨S2x2048x2816, .f32⟩
  | .hbm, ⟨34, _⟩ => ⟨S2x2048x2816, .f32⟩
  | .hbm, ⟨35, _⟩ => ⟨S1x2816, .f32⟩
  | .hbm, ⟨36, _⟩ => ⟨S2816, .f32⟩
  | .hbm, ⟨37, _⟩ => ⟨S1x1x2816, .f32⟩
  | .hbm, ⟨38, _⟩ => ⟨S2x2048x2816, .f32⟩
  | .hbm, ⟨39, _⟩ => ⟨S2x2048x2816, .f32⟩
  | .hbm, ⟨40, _⟩ => ⟨S2x2048x2816, .f32⟩
  | .hbm, ⟨41, _⟩ => ⟨S2816, .f32⟩
  | .hbm, ⟨42, _⟩ => ⟨S1x1x2816, .f32⟩
  | .hbm, ⟨43, _⟩ => ⟨S2x2048x2816, .f32⟩
  | .hbm, ⟨44, _⟩ => ⟨S2x2048x2816, .f32⟩
  | .hbm, ⟨45, _⟩ => ⟨S2x2048x2816, .f32⟩
  | .hbm, ⟨46, _⟩ => ⟨S2x2048x2816, .f32⟩
  | .hbm, ⟨47, _⟩ => ⟨S_, .f32⟩
  | .hbm, ⟨48, _⟩ => ⟨S2x2048x2816, .f32⟩
  | .hbm, ⟨49, _⟩ => ⟨S2x2048x2816, .f32⟩
  | .hbm, ⟨50, _⟩ => ⟨S_, .f32⟩
  | .hbm, ⟨51, _⟩ => ⟨S2x2048x2816, .f32⟩
  | .hbm, ⟨52, _⟩ => ⟨S2x2048x2816, .f32⟩
  | .hbm, ⟨53, _⟩ => ⟨S_, .f32⟩
  | .hbm, ⟨54, _⟩ => ⟨S2x2048x2816, .f32⟩
  | .hbm, ⟨55, _⟩ => ⟨S2x2048x2816, .f32⟩
  | .hbm, ⟨56, _⟩ => ⟨S2x2048x2816, .f32⟩
  | .hbm, ⟨57, _⟩ => ⟨S2x2048x2816, .f32⟩
  | .hbm, ⟨58, _⟩ => ⟨S2x2048x2816, .f32⟩
  | .hbm, ⟨59, _⟩ => ⟨S2x2048x1024, .f32⟩
  | .hbm, ⟨60, _⟩ => ⟨S2x2048x2816, .f32⟩
  | .hbm, ⟨61, _⟩ => ⟨S2x2048x2816, .f32⟩
  | .hbm, ⟨62, _⟩ => ⟨S2x2048x2816, .f32⟩
  | .hbm, ⟨63, _⟩ => ⟨S2x2048x2816, .f32⟩
  | .hbm, ⟨64, _⟩ => ⟨S2x2048x2816, .f32⟩
  | .hbm, ⟨65, _⟩ => ⟨S2x2048x2816, .f32⟩
  | .hbm, ⟨66, _⟩ => ⟨S2x2048x2816, .f32⟩
  | .hbm, ⟨67, _⟩ => ⟨S_, .f32⟩
  | .hbm, ⟨68, _⟩ => ⟨S2816, .f32⟩
  | .hbm, ⟨69, _⟩ => ⟨S1x1x2816, .f32⟩
  | .hbm, ⟨70, _⟩ => ⟨S_, .f32⟩
  | .hbm, ⟨71, _⟩ => ⟨S2816, .f32⟩
  | .hbm, ⟨72, _⟩ => ⟨S1x2816, .f32⟩
  | .hbm, ⟨73, _⟩ => ⟨S2x2048x2816, .f32⟩
  | .hbm, ⟨74, _⟩ => ⟨S_, .f32⟩
  | .hbm, ⟨75, _⟩ => ⟨S2816, .f32⟩
  | .hbm, ⟨76, _⟩ => ⟨S1x1x2816, .f32⟩
  | .hbm, ⟨77, _⟩ => ⟨S2x2048x2816, .f32⟩
  | .hbm, ⟨78, _⟩ => ⟨S2x2048x2816, .f32⟩
  | .hbm, ⟨79, _⟩ => ⟨S_, .f32⟩
  | .hbm, ⟨80, _⟩ => ⟨S2816, .f32⟩
  | .hbm, ⟨81, _⟩ => ⟨S1x2816, .f32⟩
  | .hbm, ⟨82, _⟩ => ⟨S_, .f32⟩
  | .hbm, ⟨83, _⟩ => ⟨S3x2816, .f32⟩
  | .hbm, ⟨84, _⟩ => ⟨S_, .f32⟩
  | .hbm, ⟨85, _⟩ => ⟨S2x2050x2816, .f32⟩
  | .hbm, ⟨86, _⟩ => ⟨S2x2048x2816, .f32⟩
  | .hbm, ⟨87, _⟩ => ⟨S_, .f32⟩
  | .hbm, ⟨88, _⟩ => ⟨S2816, .f32⟩
  | .hbm, ⟨89, _⟩ => ⟨S1x1x2816, .f32⟩
  | .hbm, ⟨90, _⟩ => ⟨S2x2048x2816, .f32⟩
  | .hbm, ⟨91, _⟩ => ⟨S2x2048x2816, .f32⟩
  | .hbm, ⟨92, _⟩ => ⟨S_, .f32⟩
  | .hbm, ⟨93, _⟩ => ⟨S2816, .f32⟩
  | .hbm, ⟨94, _⟩ => ⟨S1x2816, .f32⟩
  | .hbm, ⟨95, _⟩ => ⟨S_, .f32⟩
  | .hbm, ⟨96, _⟩ => ⟨S3x2816, .f32⟩
  | .hbm, ⟨97, _⟩ => ⟨S3x2816, .f32⟩
  | .hbm, ⟨98, _⟩ => ⟨S_, .f32⟩
  | .hbm, ⟨99, _⟩ => ⟨S2x2050x2816, .f32⟩
  | .hbm, ⟨100, _⟩ => ⟨S2x2050x2816, .f32⟩
  | .hbm, ⟨101, _⟩ => ⟨S2x2048x2816, .f32⟩
  | .hbm, ⟨102, _⟩ => ⟨S_, .f32⟩
  | .hbm, ⟨103, _⟩ => ⟨S2816, .f32⟩
  | .hbm, ⟨104, _⟩ => ⟨S1x1x2816, .f32⟩
  | .hbm, ⟨105, _⟩ => ⟨S2x2048x2816, .f32⟩
  | .hbm, ⟨106, _⟩ => ⟨S2x2048x2816, .f32⟩
  | .hbm, ⟨107, _⟩ => ⟨S_, .f32⟩
  | .hbm, ⟨108, _⟩ => ⟨S2816, .f32⟩
  | .hbm, ⟨109, _⟩ => ⟨S1x2816, .f32⟩
  | .hbm, ⟨110, _⟩ => ⟨S_, .f32⟩
  | .hbm, ⟨111, _⟩ => ⟨S3x2816, .f32⟩
  | .hbm, ⟨112, _⟩ => ⟨S3x2816, .f32⟩
  | .hbm, ⟨113, _⟩ => ⟨S_, .f32⟩
  | .hbm, ⟨114, _⟩ => ⟨S2x2050x2816, .f32⟩
  | .hbm, ⟨115, _⟩ => ⟨S2x2050x2816, .f32⟩
  | .hbm, ⟨116, _⟩ => ⟨S2x1x2816, .f32⟩
  | .hbm, ⟨117, _⟩ => ⟨S2x2048x2816, .f32⟩
  | .hbm, ⟨118, _⟩ => ⟨S2x1x2816, .f32⟩
  | .hbm, ⟨119, _⟩ => ⟨S1x2x2048x2816, .f32⟩
  | .hbm, ⟨120, _⟩ => ⟨S1x2x2048x2816, .f32⟩
  | .hbm, ⟨121, _⟩ => ⟨S2x2x2048x2816, .f32⟩
  | .hbm, ⟨122, _⟩ => ⟨S2x4096x2816, .f32⟩
  | .hbm, ⟨123, _⟩ => ⟨S2x4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_v37_2 : Ref sig .tc := ⟨.hbm, 52, rfl⟩
abbrev main_call0_cst_1 : Ref sig .tc := ⟨.hbm, 53, rfl⟩
abbrev main_call0_v6 : Ref sig .tc := ⟨.hbm, 54, rfl⟩
abbrev main_call0_v7 : Ref sig .tc := ⟨.hbm, 55, rfl⟩
abbrev main_v37_1 : Ref sig .tc := ⟨.hbm, 56, rfl⟩
abbrev main_v37_0 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v43 : Ref sig .tc := ⟨.hbm, 66, rfl⟩
abbrev main_cst_2 : Ref sig .tc := ⟨.hbm, 67, rfl⟩
abbrev main_v44 : Ref sig .tc := ⟨.hbm, 68, rfl⟩
abbrev main_v45 : Ref sig .tc := ⟨.hbm, 69, rfl⟩
abbrev main_cst_3 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_4 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_5 : Ref sig .tc := ⟨.hbm, 79, rfl⟩
abbrev main_v53 : Ref sig .tc := ⟨.hbm, 80, rfl⟩
abbrev main_v54 : Ref sig .tc := ⟨.hbm, 81, rfl⟩
abbrev main_cst_6 : Ref sig .tc := ⟨.hbm, 82, rfl⟩
abbrev main_v55 : Ref sig .tc := ⟨.hbm, 83, rfl⟩
abbrev main_cst_7 : Ref sig .tc := ⟨.hbm, 84, rfl⟩
abbrev main_v56 : Ref sig .tc := ⟨.hbm, 85, rfl⟩
abbrev main_v57 : Ref sig .tc := ⟨.hbm, 86, rfl⟩
abbrev main_cst_8 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_9 : Ref sig .tc := ⟨.hbm, 92, rfl⟩
abbrev main_v62 : Ref sig .tc := ⟨.hbm, 93, rfl⟩
abbrev main_v63 : Ref sig .tc := ⟨.hbm, 94, rfl⟩
abbrev main_cst_10 : Ref sig .tc := ⟨.hbm, 95, rfl⟩
abbrev main_v64 : Ref sig .tc := ⟨.hbm, 96, rfl⟩
abbrev main_v65 : Ref sig .tc := ⟨.hbm, 97, rfl⟩
abbrev main_cst_11 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_12 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_13 : Ref sig .tc := ⟨.hbm, 107, rfl⟩
abbrev main_v73 : Ref sig .tc := ⟨.hbm, 108, rfl⟩
abbrev main_v74 : Ref sig .tc := ⟨.hbm, 109, rfl⟩
abbrev main_cst_14 : Ref sig .tc := ⟨.hbm, 110, rfl⟩
abbrev main_v75 : Ref sig .tc := ⟨.hbm, 111, rfl⟩
abbrev main_v76 : Ref sig .tc := ⟨.hbm, 112, rfl⟩
abbrev main_cst_15 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩

abbrev nD : Nat := 1
abbrev τ : Topo := Topo.v7x

variable {F : FTy → Type} [FloatOps F]
-- ==== Kernel2.lean ====
abbrev S4096x1024 : Shape := ⟨2, ![4096, 1024]⟩
abbrev S2x4096x2816 : Shape := ⟨3, ![2, 4096, 2816]⟩
abbrev S4x512x1408 : Shape := ⟨3, ![4, 512, 1408]⟩
abbrev S1024x1024 : Shape := ⟨2, ![1024, 1024]⟩
abbrev S1x1024x1408 : Shape := ⟨3, ![1, 1024, 1408]⟩
abbrev S1x512x1408 : Shape := ⟨3, ![1, 512, 1408]⟩
abbrev S1024x1408 : Shape := ⟨2, ![1024, 1408]⟩
abbrev S512x1408 : Shape := ⟨2, ![512, 1408]⟩
abbrev S1024x512 : Shape := ⟨2, ![1024, 512]⟩

abbrev nBuf : Space → Nat
  | .hbm => 6
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S4x512x1408, .f32⟩
  | .hbm, ⟨3, _⟩ => ⟨S4x512x1408, .f32⟩
  | .hbm, ⟨4, _⟩ => ⟨S4x512x1408, .bf16⟩
  | .hbm, ⟨5, _⟩ => ⟨S4x512x1408, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x512x1408, .f32⟩
  | .local _ .vmem, ⟨5, _⟩ => ⟨S1x512x1408, .f32⟩
  | .local _ .vmem, ⟨6, _⟩ => ⟨S1x512x1408, .f32⟩
  | .local _ .vmem, ⟨7, _⟩ => ⟨S1x512x1408, .f32⟩
  | .local _ .vmem, ⟨8, _⟩ => ⟨S1x512x1408, .bf16⟩
  | .local _ .vmem, ⟨9, _⟩ => ⟨S1x512x1408, .bf16⟩
  | .local _ .vmem, ⟨10, _⟩ => ⟨S1x512x1408, .bf16⟩
  | .local _ .vmem, ⟨11, _⟩ => ⟨S1x512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v21 : BitVec 1 := Scalar.cmpi .eq arg1 c3_i32
  let v22 : BitVec 32 := Scalar.extui v21
  let c0_i32_19 : BitVec 32 := 0#32
  let v23 : BitVec 1 := Scalar.cmpi .ne v22 c0_i32_19
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S4096x1024 : Shape := ⟨2, ![4096, 1024]⟩
abbrev S2x4096x2816 : Shape := ⟨3, ![2, 4096, 2816]⟩
abbrev S1x4096x2816 : Shape := ⟨3, ![1, 4096, 2816]⟩
abbrev S4096x2816 : Shape := ⟨2, ![4096, 2816]⟩
abbrev S4096x5632 : Shape := ⟨2, ![4096, 5632]⟩
abbrev S5632x1024 : Shape := ⟨2, ![5632, 1024]⟩
abbrev S1024x5632 : Shape := ⟨2, ![1024, 5632]⟩
abbrev S2x512x4x1408 : Shape := ⟨4, ![2, 512, 4, 1408]⟩
abbrev S2x4x512x1408 : Shape := ⟨4, ![2, 4, 512, 1408]⟩
abbrev S1x4x512x1408 : Shape := ⟨4, ![1, 4, 512, 1408]⟩
abbrev S4x512x1408 : Shape := ⟨3, ![4, 512, 1408]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S4096x1024, .f32⟩
  | .hbm, ⟨3, _⟩ => ⟨S2x4096x2816, .f32⟩
  | .hbm, ⟨4, _⟩ => ⟨S1x4096x2816, .f32⟩
  | .hbm, ⟨5, _⟩ => ⟨S4096x2816, .f32⟩
  | .hbm, ⟨6, _⟩ => ⟨S1x4096x2816, .f32⟩
  | .hbm, ⟨7, _⟩ => ⟨S4096x2816, .f32⟩
  | .hbm, ⟨8, _⟩ => ⟨S4096x5632, .f32⟩
  | .hbm, ⟨9, _⟩ => ⟨S5632x1024, .f32⟩
  | .hbm, ⟨10, _⟩ => ⟨S1024x5632, .f32⟩
  | .hbm, ⟨11, _⟩ => ⟨S2x512x4x1408, .f32⟩
  | .hbm, ⟨12, _⟩ => ⟨S2x4x512x1408, .f32⟩
  | .hbm, ⟨13, _⟩ => ⟨S1x4x512x1408, .f32⟩
  | .hbm, ⟨14, _⟩ => ⟨S4x512x1408, .f32⟩
  | .hbm, ⟨15, _⟩ => ⟨S1x4x512x1408, .f32⟩
  | .hbm, ⟨16, _⟩ => ⟨S4x512x1408, .f32⟩
  | .hbm, ⟨17, _⟩ => ⟨S4x512x1408, .bf16⟩
  | .hbm, ⟨18, _⟩ => ⟨S4x512x1408, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩

abbrev nD : Nat := 1
abbrev τ : Topo := Topo.v7x

variable {F : FTy → Type} [FloatOps F]
-- ==== Kernel3.lean ====
abbrev S4096x2816 : Shape := ⟨2, ![4096, 2816]⟩
abbrev S4096x1024 : Shape := ⟨2, ![4096, 1024]⟩
abbrev S2816x1024 : Shape := ⟨2, ![2816, 1024]⟩
abbrev S1024x2816 : Shape := ⟨2, ![1024, 2816]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .f32⟩
  | .hbm, ⟨3, _⟩ => ⟨S2816x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S2816x1024, .f32⟩
  | .local _ .vmem, ⟨5, _⟩ => ⟨S2816x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v10 : BitVec 1 := Scalar.cmpi .eq arg0 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference3Ideal.lean ====
abbrev S4096x2816 : Shape := ⟨2, ![4096, 2816]⟩
abbrev S4096x1024 : Shape := ⟨2, ![4096, 1024]⟩
abbrev S1024x2816 : Shape := ⟨2, ![1024, 2816]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S4096x1024, .f32⟩
  | .hbm, ⟨4, _⟩ => ⟨S1024x2816, .f32⟩
  | .hbm, ⟨5, _⟩ => ⟨S2816x1024, .f32⟩
  | .hbm, ⟨6, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel4.lean ====
abbrev S2x4096x2816 : Shape := ⟨3, ![2, 4096, 2816]⟩
abbrev S4x512x1408 : Shape := ⟨3, ![4, 512, 1408]⟩
abbrev S4096x1024 : Shape := ⟨2, ![4096, 1024]⟩
abbrev S2x1x6144 : Shape := ⟨3, ![2, 1, 6144]⟩
abbrev S1x1024 : Shape := ⟨2, ![1, 1024]⟩
abbrev S2x1x1024 : Shape := ⟨3, ![2, 1, 1024]⟩
abbrev S2x512x2816 : Shape := ⟨3, ![2, 512, 2816]⟩
abbrev S512x1024 : Shape := ⟨2, ![512, 1024]⟩
abbrev S1x1x6144 : Shape := ⟨3, ![1, 1, 6144]⟩
abbrev S1x1x1024 : Shape := ⟨3, ![1, 1, 1024]⟩
abbrev S512x512 : Shape := ⟨2, ![512, 512]⟩
abbrev S1x512x1408 : Shape := ⟨3, ![1, 512, 1408]⟩
abbrev S512x1408 : Shape := ⟨2, ![512, 1408]⟩
abbrev S512 : Shape := ⟨1, ![512]⟩
abbrev S512x1 : Shape := ⟨2, ![512, 1]⟩
abbrev S1024 : Shape := ⟨1, ![1024]⟩

abbrev nBuf : Space → Nat
  | .hbm => 14
  | .vmem => 24
  | .smem => 0
  | _ => 0

abbrev bufTy : (tb : Table) → Fin (tcTables nBuf tb) → BufTy
  | .hbm, ⟨0, _⟩ => ⟨S2x4096x2816, .bf16⟩
  | .hbm, ⟨1, _⟩ => ⟨S4x512x1408, .bf16⟩
  | .hbm, ⟨2, _⟩ => ⟨S4x512x1408, .bf16⟩
  | .hbm, ⟨3, _⟩ => ⟨S4096x1024, .f32⟩
  | .hbm, ⟨4, _⟩ => ⟨S2x1x6144, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .bf16⟩
  | .hbm, ⟨10, _⟩ => ⟨S2x1x1024, .f32⟩
  | .hbm, ⟨11, _⟩ => ⟨S2x1x1024, .f32⟩
  | .hbm, ⟨12, _⟩ => ⟨S2x1x1024, .f32⟩
  | .hbm, ⟨13, _⟩ => ⟨S1x1024, .f32⟩
  | .local _ .vmem, ⟨0, _⟩ => ⟨S2x512x2816, .bf16⟩
  | .local _ .vmem, ⟨1, _⟩ => ⟨S2x512x2816, .bf16⟩
  | .local _ .vmem, ⟨2, _⟩ => ⟨S4x512x1408, .bf16⟩
  | .local _ .vmem, ⟨3, _⟩ => ⟨S4x512x1408, .bf16⟩
  | .local _ .vmem, ⟨4, _⟩ => ⟨S512x1024, .f32⟩
  | .local _ .vmem, ⟨5, _⟩ => ⟨S512x1024, .f32⟩
  | .local _ .vmem, ⟨6, _⟩ => ⟨S1x1x6144, .f32⟩
  | .local _ .vmem, ⟨7, _⟩ => ⟨S1x1x6144, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1x1024, .f32⟩
  | .local _ .vmem, ⟨21, _⟩ => ⟨S1x1x1024, .f32⟩
  | .local _ .vmem, ⟨22, _⟩ => ⟨S1x1x1024, .f32⟩
  | .local _ .vmem, ⟨23, _⟩ => ⟨S1x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_11 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_12 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x512x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x512x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x6144 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference4Ideal.lean ====
abbrev S2x4096x2816 : Shape := ⟨3, ![2, 4096, 2816]⟩
abbrev S4x512x1408 : Shape := ⟨3, ![4, 512, 1408]⟩
abbrev S4096x1024 : Shape := ⟨2, ![4096, 1024]⟩
abbrev S2x1x6144 : Shape := ⟨3, ![2, 1, 6144]⟩
abbrev S1x1024 : Shape := ⟨2, ![1, 1024]⟩
abbrev S2x1x1024 : Shape := ⟨3, ![2, 1, 1024]⟩
abbrev S512x4x1408 : Shape := ⟨3, ![512, 4, 1408]⟩
abbrev S512x5632 : Shape := ⟨2, ![512, 5632]⟩
abbrev S1024x5632 : Shape := ⟨2, ![1024, 5632]⟩
abbrev S1x4096x2816 : Shape := ⟨3, ![1, 4096, 2816]⟩
abbrev S4096x2816 : Shape := ⟨2, ![4096, 2816]⟩
abbrev S2x2048x1024 : Shape := ⟨3, ![2, 2048, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x5632 : Shape := ⟨3, ![2, 2048, 5632]⟩
abbrev S2x2048x2816 : Shape := ⟨3, ![2, 2048, 2816]⟩
abbrev S2x1024 : Shape := ⟨2, ![2, 1024]⟩

abbrev nBuf : Space → Nat
  | .hbm => 112
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S4x512x1408, .bf16⟩
  | .hbm, ⟨2, _⟩ => ⟨S4x512x1408, .bf16⟩
  | .hbm, ⟨3, _⟩ => ⟨S4096x1024, .f32⟩
  | .hbm, ⟨4, _⟩ => ⟨S2x1x6144, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S2x1x1024, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S2x1x1024, .f32⟩
  | .hbm, ⟨13, _⟩ => ⟨S2x1x1024, .f32⟩
  | .hbm, ⟨14, _⟩ => ⟨S4x512x1408, .f32⟩
  | .hbm, ⟨15, _⟩ => ⟨S512x4x1408, .f32⟩
  | .hbm, ⟨16, _⟩ => ⟨S512x5632, .f32⟩
  | .hbm, ⟨17, _⟩ => ⟨S4x512x1408, .f32⟩
  | .hbm, ⟨18, _⟩ => ⟨S512x4x1408, .f32⟩
  | .hbm, ⟨19, _⟩ => ⟨S512x5632, .f32⟩
  | .hbm, ⟨20, _⟩ => ⟨S1024x5632, .f32⟩
  | .hbm, ⟨21, _⟩ => ⟨S1x4096x2816, .bf16⟩
  | .hbm, ⟨22, _⟩ => ⟨S4096x2816, .bf16⟩
  | .hbm, ⟨23, _⟩ => ⟨S1x4096x2816, .bf16⟩
  | .hbm, ⟨24, _⟩ => ⟨S4096x2816, .bf16⟩
  | .hbm, ⟨25, _⟩ => ⟨S2x2048x1024, .f32⟩
  | .hbm, ⟨26, _⟩ => ⟨S1024, .f32⟩
  | .hbm, ⟨27, _⟩ => ⟨S2x2048x1024, .f32⟩
  | .hbm, ⟨28, _⟩ => ⟨S_, .f32⟩
  | .hbm, ⟨29, _⟩ => ⟨S2x2048, .f32⟩
  | .hbm, ⟨30, _⟩ => ⟨S2x2048x1, .f32⟩
  | .hbm, ⟨31, _⟩ => ⟨S_, .f32⟩
  | .hbm, ⟨32, _⟩ => ⟨S2x2048x1, .f32⟩
  | .hbm, ⟨33, _⟩ => ⟨S2x2048x1, .f32⟩
  | .hbm, ⟨34, _⟩ => ⟨S_, .f32⟩
  | .hbm, ⟨35, _⟩ => ⟨S2x2048x1, .f32⟩
  | .hbm, ⟨36, _⟩ => ⟨S2x2048x1, .f32⟩
  | .hbm, ⟨37, _⟩ => ⟨S2x2048x1, .f32⟩
  | .hbm, ⟨38, _⟩ => ⟨S2x2048x1, .f32⟩
  | .hbm, ⟨39, _⟩ => ⟨S_, .f32⟩
  | .hbm, ⟨40, _⟩ => ⟨S2x2048x1, .f32⟩
  | .hbm, ⟨41, _⟩ => ⟨S2x2048x1, .f32⟩
  | .hbm, ⟨42, _⟩ => ⟨S2x2048x1024, .f32⟩
  | .hbm, ⟨43, _⟩ => ⟨S2x2048x1024, .f32⟩
  | .hbm, ⟨44, _⟩ => ⟨S1x1x1024, .f32⟩
  | .hbm, ⟨45, _⟩ => ⟨S2x2048x1024, .f32⟩
  | .hbm, ⟨46, _⟩ => ⟨S2x2048x1024, .f32⟩
  | .hbm, ⟨47, _⟩ => ⟨S_, .f32⟩
  | .hbm, ⟨48, _⟩ => ⟨S2x1x1024, .f32⟩
  | .hbm, ⟨49, _⟩ => ⟨S2x1x1024, .f32⟩
  | .hbm, ⟨50, _⟩ => ⟨S2x2048x1024, .f32⟩
  | .hbm, ⟨51, _⟩ => ⟨S2x2048x1024, .f32⟩
  | .hbm, ⟨52, _⟩ => ⟨S2x2048x1024, .f32⟩
  | .hbm, ⟨53, _⟩ => ⟨S2x2048x1024, .f32⟩
  | .hbm, ⟨54, _⟩ => ⟨S2x2048x5632, .f32⟩
  | .hbm, ⟨55, _⟩ => ⟨S2x2048x2816, .f32⟩
  | .hbm, ⟨56, _⟩ => ⟨S2x2048x2816, .f32⟩
  | .hbm, ⟨57, _⟩ => ⟨S2x2048x1024, .f32⟩
  | .hbm, ⟨58, _⟩ => ⟨S4096x2816, .f32⟩
  | .hbm, ⟨59, _⟩ => ⟨S2x2048x2816, .f32⟩
  | .hbm, ⟨60, _⟩ => ⟨S4096x2816, .f32⟩
  | .hbm, ⟨61, _⟩ => ⟨S2x2048x2816, .f32⟩
  | .hbm, ⟨62, _⟩ => ⟨S2x2048x5632, .f32⟩
  | .hbm, ⟨63, _⟩ => ⟨S2x2048x1024, .f32⟩
  | .hbm, ⟨64, _⟩ => ⟨S_, .f32⟩
  | .hbm, ⟨65, _⟩ => ⟨S2x1024, .f32⟩
  | .hbm, ⟨66, _⟩ => ⟨S2x1x1024, .f32⟩
  | .hbm, ⟨67, _⟩ => ⟨S2x2048x1024, .f32⟩
  | .hbm, ⟨68, _⟩ => ⟨S_, .f32⟩
  | .hbm, ⟨69, _⟩ => ⟨S2x1024, .f32⟩
  | .hbm, ⟨70, _⟩ => ⟨S2x1x1024, .f32⟩
  | .hbm, ⟨71, _⟩ => ⟨S2x2048x1024, .f32⟩
  | .hbm, ⟨72, _⟩ => ⟨S2x2048x1024, .f32⟩
  | .hbm, ⟨73, _⟩ => ⟨S2x2048x1024, .f32⟩
  | .hbm, ⟨74, _⟩ => ⟨S_, .f32⟩
  | .hbm, ⟨75, _⟩ => ⟨S1024, .f32⟩
  | .hbm, ⟨76, _⟩ => ⟨S1x1x1024, .f32⟩
  | .hbm, ⟨77, _⟩ => ⟨S2x2048x1024, .f32⟩
  | .hbm, ⟨78, _⟩ => ⟨S2x2048x1024, .f32⟩
  | .hbm, ⟨79, _⟩ => ⟨S_, .f32⟩
  | .hbm, ⟨80, _⟩ => ⟨S1024, .f32⟩
  | .hbm, ⟨81, _⟩ => ⟨S2x2048x1024, .f32⟩
  | .hbm, ⟨82, _⟩ => ⟨S_, .f32⟩
  | .hbm, ⟨83, _⟩ => ⟨S2x2048, .f32⟩
  | .hbm, ⟨84, _⟩ => ⟨S2x2048x1, .f32⟩
  | .hbm, ⟨85, _⟩ => ⟨S2x2048x1024, .f32⟩
  | .hbm, ⟨86, _⟩ => ⟨S2x2048x1024, .f32⟩
  | .hbm, ⟨87, _⟩ => ⟨S2x2048x1024, .f32⟩
  | .hbm, ⟨88, _⟩ => ⟨S2x2048x1, .f32⟩
  | .hbm, ⟨89, _⟩ => ⟨S_, .f32⟩
  | .hbm, ⟨90, _⟩ => ⟨S2x2048x1, .f32⟩
  | .hbm, ⟨91, _⟩ => ⟨S2x2048x1, .f32⟩
  | .hbm, ⟨92, _⟩ => ⟨S_, .f32⟩
  | .hbm, ⟨93, _⟩ => ⟨S2x2048, .f32⟩
  | .hbm, ⟨94, _⟩ => ⟨S2x2048x1024, .f32⟩
  | .hbm, ⟨95, _⟩ => ⟨S2x2048x1024, .f32⟩
  | .hbm, ⟨96, _⟩ => ⟨S2x2048x1024, .f32⟩
  | .hbm, ⟨97, _⟩ => ⟨S2x2048x1024, .f32⟩
  | .hbm, ⟨98, _⟩ => ⟨S2x2048x1024, .f32⟩
  | .hbm, ⟨99, _⟩ => ⟨S2x2048x1024, .f32⟩
  | .hbm, ⟨100, _⟩ => ⟨S2x2048x1024, .f32⟩
  | .hbm, ⟨101, _⟩ => ⟨S2x2048x1024, .f32⟩
  | .hbm, ⟨102, _⟩ => ⟨S2x2048x1024, .f32⟩
  | .hbm, ⟨103, _⟩ => ⟨S2x2048x1024, .f32⟩
  | .hbm, ⟨104, _⟩ => ⟨S2x2048x1024, .f32⟩
  | .hbm, ⟨105, _⟩ => ⟨S_, .f32⟩
  | .hbm, ⟨106, _⟩ => ⟨S2x1024, .f32⟩
  | .hbm, ⟨107, _⟩ => ⟨S2x1x1024, .f32⟩
  | .hbm, ⟨108, _⟩ => ⟨S4096x1024, .f32⟩
  | .hbm, ⟨109, _⟩ => ⟨S4096x1024, .f32⟩
  | .hbm, ⟨110, _⟩ => ⟨S4096x1024, .bf16⟩
  | .hbm, ⟨111, _⟩ => ⟨S1x1024, .f32⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_v20 : Ref sig .tc := ⟨.hbm, 29, rfl⟩
abbrev main_v21 : Ref sig .tc := ⟨.hbm, 30, rfl⟩
abbrev main_cst_0 : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_4 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_5 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_6 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_7 : Ref sig .tc := ⟨.hbm, 79, rfl⟩
abbrev main_v63 : Ref sig .tc := ⟨.hbm, 80, rfl⟩
abbrev main_v64 : Ref sig .tc := ⟨.hbm, 81, rfl⟩
abbrev main_cst_8 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_9 : Ref sig .tc := ⟨.hbm, 89, rfl⟩
abbrev main_v71 : Ref sig .tc := ⟨.hbm, 90, rfl⟩
abbrev main_v72 : Ref sig .tc := ⟨.hbm, 91, rfl⟩
abbrev main_cst_10 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_cst_11 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩

abbrev nD : Nat := 1
abbrev τ : Topo := Topo.v7x

variable {F : FTy → Type} [FloatOps F]
-- ==== Kernel5.lean ====
abbrev S4096x1024 : Shape := ⟨2, ![4096, 1024]⟩
abbrev S1024x1024 : Shape := ⟨2, ![1024, 1024]⟩
abbrev S4096x512 : Shape := ⟨2, ![4096, 512]⟩
abbrev S1x512 : Shape := ⟨2, ![1, 512]⟩
abbrev S1024x512 : Shape := ⟨2, ![1024, 512]⟩
abbrev S1024 : Shape := ⟨1, ![1024]⟩
abbrev S1024x1 : Shape := ⟨2, ![1024, 1]⟩
abbrev S512 : Shape := ⟨1, ![512]⟩

abbrev nBuf : Space → Nat
  | .hbm => 13
  | .vmem => 19
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S4096x512, .f32⟩
  | .hbm, ⟨4, _⟩ => ⟨S4096x512, .f32⟩
  | .hbm, ⟨5, _⟩ => ⟨S1x512, .f32⟩
  | .hbm, ⟨6, _⟩ => ⟨S1x512, .f32⟩
  | .hbm, ⟨7, _⟩ => ⟨S4096x512, .bf16⟩
  | .hbm, ⟨8, _⟩ => ⟨S4096x512, .bf16⟩
  | .hbm, ⟨9, _⟩ => ⟨S1024x1024, .f32⟩
  | .hbm, ⟨10, _⟩ => ⟨S1024x1024, .bf16⟩
  | .hbm, ⟨11, _⟩ => ⟨S1x512, .f32⟩
  | .hbm, ⟨12, _⟩ => ⟨S1x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1x512, .f32⟩
  | .local _ .vmem, ⟨10, _⟩ => ⟨S1x512, .f32⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x1024, .f32⟩
  | .local _ .vmem, ⟨16, _⟩ => ⟨S1024x1024, .bf16⟩
  | .local _ .vmem, ⟨17, _⟩ => ⟨S1x512, .f32⟩
  | .local _ .vmem, ⟨18, _⟩ => ⟨S1x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v10 : BitVec 1 := Scalar.cmpi .eq arg0 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference5Ideal.lean ====
abbrev S4096x1024 : Shape := ⟨2, ![4096, 1024]⟩
abbrev S1024x1024 : Shape := ⟨2, ![1024, 1024]⟩
abbrev S4096x512 : Shape := ⟨2, ![4096, 512]⟩
abbrev S1x512 : Shape := ⟨2, ![1, 512]⟩
abbrev S512 : Shape := ⟨1, ![512]⟩
abbrev S_ : Shape := ⟨0, ![]⟩
abbrev S4096 : Shape := ⟨1, ![4096]⟩
abbrev S4096x1 : Shape := ⟨2, ![4096, 1]⟩

abbrev nBuf : Space → Nat
  | .hbm => 114
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S4096x512, .f32⟩
  | .hbm, ⟨4, _⟩ => ⟨S4096x512, .f32⟩
  | .hbm, ⟨5, _⟩ => ⟨S1x512, .f32⟩
  | .hbm, ⟨6, _⟩ => ⟨S1x512, .f32⟩
  | .hbm, ⟨7, _⟩ => ⟨S4096x1024, .f32⟩
  | .hbm, ⟨8, _⟩ => ⟨S1024x1024, .f32⟩
  | .hbm, ⟨9, _⟩ => ⟨S4096x1024, .f32⟩
  | .hbm, ⟨10, _⟩ => ⟨S4096x1024, .f32⟩
  | .hbm, ⟨11, _⟩ => ⟨S1024x1024, .f32⟩
  | .hbm, ⟨12, _⟩ => ⟨S1024x1024, .f32⟩
  | .hbm, ⟨13, _⟩ => ⟨S4096x1024, .f32⟩
  | .hbm, ⟨14, _⟩ => ⟨S512, .f32⟩
  | .hbm, ⟨15, _⟩ => ⟨S512, .f32⟩
  | .hbm, ⟨16, _⟩ => ⟨S4096x512, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x512, .f32⟩
  | .hbm, ⟨32, _⟩ => ⟨S4096x512, .f32⟩
  | .hbm, ⟨33, _⟩ => ⟨S1x512, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S4096x512, .f32⟩
  | .hbm, ⟨52, _⟩ => ⟨S4096x512, .f32⟩
  | .hbm, ⟨53, _⟩ => ⟨S1x512, .f32⟩
  | .hbm, ⟨54, _⟩ => ⟨S4096x512, .f32⟩
  | .hbm, ⟨55, _⟩ => ⟨S4096x512, .f32⟩
  | .hbm, ⟨56, _⟩ => ⟨S4096x1024, .f32⟩
  | .hbm, ⟨57, _⟩ => ⟨S4096x512, .f32⟩
  | .hbm, ⟨58, _⟩ => ⟨S4096x512, .f32⟩
  | .hbm, ⟨59, _⟩ => ⟨S4096x512, .f32⟩
  | .hbm, ⟨60, _⟩ => ⟨S_, .f32⟩
  | .hbm, ⟨61, _⟩ => ⟨S512, .f32⟩
  | .hbm, ⟨62, _⟩ => ⟨S1x512, .f32⟩
  | .hbm, ⟨63, _⟩ => ⟨S4096x512, .f32⟩
  | .hbm, ⟨64, _⟩ => ⟨S4096x512, .f32⟩
  | .hbm, ⟨65, _⟩ => ⟨S_, .f32⟩
  | .hbm, ⟨66, _⟩ => ⟨S512, .f32⟩
  | .hbm, ⟨67, _⟩ => ⟨S4096x512, .f32⟩
  | .hbm, ⟨68, _⟩ => ⟨S_, .f32⟩
  | .hbm, ⟨69, _⟩ => ⟨S4096, .f32⟩
  | .hbm, ⟨70, _⟩ => ⟨S4096x1, .f32⟩
  | .hbm, ⟨71, _⟩ => ⟨S4096x512, .f32⟩
  | .hbm, ⟨72, _⟩ => ⟨S4096x512, .f32⟩
  | .hbm, ⟨73, _⟩ => ⟨S4096x1, .f32⟩
  | .hbm, ⟨74, _⟩ => ⟨S_, .f32⟩
  | .hbm, ⟨75, _⟩ => ⟨S4096x1, .f32⟩
  | .hbm, ⟨76, _⟩ => ⟨S4096x1, .f32⟩
  | .hbm, ⟨77, _⟩ => ⟨S_, .f32⟩
  | .hbm, ⟨78, _⟩ => ⟨S4096, .f32⟩
  | .hbm, ⟨79, _⟩ => ⟨S4096x512, .f32⟩
  | .hbm, ⟨80, _⟩ => ⟨S4096x512, .f32⟩
  | .hbm, ⟨81, _⟩ => ⟨S4096x512, .f32⟩
  | .hbm, ⟨82, _⟩ => ⟨S4096x512, .f32⟩
  | .hbm, ⟨83, _⟩ => ⟨S4096x512, .f32⟩
  | .hbm, ⟨84, _⟩ => ⟨S4096x512, .f32⟩
  | .hbm, ⟨85, _⟩ => ⟨S_, .f32⟩
  | .hbm, ⟨86, _⟩ => ⟨S512, .f32⟩
  | .hbm, ⟨87, _⟩ => ⟨S1x512, .f32⟩
  | .hbm, ⟨88, _⟩ => ⟨S4096x512, .f32⟩
  | .hbm, ⟨89, _⟩ => ⟨S4096x512, .f32⟩
  | .hbm, ⟨90, _⟩ => ⟨S_, .f32⟩
  | .hbm, ⟨91, _⟩ => ⟨S512, .f32⟩
  | .hbm, ⟨92, _⟩ => ⟨S4096x512, .f32⟩
  | .hbm, ⟨93, _⟩ => ⟨S_, .f32⟩
  | .hbm, ⟨94, _⟩ => ⟨S4096, .f32⟩
  | .hbm, ⟨95, _⟩ => ⟨S4096x1, .f32⟩
  | .hbm, ⟨96, _⟩ => ⟨S4096x512, .f32⟩
  | .hbm, ⟨97, _⟩ => ⟨S4096x512, .f32⟩
  | .hbm, ⟨98, _⟩ => ⟨S4096x1, .f32⟩
  | .hbm, ⟨99, _⟩ => ⟨S_, .f32⟩
  | .hbm, ⟨100, _⟩ => ⟨S4096x1, .f32⟩
  | .hbm, ⟨101, _⟩ => ⟨S4096x1, .f32⟩
  | .hbm, ⟨102, _⟩ => ⟨S_, .f32⟩
  | .hbm, ⟨103, _⟩ => ⟨S4096, .f32⟩
  | .hbm, ⟨104, _⟩ => ⟨S4096x512, .f32⟩
  | .hbm, ⟨105, _⟩ => ⟨S4096x512, .f32⟩
  | .hbm, ⟨106, _⟩ => ⟨S4096x512, .f32⟩
  | .hbm, ⟨107, _⟩ => ⟨S4096x512, .f32⟩
  | .hbm, ⟨108, _⟩ => ⟨S4096x512, .f32⟩
  | .hbm, ⟨109, _⟩ => ⟨S4096x512, .bf16⟩
  | .hbm, ⟨110, _⟩ => ⟨S4096x512, .bf16⟩
  | .hbm, ⟨111, _⟩ => ⟨S1024x1024, .bf16⟩
  | .hbm, ⟨112, _⟩ => ⟨S1x512, .f32⟩
  | .hbm, ⟨113, _⟩ => ⟨S1x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_7 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_8 : Ref sig .tc := ⟨.hbm, 65, rfl⟩
abbrev main_v49 : Ref sig .tc := ⟨.hbm, 66, rfl⟩
abbrev main_v50 : Ref sig .tc := ⟨.hbm, 67, rfl⟩
abbrev main_cst_9 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_10 : Ref sig .tc := ⟨.hbm, 74, rfl⟩
abbrev main_v56 : Ref sig .tc := ⟨.hbm, 75, rfl⟩
abbrev main_v57 : Ref sig .tc := ⟨.hbm, 76, rfl⟩
abbrev main_cst_11 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_12 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_13 : Ref sig .tc := ⟨.hbm, 90, rfl⟩
abbrev main_v69 : Ref sig .tc := ⟨.hbm, 91, rfl⟩
abbrev main_v70 : Ref sig .tc := ⟨.hbm, 92, rfl⟩
abbrev main_cst_14 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_15 : Ref sig .tc := ⟨.hbm, 99, rfl⟩
abbrev main_v76 : Ref sig .tc := ⟨.hbm, 100, rfl⟩
abbrev main_v77 : Ref sig .tc := ⟨.hbm, 101, rfl⟩
abbrev main_cst_16 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩

abbrev nD : Nat := 1
abbrev τ : Topo := Topo.v7x

variable {F : FTy → Type} [FloatOps F]
-- ==== Kernel6.lean ====
abbrev S4096x512 : Shape := ⟨2, ![4096, 512]⟩
abbrev S4096x128 : Shape := ⟨2, ![4096, 128]⟩
abbrev S2304x1024 : Shape := ⟨2, ![2304, 1024]⟩
abbrev S4096x1024 : Shape := ⟨2, ![4096, 1024]⟩
abbrev S2x1x6144 : Shape := ⟨3, ![2, 1, 6144]⟩
abbrev S1x1024 : Shape := ⟨2, ![1, 1024]⟩
abbrev S2048x32 : Shape := ⟨2, ![2048, 32]⟩
abbrev S2048x128 : Shape := ⟨2, ![2048, 128]⟩
abbrev S2x1x1024 : Shape := ⟨3, ![2, 1, 1024]⟩
abbrev S512x512 : Shape := ⟨2, ![512, 512]⟩
abbrev S512x128 : Shape := ⟨2, ![512, 128]⟩
abbrev S512x1024 : Shape := ⟨2, ![512, 1024]⟩
abbrev S1x1x6144 : Shape := ⟨3, ![1, 1, 6144]⟩
abbrev S1x1x1024 : Shape := ⟨3, ![1, 1, 1024]⟩
abbrev S512x640 : Shape := ⟨2, ![512, 640]⟩
abbrev S512x2304 : Shape := ⟨2, ![512, 2304]⟩
abbrev S512 : Shape := ⟨1, ![512]⟩
abbrev S512x1 : Shape := ⟨2, ![512, 1]⟩
abbrev S1024 : Shape := ⟨1, ![1024]⟩

abbrev nBuf : Space → Nat
  | .hbm => 24
  | .vmem => 35
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x512, .f32⟩
  | .hbm, ⟨4, _⟩ => ⟨S4096x128, .f32⟩
  | .hbm, ⟨5, _⟩ => ⟨S4096x128, .bf16⟩
  | .hbm, ⟨6, _⟩ => ⟨S2304x1024, .bf16⟩
  | .hbm, ⟨7, _⟩ => ⟨S4096x1024, .bf16⟩
  | .hbm, ⟨8, _⟩ => ⟨S4096x1024, .f32⟩
  | .hbm, ⟨9, _⟩ => ⟨S2x1x6144, .f32⟩
  | .hbm, ⟨10, _⟩ => ⟨S1x1024, .f32⟩
  | .hbm, ⟨11, _⟩ => ⟨S4096x1024, .f32⟩
  | .hbm, ⟨12, _⟩ => ⟨S2048x32, .f32⟩
  | .hbm, ⟨13, _⟩ => ⟨S2048x32, .f32⟩
  | .hbm, ⟨14, _⟩ => ⟨S2048x128, .f32⟩
  | .hbm, ⟨15, _⟩ => ⟨S2048x32, .f32⟩
  | .hbm, ⟨16, _⟩ => ⟨S2048x32, .f32⟩
  | .hbm, ⟨17, _⟩ => ⟨S2048x128, .f32⟩
  | .hbm, ⟨18, _⟩ => ⟨S4096x1024, .f32⟩
  | .hbm, ⟨19, _⟩ => ⟨S2304x1024, .f32⟩
  | .hbm, ⟨20, _⟩ => ⟨S2304x1024, .bf16⟩
  | .hbm, ⟨21, _⟩ => ⟨S2x1x1024, .f32⟩
  | .hbm, ⟨22, _⟩ => ⟨S2x1x1024, .f32⟩
  | .hbm, ⟨23, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | .local _ .vmem, ⟨7, _⟩ => ⟨S512x512, .f32⟩
  | .local _ .vmem, ⟨8, _⟩ => ⟨S512x128, .f32⟩
  | .local _ .vmem, ⟨9, _⟩ => ⟨S512x128, .f32⟩
  | .local _ .vmem, ⟨10, _⟩ => ⟨S512x128, .bf16⟩
  | .local _ .vmem, ⟨11, _⟩ => ⟨S512x128, .bf16⟩
  | .local _ .vmem, ⟨12, _⟩ => ⟨S2304x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .f32⟩
  | .local _ .vmem, ⟨16, _⟩ => ⟨S512x1024, .f32⟩
  | .local _ .vmem, ⟨17, _⟩ => ⟨S1x1x6144, .f32⟩
  | .local _ .vmem, ⟨18, _⟩ => ⟨S1x1x6144, .f32⟩
  | .local _ .vmem, ⟨19, _⟩ => ⟨S1x1024, .f32⟩
  | .local _ .vmem, ⟨20, _⟩ => ⟨S512x1024, .f32⟩
  | .local _ .vmem, ⟨21, _⟩ => ⟨S512x1024, .f32⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S512x128, .f32⟩
  | .local _ .vmem, ⟨26, _⟩ => ⟨S512x1024, .f32⟩
  | .local _ .vmem, ⟨27, _⟩ => ⟨S512x1024, .f32⟩
  | .local _ .vmem, ⟨28, _⟩ => ⟨S2304x1024, .f32⟩
  | .local _ .vmem, ⟨29, _⟩ => ⟨S2304x1024, .bf16⟩
  | .local _ .vmem, ⟨30, _⟩ => ⟨S1x1x1024, .f32⟩
  | .local _ .vmem, ⟨31, _⟩ => ⟨S1x1x1024, .f32⟩
  | .local _ .vmem, ⟨32, _⟩ => ⟨S1x1x1024, .f32⟩
  | .local _ .vmem, ⟨33, _⟩ => ⟨S1x1x1024, .f32⟩
  | .local _ .vmem, ⟨34, _⟩ => ⟨S1x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4_0 : Ref sig .tc := ⟨.hbm, 18, rfl⟩
abbrev main_v4_1 : Ref sig .tc := ⟨.hbm, 19, rfl⟩
abbrev main_v4_2 : Ref sig .tc := ⟨.hbm, 20, rfl⟩
abbrev main_v4_3 : Ref sig .tc := ⟨.hbm, 21, rfl⟩
abbrev main_v4_4 : Ref sig .tc := ⟨.hbm, 22, rfl⟩
abbrev main_v4_5 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg16_0 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem16_0 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v62 : BitVec 1 := Scalar.cmpi .eq arg0 c7_i32
  let v63 : BitVec 32 := Scalar.extui v62
  let c0_i32_34 : BitVec 32 := 0#32
  let v64 : BitVec 1 := Scalar.cmpi .ne v63 c0_i32_34
  v64

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_13 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_18 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2304x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x6144 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S2304x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2304x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1x1x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x1x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== Reference6Ideal.lean ====
abbrev S4096x512 : Shape := ⟨2, ![4096, 512]⟩
abbrev S4096x128 : Shape := ⟨2, ![4096, 128]⟩
abbrev S2304x1024 : Shape := ⟨2, ![2304, 1024]⟩
abbrev S4096x1024 : Shape := ⟨2, ![4096, 1024]⟩
abbrev S2x1x6144 : Shape := ⟨3, ![2, 1, 6144]⟩
abbrev S1x1024 : Shape := ⟨2, ![1, 1024]⟩
abbrev S2048x32 : Shape := ⟨2, ![2048, 32]⟩
abbrev S2x1x1024 : Shape := ⟨3, ![2, 1, 1024]⟩
abbrev S1024x2304 : Shape := ⟨2, ![1024, 2304]⟩
abbrev S1x2048x1x32 : Shape := ⟨4, ![1, 2048, 1, 32]⟩
abbrev S2x2048x512 : Shape := ⟨3, ![2, 2048, 512]⟩
abbrev S2x2048x128 : Shape := ⟨3, ![2, 2048, 128]⟩
abbrev S2x2048x2x64 : Shape := ⟨4, ![2, 2048, 2, 64]⟩
abbrev S2x2048x8x64 : Shape := ⟨4, ![2, 2048, 8, 64]⟩
abbrev S2x2048x2x32 : Shape := ⟨4, ![2, 2048, 2, 32]⟩
abbrev S_ : Shape := ⟨0, ![]⟩
abbrev S2x2048x8x32 : Shape := ⟨4, ![2, 2048, 8, 32]⟩
abbrev S2x2048x2304 : Shape := ⟨3, ![2, 2048, 2304]⟩
abbrev S2x2048x1024 : Shape := ⟨3, ![2, 2048, 1024]⟩
abbrev S1024 : Shape := ⟨1, ![1024]⟩
abbrev S2x2048 : Shape := ⟨2, ![2, 2048]⟩
abbrev S2x2048x1 : Shape := ⟨3, ![2, 2048, 1]⟩
abbrev S1x1x1024 : Shape := ⟨3, ![1, 1, 1024]⟩
abbrev S2x1024 : Shape := ⟨2, ![2, 1024]⟩

abbrev nBuf : Space → Nat
  | .hbm => 153
  | .vmem => 0
  | .smem => 0
  | _ => 0

abbrev hbmTy0_0 (i : Nat) : BufTy := match i % 128 with
  | 0 => ⟨S4096x512, .bf16⟩
  | 1 => ⟨S4096x512, .bf16⟩
  | 2 => ⟨S4096x512, .bf16⟩
  | 3 => ⟨S4096x512, .f32⟩
  | 4 => ⟨S4096x128, .f32⟩
  | 5 => ⟨S4096x128, .bf16⟩
  | 6 => ⟨S2304x1024, .bf16⟩
  | 7 => ⟨S4096x1024, .bf16⟩
  | 8 => ⟨S4096x1024, .f32⟩
  | 9 => ⟨S2x1x6144, .f32⟩
  | 10 => ⟨S1x1024, .f32⟩
  | 11 => ⟨S4096x1024, .f32⟩
  | 12 => ⟨S2048x32, .f32⟩
  | 13 => ⟨S2048x32, .f32⟩
  | 14 => ⟨S2x1x1024, .f32⟩
  | 15 => ⟨S2x1x1024, .f32⟩
  | 16 => ⟨S2x1x1024, .f32⟩
  | 17 => ⟨S2x1x1024, .f32⟩
  | 18 => ⟨S2x1x1024, .f32⟩
  | 19 => ⟨S2x1x1024, .f32⟩
  | 20 => ⟨S2304x1024, .f32⟩
  | 21 => ⟨S1024x2304, .f32⟩
  | 22 => ⟨S1x2048x1x32, .f32⟩
  | 23 => ⟨S1x2048x1x32, .f32⟩
  | 24 => ⟨S1x2048x1x32, .f32⟩
  | 25 => ⟨S1x2048x1x32, .f32⟩
  | 26 => ⟨S4096x512, .f32⟩
  | 27 => ⟨S2x2048x512, .f32⟩
  | 28 => ⟨S4096x512, .f32⟩
  | 29 => ⟨S2x2048x512, .f32⟩
  | 30 => ⟨S4096x512, .f32⟩
  | 31 => ⟨S2x2048x512, .f32⟩
  | 32 => ⟨S2x2048x512, .f32⟩
  | 33 => ⟨S2x2048x128, .f32⟩
  | 34 => ⟨S4096x128, .f32⟩
  | 35 => ⟨S2x2048x128, .f32⟩
  | 36 => ⟨S2x2048x2x64, .f32⟩
  | 37 => ⟨S2x2048x8x64, .f32⟩
  | 38 => ⟨S2x2048x2x32, .f32⟩
  | 39 => ⟨S2x2048x2x32, .f32⟩
  | 40 => ⟨S2x2048x2x32, .f32⟩
  | 41 => ⟨S2x2048x2x32, .f32⟩
  | 42 => ⟨S2x2048x2x32, .f32⟩
  | 43 => ⟨S2x2048x2x32, .f32⟩
  | 44 => ⟨S2x2048x2x32, .f32⟩
  | 45 => ⟨S2x2048x2x32, .f32⟩
  | 46 => ⟨S2x2048x2x32, .f32⟩
  | 47 => ⟨S2x2048x2x32, .f32⟩
  | 48 => ⟨S2x2048x2x32, .f32⟩
  | 49 => ⟨S2x2048x2x32, .f32⟩
  | 50 => ⟨S2x2048x2x32, .f32⟩
  | 51 => ⟨S_, .f32⟩
  | 52 => ⟨S2x2048x2x64, .f32⟩
  | 53 => ⟨S_, .f32⟩
  | 54 => ⟨S2x2048x2x64, .f32⟩
  | 55 => ⟨S2x2048x2x64, .f32⟩
  | 56 => ⟨S2x2048x128, .f32⟩
  | 57 => ⟨S2x2048x8x32, .f32⟩
  | 58 => ⟨S2x2048x8x32, .f32⟩
  | 59 => ⟨S2x2048x8x32, .f32⟩
  | 60 => ⟨S2x2048x8x32, .f32⟩
  | 61 => ⟨S2x2048x8x32, .f32⟩
  | 62 => ⟨S2x2048x8x32, .f32⟩
  | 63 => ⟨S2x2048x8x32, .f32⟩
  | 64 => ⟨S2x2048x8x32, .f32⟩
  | 65 => ⟨S2x2048x8x32, .f32⟩
  | 66 => ⟨S2x2048x8x32, .f32⟩
  | 67 => ⟨S2x2048x8x32, .f32⟩
  | 68 => ⟨S2x2048x8x32, .f32⟩
  | 69 => ⟨S2x2048x8x32, .f32⟩
  | 70 => ⟨S_, .f32⟩
  | 71 => ⟨S2x2048x8x64, .f32⟩
  | 72 => ⟨S_, .f32⟩
  | 73 => ⟨S2x2048x8x64, .f32⟩
  | 74 => ⟨S2x2048x8x64, .f32⟩
  | 75 => ⟨S2x2048x512, .f32⟩
  | 76 => ⟨S2x2048x2304, .f32⟩
  | 77 => ⟨S4096x1024, .f32⟩
  | 78 => ⟨S2x2048x1024, .f32⟩
  | 79 => ⟨S2304x1024, .f32⟩
  | 80 => ⟨S1024x2304, .f32⟩
  | 81 => ⟨S2x2048x1024, .f32⟩
  | 82 => ⟨S1024, .f32⟩
  | 83 => ⟨S2x2048x1024, .f32⟩
  | 84 => ⟨S_, .f32⟩
  | 85 => ⟨S2x2048, .f32⟩
  | 86 => ⟨S2x2048x1, .f32⟩
  | 87 => ⟨S_, .f32⟩
  | 88 => ⟨S2x2048x1, .f32⟩
  | 89 => ⟨S2x2048x1, .f32⟩
  | 90 => ⟨S_, .f32⟩
  | 91 => ⟨S2x2048x1, .f32⟩
  | 92 => ⟨S2x2048x1, .f32⟩
  | 93 => ⟨S2x2048x1, .f32⟩
  | 94 => ⟨S2x2048x1, .f32⟩
  | 95 => ⟨S_, .f32⟩
  | 96 => ⟨S2x2048x1, .f32⟩
  | 97 => ⟨S2x2048x1, .f32⟩
  | 98 => ⟨S2x2048x1024, .f32⟩
  | 99 => ⟨S2x2048x1024, .f32⟩
  | 100 => ⟨S1x1x1024, .f32⟩
  | 101 => ⟨S2x2048x1024, .f32⟩
  | 102 => ⟨S2x2048x1024, .f32⟩
  | 103 => ⟨S_, .f32⟩
  | 104 => ⟨S2x1x1024, .f32⟩
  | 105 => ⟨S2x1x1024, .f32⟩
  | 106 => ⟨S2x2048x1024, .f32⟩
  | 107 => ⟨S2x2048x1024, .f32⟩
  | 108 => ⟨S2x2048x1024, .f32⟩
  | 109 => ⟨S2x2048x1024, .f32⟩
  | 110 => ⟨S2x2048x2304, .f32⟩
  | 111 => ⟨S2x2048x1024, .f32⟩
  | 112 => ⟨S2x2048x1024, .f32⟩
  | 113 => ⟨S_, .f32⟩
  | 114 => ⟨S2x1024, .f32⟩
  | 115 => ⟨S2x1x1024, .f32⟩
  | 116 => ⟨S2x2048x1024, .f32⟩
  | 117 => ⟨S_, .f32⟩
  | 118 => ⟨S2x1024, .f32⟩
  | 119 => ⟨S2x1x1024, .f32⟩
  | 120 => ⟨S2x2048x1024, .f32⟩
  | 121 => ⟨S2x2048x1024, .f32⟩
  | 122 => ⟨S2x2048x1024, .f32⟩
  | 123 => ⟨S_, .f32⟩
  | 124 => ⟨S1024, .f32⟩
  | 125 => ⟨S1x1x1024, .f32⟩
  | 126 => ⟨S2x2048x1024, .f32⟩
  | 127 => ⟨S2x2048x1024, .f32⟩
  | _ => ⟨S4096x512, .bf16⟩

abbrev hbmTy0_1 (i : Nat) : BufTy := match i % 128 with
  | 0 => ⟨S_, .f32⟩
  | 1 => ⟨S1024, .f32⟩
  | 2 => ⟨S2x2048x1024, .f32⟩
  | 3 => ⟨S_, .f32⟩
  | 4 => ⟨S2x2048, .f32⟩
  | 5 => ⟨S2x2048x1, .f32⟩
  | 6 => ⟨S2x2048x1024, .f32⟩
  | 7 => ⟨S2x2048x1024, .f32⟩
  | 8 => ⟨S2x2048x1024, .f32⟩
  | 9 => ⟨S2x2048x1, .f32⟩
  | 10 => ⟨S_, .f32⟩
  | 11 => ⟨S2x2048x1, .f32⟩
  | 12 => ⟨S2x2048x1, .f32⟩
  | 13 => ⟨S_, .f32⟩
  | 14 => ⟨S2x2048, .f32⟩
  | 15 => ⟨S2x2048x1024, .f32⟩
  | 16 => ⟨S2x2048x1024, .f32⟩
  | 17 => ⟨S2x2048x1024, .f32⟩
  | 18 => ⟨S2x2048x1024, .f32⟩
  | 19 => ⟨S2x2048x1024, .f32⟩
  | 20 => ⟨S4096x1024, .f32⟩
  | 21 => ⟨S2304x1024, .f32⟩
  | 22 => ⟨S2304x1024, .f32⟩
  | 23 => ⟨S2304x1024, .bf16⟩
  | 24 => ⟨S1x1024, .f32⟩
  | _ => ⟨S4096x512, .bf16⟩

abbrev hbmTy (i : Nat) : BufTy := match i / 128 with
  | 0 => hbmTy0_0 i
  | 1 => hbmTy0_1 i
  | _ => ⟨S4096x512, .bf16⟩

abbrev bufTy : (tb : Table) → Fin (tcTables nBuf tb) → BufTy
  | .hbm, ⟨i, _⟩ => hbmTy i
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst : Ref sig .tc := ⟨.hbm, 51, rfl⟩
abbrev main_v37 : Ref sig .tc := ⟨.hbm, 52, rfl⟩
abbrev main_cst_0 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_1 : Ref sig .tc := ⟨.hbm, 70, rfl⟩
abbrev main_v54 : Ref sig .tc := ⟨.hbm, 71, rfl⟩
abbrev main_cst_2 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_3 : Ref sig .tc := ⟨.hbm, 84, rfl⟩
abbrev main_v66 : Ref sig .tc := ⟨.hbm, 85, rfl⟩
abbrev main_v67 : Ref sig .tc := ⟨.hbm, 86, rfl⟩
abbrev main_cst_4 : Ref sig .tc := ⟨.hbm, 87, rfl⟩
abbrev main_v68 : Ref sig .tc := ⟨.hbm, 88, rfl⟩
abbrev main_v69 : Ref sig .tc := ⟨.hbm, 89, rfl⟩
abbrev main_cst_5 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_6 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_cst_7 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_cst_8 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_cst_9 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_cst_10 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_cst_11 : Ref sig .tc := ⟨.hbm, 128, rfl⟩
abbrev main_v102 : Ref sig .tc := ⟨.hbm, 129, rfl⟩
abbrev main_v103 : Ref sig .tc := ⟨.hbm, 130, rfl⟩
abbrev main_cst_12 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_cst_13 : Ref sig .tc := ⟨.hbm, 138, rfl⟩
abbrev main_v110 : Ref sig .tc := ⟨.hbm, 139, rfl⟩
abbrev main_v111 : Ref sig .tc := ⟨.hbm, 140, rfl⟩
abbrev main_cst_14 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩

abbrev nD : Nat := 1
abbrev τ : Topo := Topo.v7x

variable {F : FTy → Type} [FloatOps F]
-- ==== Kernel7.lean ====
abbrev S4096x1024 : Shape := ⟨2, ![4096, 1024]⟩
abbrev S4x512x1408 : Shape := ⟨3, ![4, 512, 1408]⟩
abbrev S2x4096x2816 : Shape := ⟨3, ![2, 4096, 2816]⟩
abbrev S1024x1024 : Shape := ⟨2, ![1024, 1024]⟩
abbrev S1x512x1408 : Shape := ⟨3, ![1, 512, 1408]⟩
abbrev S1x1024x1408 : Shape := ⟨3, ![1, 1024, 1408]⟩
abbrev S1024x512 : Shape := ⟨2, ![1024, 512]⟩
abbrev S512x1408 : Shape := ⟨2, ![512, 1408]⟩
abbrev S1024x1408 : Shape := ⟨2, ![1024, 1408]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4x512x1408, .bf16⟩
  | .hbm, ⟨2, _⟩ => ⟨S4x512x1408, .bf16⟩
  | .hbm, ⟨3, _⟩ => ⟨S2x4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1x512x1408, .bf16⟩
  | .local _ .vmem, ⟨3, _⟩ => ⟨S1x512x1408, .bf16⟩
  | .local _ .vmem, ⟨4, _⟩ => ⟨S1x512x1408, .bf16⟩
  | .local _ .vmem, ⟨5, _⟩ => ⟨S1x512x1408, .bf16⟩
  | .local _ .vmem, ⟨6, _⟩ => ⟨S1x1024x1408, .bf16⟩
  | .local _ .vmem, ⟨7, _⟩ => ⟨S1x1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S4096x1024 : Shape := ⟨2, ![4096, 1024]⟩
abbrev S4x512x1408 : Shape := ⟨3, ![4, 512, 1408]⟩
abbrev S512x4x1408 : Shape := ⟨3, ![512, 4, 1408]⟩
abbrev S512x5632 : Shape := ⟨2, ![512, 5632]⟩
abbrev S1024x5632 : Shape := ⟨2, ![1024, 5632]⟩
abbrev S4096x5632 : Shape := ⟨2, ![4096, 5632]⟩
abbrev S4096x2816 : Shape := ⟨2, ![4096, 2816]⟩
abbrev S1x4096x2816 : Shape := ⟨3, ![1, 4096, 2816]⟩
abbrev S2x4096x2816 : Shape := ⟨3, ![2, 4096, 2816]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x512x1408, .bf16⟩
  | .hbm, ⟨2, _⟩ => ⟨S4x512x1408, .bf16⟩
  | .hbm, ⟨3, _⟩ => ⟨S4096x1024, .f32⟩
  | .hbm, ⟨4, _⟩ => ⟨S4x512x1408, .f32⟩
  | .hbm, ⟨5, _⟩ => ⟨S512x4x1408, .f32⟩
  | .hbm, ⟨6, _⟩ => ⟨S512x5632, .f32⟩
  | .hbm, ⟨7, _⟩ => ⟨S4x512x1408, .f32⟩
  | .hbm, ⟨8, _⟩ => ⟨S512x4x1408, .f32⟩
  | .hbm, ⟨9, _⟩ => ⟨S512x5632, .f32⟩
  | .hbm, ⟨10, _⟩ => ⟨S1024x5632, .f32⟩
  | .hbm, ⟨11, _⟩ => ⟨S4096x5632, .f32⟩
  | .hbm, ⟨12, _⟩ => ⟨S4096x2816, .f32⟩
  | .hbm, ⟨13, _⟩ => ⟨S4096x2816, .f32⟩
  | .hbm, ⟨14, _⟩ => ⟨S1x4096x2816, .f32⟩
  | .hbm, ⟨15, _⟩ => ⟨S1x4096x2816, .f32⟩
  | .hbm, ⟨16, _⟩ => ⟨S2x4096x2816, .f32⟩
  | .hbm, ⟨17, _⟩ => ⟨S2x4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Kernel8.lean ====
abbrev S4096x2816 : Shape := ⟨2, ![4096, 2816]⟩
abbrev S2816x1024 : Shape := ⟨2, ![2816, 1024]⟩
abbrev S4096x1024 : Shape := ⟨2, ![4096, 1024]⟩
abbrev S2x1x6144 : Shape := ⟨3, ![2, 1, 6144]⟩
abbrev S1x1024 : Shape := ⟨2, ![1, 1024]⟩
abbrev S8x128 : Shape := ⟨2, ![8, 128]⟩
abbrev S2x1x1024 : Shape := ⟨3, ![2, 1, 1024]⟩
abbrev S512x2816 : Shape := ⟨2, ![512, 2816]⟩
abbrev S512x1024 : Shape := ⟨2, ![512, 1024]⟩
abbrev S1x1x6144 : Shape := ⟨3, ![1, 1, 6144]⟩
abbrev S1x1x1024 : Shape := ⟨3, ![1, 1, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩
abbrev S1024 : Shape := ⟨1, ![1024]⟩

abbrev nBuf : Space → Nat
  | .hbm => 11
  | .vmem => 18
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S2x1x6144, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | .hbm, ⟨8, _⟩ => ⟨S8x128, .f32⟩
  | .hbm, ⟨9, _⟩ => ⟨S2x1x1024, .f32⟩
  | .hbm, ⟨10, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1x6144, .f32⟩
  | .local _ .vmem, ⟨6, _⟩ => ⟨S1x1x6144, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S8x128, .f32⟩
  | .local _ .vmem, ⟨15, _⟩ => ⟨S1x1x1024, .f32⟩
  | .local _ .vmem, ⟨16, _⟩ => ⟨S1x1x1024, .f32⟩
  | .local _ .vmem, ⟨17, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference8Ideal.lean ====
abbrev S4096x2816 : Shape := ⟨2, ![4096, 2816]⟩
abbrev S2816x1024 : Shape := ⟨2, ![2816, 1024]⟩
abbrev S4096x1024 : Shape := ⟨2, ![4096, 1024]⟩
abbrev S2x1x6144 : Shape := ⟨3, ![2, 1, 6144]⟩
abbrev S1x1024 : Shape := ⟨2, ![1, 1024]⟩
abbrev S2x1x1024 : Shape := ⟨3, ![2, 1, 1024]⟩
abbrev S2x2048x2816 : Shape := ⟨3, ![2, 2048, 2816]⟩
abbrev S2x2048x1024 : Shape := ⟨3, ![2, 2048, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1024 : Shape := ⟨2, ![2, 1024]⟩
abbrev S8x128 : Shape := ⟨2, ![8, 128]⟩

abbrev nBuf : Space → Nat
  | .hbm => 101
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S2x1x6144, .f32⟩
  | .hbm, ⟨4, _⟩ => ⟨S1x1024, .f32⟩
  | .hbm, ⟨5, _⟩ => ⟨S4096x1024, .f32⟩
  | .hbm, ⟨6, _⟩ => ⟨S2x1x1024, .f32⟩
  | .hbm, ⟨7, _⟩ => ⟨S2x1x1024, .f32⟩
  | .hbm, ⟨8, _⟩ => ⟨S2x1x1024, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S4096x2816, .f32⟩
  | .hbm, ⟨13, _⟩ => ⟨S2x2048x2816, .f32⟩
  | .hbm, ⟨14, _⟩ => ⟨S2816x1024, .f32⟩
  | .hbm, ⟨15, _⟩ => ⟨S2x2048x1024, .f32⟩
  | .hbm, ⟨16, _⟩ => ⟨S2x2048x1024, .f32⟩
  | .hbm, ⟨17, _⟩ => ⟨S1024, .f32⟩
  | .hbm, ⟨18, _⟩ => ⟨S2x2048x1024, .f32⟩
  | .hbm, ⟨19, _⟩ => ⟨S2x2048x1024, .f32⟩
  | .hbm, ⟨20, _⟩ => ⟨S2x2048x1024, .f32⟩
  | .hbm, ⟨21, _⟩ => ⟨S2x2048x1024, .f32⟩
  | .hbm, ⟨22, _⟩ => ⟨S_, .f32⟩
  | .hbm, ⟨23, _⟩ => ⟨S2x2048, .f32⟩
  | .hbm, ⟨24, _⟩ => ⟨S2x2048x1, .f32⟩
  | .hbm, ⟨25, _⟩ => ⟨S_, .f32⟩
  | .hbm, ⟨26, _⟩ => ⟨S2x2048x1, .f32⟩
  | .hbm, ⟨27, _⟩ => ⟨S2x2048x1, .f32⟩
  | .hbm, ⟨28, _⟩ => ⟨S_, .f32⟩
  | .hbm, ⟨29, _⟩ => ⟨S2x2048x1, .f32⟩
  | .hbm, ⟨30, _⟩ => ⟨S2x2048x1, .f32⟩
  | .hbm, ⟨31, _⟩ => ⟨S2x2048x1, .f32⟩
  | .hbm, ⟨32, _⟩ => ⟨S2x2048x1, .f32⟩
  | .hbm, ⟨33, _⟩ => ⟨S_, .f32⟩
  | .hbm, ⟨34, _⟩ => ⟨S2x2048x1, .f32⟩
  | .hbm, ⟨35, _⟩ => ⟨S2x2048x1, .f32⟩
  | .hbm, ⟨36, _⟩ => ⟨S2x2048x1024, .f32⟩
  | .hbm, ⟨37, _⟩ => ⟨S2x2048x1024, .f32⟩
  | .hbm, ⟨38, _⟩ => ⟨S1x1x1024, .f32⟩
  | .hbm, ⟨39, _⟩ => ⟨S2x2048x1024, .f32⟩
  | .hbm, ⟨40, _⟩ => ⟨S2x2048x1024, .f32⟩
  | .hbm, ⟨41, _⟩ => ⟨S2x2048x1024, .f32⟩
  | .hbm, ⟨42, _⟩ => ⟨S2x2048x1024, .f32⟩
  | .hbm, ⟨43, _⟩ => ⟨S2x2048x1024, .f32⟩
  | .hbm, ⟨44, _⟩ => ⟨S_, .f32⟩
  | .hbm, ⟨45, _⟩ => ⟨S2x2048x1024, .f32⟩
  | .hbm, ⟨46, _⟩ => ⟨S2x2048x1024, .f32⟩
  | .hbm, ⟨47, _⟩ => ⟨S_, .f32⟩
  | .hbm, ⟨48, _⟩ => ⟨S2x2048, .f32⟩
  | .hbm, ⟨49, _⟩ => ⟨S_, .f32⟩
  | .hbm, ⟨50, _⟩ => ⟨S2x2048, .f32⟩
  | .hbm, ⟨51, _⟩ => ⟨S2x2048, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S2x2048, .f32⟩
  | .hbm, ⟨60, _⟩ => ⟨S_, .f32⟩
  | .hbm, ⟨61, _⟩ => ⟨S2x2048, .f32⟩
  | .hbm, ⟨62, _⟩ => ⟨S2x2048, .f32⟩
  | .hbm, ⟨63, _⟩ => ⟨S2x2048x1024, .f32⟩
  | .hbm, ⟨64, _⟩ => ⟨S2x2048x1024, .f32⟩
  | .hbm, ⟨65, _⟩ => ⟨S2x2048x1024, .f32⟩
  | .hbm, ⟨66, _⟩ => ⟨S_, .f32⟩
  | .hbm, ⟨67, _⟩ => ⟨S1024, .f32⟩
  | .hbm, ⟨68, _⟩ => ⟨S1x1x1024, .f32⟩
  | .hbm, ⟨69, _⟩ => ⟨S2x2048x1024, .f32⟩
  | .hbm, ⟨70, _⟩ => ⟨S2x2048x1024, .f32⟩
  | .hbm, ⟨71, _⟩ => ⟨S_, .f32⟩
  | .hbm, ⟨72, _⟩ => ⟨S1024, .f32⟩
  | .hbm, ⟨73, _⟩ => ⟨S2x2048x1024, .f32⟩
  | .hbm, ⟨74, _⟩ => ⟨S_, .f32⟩
  | .hbm, ⟨75, _⟩ => ⟨S2x2048, .f32⟩
  | .hbm, ⟨76, _⟩ => ⟨S2x2048x1, .f32⟩
  | .hbm, ⟨77, _⟩ => ⟨S2x2048x1024, .f32⟩
  | .hbm, ⟨78, _⟩ => ⟨S2x2048x1024, .f32⟩
  | .hbm, ⟨79, _⟩ => ⟨S2x2048x1, .f32⟩
  | .hbm, ⟨80, _⟩ => ⟨S_, .f32⟩
  | .hbm, ⟨81, _⟩ => ⟨S2x2048x1, .f32⟩
  | .hbm, ⟨82, _⟩ => ⟨S2x2048x1, .f32⟩
  | .hbm, ⟨83, _⟩ => ⟨S_, .f32⟩
  | .hbm, ⟨84, _⟩ => ⟨S2x2048, .f32⟩
  | .hbm, ⟨85, _⟩ => ⟨S2x2048x1024, .f32⟩
  | .hbm, ⟨86, _⟩ => ⟨S2x2048x1024, .f32⟩
  | .hbm, ⟨87, _⟩ => ⟨S2x2048x1024, .f32⟩
  | .hbm, ⟨88, _⟩ => ⟨S2x2048x1024, .f32⟩
  | .hbm, ⟨89, _⟩ => ⟨S2x2048x1024, .f32⟩
  | .hbm, ⟨90, _⟩ => ⟨S2x2048x1024, .f32⟩
  | .hbm, ⟨91, _⟩ => ⟨S2x2048x1024, .f32⟩
  | .hbm, ⟨92, _⟩ => ⟨S2x2048x1024, .f32⟩
  | .hbm, ⟨93, _⟩ => ⟨S_, .f32⟩
  | .hbm, ⟨94, _⟩ => ⟨S2x1024, .f32⟩
  | .hbm, ⟨95, _⟩ => ⟨S2x1x1024, .f32⟩
  | .hbm, ⟨96, _⟩ => ⟨S4096x1024, .f32⟩
  | .hbm, ⟨97, _⟩ => ⟨S4096x1024, .f32⟩
  | .hbm, ⟨98, _⟩ => ⟨S4096x1024, .bf16⟩
  | .hbm, ⟨99, _⟩ => ⟨S8x128, .f32⟩
  | .hbm, ⟨100, _⟩ => ⟨S1x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_cst_8 : Ref sig .tc := ⟨.hbm, 56, rfl⟩
abbrev main_cst_9 : Ref sig .tc := ⟨.hbm, 57, rfl⟩
abbrev main_v41 : Ref sig .tc := ⟨.hbm, 58, rfl⟩
abbrev main_v42 : Ref sig .tc := ⟨.hbm, 59, rfl⟩
abbrev main_cst_10 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_12 : Ref sig .tc := ⟨.hbm, 71, rfl⟩
abbrev main_v52 : Ref sig .tc := ⟨.hbm, 72, rfl⟩
abbrev main_v53 : Ref sig .tc := ⟨.hbm, 73, rfl⟩
abbrev main_cst_13 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_14 : Ref sig .tc := ⟨.hbm, 80, rfl⟩
abbrev main_v59 : Ref sig .tc := ⟨.hbm, 81, rfl⟩
abbrev main_v60 : Ref sig .tc := ⟨.hbm, 82, rfl⟩
abbrev main_cst_15 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_16 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩

abbrev nD : Nat := 1
abbrev τ : Topo := Topo.v7x

variable {F : FTy → Type} [FloatOps F]
-- ==== Kernel9.lean ====
abbrev S4096x512 : Shape := ⟨2, ![4096, 512]⟩
abbrev S1x512 : Shape := ⟨2, ![1, 512]⟩
abbrev S1024x1024 : Shape := ⟨2, ![1024, 1024]⟩
abbrev S4096x1024 : Shape := ⟨2, ![4096, 1024]⟩
abbrev S2x1x6144 : Shape := ⟨3, ![2, 1, 6144]⟩
abbrev S1x1024 : Shape := ⟨2, ![1, 1024]⟩
abbrev S512x512 : Shape := ⟨2, ![512, 512]⟩
abbrev S512x1024 : Shape := ⟨2, ![512, 1024]⟩
abbrev S1x1x6144 : Shape := ⟨3, ![1, 1, 6144]⟩
abbrev S512 : Shape := ⟨1, ![512]⟩
abbrev S512x1 : Shape := ⟨2, ![512, 1]⟩
abbrev S1x1x1024 : Shape := ⟨3, ![1, 1, 1024]⟩

abbrev nBuf : Space → Nat
  | .hbm => 12
  | .vmem => 20
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1x512, .f32⟩
  | .hbm, ⟨3, _⟩ => ⟨S1x512, .f32⟩
  | .hbm, ⟨4, _⟩ => ⟨S1024x1024, .bf16⟩
  | .hbm, ⟨5, _⟩ => ⟨S4096x1024, .f32⟩
  | .hbm, ⟨6, _⟩ => ⟨S2x1x6144, .f32⟩
  | .hbm, ⟨7, _⟩ => ⟨S1x1024, .f32⟩
  | .hbm, ⟨8, _⟩ => ⟨S4096x1024, .bf16⟩
  | .hbm, ⟨9, _⟩ => ⟨S4096x1024, .f32⟩
  | .hbm, ⟨10, _⟩ => ⟨S4096x1024, .f32⟩
  | .hbm, ⟨11, _⟩ => ⟨S4096x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S1x1x6144, .f32⟩
  | .local _ .vmem, ⟨10, _⟩ => ⟨S1x1x6144, .f32⟩
  | .local _ .vmem, ⟨11, _⟩ => ⟨S1x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x6144 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference9Ideal.lean ====
abbrev S4096x512 : Shape := ⟨2, ![4096, 512]⟩
abbrev S1x512 : Shape := ⟨2, ![1, 512]⟩
abbrev S1024x1024 : Shape := ⟨2, ![1024, 1024]⟩
abbrev S4096x1024 : Shape := ⟨2, ![4096, 1024]⟩
abbrev S2x1x6144 : Shape := ⟨3, ![2, 1, 6144]⟩
abbrev S1x1024 : Shape := ⟨2, ![1, 1024]⟩
abbrev S2x1x1024 : Shape := ⟨3, ![2, 1, 1024]⟩
abbrev S512 : Shape := ⟨1, ![512]⟩
abbrev S_ : Shape := ⟨0, ![]⟩
abbrev S4096 : Shape := ⟨1, ![4096]⟩
abbrev S4096x1 : Shape := ⟨2, ![4096, 1]⟩
abbrev S2x2048x1024 : Shape := ⟨3, ![2, 2048, 1024]⟩
abbrev S1024 : Shape := ⟨1, ![1024]⟩
abbrev S2x2048 : Shape := ⟨2, ![2, 2048]⟩
abbrev S2x2048x1 : Shape := ⟨3, ![2, 2048, 1]⟩
abbrev S1x1x1024 : Shape := ⟨3, ![1, 1, 1024]⟩

abbrev nBuf : Space → Nat
  | .hbm => 84
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1x512, .f32⟩
  | .hbm, ⟨3, _⟩ => ⟨S1x512, .f32⟩
  | .hbm, ⟨4, _⟩ => ⟨S1024x1024, .bf16⟩
  | .hbm, ⟨5, _⟩ => ⟨S4096x1024, .f32⟩
  | .hbm, ⟨6, _⟩ => ⟨S2x1x6144, .f32⟩
  | .hbm, ⟨7, _⟩ => ⟨S1x1024, .f32⟩
  | .hbm, ⟨8, _⟩ => ⟨S2x1x1024, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S2x1x1024, .f32⟩
  | .hbm, ⟨13, _⟩ => ⟨S2x1x1024, .f32⟩
  | .hbm, ⟨14, _⟩ => ⟨S512, .f32⟩
  | .hbm, ⟨15, _⟩ => ⟨S4096x512, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x512, .f32⟩
  | .hbm, ⟨27, _⟩ => ⟨S4096x512, .f32⟩
  | .hbm, ⟨28, _⟩ => ⟨S1x512, .f32⟩
  | .hbm, ⟨29, _⟩ => ⟨S4096x512, .f32⟩
  | .hbm, ⟨30, _⟩ => ⟨S4096x512, .f32⟩
  | .hbm, ⟨31, _⟩ => ⟨S512, .f32⟩
  | .hbm, ⟨32, _⟩ => ⟨S4096x512, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096x1, .f32⟩
  | .hbm, ⟨43, _⟩ => ⟨S4096x512, .f32⟩
  | .hbm, ⟨44, _⟩ => ⟨S4096x512, .f32⟩
  | .hbm, ⟨45, _⟩ => ⟨S1x512, .f32⟩
  | .hbm, ⟨46, _⟩ => ⟨S4096x512, .f32⟩
  | .hbm, ⟨47, _⟩ => ⟨S4096x512, .f32⟩
  | .hbm, ⟨48, _⟩ => ⟨S4096x1024, .f32⟩
  | .hbm, ⟨49, _⟩ => ⟨S1024x1024, .f32⟩
  | .hbm, ⟨50, _⟩ => ⟨S4096x1024, .f32⟩
  | .hbm, ⟨51, _⟩ => ⟨S2x2048x1024, .f32⟩
  | .hbm, ⟨52, _⟩ => ⟨S2x2048x1024, .f32⟩
  | .hbm, ⟨53, _⟩ => ⟨S2x2048x1024, .f32⟩
  | .hbm, ⟨54, _⟩ => ⟨S2x2048x1024, .f32⟩
  | .hbm, ⟨55, _⟩ => ⟨S2x2048x1024, .f32⟩
  | .hbm, ⟨56, _⟩ => ⟨S1024, .f32⟩
  | .hbm, ⟨57, _⟩ => ⟨S2x2048x1024, .f32⟩
  | .hbm, ⟨58, _⟩ => ⟨S_, .f32⟩
  | .hbm, ⟨59, _⟩ => ⟨S2x2048, .f32⟩
  | .hbm, ⟨60, _⟩ => ⟨S2x2048x1, .f32⟩
  | .hbm, ⟨61, _⟩ => ⟨S_, .f32⟩
  | .hbm, ⟨62, _⟩ => ⟨S2x2048x1, .f32⟩
  | .hbm, ⟨63, _⟩ => ⟨S2x2048x1, .f32⟩
  | .hbm, ⟨64, _⟩ => ⟨S_, .f32⟩
  | .hbm, ⟨65, _⟩ => ⟨S2x2048x1, .f32⟩
  | .hbm, ⟨66, _⟩ => ⟨S2x2048x1, .f32⟩
  | .hbm, ⟨67, _⟩ => ⟨S2x2048x1, .f32⟩
  | .hbm, ⟨68, _⟩ => ⟨S2x2048x1024, .f32⟩
  | .hbm, ⟨69, _⟩ => ⟨S2x2048x1024, .f32⟩
  | .hbm, ⟨70, _⟩ => ⟨S1x1x1024, .f32⟩
  | .hbm, ⟨71, _⟩ => ⟨S2x2048x1024, .f32⟩
  | .hbm, ⟨72, _⟩ => ⟨S2x2048x1024, .f32⟩
  | .hbm, ⟨73, _⟩ => ⟨S_, .f32⟩
  | .hbm, ⟨74, _⟩ => ⟨S2x1x1024, .f32⟩
  | .hbm, ⟨75, _⟩ => ⟨S2x1x1024, .f32⟩
  | .hbm, ⟨76, _⟩ => ⟨S2x2048x1024, .f32⟩
  | .hbm, ⟨77, _⟩ => ⟨S2x2048x1024, .f32⟩
  | .hbm, ⟨78, _⟩ => ⟨S2x2048x1024, .f32⟩
  | .hbm, ⟨79, _⟩ => ⟨S2x2048x1024, .f32⟩
  | .hbm, ⟨80, _⟩ => ⟨S4096x1024, .bf16⟩
  | .hbm, ⟨81, _⟩ => ⟨S4096x1024, .f32⟩
  | .hbm, ⟨82, _⟩ => ⟨S4096x1024, .f32⟩
  | .hbm, ⟨83, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_5 : Ref sig .tc := ⟨.hbm, 58, rfl⟩
abbrev main_v44 : Ref sig .tc := ⟨.hbm, 59, rfl⟩
abbrev main_v45 : Ref sig .tc := ⟨.hbm, 60, rfl⟩
abbrev main_cst_6 : Ref sig .tc := ⟨.hbm, 61, rfl⟩
abbrev main_v46 : Ref sig .tc := ⟨.hbm, 62, rfl⟩
abbrev main_v47 : Ref sig .tc := ⟨.hbm, 63, rfl⟩
abbrev main_cst_7 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_8 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩

abbrev nD : Nat := 1
abbrev τ : Topo := Topo.v7x

variable {F : FTy → Type} [FloatOps F]
-- ==== Kernel10.lean ====
abbrev S4096x1024 : Shape := ⟨2, ![4096, 1024]⟩
abbrev S2x1x6144 : Shape := ⟨3, ![2, 1, 6144]⟩
abbrev S1x1024 : Shape := ⟨2, ![1, 1024]⟩
abbrev S2304x1024 : Shape := ⟨2, ![2304, 1024]⟩
abbrev S2048x32 : Shape := ⟨2, ![2048, 32]⟩
abbrev S2048x128 : Shape := ⟨2, ![2048, 128]⟩
abbrev S4096x2304 : Shape := ⟨2, ![4096, 2304]⟩
abbrev S1024x1024 : Shape := ⟨2, ![1024, 1024]⟩
abbrev S1x1x6144 : Shape := ⟨3, ![1, 1, 6144]⟩
abbrev S1024x128 : Shape := ⟨2, ![1024, 128]⟩
abbrev S1024x2304 : Shape := ⟨2, ![1024, 2304]⟩
abbrev S1024 : Shape := ⟨1, ![1024]⟩
abbrev S1024x1 : Shape := ⟨2, ![1024, 1]⟩
abbrev S1x1x1024 : Shape := ⟨3, ![1, 1, 1024]⟩
abbrev S1536x1024 : Shape := ⟨2, ![1536, 1024]⟩
abbrev S1024x1536 : Shape := ⟨2, ![1024, 1536]⟩
abbrev S640x1024 : Shape := ⟨2, ![640, 1024]⟩
abbrev S1024x640 : Shape := ⟨2, ![1024, 640]⟩
abbrev S128x1024 : Shape := ⟨2, ![128, 1024]⟩

abbrev nBuf : Space → Nat
  | .hbm => 12
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S2x1x6144, .f32⟩
  | .hbm, ⟨2, _⟩ => ⟨S1x1024, .f32⟩
  | .hbm, ⟨3, _⟩ => ⟨S2304x1024, .bf16⟩
  | .hbm, ⟨4, _⟩ => ⟨S2048x32, .f32⟩
  | .hbm, ⟨5, _⟩ => ⟨S2048x32, .f32⟩
  | .hbm, ⟨6, _⟩ => ⟨S2048x128, .f32⟩
  | .hbm, ⟨7, _⟩ => ⟨S2048x32, .f32⟩
  | .hbm, ⟨8, _⟩ => ⟨S2048x32, .f32⟩
  | .hbm, ⟨9, _⟩ => ⟨S2048x128, .f32⟩
  | .hbm, ⟨10, _⟩ => ⟨S4096x1024, .bf16⟩
  | .hbm, ⟨11, _⟩ => ⟨S4096x2304, .bf16⟩
  | .local _ .vmem, ⟨0, _⟩ => ⟨S1024x1024, .f32⟩
  | .local _ .vmem, ⟨1, _⟩ => ⟨S1024x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S2304x1024, .bf16⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x1024, .bf16⟩
  | .local _ .vmem, ⟨11, _⟩ => ⟨S1024x1024, .bf16⟩
  | .local _ .vmem, ⟨12, _⟩ => ⟨S1024x2304, .bf16⟩
  | .local _ .vmem, ⟨13, _⟩ => ⟨S1024x2304, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2304x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x2304 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference10Ideal.lean ====
abbrev S4096x1024 : Shape := ⟨2, ![4096, 1024]⟩
abbrev S2x1x6144 : Shape := ⟨3, ![2, 1, 6144]⟩
abbrev S1x1024 : Shape := ⟨2, ![1, 1024]⟩
abbrev S2304x1024 : Shape := ⟨2, ![2304, 1024]⟩
abbrev S2048x32 : Shape := ⟨2, ![2048, 32]⟩
abbrev S2x1x1024 : Shape := ⟨3, ![2, 1, 1024]⟩
abbrev S2x2048x1024 : Shape := ⟨3, ![2, 2048, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x2304 : Shape := ⟨2, ![1024, 2304]⟩
abbrev S2x2048x2304 : Shape := ⟨3, ![2, 2048, 2304]⟩
abbrev S2x2048x512 : Shape := ⟨3, ![2, 2048, 512]⟩
abbrev S2x2048x128 : Shape := ⟨3, ![2, 2048, 128]⟩
abbrev S2x2048x8x64 : Shape := ⟨4, ![2, 2048, 8, 64]⟩
abbrev S1x2048x1x32 : Shape := ⟨4, ![1, 2048, 1, 32]⟩
abbrev S2x2048x8x32 : Shape := ⟨4, ![2, 2048, 8, 32]⟩
abbrev S2x2048x2x64 : Shape := ⟨4, ![2, 2048, 2, 64]⟩
abbrev S2x2048x2x32 : Shape := ⟨4, ![2, 2048, 2, 32]⟩
abbrev S4096x2304 : Shape := ⟨2, ![4096, 2304]⟩

abbrev nBuf : Space → Nat
  | .hbm => 85
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x1x6144, .f32⟩
  | .hbm, ⟨2, _⟩ => ⟨S1x1024, .f32⟩
  | .hbm, ⟨3, _⟩ => ⟨S2304x1024, .bf16⟩
  | .hbm, ⟨4, _⟩ => ⟨S2048x32, .f32⟩
  | .hbm, ⟨5, _⟩ => ⟨S2048x32, .f32⟩
  | .hbm, ⟨6, _⟩ => ⟨S2x1x1024, .f32⟩
  | .hbm, ⟨7, _⟩ => ⟨S2x1x1024, .f32⟩
  | .hbm, ⟨8, _⟩ => ⟨S2x1x1024, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S2x2048x1024, .f32⟩
  | .hbm, ⟨13, _⟩ => ⟨S1024, .f32⟩
  | .hbm, ⟨14, _⟩ => ⟨S2x2048x1024, .f32⟩
  | .hbm, ⟨15, _⟩ => ⟨S_, .f32⟩
  | .hbm, ⟨16, _⟩ => ⟨S2x2048, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S_, .f32⟩
  | .hbm, ⟨22, _⟩ => ⟨S2x2048x1, .f32⟩
  | .hbm, ⟨23, _⟩ => ⟨S2x2048x1, .f32⟩
  | .hbm, ⟨24, _⟩ => ⟨S2x2048x1, .f32⟩
  | .hbm, ⟨25, _⟩ => ⟨S2x2048x1024, .f32⟩
  | .hbm, ⟨26, _⟩ => ⟨S2x2048x1024, .f32⟩
  | .hbm, ⟨27, _⟩ => ⟨S1x1x1024, .f32⟩
  | .hbm, ⟨28, _⟩ => ⟨S2x2048x1024, .f32⟩
  | .hbm, ⟨29, _⟩ => ⟨S2x2048x1024, .f32⟩
  | .hbm, ⟨30, _⟩ => ⟨S_, .f32⟩
  | .hbm, ⟨31, _⟩ => ⟨S2x1x1024, .f32⟩
  | .hbm, ⟨32, _⟩ => ⟨S2x1x1024, .f32⟩
  | .hbm, ⟨33, _⟩ => ⟨S2x2048x1024, .f32⟩
  | .hbm, ⟨34, _⟩ => ⟨S2x2048x1024, .f32⟩
  | .hbm, ⟨35, _⟩ => ⟨S2x2048x1024, .f32⟩
  | .hbm, ⟨36, _⟩ => ⟨S2x2048x1024, .f32⟩
  | .hbm, ⟨37, _⟩ => ⟨S2304x1024, .f32⟩
  | .hbm, ⟨38, _⟩ => ⟨S1024x2304, .f32⟩
  | .hbm, ⟨39, _⟩ => ⟨S2x2048x2304, .f32⟩
  | .hbm, ⟨40, _⟩ => ⟨S2x2048x512, .f32⟩
  | .hbm, ⟨41, _⟩ => ⟨S2x2048x512, .f32⟩
  | .hbm, ⟨42, _⟩ => ⟨S2x2048x512, .f32⟩
  | .hbm, ⟨43, _⟩ => ⟨S2x2048x512, .f32⟩
  | .hbm, ⟨44, _⟩ => ⟨S2x2048x128, .f32⟩
  | .hbm, ⟨45, _⟩ => ⟨S2x2048x128, .f32⟩
  | .hbm, ⟨46, _⟩ => ⟨S2x2048x8x64, .f32⟩
  | .hbm, ⟨47, _⟩ => ⟨S1x2048x1x32, .f32⟩
  | .hbm, ⟨48, _⟩ => ⟨S1x2048x1x32, .f32⟩
  | .hbm, ⟨49, _⟩ => ⟨S2x2048x8x32, .f32⟩
  | .hbm, ⟨50, _⟩ => ⟨S2x2048x8x32, .f32⟩
  | .hbm, ⟨51, _⟩ => ⟨S2x2048x8x32, .f32⟩
  | .hbm, ⟨52, _⟩ => ⟨S2x2048x8x32, .f32⟩
  | .hbm, ⟨53, _⟩ => ⟨S2x2048x8x32, .f32⟩
  | .hbm, ⟨54, _⟩ => ⟨S2x2048x8x32, .f32⟩
  | .hbm, ⟨55, _⟩ => ⟨S2x2048x8x32, .f32⟩
  | .hbm, ⟨56, _⟩ => ⟨S2x2048x8x32, .f32⟩
  | .hbm, ⟨57, _⟩ => ⟨S2x2048x8x32, .f32⟩
  | .hbm, ⟨58, _⟩ => ⟨S2x2048x8x32, .f32⟩
  | .hbm, ⟨59, _⟩ => ⟨S2x2048x8x32, .f32⟩
  | .hbm, ⟨60, _⟩ => ⟨S2x2048x8x32, .f32⟩
  | .hbm, ⟨61, _⟩ => ⟨S2x2048x8x64, .f32⟩
  | .hbm, ⟨62, _⟩ => ⟨S2x2048x512, .f32⟩
  | .hbm, ⟨63, _⟩ => ⟨S2x2048x2x64, .f32⟩
  | .hbm, ⟨64, _⟩ => ⟨S1x2048x1x32, .f32⟩
  | .hbm, ⟨65, _⟩ => ⟨S1x2048x1x32, .f32⟩
  | .hbm, ⟨66, _⟩ => ⟨S2x2048x2x32, .f32⟩
  | .hbm, ⟨67, _⟩ => ⟨S2x2048x2x32, .f32⟩
  | .hbm, ⟨68, _⟩ => ⟨S2x2048x2x32, .f32⟩
  | .hbm, ⟨69, _⟩ => ⟨S2x2048x2x32, .f32⟩
  | .hbm, ⟨70, _⟩ => ⟨S2x2048x2x32, .f32⟩
  | .hbm, ⟨71, _⟩ => ⟨S2x2048x2x32, .f32⟩
  | .hbm, ⟨72, _⟩ => ⟨S2x2048x2x32, .f32⟩
  | .hbm, ⟨73, _⟩ => ⟨S2x2048x2x32, .f32⟩
  | .hbm, ⟨74, _⟩ => ⟨S2x2048x2x32, .f32⟩
  | .hbm, ⟨75, _⟩ => ⟨S2x2048x2x32, .f32⟩
  | .hbm, ⟨76, _⟩ => ⟨S2x2048x2x32, .f32⟩
  | .hbm, ⟨77, _⟩ => ⟨S2x2048x2x32, .f32⟩
  | .hbm, ⟨78, _⟩ => ⟨S2x2048x2x64, .f32⟩
  | .hbm, ⟨79, _⟩ => ⟨S2x2048x128, .f32⟩
  | .hbm, ⟨80, _⟩ => ⟨S4096x1024, .f32⟩
  | .hbm, ⟨81, _⟩ => ⟨S4096x1024, .bf16⟩
  | .hbm, ⟨82, _⟩ => ⟨S2x2048x2304, .f32⟩
  | .hbm, ⟨83, _⟩ => ⟨S4096x2304, .f32⟩
  | .hbm, ⟨84, _⟩ => ⟨S4096x2304, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩

abbrev nD : Nat := 1
abbrev τ : Topo := Topo.v7x

variable {F : FTy → Type} [FloatOps F]
-- ==== Proof.Block.lean ====
/- What one grid point of the kernel computes, as functions of the blocks it is given: the chunk of 512 rows one trip of
   each loop reads and writes, and the whole blocks those chunks make up. Nothing here mentions memory. -/
module

public import proofs.«01_k».proof.Proof.Gen.KernelIdeal.Loops
public import Idealize.ShloMosaic.Lib.Pipeline.ValueKit

@[expose] public section

noncomputable section

namespace Cert.KernelIdeal.FB

open Idealize.ShloMosaic Idealize.ShloMosaic.TcCoe Idealize.ShloMosaic.Tactic
open Cert.KernelIdeal.Gen

variable {F : FTy → Type} [FloatOps F]

/-- A block of the up projection's two halves (0: value, 1: gate), 2048 rows of one batch by 256 channels. -/
abbrev UBlk (F : FTy → Type) := Vec F S2x2048x256 .bf16
/-- Three taps by 256 channels. -/
abbrev WBlk (F : FTy → Type) := Vec F S3x256 .f32
/-- One row of 256 channels. -/
abbrev BBlk (F : FTy → Type) := Vec F S1x256 .f32
/-- 2048 rows by 256 channels. -/
abbrev SBlk (F : FTy → Type) := Vec F S2048x256 .f32
/-- What the first loop carries: four partial sums over the rows, eight rows each. -/
abbrev Acc (F : FTy → Type) := FVec F S8x256 .f32 × FVec F S8x256 .f32 × FVec F S8x256 .f32 × FVec F S8x256 .f32

section Read
variable (u : UBlk F) (w : WBlk F) (b : BBlk F) (da : SBlk F)

/-- The gate half's chunk. -/
def gateC (k : Fin k0_t1_loop.trips) : Vec F S1x512x256 .bf16 :=
  View.ld u (Rect.unit (s := S2x2048x256) (k0_off1 k) S1x512x256.size (k0_off1_inb k))
/-- The sixteen gate rows before the chunk. -/
def beforeC (k : Fin k0_t1_loop.trips) : Vec F S1x16x256 .bf16 :=
  View.ld u (Rect.unit (s := S2x2048x256) (k0_off2 k) S1x16x256.size (k0_off2_inb k))
/-- The sixteen gate rows after the chunk. -/
def afterC (k : Fin k0_t1_loop.trips) : Vec F S1x16x256 .bf16 :=
  View.ld u (Rect.unit (s := S2x2048x256) (k0_off3 k) S1x16x256.size (k0_off3_inb k))
/-- The value half's chunk. -/
def valC (k : Fin k0_t1_loop.trips) : Vec F S1x512x256 .bf16 :=
  View.ld u (Rect.unit (s := S2x2048x256) (k0_off4 k) S1x512x256.size (k0_off4_inb k))
/-- The chunk of the gradient that came back through the down projection. -/
def daC (k : Fin k0_t1_loop.trips) : Vec F S512x256 .f32 :=
  View.ld da (Rect.unit (s := S2048x256) (k0_off5 k) S512x256.size (k0_off5_inb k))
/-- The three taps' rows, and the bias row. -/
def w0R : Vec F S1x256 .f32 := View.ld w (Rect.unit (s := S3x256) ![0, 0] S1x256.size inb_S3x256_S1x256_0_0)
def w1R : Vec F S1x256 .f32 := View.ld w (Rect.unit (s := S3x256) ![1, 0] S1x256.size inb_S3x256_S1x256_1_0)
def w2R : Vec F S1x256 .f32 := View.ld w (Rect.unit (s := S3x256) ![2, 0] S1x256.size inb_S3x256_S1x256_2_0)
def bR : Vec F S1x256 .f32 := View.ld b (Rect.unit (s := S1x256) ![0, 0] S1x256.size inb_S1x256_S1x256_0_0)

/-- The gate chunk in f32, the same one row earlier, and one row later. -/
def nowT (k : Fin k0_t1_loop.trips) : FVec F S512x256 .f32 := k0_pay4 (gateC u k)
def prevT (k : Fin k0_t1_loop.trips) : FVec F S512x256 .f32 := k0_pay6 0#32 1#32 k (gateC u k) (beforeC u k)
def nextRow (k : Fin k0_t1_loop.trips) : FVec F S1x256 .f32 := k0_pay5 0#32 1#32 k (afterC u k)
def nextT (k : Fin k0_t1_loop.trips) : FVec F S512x256 .f32 := k0_pay9 (nextRow u k) (k0_pay7) (k0_pay8 (gateC u k))
/-- The sigmoid of the convolved gate. -/
def sigT (k : Fin k0_t1_loop.trips) : FVec F S512x256 .f32 :=
  k0_pay11 (nowT u k) (nextRow u k) (prevT u k) (k0_pay7) (k0_pay8 (gateC u k)) (w0R w) (w1R w) (w2R w) (bR b)
/-- The gradient times the value half. -/
def upT (k : Fin k0_t1_loop.trips) : FVec F S512x256 .f32 := k0_pay13 (valC u k) (daC da k)
/-- The convolved gate times one minus its sigmoid. -/
def restT (k : Fin k0_t1_loop.trips) : FVec F S512x256 .f32 :=
  k0_pay14 (nowT u k) (nextRow u k) (prevT u k) (k0_pay7) (k0_pay8 (gateC u k)) (w0R w) (w1R w) (w2R w) (bR b)
/-- The constant one. -/
def oneS : F .f32 := Scalar.ofBits .f32 0x3F800000#32

/-- The value half's gradient, one chunk. -/
def dvalC (k : Fin k0_t1_loop.trips) : FVec F S1x512x256 .bf16 :=
  k0_pay12 (nowT u k) (nextRow u k) (prevT u k) (k0_pay7) (k0_pay8 (gateC u k)) (daC da k) (w0R w) (w1R w) (w2R w) (bR b)
/-- The convolved gate's gradient, one chunk. -/
def dgcC (k : Fin k0_t1_loop.trips) : FVec F S512x256 .f32 :=
  k0_pay22 (sigT u w b k) (upT u da k) (restT u w b k) oneS
/-- One trip's step of the four partial sums. -/
def accStep (k : Fin k0_t1_loop.trips) (a : Acc F) : Acc F :=
  (k0_pay23 a.1 (sigT u w b k) (upT u da k) (restT u w b k) oneS,
   k0_pay24 a.2.1 (prevT u k) (sigT u w b k) (upT u da k) (restT u w b k) oneS,
   k0_pay25 a.2.2.1 (nowT u k) (sigT u w b k) (upT u da k) (restT u w b k) oneS,
   k0_pay26 a.2.2.2 (nextT u k) (sigT u w b k) (upT u da k) (restT u w b k) oneS)
/-- The four partial sums before trip `n`. -/
def acc : ℕ → Acc F
  | 0 => (k0_pay20, k0_pay20, k0_pay20, k0_pay20)
  | n + 1 => if h : n < k0_t1_loop.trips then accStep u w b da ⟨n, h⟩ (acc n) else acc n

/-- The gate half's gradient, one chunk, from the whole block of the convolved gate's gradient. -/
def dgateC (dgc : SBlk F) (k : Fin k0_t2_loop.trips) : FVec F S1x512x256 .bf16 :=
  k0_pay3 (View.ld dgc (Rect.unit (s := S2048x256) (k0_off6 k) S512x256.size (k0_off6_inb k)))
    (k0_pay15 0#32 1#32 k (View.ld dgc (Rect.unit (s := S2048x256) (k0_off6 k) S512x256.size (k0_off6_inb k)))
      (View.ld dgc (Rect.unit (s := S2048x256) (k0_off7 k) S16x256.size (k0_off7_inb k))))
    (k0_pay16 0#32 1#32 k (View.ld dgc (Rect.unit (s := S2048x256) (k0_off6 k) S512x256.size (k0_off6_inb k)))
      (View.ld dgc (Rect.unit (s := S2048x256) (k0_off8 k) S16x256.size (k0_off8_inb k))) (w0R w))
    (w1R w) (w2R w)

end Read

theorem trips1 : k0_t1_loop.trips = 4 := by decide +kernel
theorem trips2 : k0_t2_loop.trips = 4 := by decide +kernel

/-- The chunk a row lies in, as a trip of either loop, and the row within the chunk. -/
def trip1 (y : Fin 2048) : Fin k0_t1_loop.trips := ⟨y.val / 512, by have := trips1; omega⟩
def trip2 (y : Fin 2048) : Fin k0_t2_loop.trips := ⟨y.val / 512, by have := trips2; omega⟩
def rowIn (y : Fin 2048) : Fin 512 := ⟨y.val % 512, by omega⟩

section Whole
variable (u : UBlk F) (w : WBlk F) (b : BBlk F) (da : SBlk F)

/-- The convolved gate's gradient, the whole block. -/
def DGC : SBlk F := fun y => dgcC u w b da (trip1 (y 0)) (ix2 (rowIn (y 0)) (y 1))
/-- The value half's gradient, the whole block. -/
def DVAL (y : S2x2048x256.Idx) : Elt F .bf16 := dvalC u w b da (trip1 (y 1)) (ix3 0 (rowIn (y 1)) (y 2))
/-- The gate half's gradient, the whole block. -/
def DGATE (y : S2x2048x256.Idx) : Elt F .bf16 :=
  dgateC w (DGC u w b da) (trip2 (y 1)) (ix3 0 (rowIn (y 1)) (y 2))
/-- Both halves' gradient. -/
def DU : UBlk F := fun y => if (y 0).val = 0 then DVAL u w b da y else DGATE u w b da y
/-- The bias's gradient after this point, from what the output block held before. -/
def GB (g : BBlk F) : BBlk F := k0_pay27 (acc u w b da k0_t1_loop.trips).1 (bR g)
/-- The taps' gradient after this point, from what the output block held before. -/
def GW (g : WBlk F) : WBlk F := fun y =>
  if (y 0).val = 0 then k0_pay28 (acc u w b da k0_t1_loop.trips).2.1 (w0R g) (ix2 0 (y 1))
  else if (y 0).val = 1 then
    k0_pay1 (k0_pay29 (w1R g)) (k0_pay30 (acc u w b da k0_t1_loop.trips).2.2.1) (ix2 0 (y 1))
  else k0_pay2 (acc u w b da k0_t1_loop.trips).2.2.2 (w2R g) (ix2 0 (y 1))

end Whole

end Cert.KernelIdeal.FB

end
-- ==== Proof.Trips.lean ====
/- The two loops' trips in closed form: what each trip yields and the one piece it writes into each buffer, and what
   the buffers read and the loop carries after any number of trips. -/
module

public import proofs.«01_k».proof.Proof.Block
public import Idealize.ShloMosaic.Lib.WritesUnit

@[expose] public section

set_option maxRecDepth 16384

noncomputable section

namespace Cert.KernelIdeal.FB

open Idealize.ShloMosaic Idealize.ShloMosaic.TcCoe Idealize.ShloMosaic.Tactic
open Cert.KernelIdeal.Gen

variable {F : FTy → Type} [FloatOps F]

/-- Reading past the newest piece, one half's chunk of 512 rows: inside it the piece, elsewhere the rest. -/
theorem read_chunk3 {sig : RefSig} {κ : Kind} {sp : Space} {e : EltTy} {Val : EltTy → Type} (v : View sig κ sp S2x2048x256 e)
    (f : v.ty.Contents Val) (p n : ℕ) {off : Fin 3 → ℕ} (heq : off = ![p, 512 * n, 0])
    (inb : ∀ a, off a + S1x512x256.size a ≤ S2x2048x256.size a) (x : S1x512x256.Idx → Val e)
    (L : List (View.Piece Val S2x2048x256 e)) (y : S2x2048x256.Idx) :
    v.read Val (v.writes Val f ((⟨Rect.unit (s := S2x2048x256) off S1x512x256.size inb, x⟩ : View.Piece Val S2x2048x256 e) :: L)) y
      = if (y 0).val = p ∧ 512 * n ≤ (y 1).val ∧ (y 1).val < 512 * n + 512 then
          x (ix3 (n0 := 1) (n1 := 512) (n2 := 256) 0 (rowIn (y 1)) (y 2))
        else v.read Val (v.writes Val f L) y := by
  by_cases h : (y 0).val = p ∧ 512 * n ≤ (y 1).val ∧ (y 1).val < 512 * n + 512
  · rw [if_pos h]
    refine View.read_writes_cons_unit_of_mem v f inb x L y _ heq fun a => ?_
    match a with
    | 0 => show (y 0).val = p + 0; omega
    | 1 => show (y 1).val = 512 * n + (y 1).val % 512; omega
    | 2 => show (y 2).val = 0 + (y 2).val; omega
  · rw [if_neg h]
    by_cases h0 : (y 0).val = p
    · exact View.read_writes_cons_unit_of_not_mem v f inb x L y heq (1 : Fin 3)
        (by show (y 1).val < 512 * n ∨ 512 * n + 512 ≤ (y 1).val; omega)
    · exact View.read_writes_cons_unit_of_not_mem v f inb x L y heq (0 : Fin 3)
        (by show (y 0).val < p ∨ p + 1 ≤ (y 0).val; omega)

/-- The same for a block without halves. -/
theorem read_chunk2 {sig : RefSig} {κ : Kind} {sp : Space} {e : EltTy} {Val : EltTy → Type} (v : View sig κ sp S2048x256 e)
    (f : v.ty.Contents Val) (n : ℕ) {off : Fin 2 → ℕ} (heq : off = ![512 * n, 0])
    (inb : ∀ a, off a + S512x256.size a ≤ S2048x256.size a) (x : S512x256.Idx → Val e)
    (L : List (View.Piece Val S2048x256 e)) (y : S2048x256.Idx) :
    v.read Val (v.writes Val f ((⟨Rect.unit (s := S2048x256) off S512x256.size inb, x⟩ : View.Piece Val S2048x256 e) :: L)) y
      = if 512 * n ≤ (y 0).val ∧ (y 0).val < 512 * n + 512 then
          x (ix2 (n0 := 512) (n1 := 256) (rowIn (y 0)) (y 1))
        else v.read Val (v.writes Val f L) y := by
  by_cases h : 512 * n ≤ (y 0).val ∧ (y 0).val < 512 * n + 512
  · rw [if_pos h]
    refine View.read_writes_cons_unit_of_mem v f inb x L y _ heq fun a => ?_
    match a with
    | 0 => show (y 0).val = 512 * n + (y 0).val % 512; omega
    | 1 => show (y 1).val = 0 + (y 1).val; omega
  · rw [if_neg h]
    exact View.read_writes_cons_unit_of_not_mem v f inb x L y heq (0 : Fin 2)
        (by show (y 0).val < 512 * n ∨ 512 * n + 512 ≤ (y 0).val; omega)

variable (𝒱 : Variants) (c : Dev nD) (bd : Option 𝒱.V) (i : grid0.Coords)
  (arg2 : Memref sig .tc .vmem S2048x1024 .bf16) (harg2 : arg2.IsWhole) (arg3 : Memref sig .tc .vmem S256x1024 .bf16) (harg3 : arg3.IsWhole) (arg4 : Memref sig .tc .vmem S2x2048x256 .bf16) (harg4 : arg4.IsWhole) (arg5 : Memref sig .tc .vmem S3x256 .f32) (harg5 : arg5.IsWhole)
  (arg6 : Memref sig .tc .vmem S1x256 .f32) (harg6 : arg6.IsWhole) (arg7 : Memref sig .tc .vmem S2x2048x256 .bf16) (harg7 : arg7.IsWhole) (arg8 : Memref sig .tc .vmem S3x256 .f32) (harg8 : arg8.IsWhole)
  (arg9 : Memref sig .tc .vmem S1x256 .f32) (harg9 : arg9.IsWhole) (arg10 : Memref sig .tc .vmem S2048x256 .f32) (harg10 : arg10.IsWhole) (arg11 : Memref sig .tc .vmem S2048x256 .f32) (harg11 : arg11.IsWhole)
variable (u : UBlk F) (w : WBlk F) (b : BBlk F) (da : SBlk F)

/-- One trip of the second loop writes one chunk of the gate half's gradient. -/
theorem tripL2 (dgc : SBlk F) (k : Fin k0_t2_loop.trips) :
    tripL_k0_t2 (F := F) 𝒱 c bd i arg2 harg2 arg3 harg3 arg4 harg4 arg5 harg5 arg6 harg6 arg7 harg7 arg8 harg8 arg9 harg9 arg10 harg10 arg11 harg11 (harg5.unread w) (harg11.unread dgc) k
      = [⟨Rect.unit (s := S2x2048x256) (k0_off9 k) S1x512x256.size (k0_off9_inb k), dgateC w dgc k⟩] := by
  unfold tripL_k0_t2 trip_k0_t2
  dsimp only
  sl_unfold_words
  simp only [View.readAt_eq_ld, Memref.IsWhole.read_unread]
  rfl

/-- One trip of the first loop: the four partial sums it yields. -/
theorem tripR1 (k : Fin k0_t1_loop.trips) (a : Acc F) :
    tripR_k0_t1 (F := F) 𝒱 c bd i arg2 harg2 arg3 harg3 arg4 harg4 arg5 harg5 arg6 harg6 arg7 harg7 arg8 harg8 arg9 harg9 arg10 harg10 arg11 harg11 (harg4.unread u) (harg5.unread w) (harg6.unread b) (harg10.unread da) k a = accStep u w b da k a := by
  unfold tripR_k0_t1 trip_k0_t1
  dsimp only
  sl_unfold_words
  simp only [View.readAt_eq_ld, Memref.IsWhole.read_unread]
  rfl

/-- One trip of the first loop writes one chunk of the value half's gradient and one of the convolved gate's. -/
theorem tripL1 (k : Fin k0_t1_loop.trips) (a : Acc F) :
    tripL_k0_t1 (F := F) 𝒱 c bd i arg2 harg2 arg3 harg3 arg4 harg4 arg5 harg5 arg6 harg6 arg7 harg7 arg8 harg8 arg9 harg9 arg10 harg10 arg11 harg11 (harg4.unread u) (harg5.unread w) (harg6.unread b) (harg10.unread da) k a
      = ([⟨Rect.unit (s := S2x2048x256) (k0_off4 k) S1x512x256.size (k0_off4_inb k), dvalC u w b da k⟩],
         [⟨Rect.unit (s := S2048x256) (k0_off5 k) S512x256.size (k0_off5_inb k), dgcC u w b da k⟩]) := by
  unfold tripL_k0_t1 trip_k0_t1
  dsimp only
  sl_unfold_words
  simp only [View.readAt_eq_ld, Memref.IsWhole.read_unread]
  rfl

/-- What the first loop carries before trip `n`. -/
theorem st_acc (n : ℕ) (hn : n ≤ k0_t1_loop.trips) :
    (st_k0_t1 (F := F) 𝒱 c bd i arg2 harg2 arg3 harg3 arg4 harg4 arg5 harg5 arg6 harg6 arg7 harg7 arg8 harg8 arg9 harg9 arg10 harg10 arg11 harg11 (harg4.unread u) (harg5.unread w) (harg6.unread b) (harg10.unread da) (k0_pay20, k0_pay20, k0_pay20, k0_pay20) n).1 = acc u w b da n := by
  induction n with
  | zero => rfl
  | succ n ih =>
    have hk : n < k0_t1_loop.trips := hn
    rw [st_k0_t1_succ 𝒱 c bd i arg2 harg2 arg3 harg3 arg4 harg4 arg5 harg5 arg6 harg6 arg7 harg7 arg8 harg8 arg9 harg9 arg10 harg10 arg11 harg11 (harg4.unread u) (harg5.unread w) (harg6.unread b) (harg10.unread da) (k0_pay20, k0_pay20, k0_pay20, k0_pay20) ⟨n, hk⟩]
    rw [tripR1]
    dsimp only
    rw [ih (le_of_lt hk)]
    simp only [acc, dif_pos hk]

/-- What the result's buffer reads before trip `n` of the first loop: the value half's gradient on the rows of the trips
before, and elsewhere what it read at the start. -/
theorem st_val (f : arg7.view.ty.Contents (Elt F)) (n : ℕ) (hn : n ≤ k0_t1_loop.trips) (y : S2x2048x256.Idx) :
    arg7.view.read (Elt F) (arg7.view.writes (Elt F) f
        (st_k0_t1 (F := F) 𝒱 c bd i arg2 harg2 arg3 harg3 arg4 harg4 arg5 harg5 arg6 harg6 arg7 harg7 arg8 harg8 arg9 harg9 arg10 harg10 arg11 harg11 (harg4.unread u) (harg5.unread w) (harg6.unread b) (harg10.unread da) (k0_pay20, k0_pay20, k0_pay20, k0_pay20) n).2.1) y
      = if (y 0).val = 0 ∧ (y 1).val < 512 * n then DVAL u w b da y else arg7.view.read (Elt F) f y := by
  induction n with
  | zero =>
    rw [if_neg (by omega)]
    rfl
  | succ n ih =>
    have hk : n < k0_t1_loop.trips := hn
    rw [st_k0_t1_succ 𝒱 c bd i arg2 harg2 arg3 harg3 arg4 harg4 arg5 harg5 arg6 harg6 arg7 harg7 arg8 harg8 arg9 harg9 arg10 harg10 arg11 harg11 (harg4.unread u) (harg5.unread w) (harg6.unread b) (harg10.unread da) (k0_pay20, k0_pay20, k0_pay20, k0_pay20) ⟨n, hk⟩]
    rw [tripL1]
    dsimp only
    rw [List.singleton_append]
    rw [read_chunk3 arg7.view f 0 n (k0_off4_eq ⟨n, hk⟩)]
    by_cases h0 : (y 0).val = 0 ∧ 512 * n ≤ (y 1).val ∧ (y 1).val < 512 * n + 512
    · have ht : trip1 (y 1) = ⟨n, hk⟩ := Fin.ext (by show (y 1).val / 512 = n; omega)
      rw [if_pos h0, if_pos ⟨h0.1, by omega⟩]
      unfold DVAL
      rw [ht]
    · rw [if_neg h0, ih (le_of_lt hk)]
      exact if_congr (by omega) rfl rfl

/-- What the scratch block reads before trip `n` of the first loop: the convolved gate's gradient on the rows of the
trips before. -/
theorem st_dgc (f : arg11.view.ty.Contents (Elt F)) (n : ℕ) (hn : n ≤ k0_t1_loop.trips) (y : S2048x256.Idx) :
    arg11.view.read (Elt F) (arg11.view.writes (Elt F) f
        (st_k0_t1 (F := F) 𝒱 c bd i arg2 harg2 arg3 harg3 arg4 harg4 arg5 harg5 arg6 harg6 arg7 harg7 arg8 harg8 arg9 harg9 arg10 harg10 arg11 harg11 (harg4.unread u) (harg5.unread w) (harg6.unread b) (harg10.unread da) (k0_pay20, k0_pay20, k0_pay20, k0_pay20) n).2.2) y
      = if (y 0).val < 512 * n then DGC u w b da y else arg11.view.read (Elt F) f y := by
  induction n with
  | zero =>
    rw [if_neg (by omega)]
    rfl
  | succ n ih =>
    have hk : n < k0_t1_loop.trips := hn
    rw [st_k0_t1_succ 𝒱 c bd i arg2 harg2 arg3 harg3 arg4 harg4 arg5 harg5 arg6 harg6 arg7 harg7 arg8 harg8 arg9 harg9 arg10 harg10 arg11 harg11 (harg4.unread u) (harg5.unread w) (harg6.unread b) (harg10.unread da) (k0_pay20, k0_pay20, k0_pay20, k0_pay20) ⟨n, hk⟩]
    rw [tripL1]
    dsimp only
    rw [List.singleton_append]
    rw [read_chunk2 arg11.view f n (k0_off5_eq ⟨n, hk⟩)]
    by_cases h0 : 512 * n ≤ (y 0).val ∧ (y 0).val < 512 * n + 512
    · have ht : trip1 (y 0) = ⟨n, hk⟩ := Fin.ext (by show (y 0).val / 512 = n; omega)
      rw [if_pos h0, if_pos (by omega)]
      unfold DGC
      rw [ht]
    · rw [if_neg h0, ih (le_of_lt hk)]
      exact if_congr (by omega) rfl rfl

/-- What the result's buffer reads before trip `n` of the second loop: the gate half's gradient on the rows of the trips
before, and elsewhere what it read at the start. -/
theorem st_gate (f : arg7.view.ty.Contents (Elt F)) (n : ℕ) (hn : n ≤ k0_t2_loop.trips) (y : S2x2048x256.Idx) :
    arg7.view.read (Elt F) (arg7.view.writes (Elt F) f
        (pb_k0_t2 (F := F) 𝒱 c bd i arg2 harg2 arg3 harg3 arg4 harg4 arg5 harg5 arg6 harg6 arg7 harg7 arg8 harg8 arg9 harg9 arg10 harg10 arg11 harg11 (harg5.unread w) (harg11.unread (DGC u w b da)) n)) y
      = if (y 0).val ≠ 0 ∧ (y 1).val < 512 * n then DGATE u w b da y else arg7.view.read (Elt F) f y := by
  induction n with
  | zero =>
    rw [if_neg (by omega)]
    rfl
  | succ n ih =>
    have hk : n < k0_t2_loop.trips := hn
    have hy0 : (y 0).val < 2 := (y 0).isLt
    rw [pb_k0_t2_succ 𝒱 c bd i arg2 harg2 arg3 harg3 arg4 harg4 arg5 harg5 arg6 harg6 arg7 harg7 arg8 harg8 arg9 harg9 arg10 harg10 arg11 harg11 (harg5.unread w) (harg11.unread (DGC u w b da)) ⟨n, hk⟩]
    rw [tripL2]
    rw [List.singleton_append]
    rw [read_chunk3 arg7.view f 1 n (k0_off9_eq ⟨n, hk⟩)]
    by_cases h0 : (y 0).val = 1 ∧ 512 * n ≤ (y 1).val ∧ (y 1).val < 512 * n + 512
    · have ht : trip2 (y 1) = ⟨n, hk⟩ := Fin.ext (by show (y 1).val / 512 = n; omega)
      rw [if_pos h0, if_pos ⟨by omega, by omega⟩]
      unfold DGATE
      rw [ht]
    · rw [if_neg h0, ih (le_of_lt hk)]
      exact if_congr (by omega) rfl rfl

end Cert.KernelIdeal.FB

end
-- ==== Proof.Body.lean ====
/- The kernel's body as one triple: from any blocks, what it leaves in each of its buffers, in the closed forms of Block. -/
module
public import proofs.«01_k».proof.Proof.Trips
public import proofs.«01_k».proof.Proof.Gen.KernelIdeal.Frame.Runs
@[expose] public section
set_option maxRecDepth 16384
noncomputable section
namespace Cert.KernelIdeal.FB
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen
variable {F : FTy → Type} [FloatOps F]
local notation "𝕄" => MT nD τ sig Unit (Elt F) ℕ (UR sig nD τ) ℕ

/-- A buffer reads what was last stored into the whole of it. -/
theorem read_all {sig : RefSig} {κ : Kind} {sp : Space} {s : Shape} {e : EltTy} {Val : EltTy → Type} (v : View sig κ sp s e)
    (f : v.ty.Contents Val) {off : Fin s.rank → ℕ} (h : off = fun _ => 0) (inb : ∀ a, off a + s.size a ≤ s.size a)
    (x : s.Idx → Val e) (L : List (View.Piece Val s e)) :
    v.read Val (v.writes Val f ((⟨Rect.unit (s := s) off s.size inb, x⟩ : View.Piece Val s e) :: L)) = x := by
  funext y
  exact View.read_writes_cons_unit_of_mem v f inb x L y y h fun a => by omega

/-- Reading past the newest piece, one row of a block of three rows: on the row the piece, elsewhere the rest. -/
theorem read_row {sig : RefSig} {κ : Kind} {sp : Space} {e : EltTy} {Val : EltTy → Type} (v : View sig κ sp S3x256 e)
    (f : v.ty.Contents Val) (r : ℕ) (inb : ∀ a, (![r, 0] : Fin 2 → ℕ) a + S1x256.size a ≤ S3x256.size a) (x : S1x256.Idx → Val e)
    (L : List (View.Piece Val S3x256 e)) (y : S3x256.Idx) :
    v.read Val (v.writes Val f ((⟨Rect.unit (s := S3x256) ![r, 0] S1x256.size inb, x⟩ : View.Piece Val S3x256 e) :: L)) y
      = if (y 0).val = r then x (ix2 (n0 := 1) (n1 := 256) 0 (y 1)) else v.read Val (v.writes Val f L) y := by
  by_cases h : (y 0).val = r
  · rw [if_pos h]
    refine View.read_writes_cons_unit_of_mem v f inb x L y _ rfl fun a => ?_
    match a with
    | 0 => show (y 0).val = r + 0; omega
    | 1 => show (y 1).val = 0 + (y 1).val; omega
  · rw [if_neg h]
    exact View.read_writes_cons_unit_of_not_mem v f inb x L y rfl (0 : Fin 2)
        (by show (y 0).val < r ∨ r + 1 ≤ (y 0).val; omega)

theorem ld_x0 (x : Vec F S2048x1024 .bf16) :
    View.ld x (Rect.unit (s := S2048x1024) ![0, 0] ![2048, 1024] inb_S2048x1024_S2048x1024_0_0) = x :=
  View.ld_unit_zero (by funext a; fin_cases a <;> rfl) _ _
theorem ld_x1 (x : Vec F S256x1024 .bf16) :
    View.ld x (Rect.unit (s := S256x1024) ![0, 0] ![256, 1024] inb_S256x1024_S256x1024_0_0) = x :=
  View.ld_unit_zero (by funext a; fin_cases a <;> rfl) _ _

variable (c : Dev nD) (i : grid0.Coords)
  (arg2 : Memref sig .tc .vmem S2048x1024 .bf16) (harg2 : arg2.IsWhole) (arg3 : Memref sig .tc .vmem S256x1024 .bf16) (harg3 : arg3.IsWhole) (arg4 : Memref sig .tc .vmem S2x2048x256 .bf16) (harg4 : arg4.IsWhole) (arg5 : Memref sig .tc .vmem S3x256 .f32) (harg5 : arg5.IsWhole)
  (arg6 : Memref sig .tc .vmem S1x256 .f32) (harg6 : arg6.IsWhole) (arg7 : Memref sig .tc .vmem S2x2048x256 .bf16) (harg7 : arg7.IsWhole) (arg8 : Memref sig .tc .vmem S3x256 .f32) (harg8 : arg8.IsWhole)
  (arg9 : Memref sig .tc .vmem S1x256 .f32) (harg9 : arg9.IsWhole) (arg10 : Memref sig .tc .vmem S2048x256 .f32) (harg10 : arg10.IsWhole) (arg11 : Memref sig .tc .vmem S2048x256 .f32) (harg11 : arg11.IsWhole)
variable (x0 : Vec F S2048x1024 .bf16) (x1 : Vec F S256x1024 .bf16) (u : UBlk F) (w : WBlk F) (b : BBlk F)

/-- Row 0 of the taps' gradient updated, the other rows as they were. -/
def GW0 (da : SBlk F) (g : WBlk F) : WBlk F := fun y =>
  if (y 0).val = 0 then k0_pay28 (acc u w b da k0_t1_loop.trips).2.1 (w0R g) (ix2 (n0 := 1) (n1 := 256) 0 (y 1)) else g y

/-- What the kernel's first half leaves: the product in its scratch block, the value half's gradient, the convolved
gate's gradient in its scratch block, the bias's gradient, and the first row of the taps'. -/
def part4Post (g8 : WBlk F) (g9 : BBlk F) (r : Σ' (_ : FVec F S8x256 .f32) (_ : FVec F S1x256 .f32), FVec F S256 .f32) : sProp 𝕄 :=
  iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread u) ∗ (arg5.view.loc (c : Thread nD τ) ↦[arg5.view.set]{fullShare} harg5.unread w) ∗ (arg6.view.loc (c : Thread nD τ) ↦[arg6.view.set]{fullShare} harg6.unread b)
    ∗ (∃ f, (arg7.view.loc (c : Thread nD τ) ↦[arg7.view.set]{fullShare} f) ∗ ⌜∀ y, (y 0).val = 0 → arg7.view.read (Elt F) f y = DVAL u w b (k0_pay17 x0 x1) y⌝)
    ∗ (∃ f, (arg8.view.loc (c : Thread nD τ) ↦[arg8.view.set]{fullShare} f) ∗ ⌜arg8.view.read (Elt F) f = GW0 u w b (k0_pay17 x0 x1) g8⌝)
    ∗ (∃ f, (arg9.view.loc (c : Thread nD τ) ↦[arg9.view.set]{fullShare} f) ∗ ⌜arg9.view.read (Elt F) f = GB u w b (k0_pay17 x0 x1) g9⌝)
    ∗ (∃ f, (arg10.view.loc (c : Thread nD τ) ↦[arg10.view.set]{fullShare} f))
    ∗ (∃ f, (arg11.view.loc (c : Thread nD τ) ↦[arg11.view.set]{fullShare} f) ∗ ⌜arg11.view.read (Elt F) f = DGC u w b (k0_pay17 x0 x1)⌝)
    ∗ ⌜r = ⟨(acc u w b (k0_pay17 x0 x1) k0_t1_loop.trips).2.2.2, k0_pay29 (w1R g8), k0_pay30 (acc u w b (k0_pay17 x0 x1) k0_t1_loop.trips).2.2.1⟩⌝)

set_option maxHeartbeats 4000000 in
theorem part4_A (hc0 : cond0_0 i) (f8 : arg8.view.ty.Contents (Elt F)) (f9 : arg9.view.ty.Contents (Elt F)) (f7 : arg7.view.ty.Contents (Elt F)) (f10 : arg10.view.ty.Contents (Elt F)) (f11 : arg11.view.ty.Contents (Elt F))
    (E : Set ℕ) :
    iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread u) ∗ (arg5.view.loc (c : Thread nD τ) ↦[arg5.view.set]{fullShare} harg5.unread w) ∗ (arg6.view.loc (c : Thread nD τ) ↦[arg6.view.set]{fullShare} harg6.unread b) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11))
      ⊢ wp frame (wpE (defs₀ (F := F)) Variants.none c none) E (k0_part4 i arg2 harg2 arg3 harg3 arg4 harg4 arg5 harg5 arg6 harg6 arg7 harg7 arg8 harg8 arg9 harg9 arg10 harg10 arg11 harg11)
          (part4Post c arg2 harg2 arg3 harg3 arg4 harg4 arg5 harg5 arg6 harg6 arg7 arg8 arg9 arg10 arg11 x0 x1 u w b (k0_pay18) (k0_pay19)) := by
  simp only [k0_part4_eq_skeleton]
  unfold k0_part4_skel
  iintro ⟨H0, H1, H2, H3, H4, H5, H6, H7, HS0, HS1⟩
  sl_exec (disch := first | sl_exact hc0)
  sl_step
  have hda : ∀ f : arg10.view.ty.Contents (Elt F), arg10.view.writes (Elt F) f [⟨Rect.unit (s := S2048x256) ![0, 0] S2048x256.size inb_S2048x256_S2048x256_0_0, k0_pay17 x0 x1⟩] = harg10.unread (k0_pay17 x0 x1) := fun f =>
    harg10.eq_unread (read_all arg10.view f (by funext a; fin_cases a <;> rfl) _ _ [])
  have ht : Scf.trips (0#32) (Scalar.addi 0#32 4#32) 1#32 = k0_t1_loop.trips := rfl
  have hacc := st_acc Variants.none c none i arg2 harg2 arg3 harg3 arg4 harg4 arg5 harg5 arg6 harg6 arg7 harg7 arg8 harg8 arg9 harg9 arg10 harg10 arg11 harg11 u w b (k0_pay17 x0 x1) k0_t1_loop.trips le_rfl
  have h8 : View.read (Elt F) arg8.view (arg8.view.writes (Elt F) arg8.view.junk [⟨Rect.unit (s := S3x256) ![0, 0] S3x256.size inb_S3x256_S3x256_0_0, k0_pay18⟩]) = k0_pay18 :=
    read_all arg8.view _ (by funext a; fin_cases a <;> rfl) _ _ []
  have h81 : ∀ x, View.ld (View.read (Elt F) arg8.view (arg8.view.writes (Elt F) arg8.view.junk [⟨Rect.unit (s := S3x256) ![0, 0] S1x256.size inb_S3x256_S1x256_0_0, x⟩, ⟨Rect.unit (s := S3x256) ![0, 0] S3x256.size inb_S3x256_S3x256_0_0, k0_pay18⟩]))
      (Rect.unit (s := S3x256) ![1, 0] S1x256.size inb_S3x256_S1x256_1_0) = w1R (F := F) k0_pay18 := fun x => by
    funext y
    refine (read_row arg8.view _ 0 inb_S3x256_S1x256_0_0 x _ _).trans ?_
    rw [if_neg (by show ¬ (1 + 1 * (y 0).val = 0); omega), h8]
    rfl
  have h9 : View.read (Elt F) arg9.view (arg9.view.writes (Elt F) arg9.view.junk [⟨Rect.unit (s := S1x256) ![0, 0] S1x256.size inb_S1x256_S1x256_0_0, k0_pay19⟩]) = k0_pay19 :=
    read_all arg9.view _ (by funext a; fin_cases a <;> rfl) _ _ []
  sl_unfold_words
  simp only [View.readCov, View.readAt_eq_ld, Memref.IsWhole.read_unread, ld_x0, ld_x1, hda, ht, hacc, h8, h81, h9]
  unfold part4Post
  isplitl [H0]; · iexact H0
  isplitl [H1]; · iexact H1
  isplitl [H2]; · iexact H2
  isplitl [H3]; · iexact H3
  isplitl [H4]; · iexact H4
  isplitl [H5]
  · iexists _; isplitl [H5]; · iexact H5
    ipureintro
    intro y hy
    have h1 : (y 1).val < 2048 := (y 1).isLt
    have h2 := trips1
    rw [st_val Variants.none c none i arg2 harg2 arg3 harg3 arg4 harg4 arg5 harg5 arg6 harg6 arg7 harg7 arg8 harg8 arg9 harg9 arg10 harg10 arg11 harg11 u w b (k0_pay17 x0 x1) f7 k0_t1_loop.trips le_rfl y, if_pos ⟨hy, by omega⟩]
  isplitl [H6]
  · iexists _; isplitl [H6]; · iexact H6
    ipureintro
    funext y
    refine (read_row arg8.view _ 0 inb_S3x256_S1x256_0_0 _ _ y).trans ?_
    rw [read_all arg8.view _ (by funext a; fin_cases a <;> rfl) inb_S3x256_S3x256_0_0]
    rfl
  isplitl [H7]
  · iexists _; isplitl [H7]; · iexact H7
    ipureintro
    exact read_all arg9.view _ (by funext a; fin_cases a <;> rfl) inb_S1x256_S1x256_0_0 _ _
  isplitl [HS0]
  · iexists _; iexact HS0
  isplitl [HS1]
  · iexists _; isplitl [HS1]; · iexact HS1
    ipureintro
    funext y
    have h1 : (y 0).val < 2048 := (y 0).isLt
    have h2 := trips1
    rw [st_dgc Variants.none c none i arg2 harg2 arg3 harg3 arg4 harg4 arg5 harg5 arg6 harg6 arg7 harg7 arg8 harg8 arg9 harg9 arg10 harg10 arg11 harg11 u w b (k0_pay17 x0 x1) f11 k0_t1_loop.trips le_rfl y, if_pos (by omega)]
  ipureintro; rfl

set_option maxHeartbeats 4000000 in
theorem part4_B (hc0 : ¬ cond0_0 i) (g8 : WBlk F) (g9 : BBlk F) (f7 : arg7.view.ty.Contents (Elt F)) (f10 : arg10.view.ty.Contents (Elt F)) (f11 : arg11.view.ty.Contents (Elt F))
    (E : Set ℕ) :
    iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread u) ∗ (arg5.view.loc (c : Thread nD τ) ↦[arg5.view.set]{fullShare} harg5.unread w) ∗ (arg6.view.loc (c : Thread nD τ) ↦[arg6.view.set]{fullShare} harg6.unread b) ∗ (arg7.view.loc (c : Thread nD τ) ↦[arg7.view.set]{fullShare} f7) ∗ (arg8.view.loc (c : Thread nD τ) ↦[arg8.view.set]{fullShare} harg8.unread g8) ∗ (arg9.view.loc (c : Thread nD τ) ↦[arg9.view.set]{fullShare} harg9.unread g9) ∗ (arg10.view.loc (c : Thread nD τ) ↦[arg10.view.set]{fullShare} f10) ∗ (arg11.view.loc (c : Thread nD τ) ↦[arg11.view.set]{fullShare} f11))
      ⊢ wp frame (wpE (defs₀ (F := F)) Variants.none c none) E (k0_part4 i arg2 harg2 arg3 harg3 arg4 harg4 arg5 harg5 arg6 harg6 arg7 harg7 arg8 harg8 arg9 harg9 arg10 harg10 arg11 harg11)
          (part4Post c arg2 harg2 arg3 harg3 arg4 harg4 arg5 harg5 arg6 harg6 arg7 arg8 arg9 arg10 arg11 x0 x1 u w b g8 g9) := by
  simp only [k0_part4_eq_skeleton]
  unfold k0_part4_skel
  iintro ⟨H0, H1, H2, H3, H4, H5, H6, H7, HS0, HS1⟩
  sl_exec (disch := first | sl_exact hc0)
  sl_step
  have hda : ∀ f : arg10.view.ty.Contents (Elt F), arg10.view.writes (Elt F) f [⟨Rect.unit (s := S2048x256) ![0, 0] S2048x256.size inb_S2048x256_S2048x256_0_0, k0_pay17 x0 x1⟩] = harg10.unread (k0_pay17 x0 x1) := fun f =>
    harg10.eq_unread (read_all arg10.view f (by funext a; fin_cases a <;> rfl) _ _ [])
  have ht : Scf.trips (0#32) (Scalar.addi 0#32 4#32) 1#32 = k0_t1_loop.trips := rfl
  have hacc := st_acc Variants.none c none i arg2 harg2 arg3 harg3 arg4 harg4 arg5 harg5 arg6 harg6 arg7 harg7 arg8 harg8 arg9 harg9 arg10 harg10 arg11 harg11 u w b (k0_pay17 x0 x1) k0_t1_loop.trips le_rfl
  sl_unfold_words
  simp only [View.readAt_eq_ld, Memref.IsWhole.read_unread, ld_x0, ld_x1, hda, ht, hacc]
  unfold part4Post
  isplitl [H0]; · iexact H0
  isplitl [H1]; · iexact H1
  isplitl [H2]; · iexact H2
  isplitl [H3]; · iexact H3
  isplitl [H4]; · iexact H4
  isplitl [H5]
  · iexists _; isplitl [H5]; · iexact H5
    ipureintro
    intro y hy
    have h1 : (y 1).val < 2048 := (y 1).isLt
    have h2 := trips1
    rw [st_val Variants.none c none i arg2 harg2 arg3 harg3 arg4 harg4 arg5 harg5 arg6 harg6 arg7 harg7 arg8 harg8 arg9 harg9 arg10 harg10 arg11 harg11 u w b (k0_pay17 x0 x1) f7 k0_t1_loop.trips le_rfl y, if_pos ⟨hy, by omega⟩]
  isplitl [H6]
  · iexists _; isplitl [H6]; · iexact H6
    ipureintro
    funext y
    refine (read_row arg8.view (harg8.unread g8) 0 inb_S3x256_S1x256_0_0 _ [] y).trans ?_
    rw [View.writes_nil, harg8.read_unread]
    rfl
  isplitl [H7]
  · iexists _; isplitl [H7]; · iexact H7
    ipureintro
    exact read_all arg9.view (harg9.unread g9) (by funext a; fin_cases a <;> rfl) inb_S1x256_S1x256_0_0 _ []
  isplitl [HS0]
  · iexists _; iexact HS0
  isplitl [HS1]
  · iexists _; isplitl [HS1]; · iexact HS1
    ipureintro
    funext y
    have h1 : (y 0).val < 2048 := (y 0).isLt
    have h2 := trips1
    rw [st_dgc Variants.none c none i arg2 harg2 arg3 harg3 arg4 harg4 arg5 harg5 arg6 harg6 arg7 harg7 arg8 harg8 arg9 harg9 arg10 harg10 arg11 harg11 u w b (k0_pay17 x0 x1) f11 k0_t1_loop.trips le_rfl y, if_pos (by omega)]
  ipureintro; rfl

/-- What the whole body leaves: both halves' gradient, the taps' and the bias's. -/
def bodyPost (g8 : WBlk F) (g9 : BBlk F) : sProp 𝕄 :=
  iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread u) ∗ (arg5.view.loc (c : Thread nD τ) ↦[arg5.view.set]{fullShare} harg5.unread w) ∗ (arg6.view.loc (c : Thread nD τ) ↦[arg6.view.set]{fullShare} harg6.unread b)
    ∗ (∃ f, (arg7.view.loc (c : Thread nD τ) ↦[arg7.view.set]{fullShare} f) ∗ ⌜arg7.view.read (Elt F) f = DU u w b (k0_pay17 x0 x1)⌝)
    ∗ (∃ f, (arg8.view.loc (c : Thread nD τ) ↦[arg8.view.set]{fullShare} f) ∗ ⌜arg8.view.read (Elt F) f = GW u w b (k0_pay17 x0 x1) g8⌝)
    ∗ (∃ f, (arg9.view.loc (c : Thread nD τ) ↦[arg9.view.set]{fullShare} f) ∗ ⌜arg9.view.read (Elt F) f = GB u w b (k0_pay17 x0 x1) g9⌝)
    ∗ (∃ f, (arg10.view.loc (c : Thread nD τ) ↦[arg10.view.set]{fullShare} f)) ∗ (∃ f, (arg11.view.loc (c : Thread nD τ) ↦[arg11.view.set]{fullShare} f)))

theorem part4_spec (g8 : WBlk F) (g9 : BBlk F) (f7 : arg7.view.ty.Contents (Elt F)) (f8 : arg8.view.ty.Contents (Elt F)) (f9 : arg9.view.ty.Contents (Elt F))
    (f10 : arg10.view.ty.Contents (Elt F)) (f11 : arg11.view.ty.Contents (Elt F))
    (hg : (cond0_0 i ∧ g8 = k0_pay18 ∧ g9 = k0_pay19) ∨ (¬ cond0_0 i ∧ f8 = harg8.unread g8 ∧ f9 = harg9.unread g9)) (E : Set ℕ) :
    iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread u) ∗ (arg5.view.loc (c : Thread nD τ) ↦[arg5.view.set]{fullShare} harg5.unread w) ∗ (arg6.view.loc (c : Thread nD τ) ↦[arg6.view.set]{fullShare} harg6.unread b) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11))
      ⊢ wp frame (wpE (defs₀ (F := F)) Variants.none c none) E (k0_part4 i arg2 harg2 arg3 harg3 arg4 harg4 arg5 harg5 arg6 harg6 arg7 harg7 arg8 harg8 arg9 harg9 arg10 harg10 arg11 harg11)
          (part4Post c arg2 harg2 arg3 harg3 arg4 harg4 arg5 harg5 arg6 harg6 arg7 arg8 arg9 arg10 arg11 x0 x1 u w b g8 g9) := by
  rcases hg with ⟨hc, rfl, rfl⟩ | ⟨hc, rfl, rfl⟩
  · exact part4_A c i arg2 harg2 arg3 harg3 arg4 harg4 arg5 harg5 arg6 harg6 arg7 harg7 arg8 harg8 arg9 harg9 arg10 harg10 arg11 harg11 x0 x1 u w b hc f8 f9 f7 f10 f11 E
  · exact part4_B c i arg2 harg2 arg3 harg3 arg4 harg4 arg5 harg5 arg6 harg6 arg7 harg7 arg8 harg8 arg9 harg9 arg10 harg10 arg11 harg11 x0 x1 u w b hc g8 g9 f7 f10 f11 E

set_option maxHeartbeats 4000000 in
theorem body_spec (g8 : WBlk F) (g9 : BBlk F) (f7 : arg7.view.ty.Contents (Elt F)) (f8 : arg8.view.ty.Contents (Elt F)) (f9 : arg9.view.ty.Contents (Elt F))
    (f10 : arg10.view.ty.Contents (Elt F)) (f11 : arg11.view.ty.Contents (Elt F))
    (hg : (cond0_0 i ∧ g8 = k0_pay18 ∧ g9 = k0_pay19) ∨ (¬ cond0_0 i ∧ f8 = harg8.unread g8 ∧ f9 = harg9.unread g9)) (E : Set ℕ) :
    iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread u) ∗ (arg5.view.loc (c : Thread nD τ) ↦[arg5.view.set]{fullShare} harg5.unread w) ∗ (arg6.view.loc (c : Thread nD τ) ↦[arg6.view.set]{fullShare} harg6.unread b) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11))
      ⊢ wp frame (wpE (defs₀ (F := F)) Variants.none c none) E (cc0_ffn_backward i arg2 harg2 arg3 harg3 arg4 harg4 arg5 harg5 arg6 harg6 arg7 harg7 arg8 harg8 arg9 harg9 arg10 harg10 arg11 harg11)
          (fun _ => bodyPost c arg2 harg2 arg3 harg3 arg4 harg4 arg5 harg5 arg6 harg6 arg7 arg8 arg9 arg10 arg11 x0 x1 u w b g8 g9) := by
  simp only [cc0_ffn_backward_eq_skeleton]
  unfold cc0_ffn_backward_skel
  have hcut := part4_spec c i arg2 harg2 arg3 harg3 arg4 harg4 arg5 harg5 arg6 harg6 arg7 harg7 arg8 harg8 arg9 harg9 arg10 harg10 arg11 harg11 x0 x1 u w b g8 g9 f7 f8 f9 f10 f11 hg E
  unfold part4Post at hcut
  iintro ⟨H0, H1, H2, H3, H4, H5, H6, H7, HS0, HS1⟩
  sl_exec
  sl_step
  have e1 : v11_3 = _ := congrArg (fun r : Σ' (_ : FVec F S8x256 .f32) (_ : FVec F S1x256 .f32), FVec F S256 .f32 => r.1) hk0_part4_14
  have e2 : v25 = _ := congrArg (fun r : Σ' (_ : FVec F S8x256 .f32) (_ : FVec F S1x256 .f32), FVec F S256 .f32 => r.2.1) hk0_part4_14
  have e3 : v26 = _ := congrArg (fun r : Σ' (_ : FVec F S8x256 .f32) (_ : FVec F S1x256 .f32), FVec F S256 .f32 => r.2.2) hk0_part4_14
  have e11 := harg11.eq_unread hk0_part4_13
  clear hcut hk0_part4_14 hk0_part4_13
  subst e1 e2 e3 e11
  have ht : Scf.trips (0#32) (Scalar.addi 0#32 4#32) 1#32 = k0_t2_loop.trips := rfl
  sl_unfold_words
  simp only [View.readAt_eq_ld, ht]
  unfold bodyPost
  isplitl [Hk0_part4_0]; · iexact Hk0_part4_0
  isplitl [Hk0_part4_1]; · iexact Hk0_part4_1
  isplitl [Hk0_part4_2]; · iexact Hk0_part4_2
  isplitl [Hk0_part4_3]; · iexact Hk0_part4_3
  isplitl [Hk0_part4_4]; · iexact Hk0_part4_4
  isplitl [Hk0_part4_5]
  · iexists _; isplitl [Hk0_part4_5]; · iexact Hk0_part4_5
    ipureintro
    funext y
    have h1 : (y 1).val < 2048 := (y 1).isLt
    have h2 := trips2
    rw [st_gate Variants.none c none i arg2 harg2 arg3 harg3 arg4 harg4 arg5 harg5 arg6 harg6 arg7 harg7 arg8 harg8 arg9 harg9 arg10 harg10 arg11 harg11 u w b (k0_pay17 x0 x1) fk0_part4_0 k0_t2_loop.trips le_rfl y]
    unfold DU
    by_cases h : (y 0).val = 0
    · rw [if_neg (by omega), if_pos h, hk0_part4_6 y h]
    · rw [if_pos ⟨h, by omega⟩, if_neg h]
  isplitl [Hk0_part4_7]
  · iexists _; isplitl [Hk0_part4_7]; · iexact Hk0_part4_7
    ipureintro
    funext y
    have hy : (y 0).val < 3 := (y 0).isLt
    refine (read_row arg8.view _ 2 inb_S3x256_S1x256_2_0 _ _ y).trans ?_
    rw [read_row arg8.view _ 1 inb_S3x256_S1x256_1_0 _ _ y, View.writes_nil, hk0_part4_8]
    have hw2 : View.ld (GW0 u w b (k0_pay17 x0 x1) g8) (Rect.unit (s := S3x256) ![2, 0] S1x256.size inb_S3x256_S1x256_2_0) = w2R g8 := by
      funext x
      exact if_neg (by show ¬ (2 + 1 * (x 0).val = 0); omega)
    unfold GW
    rcases (show (y 0).val = 0 ∨ (y 0).val = 1 ∨ (y 0).val = 2 by omega) with h | h | h
    · rw [if_neg (by omega), if_neg (by omega), if_pos h]
      unfold GW0
      rw [if_pos h]
    · rw [if_neg (by omega), if_pos h, if_neg (by omega), if_pos h]
    · rw [if_pos h, if_neg (by omega), if_neg (by omega)]
      exact congrArg (fun v => k0_pay2 _ v _) hw2
  isplitl [Hk0_part4_9]
  · iexists _; isplitl [Hk0_part4_9]; · iexact Hk0_part4_9
    ipureintro; exact hk0_part4_10
  isplitl [Hk0_part4_11]
  · iexists _; iexact Hk0_part4_11
  iexists _; iexact Hk0_part4_12

end Cert.KernelIdeal.FB
end
-- ==== Proof.Grid.lean ====
/- The kernel over its grid: what each output block holds after every point, the body at a point, and the launch. -/
module

public import proofs.«01_k».proof.Proof.Body
public import Idealize.ShloMosaic.Lib.Claim

@[expose] public section

set_option maxRecDepth 16384

noncomputable section

namespace Cert.KernelIdeal.FB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The gradient that came back through the down projection, at a point. -/
def daAt (c : Dev nD) (t : Fin cfg0.N) : SBlk F := k0_pay17 (iblk m c 0 t) (iblk m c 1 t)
/-- Both halves' gradient at a point. -/
def duAt (c : Dev nD) (t : Fin cfg0.N) : UBlk F := DU (iblk m c 2 t) (iblk m c 3 t) (iblk m c 4 t) (daAt m c t)
/-- The taps' and the bias's gradient after a point, from what was there before. -/
def gwAt (c : Dev nD) (t : Fin cfg0.N) (g : WBlk F) : WBlk F := GW (iblk m c 2 t) (iblk m c 3 t) (iblk m c 4 t) (daAt m c t) g
def gbAt (c : Dev nD) (t : Fin cfg0.N) (g : BBlk F) : BBlk F := GB (iblk m c 2 t) (iblk m c 3 t) (iblk m c 4 t) (daAt m c t) g
/-- The point before. -/
def pre (t : Fin cfg0.N) : Fin cfg0.N := ⟨t.val - 1, Nat.lt_of_le_of_lt (Nat.sub_le _ _) t.isLt⟩
/-- What a point starts the two sums from: zero at a channel block's first batch, else what the first batch left. -/
def startW (c : Dev nD) (t : Fin cfg0.N) : WBlk F := if t.val % 2 = 0 then k0_pay18 else gwAt m c (pre t) k0_pay18
def startB (c : Dev nD) (t : Fin cfg0.N) : BBlk F := if t.val % 2 = 0 then k0_pay19 else gbAt m c (pre t) k0_pay19

/-- The pipeline's proof data: each input's buffer holds its block, each output's what the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => duAt m c t
    | ⟨6, _⟩ => gwAt m c t (startW m c t)
    | ⟨7, _⟩ => gbAt m c t (startB m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = duAt m c t := by dsimp only [dats]
theorem after_6 (c : Dev nD) (t : Fin cfg0.N) : (dats m 0 c).after 6 t = gwAt m c t (startW m c t) := by dsimp only [dats]
theorem after_7 (c : Dev nD) (t : Fin cfg0.N) : (dats m 0 c).after 7 t = gbAt m c t (startB m c t) := by dsimp only [dats]

theorem before_0 (c : Dev nD) (t : Fin cfg0.N) (d) : (dats m 0 c).before 0 t d = iblk m c 0 t :=
  Gen.before0_0_of m (dats m 0 c) (A_eq m c 0) (after_0 m c) t d
theorem before_1 (c : Dev nD) (t : Fin cfg0.N) (d) : (dats m 0 c).before 1 t d = iblk m c 1 t :=
  Gen.before0_1_of m (dats m 0 c) (A_eq m c 1) (after_1 m c) t d
theorem before_2 (c : Dev nD) (t : Fin cfg0.N) (d) : (dats m 0 c).before 2 t d = iblk m c 2 t :=
  Gen.before0_2_of m (dats m 0 c) (A_eq m c 2) (after_2 m c) t d
theorem before_3 (c : Dev nD) (t : Fin cfg0.N) (d) : (dats m 0 c).before 3 t d = iblk m c 3 t :=
  Gen.before0_3_of m (dats m 0 c) (A_eq m c 3) (after_3 m c) t d
theorem before_4 (c : Dev nD) (t : Fin cfg0.N) (d) : (dats m 0 c).before 4 t d = iblk m c 4 t :=
  Gen.before0_4_of m (dats m 0 c) (A_eq m c 4) (after_4 m c) t d

/-- At a channel block's second batch output 6's buffer still holds what the first batch left. -/
theorem before_6 (c : Dev nD) (t : Fin cfg0.N) (h0 : ¬ t.val % 2 = 0) (d) : (dats m 0 c).before 6 t d = startW m c t := by
  have hN : t.val < 22 := lt_of_lt_of_eq t.isLt (show cfg0.N = 22 from Gen.N_0)
  rw [Dat.before_out_kept _ 6 rfl t (by omega) (Bool.eq_false_iff.mpr fun h => by have := (Gen.flush0_6 _).mp h; dsimp only at this; omega)
    (fun _ => rfl) (fun _ _ => rfl)]
  refine (after_6 m c (pre t)).trans ?_
  unfold startW
  rw [if_neg h0, if_pos (by show (t.val - 1) % 2 = 0; omega)]

/-- At a channel block's second batch output 7's buffer still holds what the first batch left. -/
theorem before_7 (c : Dev nD) (t : Fin cfg0.N) (h0 : ¬ t.val % 2 = 0) (d) : (dats m 0 c).before 7 t d = startB m c t := by
  have hN : t.val < 22 := lt_of_lt_of_eq t.isLt (show cfg0.N = 22 from Gen.N_0)
  rw [Dat.before_out_kept _ 7 rfl t (by omega) (Bool.eq_false_iff.mpr fun h => by have := (Gen.flush0_7 _).mp h; dsimp only at this; omega)
    (fun _ => rfl) (fun _ _ => rfl)]
  refine (after_7 m c (pre t)).trans ?_
  unfold startB
  rw [if_neg h0, if_pos (by show (t.val - 1) % 2 = 0; omega)]

/-- What the body is called with at a point, and what it returns. -/
def ptPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)))
def ptPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t) ∗ owns (c : Thread nD τ) (ms0_7 t) fullShare ((dats m 0 c).after 7 t))

set_option maxHeartbeats 1600000 in
/-- The body at any point. -/
theorem sound_body (c : Dev nD) (t : Fin cfg0.N) :
    ptPre m c t ⊢ wp frame (wpE (defs₀ (F := F)) Variants.none c none) Set.univ (bodyAt0 t) (fun _ => ptPost m c t) := by
  unfold ptPre ptPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  rw [show (dats m 0 c).Φ t.castSucc = Pipeline.ΦA spec0 c from rfl, Gen.PhiA0_eq]
  have hb6 : ∀ d, ¬ cond0_0 (grid0.coords t) → (dats m 0 c).before 6 t d = startW m c t := fun d h =>
    before_6 m c t (fun h' => h ((hcond0_0 t).mpr h')) d
  have hb7 : ∀ d, ¬ cond0_0 (grid0.coords t) → (dats m 0 c).before 7 t d = startB m c t := fun d h =>
    before_7 m c t (fun h' => h ((hcond0_0 t).mpr h')) d
  unfold owns
  iintro ⟨⟨⟨⟨%ds0, %fs0, -, HS0⟩, ⟨%ds1, %fs1, -, HS1⟩⟩, Hg⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩, ⟨%d6, %f6, %hf6, H6⟩, ⟨%d7, %f7, %hf7, H7⟩⟩
  obtain rfl := (hs0_0 t).eq_unread hf0
  obtain rfl := (hs0_1 t).eq_unread hf1
  obtain rfl := (hs0_2 t).eq_unread hf2
  obtain rfl := (hs0_3 t).eq_unread hf3
  obtain rfl := (hs0_4 t).eq_unread hf4
  have hg : (cond0_0 (grid0.coords t) ∧ startW m c t = k0_pay18 ∧ startB m c t = k0_pay19)
      ∨ (¬ cond0_0 (grid0.coords t) ∧ f6 = (hs0_6 t).unread (startW m c t) ∧ f7 = (hs0_7 t).unread (startB m c t)) := by
    by_cases hc : cond0_0 (grid0.coords t)
    · have h0 := (hcond0_0 t).mp hc
      exact .inl ⟨hc, if_pos h0, if_pos h0⟩
    · exact .inr ⟨hc, (hs0_6 t).eq_unread (hf6.trans (hb6 _ hc)), (hs0_7 t).eq_unread (hf7.trans (hb7 _ hc))⟩
  iapply (wp_wand_r Idealize.ShloMosaic.frame (wpE (defs₀ (F := F)) Variants.none (c : Thread nD τ) none) Set.univ)
  isplitl [H0 H1 H2 H3 H4 H5 H6 H7 HS0 HS1]
  · iapply (body_spec c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _)
      (iblk m c 0 t) (iblk m c 1 t) (iblk m c 2 t) (iblk m c 3 t) (iblk m c 4 t) (startW m c t) (startB m c t) f5 f6 f7 fs0 fs1 hg Set.univ)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    iexact HS1
  · unfold bodyPost
    iintro %_ ⟨H0, H1, H2, H3, H4, ⟨%e5, H5, %he5⟩, ⟨%e6, H6, %he6⟩, ⟨%e7, H7, %he7⟩, ⟨%es0, HS0⟩, ⟨%es1, HS1⟩⟩
    isplitl [HS0 HS1 Hg]
    · isplitl [HS0 HS1]
      · isplitl [HS0]
        · iexists _, _; isplitr; swap; · iexact HS0
          ipureintro; rfl
        · iexists _, _; isplitr; swap; · iexact HS1
          ipureintro; rfl
      iexact Hg
    isplitl [Ho]; · iexact Ho
    isplitl [H0]
    · iexists _; isplitr; · ipureintro; exact (hs0_0 t).read_unread _
      iexact H0
    isplitl [H1]
    · iexists _; isplitr; · ipureintro; exact (hs0_1 t).read_unread _
      iexact H1
    isplitl [H2]
    · iexists _; isplitr; · ipureintro; exact (hs0_2 t).read_unread _
      iexact H2
    isplitl [H3]
    · iexists _; isplitr; · ipureintro; exact (hs0_3 t).read_unread _
      iexact H3
    isplitl [H4]
    · iexists _; isplitr; · ipureintro; exact (hs0_4 t).read_unread _
      iexact H4
    isplitl [H5]
    · iexists _; isplitr; · ipureintro; exact he5
      iexact H5
    isplitl [H6]
    · iexists _; isplitr; · ipureintro; exact he6
      iexact H6
    iexists _; isplitr; · ipureintro; exact he7
    iexact H7

/-- The table's entry for the body is the body. -/
theorem defs_body (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [Gen.bigSep_W0, Gen.bigSep_W0, defs_body]
  exact triple_restated (sound_body m c t) rfl .rfl fun _ => .rfl

set_option backward.isDefEq.respectTransparency.types false in
/-- The launch: every execution ends, with every array at what the proof data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := Gen.hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: every execution ends with the arguments unchanged and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (Gen.frame_of m ρ (dats m) (A_eq m) (run_main m ρ)) ((θ_run defs _ _).mono (fun _ h => h.2) (run_main_quiescent m ρ))

end Cert.KernelIdeal.FB

end
-- ==== Proof.Spec.lean ====
/- The gradient of the convolution-gated MLP along one channel of one batch: its 2048 rows, in extended reals. Both programs
   are read as these functions. -/
module

public import Idealize.ShloMosaic.PureOps.Ideal

@[expose] public section

noncomputable section

namespace Cert.FB

open Idealize.ShloMosaic

/-- A column one row earlier, and one row later, with zero beyond either end. -/
def prv (f : Fin 2048 → EReal) (s : Fin 2048) : EReal := if s.val = 0 then 0 else f ⟨s.val - 1, by omega⟩
def nxt (f : Fin 2048 → EReal) (s : Fin 2048) : EReal := if h : s.val + 1 < 2048 then f ⟨s.val + 1, h⟩ else 0

/-- The convolved gate: three taps and a bias. -/
def conv (g : Fin 2048 → EReal) (w0 w1 w2 c : EReal) (s : Fin 2048) : EReal :=
  prv g s * w0 + g s * w1 + nxt g s * w2 + c
/-- The logistic function. -/
def logi (x : EReal) : EReal := Ideal.div 1 (1 + Ideal.exp (0 - x))
/-- The convolved gate's gradient: what came back, times the value, times the derivative of `x · logi x` at the convolved gate. -/
def dconv (a v g : Fin 2048 → EReal) (w0 w1 w2 c : EReal) (s : Fin 2048) : EReal :=
  a s * v s * (logi (conv g w0 w1 w2 c s) * (1 + conv g w0 w1 w2 c s * (1 - logi (conv g w0 w1 w2 c s))))
/-- The value half's gradient. -/
def dval (a g : Fin 2048 → EReal) (w0 w1 w2 c : EReal) (s : Fin 2048) : EReal :=
  a s * (conv g w0 w1 w2 c s * logi (conv g w0 w1 w2 c s))
/-- The gate half's gradient, from the convolved gate's. -/
def dgate (d : Fin 2048 → EReal) (w0 w1 w2 : EReal) (s : Fin 2048) : EReal :=
  nxt d s * w0 + d s * w1 + prv d s * w2

theorem prv_zero (f : Fin 2048 → EReal) (s : Fin 2048) (h : s.val = 0) : prv f s = 0 := if_pos h
theorem prv_pos (f : Fin 2048 → EReal) (s s' : Fin 2048) (h : s.val = s'.val + 1) : prv f s = f s' := by
  unfold prv
  rw [if_neg (by omega)]
  exact congrArg f (Fin.ext (by show s.val - 1 = s'.val; omega))
theorem nxt_last (f : Fin 2048 → EReal) (s : Fin 2048) (h : s.val = 2047) : nxt f s = 0 := dif_neg (by omega)
theorem nxt_lt (f : Fin 2048 → EReal) (s s' : Fin 2048) (h : s'.val = s.val + 1) : nxt f s = f s' := by
  unfold nxt
  rw [dif_pos (by have := s'.isLt; omega)]
  exact congrArg f (Fin.ext h.symm)

/-- The five arguments by their coordinates: the gradient of the output, the down projection, both halves of the up
    projection's result, the taps and the bias. -/
structure Args where
  d : Fin 4096 → Fin 1024 → EReal
  w : Fin 2816 → Fin 1024 → EReal
  u : Fin 2 → Fin 4096 → Fin 2816 → EReal
  taps : Fin 3 → Fin 2816 → EReal
  bias : Fin 2816 → EReal

/-- A row of a batch, the batch of a row and its place there. -/
def row (b : Fin 2) (s : Fin 2048) : Fin 4096 := ⟨2048 * b.val + s.val, by omega⟩
def bat (r : Fin 4096) : Fin 2 := ⟨r.val / 2048, by omega⟩
def pos (r : Fin 4096) : Fin 2048 := ⟨r.val % 2048, by omega⟩

theorem row_bat_pos (r : Fin 4096) : row (bat r) (pos r) = r :=
  Fin.ext (by show 2048 * (r.val / 2048) + r.val % 2048 = r.val; omega)
theorem bat_row (b : Fin 2) (s : Fin 2048) : bat (row b s) = b :=
  Fin.ext (by show (2048 * b.val + s.val) / 2048 = b.val; omega)
theorem pos_row (b : Fin 2) (s : Fin 2048) : pos (row b s) = s :=
  Fin.ext (by show (2048 * b.val + s.val) % 2048 = s.val; omega)

namespace Args
variable (A : Args) (b : Fin 2) (n : Fin 2816)

/-- One channel of one batch: what came back through the down projection, the value and the gate. -/
def a (s : Fin 2048) : EReal := ∑ c, A.d (row b s) c * A.w n c
def v (s : Fin 2048) : EReal := A.u 0 (row b s) n
def g (s : Fin 2048) : EReal := A.u 1 (row b s) n
/-- The convolved gate's gradient there. -/
def dg (s : Fin 2048) : EReal := dconv (A.a b n) (A.v b n) (A.g b n) (A.taps 0 n) (A.taps 1 n) (A.taps 2 n) (A.bias n) s
/-- Both halves' gradient. -/
def du (i : Fin 2) (r : Fin 4096) : EReal :=
  if i.val = 0 then dval (A.a (bat r) n) (A.g (bat r) n) (A.taps 0 n) (A.taps 1 n) (A.taps 2 n) (A.bias n) (pos r)
  else dgate (A.dg (bat r) n) (A.taps 0 n) (A.taps 1 n) (A.taps 2 n) (pos r)
/-- What a tap multiplies. -/
def tapped (j : Fin 3) (s : Fin 2048) : EReal :=
  if j.val = 0 then prv (A.g b n) s else if j.val = 1 then A.g b n s else nxt (A.g b n) s
/-- The taps' and the bias's gradient: sums over both batches' rows. -/
def gw (j : Fin 3) : EReal := ∑ b, ∑ s, A.dg b n s * A.tapped b n j s
def gb : EReal := ∑ b, ∑ s, A.dg b n s

end Args

end Cert.FB

end
-- ==== Proof.Rows.lean ====
/- The block a grid point computes, read at a row and a channel in extended reals. -/
module

public import proofs.«01_k».proof.Proof.Block
public import proofs.«01_k».proof.Proof.Spec

@[expose] public section

set_option maxRecDepth 16384

noncomputable section

namespace Cert.KernelIdeal.FB

open Idealize.ShloMosaic Idealize.ShloMosaic.TcCoe Idealize.ShloMosaic.Tactic
open Cert.KernelIdeal.Gen Cert.FB

theorem k0_off2_eq : ∀ k : Fin k0_t1_loop.trips, k0_off2 k = ![1, 512 * k.val - 16, 0] := by decide +kernel
theorem k0_off7_eq : ∀ k : Fin k0_t2_loop.trips, k0_off7 k = ![512 * k.val - 16, 0] := by decide +kernel

/-- The row of the block a chunk's row is. -/
def rowOf1 (k : Fin k0_t1_loop.trips) (r : Fin 512) : Fin 2048 := ⟨512 * k.val + r.val, by have := trips1; omega⟩
def rowOf2 (k : Fin k0_t2_loop.trips) (r : Fin 512) : Fin 2048 := ⟨512 * k.val + r.val, by have := trips2; omega⟩
theorem rowOf1_trip (s : Fin 2048) : rowOf1 (trip1 s) (rowIn s) = s :=
  Fin.ext (by show 512 * (s.val / 512) + s.val % 512 = s.val; omega)
theorem rowOf2_trip (s : Fin 2048) : rowOf2 (trip2 s) (rowIn s) = s :=
  Fin.ext (by show 512 * (s.val / 512) + s.val % 512 = s.val; omega)

/-! The conditions the body computes in words. -/

theorem isFirst (r : Fin 512) : IntOp.cmpi .eq (BitVec.ofNat 32 r.val) 0#32 = 1#1 ↔ r.val = 0 := by
  revert r; decide +kernel
theorem isLast (r : Fin 512) : IntOp.cmpi .eq (BitVec.ofNat 32 r.val) 511#32 = 1#1 ↔ r.val = 511 := by
  revert r; decide +kernel
theorem notFirst1 : ∀ k : Fin k0_t1_loop.trips,
    Scalar.cmpi .sgt (Scalar.muli (Scf.iv 0#32 1#32 k.val) 512#32) 0#32 = 1#1 ↔ k.val ≠ 0 := by decide +kernel
theorem notLast1 : ∀ k : Fin k0_t1_loop.trips,
    Scalar.cmpi .slt (Scalar.addi (Scalar.muli (Scf.iv 0#32 1#32 k.val) 512#32) 512#32) 2048#32 = 1#1 ↔ k.val ≠ 3 := by
  decide +kernel
theorem notFirst2 : ∀ k : Fin k0_t2_loop.trips,
    Scalar.cmpi .sgt (Scalar.muli (Scf.iv 0#32 1#32 k.val) 512#32) 0#32 = 1#1 ↔ k.val ≠ 0 := by decide +kernel
theorem notLast2 : ∀ k : Fin k0_t2_loop.trips,
    Scalar.cmpi .slt (Scalar.addi (Scalar.muli (Scf.iv 0#32 1#32 k.val) 512#32) 512#32) 2048#32 = 1#1 ↔ k.val ≠ 3 := by
  decide +kernel

theorem sel_pos {α : Type} {c : BitVec 1} (x y : α) (h : c = 1#1) : Scalar.select c x y = x := if_pos h
theorem sel_neg {α : Type} {c : BitVec 1} (x y : α) (h : ¬ c = 1#1) : Scalar.select c x y = y := if_neg h

/-- An entry of a three-dimensional block whose coordinates are equal. -/
theorem at3 {n0 n1 n2 : ℕ} {α : Type} (u : (⟨3, ![n0, n1, n2]⟩ : Shape).Idx → α) {a a' : Fin n0} {b b' : Fin n1} {c c' : Fin n2}
    (h0 : a.val = a'.val) (h1 : b.val = b'.val) (h2 : c.val = c'.val) : u (ix3 a b c) = u (ix3 a' b' c') := by
  rw [Fin.ext h0, Fin.ext h1, Fin.ext h2]
theorem at2 {n0 n1 : ℕ} {α : Type} (u : (⟨2, ![n0, n1]⟩ : Shape).Idx → α) {a a' : Fin n0} {b b' : Fin n1}
    (h0 : a.val = a'.val) (h1 : b.val = b'.val) : u (ix2 a b) = u (ix2 a' b') := by
  rw [Fin.ext h0, Fin.ext h1]

section
variable (u : UBlk Ideal) (w : WBlk Ideal) (b : BBlk Ideal) (da : SBlk Ideal)

/-- One channel's column of the gate half, of the value half, and of what came back. -/
def gCol (n : Fin 256) (s : Fin 2048) : EReal := u (ix3 1 s n)
def vCol (n : Fin 256) (s : Fin 2048) : EReal := u (ix3 0 s n)
def aCol (n : Fin 256) (s : Fin 2048) : EReal := da (ix2 s n)
/-- One channel's taps and bias. -/
def tap0 (n : Fin 256) : EReal := w (ix2 0 n)
def tap1 (n : Fin 256) : EReal := w (ix2 1 n)
def tap2 (n : Fin 256) : EReal := w (ix2 2 n)
def bias (n : Fin 256) : EReal := b (ix2 0 n)

theorem nowT_at (k : Fin k0_t1_loop.trips) (r : Fin 512) (n : Fin 256) : nowT u k (ix2 r n) = gCol u n (rowOf1 k r) := by
  unfold nowT gateC k0_pay4
  pointwise
  refine at3 u ?_ ?_ ?_ <;> simp only [k0_off1_eq] <;> simp [rowOf1]

theorem prevT_at (k : Fin k0_t1_loop.trips) (r : Fin 512) (n : Fin 256) :
    prevT u k (ix2 r n) = prv (gCol u n) (rowOf1 k r) := by
  unfold prevT gateC beforeC k0_pay6 k0_pay4
  pointwise
  by_cases hr : r.val = 0
  · rw [sel_pos _ _ ((isFirst r).mpr hr)]
    by_cases hk : k.val = 0
    · rw [sel_neg _ _ (fun h => (notFirst1 k).mp h hk), prv_zero _ _ (by show 512 * k.val + r.val = 0; omega)]
    · rw [sel_pos _ _ ((notFirst1 k).mpr hk),
        prv_pos _ _ ⟨512 * k.val - 1, by have := trips1; omega⟩ (by show 512 * k.val + r.val = 512 * k.val - 1 + 1; omega)]
      refine at3 u ?_ ?_ ?_ <;> simp only [k0_off2_eq] <;> simp
      omega
  · rw [sel_neg _ _ (fun h => hr ((isFirst r).mp h)),
      prv_pos _ _ ⟨512 * k.val + r.val - 1, by have := trips1; omega⟩
        (by show 512 * k.val + r.val = 512 * k.val + r.val - 1 + 1; omega)]
    refine at3 u ?_ ?_ ?_ <;> simp only [k0_off1_eq] <;> simp
    omega

theorem nextT_at (k : Fin k0_t1_loop.trips) (r : Fin 512) (n : Fin 256) :
    nextT u k (ix2 r n) = nxt (gCol u n) (rowOf1 k r) := by
  unfold nextT nextRow gateC afterC k0_pay9 k0_pay5 k0_pay7 k0_pay8 k0_pay4
  have h4 := trips1
  pointwise
  by_cases hr : r.val = 511
  · rw [sel_pos _ _ ((isLast r).mpr hr)]
    by_cases hk : k.val = 3
    · rw [sel_neg _ _ (fun h => (notLast1 k).mp h hk), nxt_last _ _ (by show 512 * k.val + r.val = 2047; omega)]
    · rw [sel_pos _ _ ((notLast1 k).mpr hk),
        nxt_lt _ _ ⟨512 * k.val + 512, by omega⟩ (by show 512 * k.val + 512 = 512 * k.val + r.val + 1; omega)]
      refine at3 u ?_ ?_ ?_ <;> simp only [k0_off3_eq] <;> simp
      omega
  · rw [sel_neg _ _ (fun h => hr ((isLast r).mp h)),
      nxt_lt _ _ ⟨512 * k.val + r.val + 1, by omega⟩ (by show _ = 512 * k.val + r.val + 1; rfl)]
    refine at3 u ?_ ?_ ?_ <;> simp only [k0_off1_eq] <;> simp
    omega

theorem w0R_at (i : Fin 1) (n : Fin 256) : w0R w (ix2 i n) = tap0 w n := by
  unfold w0R tap0
  pointwise
theorem w1R_at (i : Fin 1) (n : Fin 256) : w1R w (ix2 i n) = tap1 w n := by
  unfold w1R tap1
  pointwise
theorem w2R_at (i : Fin 1) (n : Fin 256) : w2R w (ix2 i n) = tap2 w n := by
  unfold w2R tap2
  pointwise
theorem bR_at (i : Fin 1) (n : Fin 256) : bR b (ix2 i n) = bias b n := by
  unfold bR bias
  pointwise
theorem valC_at (k : Fin k0_t1_loop.trips) (i : Fin 1) (r : Fin 512) (n : Fin 256) : valC u k (ix3 i r n) = vCol u n (rowOf1 k r) := by
  unfold valC
  pointwise
  refine at3 u ?_ ?_ ?_ <;> simp only [k0_off4_eq] <;> simp [rowOf1]
theorem daC_at (k : Fin k0_t1_loop.trips) (r : Fin 512) (n : Fin 256) : daC da k (ix2 r n) = aCol da n (rowOf1 k r) := by
  unfold daC
  pointwise
  refine at2 da ?_ ?_ <;> simp only [k0_off5_eq] <;> simp [rowOf1]

/-- The convolved gate at a row of a chunk. -/
def convCol (n : Fin 256) (s : Fin 2048) : EReal := conv (gCol u n) (tap0 w n) (tap1 w n) (tap2 w n) (bias b n) s

theorem conv_at (k : Fin k0_t1_loop.trips) (r : Fin 512) (n : Fin 256) :
    k0_pay10 (nowT u k) (nextRow u k) (prevT u k) k0_pay7 (k0_pay8 (gateC u k)) (w0R w) (w1R w) (w2R w) (bR b) (ix2 r n)
      = convCol u w b n (rowOf1 k r) := by
  unfold k0_pay10
  have hn : k0_pay9 (nextRow u k) k0_pay7 (k0_pay8 (gateC u k)) = nextT u k := rfl
  rw [hn]
  generalize hx : nextT u k = nx
  generalize hp : prevT u k = pv
  generalize hg : nowT u k = nw
  generalize h0 : w0R w = r0
  generalize h1 : w1R w = r1
  generalize h2 : w2R w = r2
  generalize h3 : bR b = r3
  pointwise
  subst hx hp hg h0 h1 h2 h3
  rw [nextT_at, prevT_at, nowT_at, w0R_at, w1R_at, w2R_at, bR_at]
  rfl

theorem sigT_at (k : Fin k0_t1_loop.trips) (r : Fin 512) (n : Fin 256) :
    sigT u w b k (ix2 r n) = logi (convCol u w b n (rowOf1 k r)) := by
  unfold sigT k0_pay11
  rw [← conv_at]
  generalize k0_pay10 (nowT u k) (nextRow u k) (prevT u k) k0_pay7 (k0_pay8 (gateC u k)) (w0R w) (w1R w) (w2R w) (bR b) = gc
  pointwise
  rfl

theorem restT_at (k : Fin k0_t1_loop.trips) (r : Fin 512) (n : Fin 256) :
    restT u w b k (ix2 r n) = convCol u w b n (rowOf1 k r) * (1 - logi (convCol u w b n (rowOf1 k r))) := by
  rw [← sigT_at u w b k r n]
  unfold restT k0_pay14
  rw [← conv_at]
  have hs : k0_pay11 (nowT u k) (nextRow u k) (prevT u k) k0_pay7 (k0_pay8 (gateC u k)) (w0R w) (w1R w) (w2R w) (bR b) = sigT u w b k := rfl
  rw [hs]
  generalize k0_pay10 (nowT u k) (nextRow u k) (prevT u k) k0_pay7 (k0_pay8 (gateC u k)) (w0R w) (w1R w) (w2R w) (bR b) = gc
  generalize sigT u w b k = sg
  pointwise

theorem upT_at (k : Fin k0_t1_loop.trips) (r : Fin 512) (n : Fin 256) :
    upT u da k (ix2 r n) = aCol da n (rowOf1 k r) * vCol u n (rowOf1 k r) := by
  unfold upT k0_pay13
  generalize ha : daC da k = a
  generalize hv : valC u k = v
  pointwise
  subst ha hv
  rw [daC_at, valC_at]

/-- The value half's gradient at a row of a chunk. -/
theorem dvalC_at (k : Fin k0_t1_loop.trips) (i : Fin 1) (r : Fin 512) (n : Fin 256) :
    dvalC u w b da k (ix3 i r n) = aCol da n (rowOf1 k r) * (convCol u w b n (rowOf1 k r) * logi (convCol u w b n (rowOf1 k r))) := by
  rw [← sigT_at u w b k r n]
  unfold dvalC k0_pay12
  rw [← conv_at]
  have hs : k0_pay11 (nowT u k) (nextRow u k) (prevT u k) k0_pay7 (k0_pay8 (gateC u k)) (w0R w) (w1R w) (w2R w) (bR b) = sigT u w b k := rfl
  rw [hs]
  generalize k0_pay10 (nowT u k) (nextRow u k) (prevT u k) k0_pay7 (k0_pay8 (gateC u k)) (w0R w) (w1R w) (w2R w) (bR b) = gc
  generalize sigT u w b k = sg
  generalize ha : daC da k = a
  pointwise
  subst ha
  rw [daC_at]

/-- The convolved gate's gradient at a row of the block. -/
def dCol (n : Fin 256) (s : Fin 2048) : EReal :=
  dconv (aCol da n) (vCol u n) (gCol u n) (tap0 w n) (tap1 w n) (tap2 w n) (bias b n) s

theorem pay21_at (k : Fin k0_t1_loop.trips) (r : Fin 512) (n : Fin 256) :
    k0_pay21 (sigT u w b k) (upT u da k) (restT u w b k) oneS (ix2 r n) = dCol u w b da n (rowOf1 k r) := by
  have h : k0_pay21 (sigT u w b k) (upT u da k) (restT u w b k) oneS (ix2 r n)
      = (upT u da k (ix2 r n) : EReal) * (sigT u w b k (ix2 r n) * (1 + restT u w b k (ix2 r n))) := by
    unfold k0_pay21 oneS
    generalize sigT u w b k = sg
    generalize upT u da k = up
    generalize restT u w b k = rs
    pointwise
  rw [h, upT_at, sigT_at, restT_at]
  rfl

theorem DGC_at (s : Fin 2048) (n : Fin 256) : DGC u w b da (ix2 s n) = dCol u w b da n s := by
  show dgcC u w b da (trip1 s) (ix2 (rowIn s) n) = _
  unfold dgcC k0_pay22
  have h := pay21_at u w b da (trip1 s) (rowIn s) n
  rw [rowOf1_trip] at h
  rw [← h]
  generalize k0_pay21 (sigT u w b (trip1 s)) (upT u da (trip1 s)) (restT u w b (trip1 s)) oneS = x
  pointwise

theorem DVAL_at (i : Fin 2) (s : Fin 2048) (n : Fin 256) : DVAL u w b da (ix3 i s n)
    = dval (aCol da n) (gCol u n) (tap0 w n) (tap1 w n) (tap2 w n) (bias b n) s := by
  show dvalC u w b da (trip1 s) (ix3 0 (rowIn s) n) = _
  rw [dvalC_at, rowOf1_trip]
  rfl

/-- The gate half's gradient at a row of a chunk, from the whole block of the convolved gate's gradient. -/
theorem dgateC_at (d : SBlk Ideal) (k : Fin k0_t2_loop.trips) (i : Fin 1) (r : Fin 512) (n : Fin 256) :
    dgateC w d k (ix3 i r n) = dgate (fun s => d (ix2 s n)) (tap0 w n) (tap1 w n) (tap2 w n) (rowOf2 k r) := by
  unfold dgateC
  have h4 := trips2
  generalize hx : View.ld d (Rect.unit (s := S2048x256) (k0_off6 k) S512x256.size (k0_off6_inb k)) = x
  generalize hy : View.ld d (Rect.unit (s := S2048x256) (k0_off7 k) S16x256.size (k0_off7_inb k)) = y
  generalize hz : View.ld d (Rect.unit (s := S2048x256) (k0_off8 k) S16x256.size (k0_off8_inb k)) = z
  have hnow : x (ix2 r n) = d (ix2 (rowOf2 k r) n) := by
    subst hx
    pointwise
    refine at2 d ?_ ?_ <;> simp only [k0_off6_eq] <;> simp [rowOf2]
  have hprev : k0_pay15 0#32 1#32 k x y (ix2 r n) = prv (fun s => d (ix2 s n)) (rowOf2 k r) := by
    subst hx hy
    unfold k0_pay15
    pointwise
    by_cases hr : r.val = 0
    · rw [sel_pos _ _ ((isFirst r).mpr hr)]
      by_cases hk : k.val = 0
      · rw [sel_neg _ _ (fun h => (notFirst2 k).mp h hk), prv_zero _ _ (by show 512 * k.val + r.val = 0; omega)]
      · rw [sel_pos _ _ ((notFirst2 k).mpr hk),
          prv_pos _ _ ⟨512 * k.val - 1, by omega⟩ (by show 512 * k.val + r.val = 512 * k.val - 1 + 1; omega)]
        refine at2 d ?_ ?_ <;> simp only [k0_off7_eq] <;> simp
        omega
    · rw [sel_neg _ _ (fun h => hr ((isFirst r).mp h)),
        prv_pos _ _ ⟨512 * k.val + r.val - 1, by omega⟩
          (by show 512 * k.val + r.val = 512 * k.val + r.val - 1 + 1; omega)]
      refine at2 d ?_ ?_ <;> simp only [k0_off6_eq] <;> simp
      omega
  have hnext : k0_pay16 0#32 1#32 k x z (w0R w) (ix2 r n) = nxt (fun s => d (ix2 s n)) (rowOf2 k r) * tap0 w n := by
    rw [← w0R_at w 0 n]
    generalize w0R w = r0
    subst hx hz
    unfold k0_pay16
    pointwise
    by_cases hr : r.val = 511
    · rw [sel_pos _ _ ((isLast r).mpr hr)]
      by_cases hk : k.val = 3
      · rw [sel_neg _ _ (fun h => (notLast2 k).mp h hk), nxt_last _ _ (by show 512 * k.val + r.val = 2047; omega)]
      · rw [sel_pos _ _ ((notLast2 k).mpr hk),
          nxt_lt _ _ ⟨512 * k.val + 512, by omega⟩ (by show 512 * k.val + 512 = 512 * k.val + r.val + 1; omega)]
        refine congrArg (· * _) (at2 d ?_ ?_) <;> simp only [k0_off8_eq] <;> simp
        omega
    · rw [sel_neg _ _ (fun h => hr ((isLast r).mp h)),
        nxt_lt _ _ ⟨512 * k.val + r.val + 1, by omega⟩ (by show _ = 512 * k.val + r.val + 1; rfl)]
      refine congrArg (· * _) (at2 d ?_ ?_) <;> simp only [k0_off6_eq] <;> simp
      omega
  have h : k0_pay3 x (k0_pay15 0#32 1#32 k x y) (k0_pay16 0#32 1#32 k x z (w0R w)) (w1R w) (w2R w) (ix3 i r n)
      = (k0_pay16 0#32 1#32 k x z (w0R w) (ix2 r n) : EReal) + x (ix2 r n) * w1R w (ix2 0 n)
        + k0_pay15 0#32 1#32 k x y (ix2 r n) * w2R w (ix2 0 n) := by
    unfold k0_pay3
    generalize k0_pay15 0#32 1#32 k x y = p
    generalize k0_pay16 0#32 1#32 k x z (w0R w) = q
    generalize w1R w = r1
    generalize w2R w = r2
    pointwise
  rw [h, hnext, hprev, hnow, w1R_at, w2R_at]
  rfl

theorem DGATE_at (i : Fin 2) (s : Fin 2048) (n : Fin 256) : DGATE u w b da (ix3 i s n)
    = dgate (dCol u w b da n) (tap0 w n) (tap1 w n) (tap2 w n) s := by
  show dgateC w (DGC u w b da) (trip2 s) (ix3 0 (rowIn s) n) = _
  rw [dgateC_at, rowOf2_trip]
  simp only [DGC_at]

/-- Both halves' gradient at an entry. -/
theorem DU_at (i : Fin 2) (s : Fin 2048) (n : Fin 256) : DU u w b da (ix3 i s n)
    = if i.val = 0 then dval (aCol da n) (gCol u n) (tap0 w n) (tap1 w n) (tap2 w n) (bias b n) s
      else dgate (dCol u w b da n) (tap0 w n) (tap1 w n) (tap2 w n) s := by
  rw [← DGATE_at u w b da i, ← DVAL_at u w b da i]
  rfl

end

end Cert.KernelIdeal.FB

end
-- ==== Proof.Sums.lean ====
/- What a grid point adds to the taps' and the bias's gradient: sums over the 2048 rows. -/
module

public import proofs.«01_k».proof.Proof.Rows

@[expose] public section

set_option maxRecDepth 16384

noncomputable section

namespace Cert.KernelIdeal.FB

open Idealize.ShloMosaic Idealize.ShloMosaic.TcCoe Idealize.ShloMosaic.Tactic
open Cert.KernelIdeal.Gen Cert.FB

/-- A sum over the rows, taken chunk by chunk in eight interleaved parts. -/
theorem sum_rows (q : Fin 2048 → EReal) :
    ∑ r : Fin 8, ∑ k : Fin k0_t1_loop.trips, ∑ x : Fin 64, q (rowOf1 k ⟨x.val * 8 + r.val, by omega⟩) = ∑ s, q s := by
  have e1 : ∑ s, q s = ∑ k : Fin 4, ∑ p : Fin 512, q ⟨512 * k.val + p.val, by omega⟩ := by
    rw [← Fintype.sum_prod_type', ← (finProdFinEquiv (m := 4) (n := 512)).sum_comp]
    refine Finset.sum_congr rfl fun x _ => congrArg q (Fin.ext ?_)
    simp only [finProdFinEquiv_apply_val]
    omega
  have e2 : ∀ f : Fin 512 → EReal, ∑ p, f p = ∑ x : Fin 64, ∑ r : Fin 8, f ⟨x.val * 8 + r.val, by omega⟩ := fun f => by
    rw [← Fintype.sum_prod_type', ← (finProdFinEquiv (m := 64) (n := 8)).sum_comp]
    refine Finset.sum_congr rfl fun x _ => congrArg f (Fin.ext ?_)
    simp only [finProdFinEquiv_apply_val]
    omega
  rw [e1, Finset.sum_comm]
  refine (Fin.sum_congr' (a := k0_t1_loop.trips) (b := 4) (fun k : Fin 4 => ∑ p : Fin 512, q ⟨512 * k.val + p.val, by omega⟩) trips1 ▸ ?_)
  refine Finset.sum_congr rfl fun k _ => ?_
  rw [Finset.sum_comm]
  exact (e2 fun p => q (rowOf1 k p)).symm

section
variable (u : UBlk Ideal) (w : WBlk Ideal) (b : BBlk Ideal) (da : SBlk Ideal)

theorem acc_sum (p : Acc Ideal → FVec Ideal S8x256 .f32) (q : Fin 2048 → EReal) (r : Fin 8) (n : Fin 256)
    (h0 : p (k0_pay20, k0_pay20, k0_pay20, k0_pay20) (ix2 r n) = (0 : EReal))
    (hs : ∀ k a, p (accStep u w b da k a) (ix2 r n)
      = (p a (ix2 r n) : EReal) + ∑ x : Fin 64, q (rowOf1 k ⟨x.val * 8 + r.val, by omega⟩)) :
    ∀ (t : ℕ) (ht : t ≤ k0_t1_loop.trips), p (acc u w b da t) (ix2 r n)
      = ∑ k : Fin t, ∑ x : Fin 64, q (rowOf1 ⟨k.val, by omega⟩ ⟨x.val * 8 + r.val, by omega⟩)
  | 0, _ => h0.trans (by simp)
  | t + 1, ht => by
    have e : acc u w b da (t + 1) = accStep u w b da ⟨t, ht⟩ (acc u w b da t) := dif_pos ht
    rw [e, hs, acc_sum p q r n h0 hs t (by omega)]
    exact (Fin.sum_univ_castSucc (n := t) fun k => ∑ x : Fin 64, q (rowOf1 ⟨k.val, by omega⟩ ⟨x.val * 8 + r.val, by omega⟩)).symm

theorem zero8_at (r : Fin 8) (n : Fin 256) : (k0_pay20 : FVec Ideal S8x256 .f32) (ix2 r n) = (0 : EReal) := by
  unfold k0_pay20
  pointwise

theorem acc0_at (r : Fin 8) (n : Fin 256) : (acc u w b da k0_t1_loop.trips).1 (ix2 r n)
    = ∑ k : Fin k0_t1_loop.trips, ∑ x : Fin 64, dCol u w b da n (rowOf1 k ⟨x.val * 8 + r.val, by omega⟩) := by
  refine acc_sum u w b da (fun a => a.1) _ r n (zero8_at r n) (fun k a => ?_) _ le_rfl
  show k0_pay23 a.1 (sigT u w b k) (upT u da k) (restT u w b k) oneS (ix2 r n) = _
  simp only [← pay21_at u w b da]
  unfold k0_pay23
  generalize k0_pay21 (sigT u w b k) (upT u da k) (restT u w b k) oneS = d
  pointwise
theorem acc1_at (r : Fin 8) (n : Fin 256) : (acc u w b da k0_t1_loop.trips).2.1 (ix2 r n)
    = ∑ k : Fin k0_t1_loop.trips, ∑ x : Fin 64, (fun s => dCol u w b da n s * prv (gCol u n) s) (rowOf1 k ⟨x.val * 8 + r.val, by omega⟩) := by
  refine acc_sum u w b da (fun a => a.2.1) (fun s => dCol u w b da n s * prv (gCol u n) s) r n (zero8_at r n) (fun k a => ?_) _ le_rfl
  show k0_pay24 a.2.1 (prevT u k) (sigT u w b k) (upT u da k) (restT u w b k) oneS (ix2 r n) = _
  simp only [← pay21_at u w b da, ← prevT_at]
  unfold k0_pay24
  generalize k0_pay21 (sigT u w b k) (upT u da k) (restT u w b k) oneS = d
  generalize prevT u k = g
  pointwise
theorem acc2_at (r : Fin 8) (n : Fin 256) : (acc u w b da k0_t1_loop.trips).2.2.1 (ix2 r n)
    = ∑ k : Fin k0_t1_loop.trips, ∑ x : Fin 64, (fun s => dCol u w b da n s * gCol u n s) (rowOf1 k ⟨x.val * 8 + r.val, by omega⟩) := by
  refine acc_sum u w b da (fun a => a.2.2.1) (fun s => dCol u w b da n s * gCol u n s) r n (zero8_at r n) (fun k a => ?_) _ le_rfl
  show k0_pay25 a.2.2.1 (nowT u k) (sigT u w b k) (upT u da k) (restT u w b k) oneS (ix2 r n) = _
  simp only [← pay21_at u w b da, ← nowT_at]
  unfold k0_pay25
  generalize k0_pay21 (sigT u w b k) (upT u da k) (restT u w b k) oneS = d
  generalize nowT u k = g
  pointwise
theorem acc3_at (r : Fin 8) (n : Fin 256) : (acc u w b da k0_t1_loop.trips).2.2.2 (ix2 r n)
    = ∑ k : Fin k0_t1_loop.trips, ∑ x : Fin 64, (fun s => dCol u w b da n s * nxt (gCol u n) s) (rowOf1 k ⟨x.val * 8 + r.val, by omega⟩) := by
  refine acc_sum u w b da (fun a => a.2.2.2) (fun s => dCol u w b da n s * nxt (gCol u n) s) r n (zero8_at r n) (fun k a => ?_) _ le_rfl
  show k0_pay26 a.2.2.2 (nextT u k) (sigT u w b k) (upT u da k) (restT u w b k) oneS (ix2 r n) = _
  simp only [← pay21_at u w b da, ← nextT_at]
  unfold k0_pay26
  generalize k0_pay21 (sigT u w b k) (upT u da k) (restT u w b k) oneS = d
  generalize nextT u k = g
  pointwise

/-- The bias's gradient after a point: what was there, and the sum of the convolved gate's gradient over the rows. -/
theorem GB_at (g : BBlk Ideal) (i : Fin 1) (n : Fin 256) : GB u w b da g (ix2 i n) = bias g n + ∑ s, dCol u w b da n s := by
  rw [← sum_rows (dCol u w b da n)]
  simp only [← acc0_at]
  rw [← bR_at g i n]
  unfold GB k0_pay27
  generalize (acc u w b da k0_t1_loop.trips).1 = a
  generalize bR g = x
  pointwise

/-- The taps' gradient after a point: what was there, and the sum over the rows against the tap each multiplied. -/
theorem GW_at0 (g : WBlk Ideal) (n : Fin 256) : GW u w b da g (ix2 0 n) = tap0 g n + ∑ s, dCol u w b da n s * prv (gCol u n) s := by
  rw [← sum_rows (fun s => dCol u w b da n s * prv (gCol u n) s)]
  simp only [← acc1_at]
  rw [← w0R_at g 0 n]
  show k0_pay28 (acc u w b da k0_t1_loop.trips).2.1 (w0R g) (ix2 0 n) = _
  unfold k0_pay28
  generalize (acc u w b da k0_t1_loop.trips).2.1 = a
  generalize w0R g = x
  pointwise
theorem GW_at1 (g : WBlk Ideal) (n : Fin 256) : GW u w b da g (ix2 1 n) = tap1 g n + ∑ s, dCol u w b da n s * gCol u n s := by
  rw [← sum_rows (fun s => dCol u w b da n s * gCol u n s)]
  simp only [← acc2_at]
  rw [← w1R_at g 0 n]
  show k0_pay1 (k0_pay29 (w1R g)) (k0_pay30 (acc u w b da k0_t1_loop.trips).2.2.1) (ix2 0 n) = _
  unfold k0_pay1 k0_pay29 k0_pay30
  generalize (acc u w b da k0_t1_loop.trips).2.2.1 = a
  generalize w1R g = x
  pointwise
theorem GW_at2 (g : WBlk Ideal) (n : Fin 256) : GW u w b da g (ix2 2 n) = tap2 g n + ∑ s, dCol u w b da n s * nxt (gCol u n) s := by
  rw [← sum_rows (fun s => dCol u w b da n s * nxt (gCol u n) s)]
  simp only [← acc3_at]
  rw [← w2R_at g 0 n]
  show k0_pay2 (acc u w b da k0_t1_loop.trips).2.2.2 (w2R g) (ix2 0 n) = _
  unfold k0_pay2
  generalize (acc u w b da k0_t1_loop.trips).2.2.2 = a
  generalize w2R g = x
  pointwise

end

/-- The gradient that came back through the down projection, at a row and a channel. -/
theorem da_at (x : Vec Ideal S2048x1024 .bf16) (y : Vec Ideal S256x1024 .bf16) (s : Fin 2048) (n : Fin 256) :
    k0_pay17 x y (ix2 s n) = ∑ c : Fin 1024, (x (ix2 s c) : EReal) * y (ix2 n c) := by
  unfold k0_pay17
  pointwise

end Cert.KernelIdeal.FB

end
-- ==== Proof.Arrays.lean ====
/- The kernel's three results, read over the whole arrays: each block's rows and channels are rows and channels of the
   arguments, the blocks of the first result tile it, and the two sums run over both batches. -/
module

public import proofs.«01_k».proof.Proof.Sums
public import proofs.«01_k».proof.Proof.Grid
public import Idealize.ShloMosaic.Lib.Pipeline.ValueKit

@[expose] public section

set_option maxRecDepth 16384

noncomputable section

namespace Cert.KernelIdeal.FB

open Idealize.ShloMosaic Idealize.ShloMosaic.TcCoe Idealize.ShloMosaic.Tactic
open Idealize.SL.Sem
open Idealize.ShloMosaic.Pipeline (Dat)
open Cert.KernelIdeal.Gen Cert.FB

variable (m : (ℓ : Loc nD τ sig) → Buf (Elt Ideal) ℓ)

/-- A device's arguments. -/
def ins (c : Dev nD) : Args where
  d r k := m ((c.tc : Thread nD τ).loc main_arg0) (ix2 r k)
  w n k := m ((c.tc : Thread nD τ).loc main_arg1) (ix2 n k)
  u i r n := m ((c.tc : Thread nD τ).loc main_arg2) (ix3 i r n)
  taps j n := m ((c.tc : Thread nD τ).loc main_arg3) (ix2 j n)
  bias n := m ((c.tc : Thread nD τ).loc main_arg4) (ix2 0 n)

/-- A point's batch, and a channel of its block. -/
def batOf (t : Fin cfg0.N) : Fin 2 := ⟨t.val % 2, by omega⟩
def chan (t : Fin cfg0.N) (n : Fin 256) : Fin 2816 := ⟨256 * (t.val / 2) + n.val, by
  have h : t.val < 22 := lt_of_lt_of_eq t.isLt N_0
  omega⟩

theorem i0 : ∀ t : Fin cfg0.N, win0_0.index t = ![t.val % 2, 0] := (by decide +kernel : ∀ t : Fin grid0.N, _)
theorem i1 : ∀ t : Fin cfg0.N, win0_1.index t = ![t.val / 2, 0] := (by decide +kernel : ∀ t : Fin grid0.N, _)
theorem i2 : ∀ t : Fin cfg0.N, win0_2.index t = ![0, t.val % 2, t.val / 2] := (by decide +kernel : ∀ t : Fin grid0.N, _)
theorem i3 : ∀ t : Fin cfg0.N, win0_3.index t = ![0, t.val / 2] := (by decide +kernel : ∀ t : Fin grid0.N, _)
theorem i4 : ∀ t : Fin cfg0.N, win0_4.index t = ![0, t.val / 2] := (by decide +kernel : ∀ t : Fin grid0.N, _)
theorem i5 : ∀ t : Fin cfg0.N, win0_5.index t = ![0, t.val % 2, t.val / 2] := (by decide +kernel : ∀ t : Fin grid0.N, _)
theorem i6 : ∀ t : Fin cfg0.N, win0_6.index t = ![0, t.val / 2] := (by decide +kernel : ∀ t : Fin grid0.N, _)
theorem i7 : ∀ t : Fin cfg0.N, win0_7.index t = ![0, t.val / 2] := (by decide +kernel : ∀ t : Fin grid0.N, _)

theorem blk0 (c : Dev nD) (t : Fin cfg0.N) (s : Fin 2048) (k : Fin 1024) :
    iblk m c 0 t (ix2 s k) = (ins m c).d (row (batOf t) s) k := by
  blk_simp [iblk]
  refine congrArg (m ((c.tc : Thread nD τ).loc main_arg0)) ?_
  blk_ext [i0, row, batOf]
theorem blk1 (c : Dev nD) (t : Fin cfg0.N) (n : Fin 256) (k : Fin 1024) :
    iblk m c 1 t (ix2 n k) = (ins m c).w (chan t n) k := by
  blk_simp [iblk]
  refine congrArg (m ((c.tc : Thread nD τ).loc main_arg1)) ?_
  blk_ext [i1, chan]
theorem blk2 (c : Dev nD) (t : Fin cfg0.N) (i : Fin 2) (s : Fin 2048) (n : Fin 256) :
    iblk m c 2 t (ix3 i s n) = (ins m c).u i (row (batOf t) s) (chan t n) := by
  blk_simp [iblk]
  refine congrArg (m ((c.tc : Thread nD τ).loc main_arg2)) ?_
  blk_ext [i2, row, batOf, chan]
theorem blk3 (c : Dev nD) (t : Fin cfg0.N) (j : Fin 3) (n : Fin 256) :
    iblk m c 3 t (ix2 j n) = (ins m c).taps j (chan t n) := by
  blk_simp [iblk]
  refine congrArg (m ((c.tc : Thread nD τ).loc main_arg3)) ?_
  blk_ext [i3, chan]
theorem blk4 (c : Dev nD) (t : Fin cfg0.N) (n : Fin 256) :
    iblk m c 4 t (ix2 0 n) = (ins m c).bias (chan t n) := by
  blk_simp [iblk]
  refine congrArg (m ((c.tc : Thread nD τ).loc main_arg4)) ?_
  blk_ext [i4, chan]

theorem a_at (c : Dev nD) (t : Fin cfg0.N) (n : Fin 256) : aCol (daAt m c t) n = (ins m c).a (batOf t) (chan t n) := by
  funext s
  refine (da_at (iblk m c 0 t) (iblk m c 1 t) s n).trans ?_
  simp only [blk0, blk1]
  rfl
theorem v_at (c : Dev nD) (t : Fin cfg0.N) (n : Fin 256) : vCol (iblk m c 2 t) n = (ins m c).v (batOf t) (chan t n) :=
  funext fun s => blk2 m c t 0 s n
theorem g_at (c : Dev nD) (t : Fin cfg0.N) (n : Fin 256) : gCol (iblk m c 2 t) n = (ins m c).g (batOf t) (chan t n) :=
  funext fun s => blk2 m c t 1 s n
theorem tap0_at (c : Dev nD) (t : Fin cfg0.N) (n : Fin 256) : tap0 (iblk m c 3 t) n = (ins m c).taps 0 (chan t n) := blk3 m c t 0 n
theorem tap1_at (c : Dev nD) (t : Fin cfg0.N) (n : Fin 256) : tap1 (iblk m c 3 t) n = (ins m c).taps 1 (chan t n) := blk3 m c t 1 n
theorem tap2_at (c : Dev nD) (t : Fin cfg0.N) (n : Fin 256) : tap2 (iblk m c 3 t) n = (ins m c).taps 2 (chan t n) := blk3 m c t 2 n
theorem bias_at (c : Dev nD) (t : Fin cfg0.N) (n : Fin 256) : bias (iblk m c 4 t) n = (ins m c).bias (chan t n) := blk4 m c t n

theorem dg_at (c : Dev nD) (t : Fin cfg0.N) (n : Fin 256) :
    dCol (iblk m c 2 t) (iblk m c 3 t) (iblk m c 4 t) (daAt m c t) n = (ins m c).dg (batOf t) (chan t n) := by
  funext s
  unfold dCol
  rw [a_at, v_at, g_at, tap0_at, tap1_at, tap2_at, bias_at]
  rfl

/-- A point's block of both halves' gradient. -/
theorem du_at (c : Dev nD) (t : Fin cfg0.N) (i : Fin 2) (s : Fin 2048) (n : Fin 256) :
    duAt m c t (ix3 i s n) = (ins m c).du (chan t n) i (row (batOf t) s) := by
  unfold duAt
  rw [DU_at, dg_at, a_at, g_at, tap0_at, tap1_at, tap2_at, bias_at]
  unfold Args.du
  rw [bat_row, pos_row]

/-- The first result over the whole array. -/
theorem du_array (c : Dev nD) : (dats m 0 c).arrAt 5 cfg0.N = fun y => (ins m c).du (y 2) (y 0) (y 1) := by
  refine (dats m 0 c).arrAt_eq_of_covers 5 _ (by decide +kernel) fun t hf y => ?_
  blk_simp
  rw [after_5]
  refine (congrArg (duAt m c t) (ix3_eta y).symm).trans ((du_at m c t (y 0) (y 1) (y 2)).trans ?_)
  congr 1
  · apply Fin.ext; show 256 * (t.val / 2) + (y 2).val = _; blk_simp [i5]; omega
  · apply Fin.ext; blk_simp [i5]
  · apply Fin.ext; show 2048 * (t.val % 2) + (y 1).val = _; blk_simp [i5]; omega

theorem gw_at (c : Dev nD) (t : Fin cfg0.N) (g : WBlk Ideal) (j : Fin 3) (n : Fin 256) : gwAt m c t g (ix2 j n)
    = g (ix2 j n) + ∑ s, (ins m c).dg (batOf t) (chan t n) s * (ins m c).tapped (batOf t) (chan t n) j s := by
  unfold gwAt
  match j with
  | ⟨0, _⟩ => exact (GW_at0 ..).trans (by rw [dg_at, g_at]; rfl)
  | ⟨1, _⟩ => exact (GW_at1 ..).trans (by rw [dg_at, g_at]; rfl)
  | ⟨2, _⟩ => exact (GW_at2 ..).trans (by rw [dg_at, g_at]; rfl)

theorem gb_at (c : Dev nD) (t : Fin cfg0.N) (g : BBlk Ideal) (n : Fin 256) : gbAt m c t g (ix2 0 n)
    = g (ix2 0 n) + ∑ s, (ins m c).dg (batOf t) (chan t n) s := by
  unfold gbAt
  exact (GB_at ..).trans (by rw [dg_at]; rfl)

/-- A channel block's second point follows its first. -/
theorem chan_pre (t : Fin cfg0.N) (h : t.val % 2 = 1) (n : Fin 256) : chan (pre t) n = chan t n :=
  Fin.ext (by show 256 * ((t.val - 1) / 2) + n.val = 256 * (t.val / 2) + n.val; omega)
theorem bat_pre (t : Fin cfg0.N) (h : t.val % 2 = 1) : batOf (pre t) = 0 :=
  Fin.ext (by show (t.val - 1) % 2 = 0; omega)
theorem bat_odd (t : Fin cfg0.N) (h : t.val % 2 = 1) : batOf t = 1 := Fin.ext h

theorem zeroW_at (j : Fin 3) (n : Fin 256) : k0_pay18 (F := Ideal) (ix2 j n) = (0 : EReal) := by
  unfold k0_pay18
  pointwise
theorem zeroB_at (n : Fin 256) : k0_pay19 (F := Ideal) (ix2 0 n) = (0 : EReal) := by
  unfold k0_pay19
  pointwise

/-- The taps' gradient once both batches are done, and the bias's. -/
theorem gw_done (c : Dev nD) (t : Fin cfg0.N) (h : t.val % 2 = 1) (j : Fin 3) (n : Fin 256) :
    gwAt m c t (startW m c t) (ix2 j n) = (ins m c).gw (chan t n) j := by
  rw [gw_at, startW, if_neg (by omega), gw_at, zeroW_at, zero_add, bat_odd t h, bat_pre t h, chan_pre t h]
  exact (Fin.sum_univ_two fun b => ∑ s, (ins m c).dg b (chan t n) s * (ins m c).tapped b (chan t n) j s).symm
theorem gb_done (c : Dev nD) (t : Fin cfg0.N) (h : t.val % 2 = 1) (n : Fin 256) :
    gbAt m c t (startB m c t) (ix2 0 n) = (ins m c).gb (chan t n) := by
  rw [gb_at, startB, if_neg (by omega), gb_at, zeroB_at, zero_add, bat_odd t h, bat_pre t h, chan_pre t h]
  exact (Fin.sum_univ_two fun b => ∑ s, (ins m c).dg b (chan t n) s).symm

/-- The second and the third result over the whole arrays. -/
theorem gw_array (c : Dev nD) : (dats m 0 c).arrAt 6 cfg0.N = fun y => (ins m c).gw (y 1) (y 0) := by
  refine (dats m 0 c).arrAt_eq_of_covers 6 _ (by decide +kernel) fun t hf y => ?_
  have h := (flush0_6 t).mp hf
  blk_simp
  rw [after_6]
  refine (congrArg (gwAt m c t (startW m c t)) (ix2_eta y).symm).trans ((gw_done m c t h (y 0) (y 1)).trans ?_)
  congr 1
  · apply Fin.ext; show 256 * (t.val / 2) + (y 1).val = _; blk_simp [i6]; omega
  · apply Fin.ext; blk_simp [i6]
theorem gb_array (c : Dev nD) : (dats m 0 c).arrAt 7 cfg0.N = fun y => (ins m c).gb (y 1) := by
  refine (dats m 0 c).arrAt_eq_of_covers 7 _ (by decide +kernel) fun t hf y => ?_
  have h := (flush0_7 t).mp hf
  blk_simp
  rw [after_7]
  have e : y = ix2 0 (y 1) := by blk_ext []
  refine (congrArg (gbAt m c t (startB m c t)) e).trans ((gb_done m c t h (y 1)).trans ?_)
  congr 1
  apply Fin.ext; show 256 * (t.val / 2) + (y 1).val = _; blk_simp [i7]; omega

end Cert.KernelIdeal.FB

end
-- ==== Proof.Deriv.lean ====
/- The two ways of writing the gradient through `x · logistic x`: a sum of two products, or one product. They agree for every
   convolved gate, infinite or not, wherever the factor that came back is a real number. -/
module

public import proofs.«01_k».proof.Proof.Spec

@[expose] public section

noncomputable section

namespace Cert.FB

open Idealize.ShloMosaic

/-- A real number among the extended reals. -/
def IsReal (x : EReal) : Prop := ∃ r : ℝ, x = (r : EReal)

theorem IsReal.mul {x y : EReal} : IsReal x → IsReal y → IsReal (x * y)
  | ⟨a, ha⟩, ⟨b, hb⟩ => ⟨a * b, by rw [ha, hb, EReal.coe_mul]⟩
theorem IsReal.add {x y : EReal} : IsReal x → IsReal y → IsReal (x + y)
  | ⟨a, ha⟩, ⟨b, hb⟩ => ⟨a + b, by rw [ha, hb, EReal.coe_add]⟩
theorem IsReal.sum {ι : Type} (s : Finset ι) (f : ι → EReal) (h : ∀ i, IsReal (f i)) : IsReal (∑ i ∈ s, f i) :=
  Finset.sum_induction f IsReal (fun _ _ => IsReal.add) ⟨0, rfl⟩ fun i _ => h i
theorem IsReal.of_abs {x : EReal} (h : max x (-x) < ⊤) : IsReal x := by
  induction x with
  | bot => simp at h
  | top => simp at h
  | coe r => exact ⟨r, rfl⟩

theorem logi_eq (x : EReal) : logi x = Ideal.logistic x := by
  unfold logi Ideal.logistic
  rw [zero_sub]

theorem silu_grad (t x : EReal) (ht : IsReal t) :
    t * logi x + x * t * (logi x * (1 - logi x)) = t * (logi x * (1 + x * (1 - logi x))) := by
  obtain ⟨t, rfl⟩ := ht
  rw [logi_eq]
  induction x with
  | bot => simp
  | top =>
    have h : (1 : EReal) - 1 = 0 := EReal.sub_self (by decide) (by decide)
    simp [h]
  | coe r =>
    rw [Ideal.logistic_coe]
    generalize (1 + Real.exp (-r))⁻¹ = l
    norm_cast
    ring_nf

/-- The products of the down projection are real where both factors are. -/
theorem Args.a_real (A : Args) (hd : ∀ r k, IsReal (A.d r k)) (hw : ∀ n k, IsReal (A.w n k)) (b : Fin 2) (n : Fin 2816) (s : Fin 2048) :
    IsReal (A.a b n s) := IsReal.sum _ _ fun c => (hd _ c).mul (hw n c)

end Cert.FB

end
-- ==== Proof.RefVals.lean ====
/- The reference's three results, read at their coordinates. -/
module

public import proofs.«01_k».proof.Proof.Gen.ReferenceIdeal.Read
public import proofs.«01_k».proof.Proof.Deriv
public import Idealize.ShloMosaic.Lib.IdealHost
public import Idealize.ShloMosaic.Lib.Tactic
public import Idealize.ShloMosaic.Lib.Pipeline.ValueKit

@[expose] public section

set_option maxRecDepth 16384

noncomputable section

namespace Cert.ReferenceIdeal.FB

open Idealize.ShloMosaic Idealize.ShloMosaic.TcCoe Idealize.ShloMosaic.Tactic
open Cert.ReferenceIdeal.Gen Cert.ReferenceIdeal.Read Cert.FB

variable (x0 : (⟨S4096x1024, .bf16⟩ : BufTy).Contents (Elt Ideal)) (x1 : (⟨S2816x1024, .bf16⟩ : BufTy).Contents (Elt Ideal))
  (x2 : (⟨S2x4096x2816, .bf16⟩ : BufTy).Contents (Elt Ideal)) (x3 : (⟨S3x2816, .f32⟩ : BufTy).Contents (Elt Ideal))
  (x4 : (⟨S1x2816, .f32⟩ : BufTy).Contents (Elt Ideal))

/-- The arguments by their coordinates. -/
def args : Args where
  d r k := x0 (ix2 r k)
  w n k := x1 (ix2 n k)
  u i r n := x2 (ix3 i r n)
  taps j n := x3 (ix2 j n)
  bias n := x4 (ix2 0 n)

theorem at3 {a b c : ℕ} {α : Type} (f : (⟨3, ![a, b, c]⟩ : Shape).Idx → α) {i i' : Fin a} {j j' : Fin b} {k k' : Fin c}
    (hi : i.val = i'.val) (hj : j.val = j'.val) (hk : k.val = k'.val) : f (ix3 i j k) = f (ix3 i' j' k') := by
  rw [Fin.ext hi, Fin.ext hj, Fin.ext hk]
theorem at2 {a b : ℕ} {α : Type} (f : (⟨2, ![a, b]⟩ : Shape).Idx → α) {i i' : Fin a} {j j' : Fin b}
    (hi : i.val = i'.val) (hj : j.val = j'.val) : f (ix2 i j) = f (ix2 i' j') := by
  rw [Fin.ext hi, Fin.ext hj]

/-- The host's sum over the first two axes of three, at an entry of the third. -/
theorem sum_a01 {n0 n1 n2 : ℕ} (h : (⟨3, ![n0, n1, n2]⟩ : Shape).ReducesTo [0, 1] ⟨1, ![n2]⟩)
    (v : (⟨3, ![n0, n1, n2]⟩ : Shape).Idx → EReal) (init : EReal) (n : Fin n2) :
    Ideal.hostReduceAdd h v init (ix1 n) = init + ∑ i, ∑ j, v (ix3 i j n) := by
  refine congrArg (init + ·) ((Finset.sum_filter_eq_sum_of_fiber _ (fun k : Fin n0 × Fin n1 => ix3 k.1 k.2 n)
    (fun _ _ e => Prod.ext (congrFun e 0) (congrFun e 1)) (fun i => ?_) v).trans ?_)
  · constructor
    · intro e
      refine ⟨(i 0, i 1), ?_⟩
      funext a; apply Fin.ext
      match a with
      | ⟨0, _⟩ => rfl
      | ⟨1, _⟩ => rfl
      | ⟨2, _⟩ => exact (congrArg Fin.val (congrFun e (0 : Fin 1))).symm
    · rintro ⟨k, rfl⟩
      funext b
      apply Fin.ext
      match b with
      | ⟨0, _⟩ => rfl
  · simp only [Fintype.sum_prod_type]

theorem v3_at (b : Fin 2) (s : Fin 2048) (n : Fin 2816) : val_main_v3 (F := Ideal) x2 (ix3 b s n) = (args x0 x1 x2 x3 x4).v b n s := by
  unfold val_main_v3 val_main_v2 val_main_v1 val_main_v0
  pointwise
  refine at3 x2 rfl ?_ rfl
  show b.val * 2048 + s.val = 2048 * b.val + s.val
  omega
theorem v5_at (b : Fin 2) (s : Fin 2048) (n : Fin 2816) : val_main_v5 (F := Ideal) x2 (ix3 b s n) = (args x0 x1 x2 x3 x4).g b n s := by
  unfold val_main_v5 val_main_v4 val_main_v1 val_main_v0
  pointwise
  refine at3 x2 rfl ?_ rfl
  show b.val * 2048 + s.val = 2048 * b.val + s.val
  omega

theorem cst_at : val_main_cst (F := Ideal) ix0 = (0 : EReal) := by
  unfold val_main_cst
  pointwise

/-- The gate with a zero row before and one after. -/
theorem v10_at (b : Fin 2) (r : Fin 2050) (n : Fin 2816) : val_main_v10 (F := Ideal) x2 (ix3 b r n)
    = if h : r.val < 1 then (0 : EReal) else if h : r.val - 1 < 2048 then (args x0 x1 x2 x3 x4).g b n ⟨r.val - 1, h⟩ else 0 := by
  simp only [← v5_at x0 x1 x2 x3 x4]
  unfold val_main_v10 val_main_v9
  generalize val_main_v5 (F := Ideal) x2 = y
  pointwise
  rw [cst_at]

/-- What each of the three taps multiplies. -/
theorem v13_at (b : Fin 2) (s : Fin 2048) (n : Fin 2816) : val_main_v13 (F := Ideal) x2 (ix3 b s n) = prv ((args x0 x1 x2 x3 x4).g b n) s := by
  rw [val_main_v13_apply, show idx_main_v13 (ix3 b s n) = ix3 b ⟨s.val, by omega⟩ n from by ext a; match a with | ⟨0, _⟩ => rfl | ⟨1, _⟩ => rfl | ⟨2, _⟩ => rfl, v10_at x0 x1 x2 x3 x4]
  by_cases h : s.val = 0
  · rw [dif_pos (by show s.val < 1; omega), prv_zero _ _ h]
  · rw [dif_neg (by show ¬ s.val < 1; omega), dif_pos (by show s.val - 1 < 2048; omega)]
    exact (prv_pos _ _ _ (by show s.val = s.val - 1 + 1; omega)).symm
theorem v19_at (b : Fin 2) (s : Fin 2048) (n : Fin 2816) : val_main_v19 (F := Ideal) x2 (ix3 b s n) = (args x0 x1 x2 x3 x4).g b n s := by
  rw [val_main_v19_apply, show idx_main_v19 (ix3 b s n) = ix3 b ⟨1 + s.val, by omega⟩ n from by ext a; match a with | ⟨0, _⟩ => rfl | ⟨1, _⟩ => rfl | ⟨2, _⟩ => rfl, v10_at x0 x1 x2 x3 x4]
  rw [dif_neg (by show ¬ 1 + s.val < 1; omega), dif_pos (by show 1 + s.val - 1 < 2048; omega)]
  exact congrArg _ (Fin.ext (by show 1 + s.val - 1 = s.val; omega))
theorem v26_at (b : Fin 2) (s : Fin 2048) (n : Fin 2816) : val_main_v26 (F := Ideal) x2 (ix3 b s n) = nxt ((args x0 x1 x2 x3 x4).g b n) s := by
  rw [val_main_v26_apply, show idx_main_v26 (ix3 b s n) = ix3 b ⟨2 + s.val, by omega⟩ n from by ext a; match a with | ⟨0, _⟩ => rfl | ⟨1, _⟩ => rfl | ⟨2, _⟩ => rfl, v10_at x0 x1 x2 x3 x4]
  rw [dif_neg (by show ¬ 2 + s.val < 1; omega)]
  by_cases h : s.val = 2047
  · rw [dif_neg (by show ¬ 2 + s.val - 1 < 2048; omega), nxt_last _ _ h]
  · rw [dif_pos (by show 2 + s.val - 1 < 2048; omega)]
    exact (nxt_lt _ _ _ (by show 2 + s.val - 1 = s.val + 1; omega)).symm

theorem v40_at (b : Fin 2) (s : Fin 2048) (n : Fin 2816) : val_main_v40 (F := Ideal) x0 x1 (ix3 b s n) = (args x0 x1 x2 x3 x4).a b n s := by
  rw [val_main_v40_apply]
  refine Finset.sum_congr rfl fun k _ => ?_
  have el : lidx_main_v40 (ix3 b s n) k = ix3 b s k := by ext a; match a with | ⟨0, _⟩ => rfl | ⟨1, _⟩ => rfl | ⟨2, _⟩ => rfl
  have er : ridx_main_v40 (ix3 b s n) k = ix2 n k := by ext a; match a with | ⟨0, _⟩ => rfl | ⟨1, _⟩ => rfl
  rw [el, er]
  unfold val_main_v7 val_main_v6 val_main_v8
  pointwise
  refine congrArg (· * _) (at2 x0 ?_ rfl)
  show b.val * 2048 + s.val = 2048 * b.val + s.val
  omega

/-- The taps and the bias along the rows. -/
theorem v17_at (b : Fin 2) (s : Fin 2048) (n : Fin 2816) : val_main_v17 (F := Ideal) x3 (ix3 b s n) = (args x0 x1 x2 x3 x4).taps 0 n := by
  unfold val_main_v17 val_main_v16 val_main_v15 val_main_v14
  pointwise
  rfl
theorem v23_at (b : Fin 2) (s : Fin 2048) (n : Fin 2816) : val_main_v23 (F := Ideal) x3 (ix3 b s n) = (args x0 x1 x2 x3 x4).taps 1 n := by
  unfold val_main_v23 val_main_v22 val_main_v21 val_main_v20
  pointwise
  rfl
theorem v30_at (b : Fin 2) (s : Fin 2048) (n : Fin 2816) : val_main_v30 (F := Ideal) x3 (ix3 b s n) = (args x0 x1 x2 x3 x4).taps 2 n := by
  unfold val_main_v30 val_main_v29 val_main_v28 val_main_v27
  pointwise
  rfl
theorem v71_at (b : Fin 2) (s : Fin 2048) (n : Fin 2816) : val_main_v71 (F := Ideal) x3 (ix3 b s n) = (args x0 x1 x2 x3 x4).taps 0 n := by
  unfold val_main_v71 val_main_v16 val_main_v15 val_main_v14
  pointwise
  rfl
theorem v60_at (b : Fin 2) (s : Fin 2048) (n : Fin 2816) : val_main_v60 (F := Ideal) x3 (ix3 b s n) = (args x0 x1 x2 x3 x4).taps 1 n := by
  unfold val_main_v60 val_main_v22 val_main_v21 val_main_v20
  pointwise
  rfl
theorem v51_at (b : Fin 2) (s : Fin 2048) (n : Fin 2816) : val_main_v51 (F := Ideal) x3 (ix3 b s n) = (args x0 x1 x2 x3 x4).taps 2 n := by
  unfold val_main_v51 val_main_v29 val_main_v28 val_main_v27
  pointwise
  rfl
theorem v35_at (b : Fin 2) (s : Fin 2048) (n : Fin 2816) : val_main_v35 (F := Ideal) x4 (ix3 b s n) = (args x0 x1 x2 x3 x4).bias n := by
  unfold val_main_v35 val_main_v34 val_main_v33
  pointwise
  rfl

/-- The convolved gate. -/
def cv (b : Fin 2) (n : Fin 2816) (s : Fin 2048) : EReal :=
  conv ((args x0 x1 x2 x3 x4).g b n) ((args x0 x1 x2 x3 x4).taps 0 n) ((args x0 x1 x2 x3 x4).taps 1 n) ((args x0 x1 x2 x3 x4).taps 2 n) ((args x0 x1 x2 x3 x4).bias n) s

theorem v36_at (b : Fin 2) (s : Fin 2048) (n : Fin 2816) : val_main_v36 (F := Ideal) x2 x3 x4 (ix3 b s n) = cv x0 x1 x2 x3 x4 b n s := by
  unfold cv conv
  rw [← v13_at, ← v19_at x0 x1 x2 x3 x4, ← v26_at, ← v17_at x0 x1 x2 x3 x4 b s n, ← v23_at x0 x1 x2 x3 x4 b s n, ← v30_at x0 x1 x2 x3 x4 b s n, ← v35_at x0 x1 x2 x3 x4 b s n]
  rfl

theorem v37_2_at (b : Fin 2) (s : Fin 2048) (n : Fin 2816) : val_main_v37_2 (F := Ideal) x2 x3 x4 (ix3 b s n) = logi (cv x0 x1 x2 x3 x4 b n s) := by
  rw [← v36_at]
  unfold val_main_v37_2 val_main_call0_v4 val_main_call0_v3 val_main_call0_v2 val_main_call0_v1 val_main_call0_v0 val_main_call0_cst_0 val_main_call0_cst
  generalize val_main_v36 (F := Ideal) x2 x3 x4 = y
  unfold logi
  rw [zero_sub]
  pointwise
theorem v37_1_at (b : Fin 2) (s : Fin 2048) (n : Fin 2816) : val_main_v37_1 (F := Ideal) x2 x3 x4 (ix3 b s n)
    = logi (cv x0 x1 x2 x3 x4 b n s) * (1 - logi (cv x0 x1 x2 x3 x4 b n s)) := by
  rw [← v37_2_at]
  unfold val_main_v37_1 val_main_call0_v7 val_main_call0_v6 val_main_call0_cst_1
  generalize val_main_v37_2 (F := Ideal) x2 x3 x4 = y
  pointwise
theorem v37_0_at (b : Fin 2) (s : Fin 2048) (n : Fin 2816) : val_main_v37_0 (F := Ideal) x2 x3 x4 (ix3 b s n)
    = cv x0 x1 x2 x3 x4 b n s * logi (cv x0 x1 x2 x3 x4 b n s) := by
  rw [← v37_2_at, ← v36_at]
  rfl

/-- The gradient at the gated value, the value half's gradient, and the convolved gate's as the reference writes it. -/
theorem v41_at (b : Fin 2) (s : Fin 2048) (n : Fin 2816) : val_main_v41 (F := Ideal) x0 x1 x2 x3 x4 (ix3 b s n)
    = (args x0 x1 x2 x3 x4).a b n s * (cv x0 x1 x2 x3 x4 b n s * logi (cv x0 x1 x2 x3 x4 b n s)) := by
  rw [← v37_0_at, ← v40_at, mul_comm]
  rfl
theorem v43_at (b : Fin 2) (s : Fin 2048) (n : Fin 2816) : val_main_v43 (F := Ideal) x0 x1 x2 x3 x4 (ix3 b s n)
    = (args x0 x1 x2 x3 x4).a b n s * (args x0 x1 x2 x3 x4).v b n s * logi (cv x0 x1 x2 x3 x4 b n s)
      + cv x0 x1 x2 x3 x4 b n s * ((args x0 x1 x2 x3 x4).a b n s * (args x0 x1 x2 x3 x4).v b n s)
        * (logi (cv x0 x1 x2 x3 x4 b n s) * (1 - logi (cv x0 x1 x2 x3 x4 b n s))) := by
  rw [← v37_1_at, ← v37_2_at, ← v36_at, ← v40_at, ← v3_at]
  rfl

/-- Two sums over rows and batches, the second of one entry, are the sum over both. -/
theorem sum_twice (y : FVec Ideal S2x2048x2816 .f32) (z z' : FVec Ideal S_ .f32)
    (hz : z (Shape.Idx.first h_S_) = (0 : EReal)) (hz' : z' (Shape.Idx.first h_S_) = (0 : EReal)) (n : Fin 2816) :
    Host.reduceAdd (shapeCast S1x1x2816 (Host.reduceAdd y z reducesTo_S2x2048x2816_S2816_d0_1 h_S_) shapeCasts_S2816_S1x1x2816) z'
      reducesTo_S1x1x2816_S2816_d0_1 h_S_ (ix1 n) = ∑ b : Fin 2, ∑ s : Fin 2048, (y (ix3 b s n) : EReal) := by
  have e : (Host.reduceAdd y z reducesTo_S2x2048x2816_S2816_d0_1 h_S_ (ix1 n) : EReal) = ∑ b : Fin 2, ∑ s : Fin 2048, (y (ix3 b s n) : EReal) := by
    refine (sum_a01 (n0 := 2) (n1 := 2048) (n2 := 2816) reducesTo_S2x2048x2816_S2816_d0_1 y (z (Shape.Idx.first h_S_)) n).trans ?_
    rw [hz, zero_add]
  refine (sum_a01 (n0 := 1) (n1 := 1) (n2 := 2816) reducesTo_S1x1x2816_S2816_d0_1 _ (z' (Shape.Idx.first h_S_)) n).trans ?_
  rw [hz', zero_add, Fin.sum_univ_one, Fin.sum_univ_one, ← e]
  generalize Host.reduceAdd y z reducesTo_S2x2048x2816_S2816_d0_1 h_S_ = v
  pointwise

theorem v47_sum (n : Fin 2816) : val_main_v47 (F := Ideal) x0 x1 x2 x3 x4 (ix2 0 n)
    = ∑ b : Fin 2, ∑ s : Fin 2048, (val_main_v43 (F := Ideal) x0 x1 x2 x3 x4 (ix3 b s n) : EReal) := by
  rw [val_main_v47_apply, show idx_main_v47 (ix2 0 n) = ix1 n from by ext a; match a with | ⟨0, _⟩ => rfl]
  exact sum_twice _ _ _ (by unfold val_main_cst_2; pointwise) (by unfold val_main_cst_3; pointwise) n
theorem v54_sum (n : Fin 2816) : val_main_v54 (F := Ideal) x0 x1 x2 x3 x4 (ix2 0 n)
    = ∑ b : Fin 2, ∑ s : Fin 2048, (val_main_v48 (F := Ideal) x0 x1 x2 x3 x4 (ix3 b s n) : EReal) := by
  rw [val_main_v54_apply, show idx_main_v54 (ix2 0 n) = ix1 n from by ext a; match a with | ⟨0, _⟩ => rfl]
  exact sum_twice _ _ _ (by unfold val_main_cst_4; pointwise) (by unfold val_main_cst_5; pointwise) n
theorem v63_sum (n : Fin 2816) : val_main_v63 (F := Ideal) x0 x1 x2 x3 x4 (ix2 0 n)
    = ∑ b : Fin 2, ∑ s : Fin 2048, (val_main_v57 (F := Ideal) x0 x1 x2 x3 x4 (ix3 b s n) : EReal) := by
  rw [val_main_v63_apply, show idx_main_v63 (ix2 0 n) = ix1 n from by ext a; match a with | ⟨0, _⟩ => rfl]
  exact sum_twice _ _ _ (by unfold val_main_cst_8; pointwise) (by unfold val_main_cst_9; pointwise) n
theorem v74_sum (n : Fin 2816) : val_main_v74 (F := Ideal) x0 x1 x2 x3 x4 (ix2 0 n)
    = ∑ b : Fin 2, ∑ s : Fin 2048, (val_main_v68 (F := Ideal) x0 x1 x2 x3 x4 (ix3 b s n) : EReal) := by
  rw [val_main_v74_apply, show idx_main_v74 (ix2 0 n) = ix1 n from by ext a; match a with | ⟨0, _⟩ => rfl]
  exact sum_twice _ _ _ (by unfold val_main_cst_12; pointwise) (by unfold val_main_cst_13; pointwise) n

section
variable (hr : ∀ b n s, IsReal ((args x0 x1 x2 x3 x4).a b n s * (args x0 x1 x2 x3 x4).v b n s))
include hr

theorem v43_dg (b : Fin 2) (s : Fin 2048) (n : Fin 2816) : val_main_v43 (F := Ideal) x0 x1 x2 x3 x4 (ix3 b s n)
    = (args x0 x1 x2 x3 x4).dg b n s := by
  rw [v43_at, silu_grad _ _ (hr b n s)]
  rfl

/-- The bias's gradient. -/
theorem v47_at (n : Fin 2816) : val_main_v47 (F := Ideal) x0 x1 x2 x3 x4 (ix2 0 n) = (args x0 x1 x2 x3 x4).gb n := by
  rw [v47_sum]
  simp only [v43_dg x0 x1 x2 x3 x4 hr]
  rfl

theorem v54_at (n : Fin 2816) : val_main_v54 (F := Ideal) x0 x1 x2 x3 x4 (ix2 0 n) = (args x0 x1 x2 x3 x4).gw n 2 := by
  rw [v54_sum]
  refine Finset.sum_congr rfl fun b _ => Finset.sum_congr rfl fun s _ => ?_
  refine (mul_comm (val_main_v26 (F := Ideal) x2 (ix3 b s n) : EReal) (val_main_v43 (F := Ideal) x0 x1 x2 x3 x4 (ix3 b s n))).trans ?_
  rw [v43_dg x0 x1 x2 x3 x4 hr, v26_at x0 x1 x2 x3 x4]
  rfl
theorem v63_at (n : Fin 2816) : val_main_v63 (F := Ideal) x0 x1 x2 x3 x4 (ix2 0 n) = (args x0 x1 x2 x3 x4).gw n 1 := by
  rw [v63_sum]
  refine Finset.sum_congr rfl fun b _ => Finset.sum_congr rfl fun s _ => ?_
  refine (mul_comm (val_main_v19 (F := Ideal) x2 (ix3 b s n) : EReal) (val_main_v43 (F := Ideal) x0 x1 x2 x3 x4 (ix3 b s n))).trans ?_
  rw [v43_dg x0 x1 x2 x3 x4 hr, v19_at x0 x1 x2 x3 x4]
  rfl
theorem v74_at (n : Fin 2816) : val_main_v74 (F := Ideal) x0 x1 x2 x3 x4 (ix2 0 n) = (args x0 x1 x2 x3 x4).gw n 0 := by
  rw [v74_sum]
  refine Finset.sum_congr rfl fun b _ => Finset.sum_congr rfl fun s _ => ?_
  refine (mul_comm (val_main_v13 (F := Ideal) x2 (ix3 b s n) : EReal) (val_main_v43 (F := Ideal) x0 x1 x2 x3 x4 (ix3 b s n))).trans ?_
  rw [v43_dg x0 x1 x2 x3 x4 hr, v13_at x0 x1 x2 x3 x4]
  rfl

/-- The taps' gradient: each tap's row, and zero in the other two. -/
theorem v76_at (j : Fin 3) (n : Fin 2816) : val_main_v76 (F := Ideal) x0 x1 x2 x3 x4 (ix2 j n) = (args x0 x1 x2 x3 x4).gw n j := by
  have e0 := v74_at x0 x1 x2 x3 x4 hr n
  have e1 := v63_at x0 x1 x2 x3 x4 hr n
  have e2 := v54_at x0 x1 x2 x3 x4 hr n
  unfold val_main_v76 val_main_v75 val_main_v65 val_main_v64 val_main_v55 val_main_cst_6 val_main_cst_10 val_main_cst_14
  revert e0 e1 e2
  generalize val_main_v54 (F := Ideal) x0 x1 x2 x3 x4 = d2
  generalize val_main_v63 (F := Ideal) x0 x1 x2 x3 x4 = d1
  generalize val_main_v74 (F := Ideal) x0 x1 x2 x3 x4 = d0
  intro e0 e1 e2
  match j with
  | ⟨0, _⟩ => pointwise; exact e0
  | ⟨1, _⟩ => pointwise; exact e1
  | ⟨2, _⟩ => pointwise; exact e2

/-- The gate half's gradient: each row's, from the rows that its taps reached. -/
theorem v80_at (b : Fin 2) (s : Fin 2048) (n : Fin 2816) : val_main_v80 (F := Ideal) x0 x1 x2 x3 x4 (ix3 b s n)
    = dgate ((args x0 x1 x2 x3 x4).dg b n) ((args x0 x1 x2 x3 x4).taps 0 n) ((args x0 x1 x2 x3 x4).taps 1 n) ((args x0 x1 x2 x3 x4).taps 2 n) s := by
  have e0 : ∀ s, val_main_v72 (F := Ideal) x0 x1 x2 x3 x4 (ix3 b s n) = (args x0 x1 x2 x3 x4).dg b n s * (args x0 x1 x2 x3 x4).taps 0 n := fun s => by
    rw [← v43_dg x0 x1 x2 x3 x4 hr, ← v71_at x0 x1 x2 x3 x4 b s n]; rfl
  have e1 : ∀ s, val_main_v61 (F := Ideal) x0 x1 x2 x3 x4 (ix3 b s n) = (args x0 x1 x2 x3 x4).dg b n s * (args x0 x1 x2 x3 x4).taps 1 n := fun s => by
    rw [← v43_dg x0 x1 x2 x3 x4 hr, ← v60_at x0 x1 x2 x3 x4 b s n]; rfl
  have e2 : ∀ s, val_main_v52 (F := Ideal) x0 x1 x2 x3 x4 (ix3 b s n) = (args x0 x1 x2 x3 x4).dg b n s * (args x0 x1 x2 x3 x4).taps 2 n := fun s => by
    rw [← v43_dg x0 x1 x2 x3 x4 hr, ← v51_at x0 x1 x2 x3 x4 b s n]; rfl
  unfold val_main_v80 val_main_v78 val_main_v77 val_main_v67 val_main_v66 val_main_v56 val_main_cst_7 val_main_cst_11 val_main_cst_15
  revert e0 e1 e2
  generalize val_main_v52 (F := Ideal) x0 x1 x2 x3 x4 = d2
  generalize val_main_v61 (F := Ideal) x0 x1 x2 x3 x4 = d1
  generalize val_main_v72 (F := Ideal) x0 x1 x2 x3 x4 = d0
  generalize (args x0 x1 x2 x3 x4).dg b n = d
  intro e0 e1 e2
  pointwise
  simp only [e0, e1, e2]
  unfold dgate
  rw [add_comm (nxt d s * _ + _), add_comm (nxt d s * _), add_assoc]
  have p : (if h : 2 ≤ 1 + s.val ∧ 1 + s.val - 2 < 2048 then d ⟨1 + s.val - 2, h.2⟩ * (args x0 x1 x2 x3 x4).taps 2 n else 0)
      = prv d s * (args x0 x1 x2 x3 x4).taps 2 n := by
    by_cases h : s.val = 0
    · rw [dif_neg (by omega), prv_zero _ _ h, zero_mul]
    · rw [dif_pos (by omega), prv_pos _ s ⟨1 + s.val - 2, by omega⟩ (by show s.val = 1 + s.val - 2 + 1; omega)]
  have q : (if h : 1 + s.val < 2048 then d ⟨1 + s.val, h⟩ * (args x0 x1 x2 x3 x4).taps 0 n else 0)
      = nxt d s * (args x0 x1 x2 x3 x4).taps 0 n := by
    by_cases h : s.val = 2047
    · rw [dif_neg (by omega), nxt_last _ _ h, zero_mul]
    · rw [dif_pos (by omega), nxt_lt _ s ⟨1 + s.val, by omega⟩ (by show 1 + s.val = s.val + 1; omega)]
  rw [p, q]

end

end Cert.ReferenceIdeal.FB

end
-- ==== Proof.RefDu.lean ====
/- The reference's first result, read at its coordinates. -/
module

public import proofs.«01_k».proof.Proof.RefVals

@[expose] public section

set_option maxRecDepth 16384

noncomputable section

namespace Cert.ReferenceIdeal.FB

open Idealize.ShloMosaic Idealize.ShloMosaic.TcCoe Idealize.ShloMosaic.Tactic
open Cert.ReferenceIdeal.Gen Cert.ReferenceIdeal.Read Cert.FB

/-- A row and a channel of a half, counted through: the half, the batch, the row there and the channel back. -/
theorem split_0 (i r n : ℕ) (hr : r < 4096) (hn : n < 2816) : ((i * 4096 + r) * 2816 + n) / 11534336 = i := by omega
theorem split_1 (i r n : ℕ) (hr : r < 4096) (hn : n < 2816) : ((i * 4096 + r) * 2816 + n) / 5767168 % 2 = r / 2048 := by omega
theorem split_2 (i r n : ℕ) (hr : r < 4096) (hn : n < 2816) : ((i * 4096 + r) * 2816 + n) / 2816 % 2048 = r % 2048 := by omega
theorem split_3 (i r n : ℕ) (hr : r < 4096) (hn : n < 2816) : ((i * 4096 + r) * 2816 + n) % 2816 = n := by omega

theorem idx_at (i : Fin 2) (r : Fin 4096) (n : Fin 2816) : idx_main_v85 (ix3 i r n) = ix4 i (bat r) (pos r) n := by
  funext a
  apply Fin.ext
  match a with
  | ⟨0, _⟩ => exact split_0 i.val r.val n.val r.isLt n.isLt
  | ⟨1, _⟩ => exact split_1 i.val r.val n.val r.isLt n.isLt
  | ⟨2, _⟩ => exact split_2 i.val r.val n.val r.isLt n.isLt
  | ⟨3, _⟩ => exact split_3 i.val r.val n.val r.isLt n.isLt

variable (x0 : (⟨S4096x1024, .bf16⟩ : BufTy).Contents (Elt Ideal)) (x1 : (⟨S2816x1024, .bf16⟩ : BufTy).Contents (Elt Ideal))
  (x2 : (⟨S2x4096x2816, .bf16⟩ : BufTy).Contents (Elt Ideal)) (x3 : (⟨S3x2816, .f32⟩ : BufTy).Contents (Elt Ideal))
  (x4 : (⟨S1x2816, .f32⟩ : BufTy).Contents (Elt Ideal))

/-- Rounding keeps an exact value. -/
theorem round_at {t : Shape} (y : FVec Ideal t .f32) (h : FTy.bits .bf16 < FTy.bits .f32) (i : t.Idx) :
    (truncf .bf16 y h : FVec Ideal t .bf16) i = y i := rfl

theorem v86_v85 (k : S2x4096x2816.Idx) :
    val_main_v86 (F := Ideal) x0 x1 x2 x3 x4 k = val_main_v85 (F := Ideal) x0 x1 x2 x3 x4 k := by
  unfold val_main_v86
  exact round_at _ _ k

theorem v84_0 (b : Fin 2) (s : Fin 2048) (n : Fin 2816) :
    val_main_v84 (F := Ideal) x0 x1 x2 x3 x4 (ix4 0 b s n) = val_main_v41 (F := Ideal) x0 x1 x2 x3 x4 (ix3 b s n) := by
  unfold val_main_v84 val_main_v83 val_main_v82
  generalize val_main_v80 (F := Ideal) x0 x1 x2 x3 x4 = d1
  generalize val_main_v41 (F := Ideal) x0 x1 x2 x3 x4 = d0
  pointwise
theorem v84_1 (b : Fin 2) (s : Fin 2048) (n : Fin 2816) :
    val_main_v84 (F := Ideal) x0 x1 x2 x3 x4 (ix4 1 b s n) = val_main_v80 (F := Ideal) x0 x1 x2 x3 x4 (ix3 b s n) := by
  unfold val_main_v84 val_main_v83 val_main_v82
  generalize val_main_v80 (F := Ideal) x0 x1 x2 x3 x4 = d1
  generalize val_main_v41 (F := Ideal) x0 x1 x2 x3 x4 = d0
  pointwise

variable (hr : ∀ b n s, IsReal ((args x0 x1 x2 x3 x4).a b n s * (args x0 x1 x2 x3 x4).v b n s))
include hr

/-- Both halves' gradient. -/
theorem v86_at (i : Fin 2) (r : Fin 4096) (n : Fin 2816) : val_main_v86 (F := Ideal) x0 x1 x2 x3 x4 (ix3 i r n) = (args x0 x1 x2 x3 x4).du n i r := by
  rw [v86_v85, val_main_v85_apply, idx_at]
  unfold Args.du
  rw [← v80_at x0 x1 x2 x3 x4 hr]
  match i with
  | ⟨0, _⟩ => exact (v84_0 x0 x1 x2 x3 x4 (bat r) (pos r) n).trans (v41_at x0 x1 x2 x3 x4 (bat r) (pos r) n)
  | ⟨1, _⟩ => exact v84_1 x0 x1 x2 x3 x4 (bat r) (pos r) n

end Cert.ReferenceIdeal.FB

end
-- ==== Proof.Finite.lean ====
/- The precondition read back: where it is all ones, every entry of the arriving gradient, of the down projection and of the
   value half is a real number. -/
module

public import proofs.«01_k».proof.Pre_finite
public import proofs.«01_k».proof.Proof.Deriv
public import Idealize.ShloMosaic.Lib.ReduceAll
public import Idealize.ShloMosaic.Lib.Pipeline.ValueKit

@[expose] public section

set_option maxRecDepth 16384

noncomputable section

namespace Cert.Pre_finite

open Idealize.ShloMosaic Idealize.ShloMosaic.TcCoe Idealize.ShloMosaic.Tactic
open Cert.FB

instance facts : Cert.Pre_finite.Facts where
  bitsLt_bf16_f32 := by decide
  bcast_S_S4096x1024 := by decide
  reducesTo_S4096x1024_S_d0_1 := by decide
  h_S_ := by decide
  bcast_S_S2816x1024 := by decide
  reducesTo_S2816x1024_S_d0_1 := by decide
  slices_S2x4096x2816_S1x4096x2816_0_0_0 := by decide
  shapeCasts_S1x4096x2816_S4096x2816 := by decide
  bcast_S_S4096x2816 := by decide
  reducesTo_S4096x2816_S_d0_1 := by decide

theorem inf_eq : Ideal.ofBits .f32 0x7F800000#32 = ⊤ := by simp [Ideal.ofBits, Ideal.ieee]

/-- An entry below infinity in absolute value is real. -/
theorem real_of_cmp (x : EReal) (h : Ideal.cmp .olt (max x (-x)) (Ideal.ofBits .f32 0x7F800000#32) = 1#1) : IsReal x := by
  refine IsReal.of_abs (lt_of_lt_of_eq ?_ inf_eq)
  by_contra hn
  have e : Ideal.cmp .olt (max x (-x)) (Ideal.ofBits .f32 0x7F800000#32) = BitVec.ofBool false :=
    congrArg BitVec.ofBool (decide_eq_false hn)
  exact absurd (e.symm.trans h) (by decide)

/-- Where the conjunction over a whole array is 1, every entry is real. -/
theorem real_of_all {t : Shape} {axes : List (Fin t.rank)} (x : FVec Ideal t .f32)
    (hb : S_.BroadcastsInDim t (![] : Fin 0 → Fin t.rank)) (hr : t.ReducesTo axes S_) (hu : 0 < S_.numel) (j : S_.Idx)
    (e : Host.reduce IntOp.andi (cmpf .olt (Host.absf x) (broadcastInDim t ![] hb (constant (F := Ideal) S_ .f32 0x7F800000#32)))
      (constantI S_ 1 1#1) hr hu j = 1#1) (i : t.Idx) : IsReal (x i) :=
  real_of_cmp (x i) (Host.reduce_andi_all _ _ _ _ j e i)

variable (x0 : FVec Ideal S4096x1024 .bf16) (x1 : FVec Ideal S2816x1024 .bf16) (x2 : FVec Ideal S2x4096x2816 .bf16)
  (x3 : FVec Ideal S3x2816 .f32) (x4 : FVec Ideal S1x2816 .f32)

theorem half_at (r : Fin 4096) (n : Fin 2816) :
    shapeCast S4096x2816 (extractStridedSlice S1x4096x2816 ![0, 0, 0] x2 Facts.slices_S2x4096x2816_S1x4096x2816_0_0_0)
      Facts.shapeCasts_S1x4096x2816_S4096x2816 (ix2 r n) = x2 (ix3 0 r n) := by
  pointwise

theorem real_of_fn (h : fn (F := Ideal) x0 x1 x2 x3 x4 = fun _ => 1#1) :
    (∀ i, IsReal (x0 i)) ∧ (∀ i, IsReal (x1 i)) ∧ ∀ r n, IsReal (x2 (ix3 0 r n)) := by
  have j : S_.Idx := Shape.Idx.first Facts.h_S_
  have e := congrFun h j
  dsimp only [fn, fn_part1] at e
  obtain ⟨e01, e2⟩ := IntOp.andi_eq_one.1 e
  obtain ⟨e0, e1⟩ := IntOp.andi_eq_one.1 e01
  refine ⟨fun i => real_of_all _ _ _ _ j e0 i, fun i => real_of_all _ _ _ _ j e1 i, fun r n => ?_⟩
  have h2 := real_of_all _ _ _ _ j e2 (ix2 r n)
  rw [← half_at x2 r n]
  exact h2

end Cert.Pre_finite

end
-- ==== Proof.UpW.lean ====
module

public import proofs.«01_k».proof.Proof.Gen.Kernel2Ideal.Value
public import Idealize.ShloMosaic.Lib.Pipeline.ValueKit

@[expose] public section

noncomputable section

namespace Cert.Kernel2Ideal.UpW

open Cert.Kernel2Ideal Cert.Kernel2Ideal.Gen Idealize.ShloMosaic Idealize.ShloMosaic.TcCoe Idealize.ShloMosaic.Pipeline
open scoped BigOperators

variable (m : (ℓ : Loc nD τ sig) → Buf (Elt Ideal) ℓ)

theorem zeroA_at (y : S1x512x1408.Idx) : k0_pay1 (F := Ideal) y = 0 := by pointwise [k0_pay1]
theorem zeroB_at (y : S1x512x1408.Idx) : k0_pay2 (F := Ideal) y = 0 := by pointwise [k0_pay2]
theorem stepA_at (d : Vec Ideal S1x1024x1408 .bf16) (acc : Vec Ideal S1x512x1408 .f32) (h : Vec Ideal S1024x512 .bf16) (y : S1x512x1408.Idx) :
    k0_pay4 d acc h y = acc y + ∑ k : Fin 1024, h (ix2 k (y 1)) * d (ix3 0 k (y 2)) := by
  pointwise [k0_pay4, k0_pay3]
theorem stepB_at (d : Vec Ideal S1x1024x1408 .bf16) (acc : Vec Ideal S1x512x1408 .f32) (h : Vec Ideal S1024x512 .bf16) (y : S1x512x1408.Idx) :
    k0_pay5 d acc h y = acc y + ∑ k : Fin 1024, h (ix2 k (y 1)) * d (ix3 0 k (y 2)) := by
  pointwise [k0_pay5, k0_pay3]
theorem copyA_at (v : Vec Ideal S1x512x1408 .f32) (y : S1x512x1408.Idx) : k0_pay6 v y = v y := by pointwise [k0_pay6]
theorem copyB_at (v : Vec Ideal S1x512x1408 .f32) (y : S1x512x1408.Idx) : k0_pay7 v y = v y := by pointwise [k0_pay7]

theorem idx : ∀ t : Fin cfg0.N, win0_0.index t = ![t.val % 4, 0] ∧ win0_1.index t = ![t.val / 4 / 2, t.val % 4, t.val / 4 % 2]
    ∧ win0_2.index t = ![t.val / 4, 0, 0] ∧ win0_3.index t = ![t.val / 4, 0, 0] ∧ win0_4.index t = ![t.val / 4, 0, 0] ∧ win0_5.index t = ![t.val / 4, 0, 0] :=
  (by decide +kernel : ∀ t : Fin grid0.N, _)

/-- The weight's gradient over half of its rows, from row `o` on, one slot of columns after another: the sum over the tokens. -/
def grad (o : Fin 513) (h : Vec Ideal S4096x1024 .bf16) (d : Vec Ideal S2x4096x2816 .bf16) (y : S4x512x1408.Idx) : EReal :=
  ∑ l : Fin 4096, h (ix2 l ⟨o + (y 1).val, by have := (y 1).isLt; have : (y 1).val < 512 := this; omega⟩)
    * d (ix3 ⟨(y 0).val / 2, by have : (y 0).val < 4 := (y 0).isLt; omega⟩ l
        ⟨(y 0).val % 2 * 1408 + (y 2).val, by have : (y 2).val < 1408 := (y 2).isLt; omega⟩)

/-- A point's part of the sum. -/
def part (o : Fin 513) (c : Dev nD) (p : Fin cfg0.N) (y : S1x512x1408.Idx) : EReal :=
  ∑ k : Fin 1024, (show Vec Ideal S1024x1024 .bf16 from iblk m c 0 p) (ix2 k ⟨o + (y 1).val, by have : (y 1).val < 512 := (y 1).isLt; omega⟩)
    * (show Vec Ideal S1x1024x1408 .bf16 from iblk m c 1 p) (ix3 0 k (y 2))

theorem partA (c : Dev nD) (p : Fin cfg0.N) (acc : Vec Ideal S1x512x1408 .f32) (y : S1x512x1408.Idx) :
    k0_pay4 (iblk m c 1 p) acc (View.ld (iblk m c 0 p) (Rect.unit (s := S1024x1024) ![0, 0] S1024x512.size inb_S1024x1024_S1024x512_0_0)) y
      = acc y + part m 0 c p y := by
  rw [stepA_at]
  unfold part
  refine congrArg _ (Fin.sum_fin_congr fun k => ?_)
  pointwise
theorem partB (c : Dev nD) (p : Fin cfg0.N) (acc : Vec Ideal S1x512x1408 .f32) (y : S1x512x1408.Idx) :
    k0_pay5 (iblk m c 1 p) acc (View.ld (iblk m c 0 p) (Rect.unit (s := S1024x1024) ![0, 512] S1024x512.size inb_S1024x1024_S1024x512_0_512)) y
      = acc y + part m 512 c p y := by
  rw [stepB_at]
  unfold part
  refine congrArg _ (Fin.sum_fin_congr fun k => ?_)
  pointwise

theorem parts (o : Fin 513) (c : Dev nD) (t : Fin cfg0.N) (h : t.val % 4 = 3) (y : S1x512x1408.Idx) (z : S4x512x1408.Idx)
    (h0 : (z 0 : ℕ) = t.val / 4) (h1 : (z 1 : ℕ) = y 1) (h2 : (z 2 : ℕ) = y 2) :
    ∑ s : Fin 4, part m o c ⟨4 * (t.val / 4) + s, Pipeline.run_point_lt_of_flush t h s⟩ y
      = grad o (m ((c.tc : Thread nD τ).loc main_arg0)) (m ((c.tc : Thread nD τ).loc main_arg1)) z := by
  unfold grad part
  refine Fin.sum_mul_add_congr fun s k hl => ?_
  blk_point [iblk, V, idx ⟨_, Pipeline.run_point_lt_of_flush t h s⟩]

theorem sumA (c : Dev nD) (t : Fin cfg0.N) (h : t.val % 4 = 3) (y : S1x512x1408.Idx) :
    (outsAt0 m c t.val t.isLt).1 y = ∑ s : Fin 4, part m 0 c ⟨4 * (t.val / 4) + s, Pipeline.run_point_lt_of_flush t h s⟩ y := by
  rw [Pipeline.eq_sum_fin_of_reset_step_apply_of_flush (fun n h => (outsAt0 m c n h).1) 4 (fun _ => 0) (fun p y => part m 0 c p y)
    (fun t h y => by rw [outsAt0_A m c t h (by omega)]; frame_out; exact (partA m c t _ y).trans (by rw [zeroA_at]))
    (fun t h y => by
      by_cases h1 : t.val % 4 = 3
      · rw [outsAt0_C m c t h h1]; frame_out; exact partA m c t _ y
      · rw [outsAt0_B m c t h h1]; frame_out; exact partA m c t _ y)
    t h y, zero_add]
theorem sumB (c : Dev nD) (t : Fin cfg0.N) (h : t.val % 4 = 3) (y : S1x512x1408.Idx) :
    (outsAt0 m c t.val t.isLt).2.1 y = ∑ s : Fin 4, part m 512 c ⟨4 * (t.val / 4) + s, Pipeline.run_point_lt_of_flush t h s⟩ y := by
  rw [Pipeline.eq_sum_fin_of_reset_step_apply_of_flush (fun n h => (outsAt0 m c n h).2.1) 4 (fun _ => 0) (fun p y => part m 512 c p y)
    (fun t h y => by rw [outsAt0_A m c t h (by omega)]; frame_out; exact (partB m c t _ y).trans (by rw [zeroB_at]))
    (fun t h y => by
      by_cases h1 : t.val % 4 = 3
      · rw [outsAt0_C m c t h h1]; frame_out; exact partB m c t _ y
      · rw [outsAt0_B m c t h h1]; frame_out; exact partB m c t _ y)
    t h y, zero_add]

/-- The copies the last point of a slot writes are of the sums it leaves. -/
theorem copyA (c : Dev nD) (t : Fin cfg0.N) (h : t.val % 4 = 3) (y : S1x512x1408.Idx) :
    (outsAt0 m c t.val t.isLt).2.2.1 y = (outsAt0 m c t.val t.isLt).1 y := by
  rw [outsAt0_C m c t (by omega) h]
  frame_out
  exact copyA_at _ y
theorem copyB (c : Dev nD) (t : Fin cfg0.N) (h : t.val % 4 = 3) (y : S1x512x1408.Idx) :
    (outsAt0 m c t.val t.isLt).2.2.2 y = (outsAt0 m c t.val t.isLt).2.1 y := by
  rw [outsAt0_C m c t (by omega) h]
  frame_out
  exact copyB_at _ y

theorem top_array (c : Dev nD) : (dats m 0 c).arrAt 2 cfg0.N
    = grad 0 (m ((c.tc : Thread nD τ).loc main_arg0)) (m ((c.tc : Thread nD τ).loc main_arg1)) := by
  refine (dats m 0 c).arrAt_eq_of_covers 2 _ (by decide +kernel) fun t hf y => ?_
  have h := (flush0_2 t).mp hf
  blk_simp
  rw [after0_2]
  refine (sumA m c t h _).trans (parts m 0 c t h _ _ ?_ ?_ ?_) <;> blk_simp [idx t] <;> try omega
theorem bot_array (c : Dev nD) : (dats m 0 c).arrAt 3 cfg0.N
    = grad 512 (m ((c.tc : Thread nD τ).loc main_arg0)) (m ((c.tc : Thread nD τ).loc main_arg1)) := by
  refine (dats m 0 c).arrAt_eq_of_covers 3 _ (by decide +kernel) fun t hf y => ?_
  have h := (flush0_3 t).mp hf
  blk_simp
  rw [after0_3]
  refine (sumB m c t h _).trans (parts m 512 c t h _ _ ?_ ?_ ?_) <;> blk_simp [idx t] <;> try omega
theorem top_copy (c : Dev nD) : (dats m 0 c).arrAt 4 cfg0.N
    = grad 0 (m ((c.tc : Thread nD τ).loc main_arg0)) (m ((c.tc : Thread nD τ).loc main_arg1)) := by
  refine (dats m 0 c).arrAt_eq_of_covers 4 _ (by decide +kernel) fun t hf y => ?_
  have h := (flush0_4 t).mp hf
  blk_simp
  rw [after0_4]
  refine (copyA m c t h _).trans ((sumA m c t h _).trans (parts m 0 c t h _ _ ?_ ?_ ?_)) <;> blk_simp [idx t] <;> try omega
theorem bot_copy (c : Dev nD) : (dats m 0 c).arrAt 5 cfg0.N
    = grad 512 (m ((c.tc : Thread nD τ).loc main_arg0)) (m ((c.tc : Thread nD τ).loc main_arg1)) := by
  refine (dats m 0 c).arrAt_eq_of_covers 5 _ (by decide +kernel) fun t hf y => ?_
  have h := (flush0_5 t).mp hf
  blk_simp
  rw [after0_5]
  refine (copyB m c t h _).trans ((sumB m c t h _).trans (parts m 512 c t h _ _ ?_ ?_ ?_)) <;> blk_simp [idx t] <;> try omega

end Cert.Kernel2Ideal.UpW

end
-- ==== Proof.RefW.lean ====
module

public import proofs.«01_k».proof.Proof.Gen.Reference3Ideal.Read
public import proofs.«01_k».proof.Proof.Gen.Reference2Ideal.Read
public import Idealize.ShloMosaic.Lib.Pipeline.ValueKit

@[expose] public section

noncomputable section

open Idealize.ShloMosaic Idealize.ShloMosaic.TcCoe Idealize.ShloMosaic.StableHlo
open scoped BigOperators

namespace Cert.Reference3Ideal.RefW
open Cert.Reference3Ideal Cert.Reference3Ideal.Gen Cert.Reference3Ideal.Read

theorem v3_at (a : Vec Ideal S4096x2816 .bf16) (g : Vec Ideal S4096x1024 .bf16) (y : S2816x1024.Idx) :
    val_main_v3 a g y = ∑ l : Fin 4096, a (ix2 l (y 0)) * g (ix2 l (y 1)) := by
  unfold val_main_v3 val_main_v2 val_main_v1 val_main_v0
  pointwise
  exact Fin.sum_fin_congr fun l => mul_comm _ _

end Cert.Reference3Ideal.RefW

namespace Cert.Reference2Ideal.RefW
open Cert.Reference2Ideal Cert.Reference2Ideal.Gen Cert.Reference2Ideal.Read

theorem v6_at (d : Vec Ideal S2x4096x2816 .bf16) (l : Fin 4096) (n : Fin 5632) :
    val_main_v6 d (ix2 l n) = d (ix3 ⟨n / 2816, by omega⟩ l ⟨n % 2816, by omega⟩) := by
  unfold val_main_v6 val_main_v5 val_main_v4 val_main_v3 val_main_v2 val_main_v1
  pointwise
  split <;> blk_ext []

theorem v8_at (h : Vec Ideal S4096x1024 .bf16) (d : Vec Ideal S2x4096x2816 .bf16) (r : Fin 1024) (n : Fin 5632) :
    val_main_v8 h d (ix2 r n) = ∑ l : Fin 4096, h (ix2 l r) * d (ix3 ⟨n / 2816, by omega⟩ l ⟨n % 2816, by omega⟩) := by
  unfold val_main_v8 val_main_v7
  have e : val_main_v0 (F := Ideal) h = h := rfl
  rw [e]
  have e6 := v6_at d
  generalize val_main_v6 d = x at e6
  pointwise
  exact Fin.sum_fin_congr fun l => (mul_comm _ _).trans (congrArg _ (e6 l n))

/-- Slot `j` of the top half of the rows, and of the bottom half. -/
theorem v12_at (h : Vec Ideal S4096x1024 .bf16) (d : Vec Ideal S2x4096x2816 .bf16) (j : Fin 4) (r : Fin 512) (n : Fin 1408) :
    val_main_v12 h d (ix3 j r n) = ∑ l : Fin 4096, h (ix2 l ⟨r, by omega⟩) * d (ix3 ⟨j / 2, by omega⟩ l ⟨j % 2 * 1408 + n, by omega⟩) := by
  unfold val_main_v12 val_main_v11 val_main_v10 val_main_v9
  have e8 := v8_at h d
  generalize val_main_v8 h d = x at e8
  pointwise
  refine Eq.trans ?_ ((e8 ⟨r, by omega⟩ ⟨j * 1408 + n, by omega⟩).trans (Fin.sum_fin_congr fun l => ?_))
  · blk_ext []
  · refine congrArg _ ?_; blk_ext []
theorem v14_at (h : Vec Ideal S4096x1024 .bf16) (d : Vec Ideal S2x4096x2816 .bf16) (j : Fin 4) (r : Fin 512) (n : Fin 1408) :
    val_main_v14 h d (ix3 j r n) = ∑ l : Fin 4096, h (ix2 l ⟨512 + r, by omega⟩) * d (ix3 ⟨j / 2, by omega⟩ l ⟨j % 2 * 1408 + n, by omega⟩) := by
  unfold val_main_v14 val_main_v13 val_main_v10 val_main_v9
  have e8 := v8_at h d
  generalize val_main_v8 h d = x at e8
  pointwise
  refine Eq.trans ?_ ((e8 ⟨512 + r, by omega⟩ ⟨j * 1408 + n, by omega⟩).trans (Fin.sum_fin_congr fun l => ?_))
  · blk_ext []
  · refine congrArg _ ?_; blk_ext []

end Cert.Reference2Ideal.RefW
end
-- ==== Proof.Call2.lean ====
/- The up projection's weight gradient: its claims. -/
module

public import proofs.«01_k».proof.Defs
public import proofs.«01_k».proof.Proof.Gen.Kernel2
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.UpW
public import proofs.«01_k».proof.Proof.RefW
public import Idealize.ShloMosaic.Adequacy
public import Idealize.ShloMosaic.Init

@[expose] public section

noncomputable section

namespace Cert.Call2

open Idealize.ShloMosaic Idealize.SL.Sem
open scoped BigOperators

/-- The two programs have one text: their tables of bodies are the same. -/
theorem defs_eq {F : FTy → Type} [FloatOps F] : Cert.Kernel2Ideal.defs (F := F) = Cert.Kernel2.defs := by
  have h : Cert.Kernel2Ideal.defs₀ (F := F) = Cert.Kernel2.defs₀ := by
    unfold Cert.Kernel2Ideal.defs₀ Cert.Kernel2.defs₀
    congr 1
    funext x y
    obtain ⟨n, hn⟩ := x
    cases n with
    | zero => obtain ⟨t, s⟩ := y; rfl
    | succ n => exact absurd hn (Nat.not_lt.2 (Nat.le_add_left _ _))
  unfold Cert.Kernel2Ideal.defs
  rw [h]
  rfl

theorem frame_kernel : Cert.quiescent_Kernel2 := fun m ρ _ => by
  have h := Cert.Kernel2Ideal.Gen.frame (F := Bits) m ρ
  rw [defs_eq] at h
  exact h

theorem frame_kernelIdeal : Cert.quiescent_Kernel2Ideal := fun m ρ _ => Cert.Kernel2Ideal.Gen.frame m ρ

theorem frame_reference : Cert.quiescent_Reference2Ideal := fun m ρ _ =>
  (θ_run Cert.Reference2Ideal.defs _ _).mono (fun r h => ⟨fun c => (h c).2.2.2.2, sem_eq_zero_of_no_sems (by decide) r.2⟩)
    (Cert.Reference2Ideal.Value.run m ρ)

section
open Cert.Reference2Ideal Cert.Reference2Ideal.Read
variable (h : Vec Ideal S4096x1024 .bf16) (d : Vec Ideal S2x4096x2816 .bf16) (y : S4x512x1408.Idx)

theorem grad_top : Cert.Kernel2Ideal.UpW.grad 0 h d y = ∑ l : Fin 4096, h (ix2 l ⟨(y 1).val, by have : (y 1).val < 512 := (y 1).isLt; omega⟩)
    * d (ix3 ⟨(y 0).val / 2, by have : (y 0).val < 4 := (y 0).isLt; omega⟩ l
        ⟨(y 0).val % 2 * 1408 + (y 2).val, by have : (y 2).val < 1408 := (y 2).isLt; omega⟩) := by
  unfold Cert.Kernel2Ideal.UpW.grad
  refine Fin.sum_fin_congr fun l => congrArg (h · * _) (congrArg (ix2 l) (Fin.ext ?_))
  exact Nat.zero_add _
theorem copy_top : val_main_v15 h d y = val_main_v12 h d y := by
  unfold val_main_v15
  generalize val_main_v12 h d = x
  pointwise
theorem copy_bot : val_main_v16 h d y = val_main_v14 h d y := by
  unfold val_main_v16
  generalize val_main_v14 h d = x
  pointwise
end

theorem algebraic : Cert.algebraic_Kernel2Ideal_Reference2Ideal := fun m g m' g' _ heq =>
  ⟨fun c => Cert.Kernel2Ideal.UpW.grad 0 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)), fun c => Cert.Kernel2Ideal.UpW.grad 512 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)), fun c => Cert.Kernel2Ideal.UpW.grad 0 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)), fun c => Cert.Kernel2Ideal.UpW.grad 512 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)),
    (θ_run _ _ _).mono (fun r h c => ⟨(h c).1.trans (Cert.Kernel2Ideal.UpW.top_array m c), (h c).2.1.trans (Cert.Kernel2Ideal.UpW.bot_array m c), (h c).2.2.1.trans (Cert.Kernel2Ideal.UpW.top_copy m c), (h c).2.2.2.1.trans (Cert.Kernel2Ideal.UpW.bot_copy m c), (h c).2.2.2.2⟩)
      (Cert.Kernel2Ideal.Value.run_blocks m g),
    (θ_run _ _ _).mono (fun r h c => by
      obtain ⟨e0, e1⟩ := heq c
      refine ⟨(h c).1.trans ?_, (h c).2.1.trans ?_, (h c).2.2.1.trans ?_, (h c).2.2.2.1.trans ?_, (h c).2.2.2.2⟩
      · rw [Cert.Reference2Ideal.Read.val_main_v12_eq, e0, e1]
        funext y
        exact (congrArg _ (ix3_eta y).symm).trans ((Cert.Reference2Ideal.RefW.v12_at _ _ (y 0) (y 1) (y 2)).trans (grad_top _ _ y).symm)
      · rw [Cert.Reference2Ideal.Read.val_main_v14_eq, e0, e1]
        funext y
        exact (congrArg _ (ix3_eta y).symm).trans (Cert.Reference2Ideal.RefW.v14_at _ _ (y 0) (y 1) (y 2))
      · rw [Cert.Reference2Ideal.Read.val_main_v15_eq, e0, e1]
        funext y
        exact (copy_top _ _ _).trans ((congrArg _ (ix3_eta y).symm).trans ((Cert.Reference2Ideal.RefW.v12_at _ _ (y 0) (y 1) (y 2)).trans (grad_top _ _ y).symm))
      · rw [Cert.Reference2Ideal.Read.val_main_v16_eq, e0, e1]
        funext y
        exact (copy_bot _ _ _).trans ((congrArg _ (ix3_eta y).symm).trans (Cert.Reference2Ideal.RefW.v14_at _ _ (y 0) (y 1) (y 2))))
      (Cert.Reference2Ideal.Value.run m' g')⟩

end Cert.Call2

end
-- ==== Proof.DownW.lean ====
module

public import proofs.«01_k».proof.Proof.Gen.Kernel3Ideal.Value
public import Idealize.ShloMosaic.Lib.Pipeline.ValueKit

@[expose] public section

noncomputable section

namespace Cert.Kernel3Ideal.DownW

open Cert.Kernel3Ideal Cert.Kernel3Ideal.Gen Idealize.ShloMosaic Idealize.ShloMosaic.TcCoe Idealize.ShloMosaic.Pipeline
open scoped BigOperators

variable (m : (ℓ : Loc nD τ sig) → Buf (Elt Ideal) ℓ)

theorem zero_at (j : S2816x1024.Idx) : k0_pay1 (F := Ideal) j = 0 := by pointwise [k0_pay1]
theorem step_at (v3 : Vec Ideal S2816x1024 .f32) (v5 : Vec Ideal S1024x2816 .bf16) (v6 : Vec Ideal S1024x1024 .bf16) (j : S2816x1024.Idx) :
    k0_pay2 v3 v5 v6 j = v3 j + ∑ k : Fin 1024, v5 (ix2 k (j 0)) * v6 (ix2 k (j 1)) := by pointwise [k0_pay2]
theorem copy_at (v : Vec Ideal S2816x1024 .f32) (j : S2816x1024.Idx) : k0_pay3 v j = v j := by
  pointwise [k0_pay3]

theorem idx : ∀ t : Fin cfg0.N, win0_0.index t = ![t.val, 0] ∧ win0_1.index t = ![t.val, 0] ∧ win0_2.index t = ![0, 0] ∧ win0_3.index t = ![0, 0] :=
  (by decide +kernel : ∀ t : Fin grid0.N, _)

/-- The weight's gradient: the sum over the tokens. -/
def grad (a : Vec Ideal S4096x2816 .bf16) (g : Vec Ideal S4096x1024 .bf16) (y : S2816x1024.Idx) : EReal :=
  ∑ l : Fin 4096, a (ix2 l (y 0)) * g (ix2 l (y 1))

theorem sum_at (c : Dev nD) (t : Fin cfg0.N) (h : t.val % 4 = 3) (j : S2816x1024.Idx) :
    (outsAt0 m c t.val t.isLt).1 j = grad (m ((c.tc : Thread nD τ).loc main_arg0)) (m ((c.tc : Thread nD τ).loc main_arg1)) j := by
  rw [Pipeline.eq_sum_fin_of_reset_step_apply_of_flush (fun n h => (outsAt0 m c n h).1) 4 (fun _ => 0) (fun p j => ∑ k : Fin 1024, (show Vec Ideal S1024x2816 .bf16 from iblk m c 0 p) (ix2 k (j 0)) * (show Vec Ideal S1024x1024 .bf16 from iblk m c 1 p) (ix2 k (j 1)))
    (fun t h j => by rw [outsAt0_A m c t h (by omega)]; frame_out; rw [step_at, zero_at])
    (fun t h j => by
      by_cases h1 : t.val % 4 = 3
      · rw [outsAt0_C m c t h h1]; frame_out; rw [step_at]
      · rw [outsAt0_B m c t h h1]; frame_out; rw [step_at])
    t h j, zero_add]
  unfold grad
  refine Fin.sum_mul_add_congr fun s k hl => ?_
  blk_point [iblk, V, idx t, idx ⟨_, Pipeline.run_point_lt_of_flush t h s⟩]

/-- The copy the last point writes is of the sum it leaves. -/
theorem copy_last (c : Dev nD) (t : Fin cfg0.N) (h : t.val % 4 = 3) (j : S2816x1024.Idx) :
    (outsAt0 m c t.val t.isLt).2 j = (outsAt0 m c t.val t.isLt).1 j := by
  rw [outsAt0_C m c t (by omega) h]
  frame_out
  exact copy_at _ j

theorem grad_array (c : Dev nD) : (dats m 0 c).arrAt 2 cfg0.N
    = grad (m ((c.tc : Thread nD τ).loc main_arg0)) (m ((c.tc : Thread nD τ).loc main_arg1)) := by
  refine (dats m 0 c).arrAt_eq_of_covers 2 _ (by decide +kernel) fun t hf y => ?_
  blk_simp
  rw [after0_2]
  refine (sum_at m c t ((flush0_2 t).mp hf) _).trans (congrArg _ ?_)
  blk_ext [idx t]
theorem copy_array (c : Dev nD) : (dats m 0 c).arrAt 3 cfg0.N
    = grad (m ((c.tc : Thread nD τ).loc main_arg0)) (m ((c.tc : Thread nD τ).loc main_arg1)) := by
  refine (dats m 0 c).arrAt_eq_of_covers 3 _ (by decide +kernel) fun t hf y => ?_
  blk_simp
  rw [after0_3]
  refine (copy_last m c t ((flush0_3 t).mp hf) _).trans ((sum_at m c t ((flush0_3 t).mp hf) _).trans (congrArg _ ?_))
  blk_ext [idx t]

end Cert.Kernel3Ideal.DownW

end
-- ==== Proof.Call3.lean ====
/- The down projection's weight gradient: its claims. -/
module

public import proofs.«01_k».proof.Defs
public import proofs.«01_k».proof.Proof.Gen.Kernel3
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.DownW
public import proofs.«01_k».proof.Proof.RefW
public import Idealize.ShloMosaic.Adequacy
public import Idealize.ShloMosaic.Init

@[expose] public section

noncomputable section

namespace Cert.Call3

open Idealize.ShloMosaic Idealize.SL.Sem
open scoped BigOperators

/-- The two programs have one text: their tables of bodies are the same. -/
theorem defs_eq {F : FTy → Type} [FloatOps F] : Cert.Kernel3Ideal.defs (F := F) = Cert.Kernel3.defs := by
  have h : Cert.Kernel3Ideal.defs₀ (F := F) = Cert.Kernel3.defs₀ := by
    unfold Cert.Kernel3Ideal.defs₀ Cert.Kernel3.defs₀
    congr 1
    funext x y
    obtain ⟨n, hn⟩ := x
    cases n with
    | zero => obtain ⟨t, s⟩ := y; rfl
    | succ n => exact absurd hn (Nat.not_lt.2 (Nat.le_add_left _ _))
  unfold Cert.Kernel3Ideal.defs
  rw [h]
  rfl

theorem frame_kernel : Cert.quiescent_Kernel3 := fun m ρ _ => by
  have h := Cert.Kernel3Ideal.Gen.frame (F := Bits) m ρ
  rw [defs_eq] at h
  exact h

theorem frame_kernelIdeal : Cert.quiescent_Kernel3Ideal := fun m ρ _ => Cert.Kernel3Ideal.Gen.frame m ρ

theorem frame_reference : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run m ρ)

open Cert.Reference3Ideal Cert.Reference3Ideal.Read in
theorem copy (a : Vec Ideal S4096x2816 .bf16) (g : Vec Ideal S4096x1024 .bf16) (y : S2816x1024.Idx) : val_main_v4 a g y = val_main_v3 a g y := by
  unfold val_main_v4
  generalize val_main_v3 a g = x
  pointwise

theorem algebraic : Cert.algebraic_Kernel3Ideal_Reference3Ideal := fun m g m' g' _ heq =>
  ⟨fun c => Cert.Kernel3Ideal.DownW.grad (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)), fun c => Cert.Kernel3Ideal.DownW.grad (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)),
    (θ_run _ _ _).mono (fun r h c => ⟨(h c).1.trans (Cert.Kernel3Ideal.DownW.grad_array m c), (h c).2.1.trans (Cert.Kernel3Ideal.DownW.copy_array m c), (h c).2.2⟩)
      (Cert.Kernel3Ideal.Value.run_blocks m g),
    (θ_run _ _ _).mono (fun r h c => by
      obtain ⟨e0, e1⟩ := heq c
      refine ⟨(h c).1.trans ?_, (h c).2.1.trans ?_, (h c).2.2⟩
      · rw [Cert.Reference3Ideal.Read.val_main_v3_eq, e0, e1]
        funext y
        exact Cert.Reference3Ideal.RefW.v3_at _ _ y
      · rw [Cert.Reference3Ideal.Read.val_main_v4_eq, e0, e1]
        funext y
        exact (copy _ _ _).trans (Cert.Reference3Ideal.RefW.v3_at _ _ y))
      (Cert.Reference3Ideal.Value.run m' g')⟩

end Cert.Call3

end
-- ==== Proof.Rms.lean ====
/- The gradient through a row's normalisation, in the two ways it is written: with the row's sum taken of the normalised row, and
   as the derivative of the reciprocal root of the mean square. They agree for every row and every arriving gradient. -/
module

public import Idealize.ShloMosaic.PureOps.Ideal
public import Idealize.ShloMosaic.Lib.Pipeline.ValueKit

@[expose] public section

noncomputable section

namespace Cert.Rms

open Idealize.ShloMosaic
open scoped BigOperators

/-- A row's width, the constant under the root, and minus one half, as the programs write them. -/
abbrev w1024 : EReal := Ideal.ofBits .f32 0x44800000#32
abbrev w512 : EReal := Ideal.ofBits .f32 0x44000000#32
abbrev eps : EReal := Ideal.ofBits .f32 0x358637BD#32
abbrev mhalf : EReal := Ideal.ofBits .f32 0xBF000000#32

theorem w1024_eq : w1024 = ((1024 : ℝ) : EReal) := by
  simp [w1024, Ideal.ofBits, Ideal.ieee]
  rw [← EReal.coe_mul]
  norm_num
theorem w512_eq : w512 = ((512 : ℝ) : EReal) := by
  simp [w512, Ideal.ofBits, Ideal.ieee]
  rw [← EReal.coe_mul]
  norm_num
theorem eps_eq : ∃ e : ℝ, 0 < e ∧ eps = (e : EReal) := by
  refine ⟨8796093 * (1 / 8796093022208), by norm_num, ?_⟩
  simp [eps, Ideal.ofBits, Ideal.ieee]
  norm_num
theorem mhalf_eq : mhalf = ((-(1 / 2) : ℝ) : EReal) := by
  simp [mhalf, Ideal.ofBits, Ideal.ieee]
  rw [← EReal.coe_mul]
  norm_num

variable {n : ℕ} (N : EReal) (x d : Fin n → EReal)

/-- The mean square and the constant; the reciprocal root; the normalised row. -/
def var : EReal := Ideal.div (∑ k, x k * x k) N + eps
def inv : EReal := Ideal.rsqrt (var N x)
def norm (j : Fin n) : EReal := x j * inv N x
/-- The gradient by the row, where `d` arrives. -/
def back (j : Fin n) : EReal := inv N x * (d j - norm N x j * Ideal.div (∑ k, d k * norm N x k) N)
/-- The derivative by the mean square, spread over the row. -/
def slope : EReal := Ideal.div ((∑ k, x k * d k) * (mhalf * Ideal.div (inv N x) (var N x))) N

theorem sq_nonneg (a : EReal) : 0 ≤ a * a := by
  induction a with
  | bot => simp
  | top => simp
  | coe r => exact_mod_cast mul_self_nonneg r

theorem real_of_sq {a : EReal} (h : a * a ≠ ⊤) : ∃ r : ℝ, a = r := by
  induction a with
  | bot => simp at h
  | top => simp at h
  | coe r => exact ⟨r, rfl⟩

theorem coe_mul_add (r : ℝ) (hr : 0 ≤ r) (y z : EReal) : (r : EReal) * (y + z) = r * y + r * z :=
  EReal.left_distrib_of_nonneg_of_ne_top (by exact_mod_cast hr) (EReal.coe_ne_top r) y z

theorem coe_mul_sum (r : ℝ) (hr : 0 ≤ r) (f : Fin n → EReal) : ∑ k, (r : EReal) * f k = r * ∑ k, f k := by
  refine (map_sum (⟨⟨fun y => (r : EReal) * y, mul_zero _⟩, fun y z => coe_mul_add r hr y z⟩ : EReal →+ EReal) f Finset.univ).symm

theorem double (a : ℝ) (s : EReal) : (a : EReal) * s + a * s = ((2 * a : ℝ) : EReal) * s := by
  induction s with
  | bot =>
    rcases lt_trichotomy a 0 with h | h | h
    · rw [EReal.coe_mul_bot_of_neg h, EReal.coe_mul_bot_of_neg (by linarith)]; rfl
    · subst h; simp
    · rw [EReal.coe_mul_bot_of_pos h, EReal.coe_mul_bot_of_pos (by linarith)]; rfl
  | top =>
    rcases lt_trichotomy a 0 with h | h | h
    · rw [EReal.coe_mul_top_of_neg h, EReal.coe_mul_top_of_neg (by linarith)]; rfl
    · subst h; simp
    · rw [EReal.coe_mul_top_of_pos h, EReal.coe_mul_top_of_pos (by linarith)]; rfl
  | coe s => norm_cast; ring_nf

theorem div_coe (z : EReal) (ν : ℝ) (h : ν ≠ 0) : Ideal.div z (ν : EReal) = z * ((ν⁻¹ : ℝ) : EReal) := by
  unfold Ideal.div
  rw [if_neg (by exact_mod_cast h), EReal.coe_inv]

theorem core (a δ S : EReal) (y r w ν : ℝ) (hν : ν ≠ 0) (hw : w ≠ 0) (hr : 0 ≤ r) (hrw : r * r * w = 1) :
    ((a + δ * r) + y * Ideal.div (S * (mhalf * Ideal.div r w)) ν) + Ideal.div (S * (mhalf * Ideal.div r w)) ν * y
      = a + r * (δ - y * r * Ideal.div (r * S) ν) := by
  have e1 : Ideal.div (S * (mhalf * Ideal.div r w)) ν = ((-(1 / 2) * (r * w⁻¹) * ν⁻¹ : ℝ) : EReal) * S := by
    rw [div_coe _ _ hν, div_coe _ _ hw, mhalf_eq, ← EReal.coe_mul, ← EReal.coe_mul, mul_assoc, ← EReal.coe_mul, mul_comm]
  have e2 : (y : EReal) * r * Ideal.div (r * S) ν = ((y * r * r * ν⁻¹ : ℝ) : EReal) * S := by
    rw [div_coe _ _ hν, EReal.coe_mul, EReal.coe_mul, EReal.coe_mul]
    ac_rfl
  have hwi : w⁻¹ = r * r := by field_simp; linarith
  have e3 : ∀ q : ℝ, (y : EReal) * ((q : EReal) * S) + (q : EReal) * S * y = ((2 * (y * q) : ℝ) : EReal) * S := fun q => by
    rw [mul_comm _ (y : EReal), ← mul_assoc, ← EReal.coe_mul, double]
  have e4 : ∀ q : ℝ, (r : EReal) * -((q : EReal) * S) = ((-(r * q) : ℝ) : EReal) * S := fun q => by
    rw [← EReal.neg_mul, ← EReal.coe_neg, ← mul_assoc, ← EReal.coe_mul, mul_neg]
  rw [e1, e2, sub_eq_add_neg, coe_mul_add r hr, e4, add_assoc, e3, add_assoc, mul_comm δ, hwi]
  have e5 : 2 * (y * (-(1 / 2) * (r * (r * r)) * ν⁻¹)) = -(r * (y * r * r * ν⁻¹)) := by ring
  rw [e5]

theorem back_eq (ν : ℝ) (hN : N = (ν : EReal)) (hν : 0 < ν) (a : EReal) (j : Fin n) :
    ((a + d j * inv N x) + x j * slope N x d) + slope N x d * x j = a + back N x d j := by
  subst hN
  obtain ⟨e, he, hε⟩ := eps_eq
  have h0 : 0 ≤ ∑ k, x k * x k := Finset.sum_nonneg fun k _ => sq_nonneg (x k)
  by_cases ht : ∑ k, x k * x k = ⊤
  · have hv : var (ν : EReal) x = ⊤ := by
      unfold var
      rw [ht, div_coe _ _ hν.ne', EReal.top_mul_coe_of_pos (inv_pos.2 hν), hε]
      rfl
    have hi : inv (ν : EReal) x = 0 := by unfold inv; rw [hv]; rfl
    have hs : slope (ν : EReal) x d = 0 := by
      unfold slope
      rw [hv, hi, div_coe _ _ hν.ne']
      have : Ideal.div (0 : EReal) ⊤ = 0 := by unfold Ideal.div; simp
      rw [this]
      simp
    unfold back
    rw [hi, hs]
    simp
  · have hx : ∀ k, ∃ r : ℝ, x k = r := fun k => real_of_sq fun h => ht (top_le_iff.1 (h ▸
      Finset.single_le_sum (f := fun k => x k * x k) (fun k _ => sq_nonneg (x k)) (Finset.mem_univ k)))
    obtain ⟨q, hq⟩ : ∃ q : ℝ, ∑ k, x k * x k = q := by
      induction h : ∑ k, x k * x k with
      | bot => rw [h] at h0; exact absurd h0 (by simp)
      | top => exact absurd h ht
      | coe q => exact ⟨q, rfl⟩
    have hq0 : 0 ≤ q := by rw [hq] at h0; exact_mod_cast h0
    have hw : 0 < q * ν⁻¹ + e := by positivity
    have hv : var (ν : EReal) x = ((q * ν⁻¹ + e : ℝ) : EReal) := by
      unfold var
      rw [hq, div_coe _ _ hν.ne', hε]
      norm_cast
    generalize q * ν⁻¹ + e = w at hw hv
    have hi : inv (ν : EReal) x = (((Real.sqrt w)⁻¹ : ℝ) : EReal) := by
      unfold inv
      rw [hv, Ideal.rsqrt_coe, if_neg (not_lt.2 hw.le), if_neg hw.ne']
    have hr : 0 ≤ (Real.sqrt w)⁻¹ := by positivity
    have hrw : (Real.sqrt w)⁻¹ * (Real.sqrt w)⁻¹ * w = 1 := by
      rw [← mul_inv, Real.mul_self_sqrt hw.le, inv_mul_cancel₀ hw.ne']
    obtain ⟨y, hy⟩ := hx j
    have hS : ∑ k, d k * norm (ν : EReal) x k = (((Real.sqrt w)⁻¹ : ℝ) : EReal) * ∑ k, x k * d k := by
      rw [← coe_mul_sum _ hr]
      refine Finset.sum_congr rfl fun k _ => ?_
      unfold norm
      rw [hi]
      ac_rfl
    unfold back slope
    rw [hS, hv]
    unfold norm
    rw [hi, hy]
    exact core a (d j) _ y _ w ν hν.ne' hw.ne' hr hrw

end Cert.Rms

end
-- ==== Proof.UpRows.lean ====
/- The gradient through the up projection and the row normalisation before it: a point's rows as functions of the arguments. -/
module

public import proofs.«01_k».proof.Proof.Gen.Kernel4Ideal.Value
public import proofs.«01_k».proof.Proof.Rms
public import Idealize.ShloMosaic.Lib.Pipeline.ValueKit

@[expose] public section

noncomputable section

namespace Cert.Kernel4Ideal.UpBack

open Cert.Kernel4Ideal Cert.Kernel4Ideal.Gen Idealize.ShloMosaic Idealize.ShloMosaic.TcCoe Idealize.ShloMosaic.Pipeline
open scoped BigOperators

/-- The arguments: the gradient by the two halves of the up projection, the two halves of its weight in slots of columns, the rows
    normalised, the modulation of each half of the rows, the scale of the normalisation, the gradient by the sum behind, and the mixer's rows. -/
structure Args where
  du : Vec Ideal S2x4096x2816 .bf16
  wa : Vec Ideal S4x512x1408 .bf16
  wb : Vec Ideal S4x512x1408 .bf16
  x1 : Vec Ideal S4096x1024 .f32
  md : Vec Ideal S2x1x6144 .f32
  g : Vec Ideal S1x1024 .f32
  dx2 : Vec Ideal S4096x1024 .f32
  mix : Vec Ideal S4096x1024 .f32

namespace Args

variable (A : Args)

/-- The weight at row `k` and column `q` of slot `j`. -/
def w (j : Fin 4) (k : Fin 1024) (q : Fin 1408) : EReal :=
  if h : k.val < 512 then A.wa (ix3 j ⟨k, h⟩ q) else A.wb (ix3 j ⟨k.val - 512, by omega⟩ q)
/-- The gradient by the modulated row. -/
def dh (l : Fin 4096) (k : Fin 1024) : EReal :=
  ∑ j : Fin 4, ∑ q : Fin 1408, A.du (ix3 ⟨j.val / 2, by omega⟩ l ⟨j.val % 2 * 1408 + q.val, by omega⟩) * A.w j k q
def gate (l : Fin 4096) (k : Fin 1024) : EReal := A.md (ix3 ⟨l.val / 2048, by omega⟩ 0 ⟨2048 + k.val, by omega⟩)
def scale (l : Fin 4096) (k : Fin 1024) : EReal := A.md (ix3 ⟨l.val / 2048, by omega⟩ 0 ⟨4096 + k.val, by omega⟩)
def x (l : Fin 4096) (k : Fin 1024) : EReal := A.x1 (ix2 l k)
/-- The gradient by the normalised and scaled row. -/
def dxg (l : Fin 4096) (k : Fin 1024) : EReal := A.dh l k * (1 + A.scale l k)
def dxn (l : Fin 4096) (k : Fin 1024) : EReal := A.dxg l k * A.g (ix2 0 k)
def xn (l : Fin 4096) : Fin 1024 → EReal := Rms.norm Rms.w1024 (A.x l)
def dx1 (l : Fin 4096) (k : Fin 1024) : EReal := A.dx2 (ix2 l k) + Rms.back Rms.w1024 (A.x l) (A.dxn l) k
def dmix (l : Fin 4096) (k : Fin 1024) : EReal := A.dx1 l k * A.gate l k
def row (b : Fin 2) (s : Fin 2048) : Fin 4096 := ⟨b.val * 2048 + s.val, by omega⟩
def dshift (b : Fin 2) (k : Fin 1024) : EReal := ∑ s : Fin 2048, A.dh (row b s) k
def dscale (b : Fin 2) (k : Fin 1024) : EReal := ∑ s : Fin 2048, A.dh (row b s) k * (A.xn (row b s) k * A.g (ix2 0 k))
def dgate (b : Fin 2) (k : Fin 1024) : EReal := ∑ s : Fin 2048, A.dx1 (row b s) k * A.mix (ix2 (row b s) k)
def dg (k : Fin 1024) : EReal := ∑ l : Fin 4096, A.dxg l k * A.xn l k

end Args

variable (m : (ℓ : Loc nD τ sig) → Buf (Elt Ideal) ℓ)

def ins (c : Dev nD) : Args :=
  ⟨m ((c.tc : Thread nD τ).loc main_arg0), m ((c.tc : Thread nD τ).loc main_arg1), m ((c.tc : Thread nD τ).loc main_arg2),
    m ((c.tc : Thread nD τ).loc main_arg3), m ((c.tc : Thread nD τ).loc main_arg4), m ((c.tc : Thread nD τ).loc main_arg5),
    m ((c.tc : Thread nD τ).loc main_arg6), m ((c.tc : Thread nD τ).loc main_arg7)⟩

theorem idx : ∀ t : Fin cfg0.N, win0_0.index t = ![0, t.val, 0] ∧ win0_1.index t = ![0, 0, 0] ∧ win0_2.index t = ![0, 0, 0]
    ∧ win0_3.index t = ![t.val, 0] ∧ win0_4.index t = ![t.val / 4, 0, 0] ∧ win0_5.index t = ![0, 0] ∧ win0_6.index t = ![t.val, 0]
    ∧ win0_7.index t = ![t.val, 0] ∧ win0_8.index t = ![t.val, 0] ∧ win0_9.index t = ![t.val, 0] ∧ win0_10.index t = ![t.val / 4, 0, 0]
    ∧ win0_11.index t = ![t.val / 4, 0, 0] ∧ win0_12.index t = ![t.val / 4, 0, 0] ∧ win0_13.index t = ![0, 0] :=
  (by decide +kernel : ∀ t : Fin grid0.N, _)
theorem points : cfg0.N = 8 := by decide +kernel

def prow (p : Fin cfg0.N) (i : Fin 512) : Fin 4096 := ⟨p.val * 512 + i.val, by have := lt_of_lt_of_eq p.isLt points; omega⟩

/-- A point's sum over the four slots, at a column of the left half and at one of the right. -/
theorem left_at (d0 a0 d1 a1 d2 a2 d3 a3 b0 b1 b2 b3 : Vec Ideal S1x512x1408 .bf16) (i : Fin 512) (k : Fin 1024) (h : k.val < 512) :
    k0_pay5 (k0_pay3 d0 a0 d1 a1 d2 a2 d3 a3) k0_pay4 d0 b0 d1 b1 d2 b2 d3 b3 (ix2 i k)
      = (((∑ q : Fin 1408, d0 (ix3 0 i q) * a0 (ix3 0 ⟨k.val, h⟩ q)) + ∑ q : Fin 1408, d1 (ix3 0 i q) * a1 (ix3 0 ⟨k.val, h⟩ q)) + ∑ q : Fin 1408, d2 (ix3 0 i q) * a2 (ix3 0 ⟨k.val, h⟩ q)) + ∑ q : Fin 1408, d3 (ix3 0 i q) * a3 (ix3 0 ⟨k.val, h⟩ q) := by
  pointwise [k0_pay5, k0_pay4, k0_pay3]
  exact dif_pos h
theorem right_at (d0 a0 d1 a1 d2 a2 d3 a3 b0 b1 b2 b3 : Vec Ideal S1x512x1408 .bf16) (i : Fin 512) (k : Fin 1024) (h : ¬ k.val < 512) :
    k0_pay5 (k0_pay3 d0 a0 d1 a1 d2 a2 d3 a3) k0_pay4 d0 b0 d1 b1 d2 b2 d3 b3 (ix2 i k)
      = (((∑ q : Fin 1408, d0 (ix3 0 i q) * b0 (ix3 0 ⟨k.val - 512, by omega⟩ q)) + ∑ q : Fin 1408, d1 (ix3 0 i q) * b1 (ix3 0 ⟨k.val - 512, by omega⟩ q)) + ∑ q : Fin 1408, d2 (ix3 0 i q) * b2 (ix3 0 ⟨k.val - 512, by omega⟩ q)) + ∑ q : Fin 1408, d3 (ix3 0 i q) * b3 (ix3 0 ⟨k.val - 512, by omega⟩ q) := by
  pointwise [k0_pay5, k0_pay4, k0_pay3]
  exact dif_neg h

/-- The gradient by a point's modulated rows, and the modulation's scale there. -/
def dhB (c : Dev nD) (t : Fin cfg0.N) : FVec Ideal S512x1024 .f32 :=
  k0_pay5
    (k0_pay3 (View.ld (iblk m c 0 t) (Rect.unit ![0, 0, 0] ![1, 512, 1408] inb_S2x512x2816_S1x512x1408_0_0_0))
      (View.ld (iblk m c 1 t) (Rect.unit ![0, 0, 0] ![1, 512, 1408] inb_S4x512x1408_S1x512x1408_0_0_0))
      (View.ld (iblk m c 0 t) (Rect.unit ![0, 0, 1408] ![1, 512, 1408] inb_S2x512x2816_S1x512x1408_0_0_1408))
      (View.ld (iblk m c 1 t) (Rect.unit ![1, 0, 0] ![1, 512, 1408] inb_S4x512x1408_S1x512x1408_1_0_0))
      (View.ld (iblk m c 0 t) (Rect.unit ![1, 0, 0] ![1, 512, 1408] inb_S2x512x2816_S1x512x1408_1_0_0))
      (View.ld (iblk m c 1 t) (Rect.unit ![2, 0, 0] ![1, 512, 1408] inb_S4x512x1408_S1x512x1408_2_0_0))
      (View.ld (iblk m c 0 t) (Rect.unit ![1, 0, 1408] ![1, 512, 1408] inb_S2x512x2816_S1x512x1408_1_0_1408))
      (View.ld (iblk m c 1 t) (Rect.unit ![3, 0, 0] ![1, 512, 1408] inb_S4x512x1408_S1x512x1408_3_0_0)))
    k0_pay4 (View.ld (iblk m c 0 t) (Rect.unit ![0, 0, 0] ![1, 512, 1408] inb_S2x512x2816_S1x512x1408_0_0_0))
    (View.ld (iblk m c 2 t) (Rect.unit ![0, 0, 0] ![1, 512, 1408] inb_S4x512x1408_S1x512x1408_0_0_0))
    (View.ld (iblk m c 0 t) (Rect.unit ![0, 0, 1408] ![1, 512, 1408] inb_S2x512x2816_S1x512x1408_0_0_1408))
    (View.ld (iblk m c 2 t) (Rect.unit ![1, 0, 0] ![1, 512, 1408] inb_S4x512x1408_S1x512x1408_1_0_0))
    (View.ld (iblk m c 0 t) (Rect.unit ![1, 0, 0] ![1, 512, 1408] inb_S2x512x2816_S1x512x1408_1_0_0))
    (View.ld (iblk m c 2 t) (Rect.unit ![2, 0, 0] ![1, 512, 1408] inb_S4x512x1408_S1x512x1408_2_0_0))
    (View.ld (iblk m c 0 t) (Rect.unit ![1, 0, 1408] ![1, 512, 1408] inb_S2x512x2816_S1x512x1408_1_0_1408))
    (View.ld (iblk m c 2 t) (Rect.unit ![3, 0, 0] ![1, 512, 1408] inb_S4x512x1408_S1x512x1408_3_0_0))
def gateB (c : Dev nD) (t : Fin cfg0.N) : FVec Ideal S1x1024 .f32 :=
  k0_pay6 (View.ld (iblk m c 4 t) (Rect.unit ![0, 0, 2048] ![1, 1, 1024] inb_S1x1x6144_S1x1x1024_0_0_2048))
def scaleB (c : Dev nD) (t : Fin cfg0.N) : FVec Ideal S1x1024 .f32 :=
  k0_pay7 (View.ld (iblk m c 4 t) (Rect.unit ![0, 0, 4096] ![1, 1, 1024] inb_S1x1x6144_S1x1x1024_0_0_4096))

section point
variable (c : Dev nD) (t : Fin cfg0.N) (i : Fin 512) (k : Fin 1024)

theorem dh_at : dhB m c t (ix2 i k) = (ins m c).dh (prow t i) k := by
  unfold dhB Args.dh
  rw [Fin.sum_univ_four]
  by_cases h : k.val < 512
  · refine (left_at _ _ _ _ _ _ _ _ _ _ _ _ i k h).trans ?_
    refine congrArg₂ (· + ·) (congrArg₂ (· + ·) (congrArg₂ (· + ·) (Fin.sum_fin_congr fun q => ?_) (Fin.sum_fin_congr fun q => ?_))
      (Fin.sum_fin_congr fun q => ?_)) (Fin.sum_fin_congr fun q => ?_) <;> unfold Args.w prow ins <;> rw [dif_pos h] <;> dsimp only <;>
      blk_point [iblk, V, idx t]
  · refine (right_at _ _ _ _ _ _ _ _ _ _ _ _ i k h).trans ?_
    refine congrArg₂ (· + ·) (congrArg₂ (· + ·) (congrArg₂ (· + ·) (Fin.sum_fin_congr fun q => ?_) (Fin.sum_fin_congr fun q => ?_))
      (Fin.sum_fin_congr fun q => ?_)) (Fin.sum_fin_congr fun q => ?_) <;> unfold Args.w prow ins <;> rw [dif_neg h] <;> dsimp only <;>
      blk_point [iblk, V, idx t]
theorem gateP_at (v : Vec Ideal S1x1x1024 .f32) : k0_pay6 v (ix2 0 k) = v (ix3 0 0 k) := by pointwise [k0_pay6]
theorem scaleP_at (v : Vec Ideal S1x1x1024 .f32) : k0_pay7 v (ix2 0 k) = v (ix3 0 0 k) := by pointwise [k0_pay7]
theorem gate_at : gateB m c t (ix2 0 k) = (ins m c).gate (prow t i) k := by
  unfold gateB Args.gate
  refine (gateP_at k _).trans ?_
  unfold prow ins
  dsimp only
  blk_point [iblk, V, idx t]
theorem scale_at : scaleB m c t (ix2 0 k) = (ins m c).scale (prow t i) k := by
  unfold scaleB Args.scale
  refine (scaleP_at k _).trans ?_
  unfold prow ins
  dsimp only
  blk_point [iblk, V, idx t]
theorem x_at : (show Vec Ideal S512x1024 .f32 from iblk m c 3 t) (ix2 i k) = (ins m c).x (prow t i) k := by
  unfold Args.x prow ins
  blk_point [iblk, V, idx t]
theorem g_at : (show Vec Ideal S1x1024 .f32 from iblk m c 5 t) (ix2 0 k) = (ins m c).g (ix2 0 k) := by
  unfold ins
  dsimp only
  blk_point [iblk, V, idx t]
theorem dx2_at : (show Vec Ideal S512x1024 .f32 from iblk m c 6 t) (ix2 i k) = (ins m c).dx2 (ix2 (prow t i) k) := by
  unfold prow ins
  dsimp only
  blk_point [iblk, V, idx t]
theorem mix_at : (show Vec Ideal S512x1024 .f32 from iblk m c 7 t) (ix2 i k) = (ins m c).mix (ix2 (prow t i) k) := by
  unfold prow ins
  dsimp only
  blk_point [iblk, V, idx t]

end point

end Cert.Kernel4Ideal.UpBack

end
-- ==== Proof.UpBack.lean ====
/- The gradient through the up projection and the row normalisation before it: its arrays as functions of the arguments. -/
module

public import proofs.«01_k».proof.Proof.UpRows

@[expose] public section

noncomputable section

namespace Cert.Kernel4Ideal.UpBack

open Cert.Kernel4Ideal Cert.Kernel4Ideal.Gen Idealize.ShloMosaic Idealize.ShloMosaic.TcCoe Idealize.ShloMosaic.Pipeline
open scoped BigOperators

section payloads

variable (a b x d : FVec Ideal S512x1024 .f32) (e f g : FVec Ideal S1x1024 .f32) (acc : Vec Ideal S1x1x1024 .f32) (i : Fin 512) (k : Fin 1024)

theorem inv_at : k0_pay8 (F := Ideal) x (ix2 i 0) = Rms.inv Rms.w1024 (fun k => x (ix2 i k)) := by
  pointwise [k0_pay8]
  rfl
theorem norm_at : k0_pay9 (F := Ideal) x (ix2 i k) = Rms.norm Rms.w1024 (fun k => x (ix2 i k)) k := by
  refine Eq.trans (b := x (ix2 i k) * k0_pay8 (F := Ideal) x (ix2 i 0)) ?_ (congrArg _ (inv_at x i))
  pointwise [k0_pay9]
theorem scaled_at : k0_pay10 x g (ix2 i k) = k0_pay9 x (ix2 i k) * g (ix2 0 k) := by pointwise [k0_pay10]
theorem modulated_at : k0_pay11 a e (ix2 i k) = a (ix2 i k) * (1 + e (ix2 0 k)) := by pointwise [k0_pay11]
theorem back_at : k0_pay12 a e x d g (ix2 i k) = d (ix2 i k)
    + Rms.back Rms.w1024 (fun k => x (ix2 i k)) (fun k => k0_pay11 a e (ix2 i k) * g (ix2 0 k)) k := by
  unfold Rms.back
  rw [← inv_at x i, ← norm_at x i k]
  simp only [← norm_at x i]
  pointwise [k0_pay12]
theorem gated_at : k0_pay13 a f e x d g (ix2 i k) = k0_pay12 a e x d g (ix2 i k) * f (ix2 0 k) := by pointwise [k0_pay13]
theorem shiftStep_at (y : S1x1x1024.Idx) : k0_pay19 a acc y = acc y + ∑ i : Fin 512, a (ix2 i (y 2)) := by pointwise [k0_pay19]
theorem scaleStep_at (y : S1x1x1024.Idx) : k0_pay1 a b (k0_pay20 acc) y = acc y + ∑ i : Fin 512, a (ix2 i (y 2)) * b (ix2 i (y 2)) := by
  pointwise [k0_pay1, k0_pay20]
theorem gateStep_at (y : S1x1x1024.Idx) : k0_pay2 a acc x y = acc y + ∑ i : Fin 512, a (ix2 i (y 2)) * x (ix2 i (y 2)) := by pointwise [k0_pay2]
theorem gStep_at (y : S1x1024.Idx) : k0_pay18 a b e y = e y + ∑ i : Fin 512, b (ix2 i (y 1)) * a (ix2 i (y 1)) := by pointwise [k0_pay18]
theorem zeroG_at (y : S1x1024.Idx) : k0_pay14 (F := Ideal) y = 0 := by pointwise [k0_pay14]
theorem zeroShift_at (y : S1x1x1024.Idx) : k0_pay15 (F := Ideal) y = 0 := by pointwise [k0_pay15]
theorem zeroScale_at (y : S1x1x1024.Idx) : k0_pay16 (F := Ideal) y = 0 := by pointwise [k0_pay16]
theorem zeroGate_at (y : S1x1x1024.Idx) : k0_pay17 (F := Ideal) y = 0 := by pointwise [k0_pay17]

end payloads

variable (m : (ℓ : Loc nD τ sig) → Buf (Elt Ideal) ℓ)

section point
variable (c : Dev nD) (t : Fin cfg0.N) (i : Fin 512) (k : Fin 1024)

theorem row_at : (fun k => (show Vec Ideal S512x1024 .f32 from iblk m c 3 t) (ix2 i k)) = (ins m c).x (prow t i) :=
  funext fun k => x_at m c t i k
theorem xn_at : k0_pay9 (iblk m c 3 t) (ix2 i k) = (ins m c).xn (prow t i) k :=
  (norm_at (iblk m c 3 t) i k).trans (by unfold Args.xn; rw [← row_at])
theorem xg_at : k0_pay10 (iblk m c 3 t) (iblk m c 5 t) (ix2 i k) = (ins m c).xn (prow t i) k * (ins m c).g (ix2 0 k) :=
  (scaled_at (iblk m c 3 t) (iblk m c 5 t) i k).trans (congrArg₂ (· * ·) (xn_at m c t i k) (g_at m c t k))
theorem dxg_at : k0_pay11 (dhB m c t) (scaleB m c t) (ix2 i k) = (ins m c).dxg (prow t i) k := by
  refine (modulated_at (dhB m c t) (scaleB m c t) i k).trans ?_
  rw [dh_at, scale_at m c t i k]
  rfl
theorem dx1_at : k0_pay12 (dhB m c t) (scaleB m c t) (iblk m c 3 t) (iblk m c 6 t) (iblk m c 5 t) (ix2 i k) = (ins m c).dx1 (prow t i) k := by
  refine (back_at (dhB m c t) (iblk m c 3 t) (iblk m c 6 t) (scaleB m c t) (iblk m c 5 t) i k).trans ?_
  unfold Args.dx1
  refine congrArg₂ (· + ·) (dx2_at m c t i k) ?_
  refine congrArg₂ (fun p q => Rms.back Rms.w1024 p q k) (row_at m c t i) (funext fun k => ?_)
  unfold Args.dxn
  exact congrArg₂ (· * ·) (dxg_at m c t i k) (g_at m c t k)
theorem dmix_at : k0_pay13 (dhB m c t) (gateB m c t) (scaleB m c t) (iblk m c 3 t) (iblk m c 6 t) (iblk m c 5 t) (ix2 i k)
    = (ins m c).dmix (prow t i) k := by
  refine (gated_at (dhB m c t) (iblk m c 3 t) (iblk m c 6 t) (scaleB m c t) (gateB m c t) (iblk m c 5 t) i k).trans ?_
  exact congrArg₂ (· * ·) (dx1_at m c t i k) (gate_at m c t i k)

end point

/-- The parts of the sums a point adds. -/
def shiftPart (c : Dev nD) (p : Fin cfg0.N) (y : S1x1x1024.Idx) : EReal := ∑ i : Fin 512, (ins m c).dh (prow p i) (y 2)
def scalePart (c : Dev nD) (p : Fin cfg0.N) (y : S1x1x1024.Idx) : EReal :=
  ∑ i : Fin 512, (ins m c).dh (prow p i) (y 2) * ((ins m c).xn (prow p i) (y 2) * (ins m c).g (ix2 0 (y 2)))
def gatePart (c : Dev nD) (p : Fin cfg0.N) (y : S1x1x1024.Idx) : EReal :=
  ∑ i : Fin 512, (ins m c).dx1 (prow p i) (y 2) * (ins m c).mix (ix2 (prow p i) (y 2))
def gPart (c : Dev nD) (p : Fin cfg0.N) (y : S1x1024.Idx) : EReal := ∑ i : Fin 512, (ins m c).dxg (prow p i) (y 1) * (ins m c).xn (prow p i) (y 1)

section steps
variable (c : Dev nD) (p : Fin cfg0.N) (acc : Vec Ideal S1x1x1024 .f32) (y : S1x1x1024.Idx)

theorem shiftStep : k0_pay19 (dhB m c p) acc y = acc y + shiftPart m c p y := by
  refine (shiftStep_at (dhB m c p) acc y).trans (congrArg _ (Fin.sum_fin_congr fun i => ?_))
  exact dh_at m c p i (y 2)
theorem scaleStep : k0_pay1 (dhB m c p) (k0_pay10 (iblk m c 3 p) (iblk m c 5 p)) (k0_pay20 acc) y = acc y + scalePart m c p y := by
  refine (scaleStep_at (dhB m c p) (k0_pay10 (iblk m c 3 p) (iblk m c 5 p)) acc y).trans (congrArg _ (Fin.sum_fin_congr fun i => ?_))
  exact congrArg₂ (· * ·) (dh_at m c p i (y 2)) (xg_at m c p i (y 2))
theorem gateStep : k0_pay2 (k0_pay12 (dhB m c p) (scaleB m c p) (iblk m c 3 p) (iblk m c 6 p) (iblk m c 5 p)) acc (iblk m c 7 p) y
    = acc y + gatePart m c p y := by
  refine (gateStep_at (k0_pay12 (dhB m c p) (scaleB m c p) (iblk m c 3 p) (iblk m c 6 p) (iblk m c 5 p)) (iblk m c 7 p) acc y).trans
    (congrArg _ (Fin.sum_fin_congr fun i => ?_))
  exact congrArg₂ (· * ·) (dx1_at m c p i (y 2)) (mix_at m c p i (y 2))
theorem gStep (acc : Vec Ideal S1x1024 .f32) (y : S1x1024.Idx) :
    k0_pay18 (k0_pay9 (iblk m c 3 p)) (k0_pay11 (dhB m c p) (scaleB m c p)) acc y = acc y + gPart m c p y := by
  refine (gStep_at (k0_pay9 (iblk m c 3 p)) (k0_pay11 (dhB m c p) (scaleB m c p)) acc y).trans (congrArg _ (Fin.sum_fin_congr fun i => ?_))
  exact congrArg₂ (· * ·) (dxg_at m c p i (y 1)) (xn_at m c p i (y 1))

end steps

theorem shiftSum (c : Dev nD) (t : Fin cfg0.N) (h : t.val % 4 = 3) (y : S1x1x1024.Idx) :
    (outsAt0 m c t.val t.isLt).2.2.1 y = ∑ s : Fin 4, shiftPart m c ⟨4 * (t.val / 4) + s, Pipeline.run_point_lt_of_flush t h s⟩ y := by
  rw [Pipeline.eq_sum_fin_of_reset_step_apply_of_flush (fun n h => (outsAt0 m c n h).2.2.1) 4 (fun _ => 0) (fun p y => shiftPart m c p y)
    (fun t h y => by
      by_cases h0 : t.val % 8 = 0
      · rw [outsAt0_A m c t h0 h]; frame_out; exact (shiftStep m c t _ y).trans (by rw [zeroShift_at])
      · rw [outsAt0_C m c t h0 h]; frame_out; exact (shiftStep m c t _ y).trans (by rw [zeroShift_at]))
    (fun t h y => by rw [outsAt0_B m c t (by omega) h]; frame_out; exact shiftStep m c t _ y)
    t h y, zero_add]
theorem scaleSum (c : Dev nD) (t : Fin cfg0.N) (h : t.val % 4 = 3) (y : S1x1x1024.Idx) :
    (outsAt0 m c t.val t.isLt).2.2.2.1 y = ∑ s : Fin 4, scalePart m c ⟨4 * (t.val / 4) + s, Pipeline.run_point_lt_of_flush t h s⟩ y := by
  rw [Pipeline.eq_sum_fin_of_reset_step_apply_of_flush (fun n h => (outsAt0 m c n h).2.2.2.1) 4 (fun _ => 0) (fun p y => scalePart m c p y)
    (fun t h y => by
      by_cases h0 : t.val % 8 = 0
      · rw [outsAt0_A m c t h0 h]; frame_out; exact (scaleStep m c t _ y).trans (by rw [zeroScale_at])
      · rw [outsAt0_C m c t h0 h]; frame_out; exact (scaleStep m c t _ y).trans (by rw [zeroScale_at]))
    (fun t h y => by rw [outsAt0_B m c t (by omega) h]; frame_out; exact scaleStep m c t _ y)
    t h y, zero_add]
theorem gateSum (c : Dev nD) (t : Fin cfg0.N) (h : t.val % 4 = 3) (y : S1x1x1024.Idx) :
    (outsAt0 m c t.val t.isLt).2.2.2.2.1 y = ∑ s : Fin 4, gatePart m c ⟨4 * (t.val / 4) + s, Pipeline.run_point_lt_of_flush t h s⟩ y := by
  rw [Pipeline.eq_sum_fin_of_reset_step_apply_of_flush (fun n h => (outsAt0 m c n h).2.2.2.2.1) 4 (fun _ => 0) (fun p y => gatePart m c p y)
    (fun t h y => by
      by_cases h0 : t.val % 8 = 0
      · rw [outsAt0_A m c t h0 h]; frame_out; exact (gateStep m c t _ y).trans (by rw [zeroGate_at])
      · rw [outsAt0_C m c t h0 h]; frame_out; exact (gateStep m c t _ y).trans (by rw [zeroGate_at]))
    (fun t h y => by rw [outsAt0_B m c t (by omega) h]; frame_out; exact gateStep m c t _ y)
    t h y, zero_add]
theorem gSum (c : Dev nD) (t : Fin cfg0.N) (h : t.val % 8 = 7) (y : S1x1024.Idx) :
    (outsAt0 m c t.val t.isLt).2.2.2.2.2 y = ∑ s : Fin 8, gPart m c ⟨8 * (t.val / 8) + s, Pipeline.run_point_lt_of_flush t h s⟩ y := by
  rw [Pipeline.eq_sum_fin_of_reset_step_apply_of_flush (fun n h => (outsAt0 m c n h).2.2.2.2.2) 8 (fun _ => 0) (fun p y => gPart m c p y)
    (fun t h y => by rw [outsAt0_A m c t h (by omega)]; frame_out; exact (gStep m c t _ y).trans (by rw [zeroG_at]))
    (fun t h y => by
      by_cases h1 : t.val % 4 = 0
      · rw [outsAt0_C m c t h h1]; frame_out; exact gStep m c t _ y
      · rw [outsAt0_B m c t h h1]; frame_out; exact gStep m c t _ y)
    t h y, zero_add]

/-- A batch's points take its rows, one run of them after another. -/
theorem rows (f : Fin 4096 → EReal) (t : Fin cfg0.N) (h : t.val % 4 = 3) (b : Fin 2) (hb : b.val = t.val / 4) :
    ∑ s : Fin 4, ∑ i : Fin 512, f (prow ⟨4 * (t.val / 4) + s, Pipeline.run_point_lt_of_flush t h s⟩ i) = ∑ s : Fin 2048, f (Args.row b s) := by
  refine Fin.sum_mul_add_congr fun s k hl => congrArg f (Fin.ext ?_)
  unfold prow Args.row
  dsimp only
  omega
theorem allRows (f : Fin 4096 → EReal) (t : Fin cfg0.N) (h : t.val % 8 = 7) :
    ∑ s : Fin 8, ∑ i : Fin 512, f (prow ⟨8 * (t.val / 8) + s, Pipeline.run_point_lt_of_flush t h s⟩ i) = ∑ l : Fin 4096, f l := by
  refine Fin.sum_mul_add_congr fun s k hl => congrArg f (Fin.ext ?_)
  have := lt_of_lt_of_eq t.isLt points
  unfold prow
  dsimp only
  omega

theorem dx1Out (c : Dev nD) (t : Fin cfg0.N) (y : S512x1024.Idx) : (outsAt0 m c t.val t.isLt).1 y = (ins m c).dx1 (prow t (y 0)) (y 1) := by
  rw [← dx1_at m c t (y 0) (y 1), ← ix2_eta y]
  by_cases h0 : t.val % 8 = 0
  · rw [outsAt0_A m c t h0 (by omega)]; frame_out; rfl
  · by_cases h1 : t.val % 4 = 0
    · rw [outsAt0_C m c t h0 h1]; frame_out; rfl
    · rw [outsAt0_B m c t h0 h1]; frame_out; rfl
theorem dx1_array (c : Dev nD) : (dats m 0 c).arrAt 8 cfg0.N = fun y => (ins m c).dx1 (y 0) (y 1) := by
  refine (dats m 0 c).arrAt_eq_of_covers 8 _ (by decide +kernel) fun t _ y => ?_
  blk_simp
  rw [after0_8]
  refine (dx1Out m c t _).trans (congrArg₂ (ins m c).dx1 (Fin.ext ?_) (Fin.ext ?_)) <;> (try unfold prow) <;> blk_simp [idx t] <;> try omega
theorem dmixOut (c : Dev nD) (t : Fin cfg0.N) (y : S512x1024.Idx) : (outsAt0 m c t.val t.isLt).2.1 y = (ins m c).dmix (prow t (y 0)) (y 1) := by
  rw [← dmix_at m c t (y 0) (y 1), ← ix2_eta y]
  by_cases h0 : t.val % 8 = 0
  · rw [outsAt0_A m c t h0 (by omega)]; frame_out; rfl
  · by_cases h1 : t.val % 4 = 0
    · rw [outsAt0_C m c t h0 h1]; frame_out; rfl
    · rw [outsAt0_B m c t h0 h1]; frame_out; rfl
theorem dmix_array (c : Dev nD) : (dats m 0 c).arrAt 9 cfg0.N = fun y => (ins m c).dmix (y 0) (y 1) := by
  refine (dats m 0 c).arrAt_eq_of_covers 9 _ (by decide +kernel) fun t _ y => ?_
  blk_simp
  rw [after0_9]
  refine (dmixOut m c t _).trans (congrArg₂ (ins m c).dmix (Fin.ext ?_) (Fin.ext ?_)) <;> (try unfold prow) <;> blk_simp [idx t] <;> try omega
theorem dshift_array (c : Dev nD) : (dats m 0 c).arrAt 10 cfg0.N = fun y => (ins m c).dshift (y 0) (y 2) := by
  refine (dats m 0 c).arrAt_eq_of_covers 10 _ (by decide +kernel) fun t hf y => ?_
  have h := (flush0_10 t).mp hf
  have := lt_of_lt_of_eq t.isLt points
  blk_simp
  rw [after0_10]
  refine (shiftSum m c t h _).trans ((rows (fun l => (ins m c).dh l (y 2)) t h ⟨t.val / 4, by omega⟩ rfl).trans ?_)
  refine congrArg₂ (ins m c).dshift (Fin.ext ?_) (Fin.ext ?_) <;> blk_simp [idx t] <;> try omega
theorem dscale_array (c : Dev nD) : (dats m 0 c).arrAt 11 cfg0.N = fun y => (ins m c).dscale (y 0) (y 2) := by
  refine (dats m 0 c).arrAt_eq_of_covers 11 _ (by decide +kernel) fun t hf y => ?_
  have h := (flush0_11 t).mp hf
  have := lt_of_lt_of_eq t.isLt points
  blk_simp
  rw [after0_11]
  refine (scaleSum m c t h _).trans ((rows (fun l => (ins m c).dh l (y 2) * ((ins m c).xn l (y 2) * (ins m c).g (ix2 0 (y 2)))) t h ⟨t.val / 4, by omega⟩ rfl).trans ?_)
  refine congrArg₂ (ins m c).dscale (Fin.ext ?_) (Fin.ext ?_) <;> blk_simp [idx t] <;> try omega
theorem dgate_array (c : Dev nD) : (dats m 0 c).arrAt 12 cfg0.N = fun y => (ins m c).dgate (y 0) (y 2) := by
  refine (dats m 0 c).arrAt_eq_of_covers 12 _ (by decide +kernel) fun t hf y => ?_
  have h := (flush0_12 t).mp hf
  have := lt_of_lt_of_eq t.isLt points
  blk_simp
  rw [after0_12]
  refine (gateSum m c t h _).trans ((rows (fun l => (ins m c).dx1 l (y 2) * (ins m c).mix (ix2 l (y 2))) t h ⟨t.val / 4, by omega⟩ rfl).trans ?_)
  refine congrArg₂ (ins m c).dgate (Fin.ext ?_) (Fin.ext ?_) <;> blk_simp [idx t] <;> try omega
theorem dg_array (c : Dev nD) : (dats m 0 c).arrAt 13 cfg0.N = fun y => (ins m c).dg (y 1) := by
  refine (dats m 0 c).arrAt_eq_of_covers 13 _ (by decide +kernel) fun t hf y => ?_
  have h := (flush0_13 t).mp hf
  blk_simp
  rw [after0_13]
  refine (gSum m c t h _).trans ((allRows (fun l => (ins m c).dxg l (y 1) * (ins m c).xn l (y 1)) t h).trans ?_)
  refine congrArg (ins m c).dg (Fin.ext ?_) <;> blk_simp [idx t] <;> try omega

end Cert.Kernel4Ideal.UpBack

end
-- ==== Proof.UpRef.lean ====
/- The reference's gradient through the up projection, at an index. -/
module

public import proofs.«01_k».proof.Proof.Gen.Reference4Ideal.Read
public import proofs.«01_k».proof.Proof.UpRows
public import proofs.«01_k».proof.Proof.RefVals

@[expose] public section

noncomputable section

namespace Cert.Reference4Ideal.UpRef

open Cert.Reference4Ideal Cert.Reference4Ideal.Gen Cert.Reference4Ideal.Read Idealize.ShloMosaic Idealize.ShloMosaic.TcCoe
open Cert.Kernel4Ideal.UpBack (Args)
open scoped BigOperators

variable (A : Args) (b : Fin 2) (s : Fin 2048) (k : Fin 1024)

theorem v8_at (k : Fin 512) (n : Fin 5632) : val_main_v8 A.wa (ix2 k n) = A.wa (ix3 ⟨n.val / 1408, by omega⟩ k ⟨n.val % 1408, by omega⟩) := by
  unfold val_main_v8 val_main_v7 val_main_v6
  generalize A.wa = x
  pointwise
  blk_ext []
theorem v11_at (k : Fin 512) (n : Fin 5632) : val_main_v11 A.wb (ix2 k n) = A.wb (ix3 ⟨n.val / 1408, by omega⟩ k ⟨n.val % 1408, by omega⟩) := by
  unfold val_main_v11 val_main_v10 val_main_v9
  generalize A.wb = x
  pointwise
  blk_ext []
theorem v12_at (n : Fin 5632) : val_main_v12 A.wa A.wb (ix2 k n) = A.w ⟨n.val / 1408, by omega⟩ k ⟨n.val % 1408, by omega⟩ := by
  unfold val_main_v12 Args.w
  have ea := v8_at A
  have eb := v11_at A
  generalize val_main_v8 A.wa = x at ea
  generalize val_main_v11 A.wb = z at eb
  pointwise
  split
  · exact ea _ _
  · exact eb _ _
theorem v49_at (n : Fin 5632) : val_main_v49 A.du (ix3 b s n) = A.du (ix3 ⟨n.val / 2816, by omega⟩ (Args.row b s) ⟨n.val % 2816, by omega⟩) := by
  unfold val_main_v49 val_main_v48 val_main_v47 val_main_v46 val_main_v45 val_main_v16 val_main_v15 val_main_v14 val_main_v13 Args.row
  generalize A.du = x
  pointwise
  split <;> blk_ext []
theorem v50_at : val_main_v50 A.du A.wa A.wb (ix3 b s k) = A.dh (Args.row b s) k := by
  unfold val_main_v50 Args.dh
  have e1 := v12_at A
  have e2 := v49_at A
  generalize val_main_v12 A.wa A.wb = x at e1
  generalize val_main_v49 A.du = z at e2
  pointwise
  refine (Fin.sum_mul_add_congr fun j q hl => ?_).symm
  rw [e1, e2]
  refine congrArg₂ (· * ·) (congrArg₂ (fun c n => A.du (ix3 c _ n)) (Fin.ext ?_) (Fin.ext ?_)) (congrArg₂ (fun j q => A.w j k q) (Fin.ext ?_) (Fin.ext ?_)) <;>
    dsimp only <;> omega
theorem v17_at : val_main_v17 A.x1 (ix3 b s k) = A.x (Args.row b s) k := by
  unfold val_main_v17 Args.x Args.row
  generalize A.x1 = x
  pointwise
  try blk_ext []
theorem v25_at : val_main_v25 A.x1 (ix3 b s 0) = Rms.var Rms.w1024 (A.x (Args.row b s)) := by
  unfold val_main_v25 val_main_v24 val_main_v23 val_main_v22 val_main_v21 val_main_v20 val_main_v19 val_main_cst val_main_cst_0 val_main_cst_1 Rms.var
  have e := v17_at A b s
  generalize val_main_v17 A.x1 = x at e
  pointwise
  simp only [e]
theorem v26_at : val_main_v26 A.x1 (ix3 b s 0) = Rms.inv Rms.w1024 (A.x (Args.row b s)) := by
  unfold val_main_v26 Rms.inv
  rw [← v25_at A b s]
  rfl
theorem v29_at : val_main_v29 A.x1 (ix3 b s 0) = Rms.mhalf * Ideal.div (Rms.inv Rms.w1024 (A.x (Args.row b s))) (Rms.var Rms.w1024 (A.x (Args.row b s))) := by
  unfold val_main_v29 val_main_v28 val_main_v27 val_main_cst_2
  rw [← v26_at A b s, ← v25_at A b s]
  generalize val_main_v26 A.x1 = x
  generalize val_main_v25 A.x1 = z
  pointwise
theorem v31_at : val_main_v31 A.x1 (ix3 b s k) = A.xn (Args.row b s) k := by
  unfold val_main_v31 val_main_v30 Args.xn Rms.norm
  rw [← v26_at A b s, ← v17_at A b s k]
  generalize val_main_v26 A.x1 = x
  generalize val_main_v17 A.x1 = z
  pointwise
theorem v34_at : val_main_v34 A.x1 A.g (ix3 b s k) = A.xn (Args.row b s) k * A.g (ix2 0 k) := by
  unfold val_main_v34 val_main_v33 val_main_v32 val_main_v18
  rw [← v31_at A b s k]
  generalize val_main_v31 A.x1 = x
  generalize A.g = g
  pointwise
theorem v57_at : val_main_v57 A.du A.wa A.wb A.md (ix3 b s k) = A.dxg (Args.row b s) k := by
  unfold val_main_v57 val_main_v56 val_main_v36 val_main_v35 val_main_v4 val_main_cst_3 Args.dxg Args.scale
  rw [← v50_at A b s k]
  generalize val_main_v50 A.du A.wa A.wb = x
  generalize A.md = z
  pointwise
  refine congrArg (fun c => _ * (1 + z (ix3 c 0 _))) (Fin.ext ?_)
  unfold Args.row
  dsimp only
  omega
theorem v62_at : val_main_v62 A.du A.wa A.wb A.md A.g (ix3 b s k) = A.dxn (Args.row b s) k := by
  unfold val_main_v62 val_main_v61 val_main_v32 val_main_v18 Args.dxn
  rw [← v57_at A b s k]
  generalize val_main_v57 A.du A.wa A.wb A.md = x
  generalize A.g = g
  pointwise

theorem v66_at : val_main_v66 A.du A.wa A.wb A.x1 A.md A.g (ix3 b s 0) = ∑ k, A.x (Args.row b s) k * A.dxn (Args.row b s) k := by
  unfold val_main_v66 val_main_v65 val_main_v64 val_main_cst_8
  have e1 := v17_at A b s
  have e2 := v62_at A b s
  generalize val_main_v17 A.x1 = x at e1
  generalize val_main_v62 A.du A.wa A.wb A.md A.g = z at e2
  pointwise
  simp only [e1, e2]
theorem v72_at : val_main_v72 A.du A.wa A.wb A.x1 A.md A.g (ix3 b s 0) = Rms.slope Rms.w1024 (A.x (Args.row b s)) (A.dxn (Args.row b s)) := by
  unfold val_main_v72 val_main_v71 val_main_v70 val_main_cst_9 Rms.slope
  rw [← v66_at A b s, ← v29_at A b s]
  generalize val_main_v66 A.du A.wa A.wb A.x1 A.md A.g = x
  generalize val_main_v29 A.x1 = z
  pointwise
theorem v74_at : val_main_v74 A.du A.wa A.wb A.x1 A.md A.g (ix3 b s k) = Rms.slope Rms.w1024 (A.x (Args.row b s)) (A.dxn (Args.row b s)) := by
  unfold val_main_v74 val_main_v73 val_main_cst_10
  rw [← v72_at A b s]
  generalize val_main_v72 A.du A.wa A.wb A.x1 A.md A.g = x
  pointwise
  exact Fin.sum_univ_one _
theorem v68_at : val_main_v68 A.du A.wa A.wb A.x1 A.md A.g (ix3 b s k) = A.dxn (Args.row b s) k * Rms.inv Rms.w1024 (A.x (Args.row b s)) := by
  unfold val_main_v68 val_main_v67
  rw [← v62_at A b s k, ← v26_at A b s]
  generalize val_main_v62 A.du A.wa A.wb A.md A.g = x
  generalize val_main_v26 A.x1 = z
  pointwise
theorem v44_at : val_main_v44 A.dx2 (ix3 b s k) = A.dx2 (ix2 (Args.row b s) k) := by
  unfold val_main_v44 Args.row
  generalize A.dx2 = x
  pointwise
  try blk_ext []
theorem v79_at : val_main_v79 A.mix (ix3 b s k) = A.mix (ix2 (Args.row b s) k) := by
  unfold val_main_v79 Args.row
  generalize A.mix = x
  pointwise
  try blk_ext []
theorem v78_at : val_main_v78 A.du A.wa A.wb A.x1 A.md A.g A.dx2 (ix3 b s k) = A.dx1 (Args.row b s) k := by
  unfold val_main_v78 val_main_v77 val_main_v76 val_main_v75 val_main_v69 Args.dx1
  rw [← Rms.back_eq Rms.w1024 (A.x (Args.row b s)) (A.dxn (Args.row b s)) 1024 Rms.w1024_eq (by norm_num), ← v44_at A b s k, ← v68_at A b s k, ← v74_at A b s k,
    ← v17_at A b s k]
  generalize val_main_v74 A.du A.wa A.wb A.x1 A.md A.g = x
  generalize val_main_v68 A.du A.wa A.wb A.x1 A.md A.g = z
  generalize val_main_v17 A.x1 = w
  generalize val_main_v44 A.dx2 = u
  pointwise
theorem v83_at : val_main_v83 A.du A.wa A.wb A.x1 A.md A.g A.dx2 (ix3 b s k) = A.dmix (Args.row b s) k := by
  unfold val_main_v83 val_main_v82 val_main_v2 Args.dmix Args.gate
  rw [← v78_at A b s k]
  generalize val_main_v78 A.du A.wa A.wb A.x1 A.md A.g A.dx2 = x
  generalize A.md = z
  pointwise
  refine (mul_comm _ _).trans (congrArg (fun c => _ * z (ix3 c 0 _)) (Fin.ext ?_))
  unfold Args.row
  dsimp only
  omega

theorem row_at (l : Fin 4096) : Args.row ⟨l.val / 2048, by omega⟩ ⟨l.val % 2048, by omega⟩ = l := Fin.ext (by unfold Args.row; dsimp only; omega)

/-- The six arrays. -/
theorem dx1_at (l : Fin 4096) : val_main_v87 A.du A.wa A.wb A.x1 A.md A.g A.dx2 (ix2 l k) = A.dx1 l k := by
  unfold val_main_v87
  rw [← row_at l, ← v78_at A, row_at]
  generalize val_main_v78 A.du A.wa A.wb A.x1 A.md A.g A.dx2 = x
  pointwise
  try blk_ext []
theorem dmix_at (l : Fin 4096) : val_main_v89 A.du A.wa A.wb A.x1 A.md A.g A.dx2 (ix2 l k) = A.dmix l k := by
  unfold val_main_v89 val_main_v88
  rw [← row_at l, ← v83_at A, row_at]
  generalize val_main_v83 A.du A.wa A.wb A.x1 A.md A.g A.dx2 = x
  pointwise
  try blk_ext []
theorem dshift_at : val_main_v52 A.du A.wa A.wb (ix3 b 0 k) = A.dshift b k := by
  unfold val_main_v52 val_main_v51 val_main_cst_4 Args.dshift
  have e := fun s => v50_at A b s k
  generalize val_main_v50 A.du A.wa A.wb = x at e
  pointwise
  simp only [e]
theorem dscale_at : val_main_v55 A.du A.wa A.wb A.x1 A.g (ix3 b 0 k) = A.dscale b k := by
  unfold val_main_v55 val_main_v54 val_main_v53 val_main_cst_5 Args.dscale
  have e := fun s => v50_at A b s k
  have e' := fun s => v34_at A b s k
  generalize val_main_v50 A.du A.wa A.wb = x at e
  generalize val_main_v34 A.x1 A.g = z at e'
  pointwise
  simp only [e, e']
  exact Fin.sum_fin_congr fun s => mul_comm _ _
theorem dgate_at : val_main_v86 A.du A.wa A.wb A.x1 A.md A.g A.dx2 A.mix (ix3 b 0 k) = A.dgate b k := by
  unfold val_main_v86 val_main_v85 val_main_v84 val_main_cst_11 Args.dgate
  have e := fun s => v78_at A b s k
  have e' := fun s => v79_at A b s k
  generalize val_main_v78 A.du A.wa A.wb A.x1 A.md A.g A.dx2 = x at e
  generalize val_main_v79 A.mix = z at e'
  pointwise
  simp only [e, e']
/-- Two sums over rows and batches, the second of one entry, are the sum over both. -/
theorem sum_twice (y : FVec Ideal S2x2048x1024 .f32) (z z' : FVec Ideal S_ .f32)
    (hz : z (Shape.Idx.first h_S_) = (0 : EReal)) (hz' : z' (Shape.Idx.first h_S_) = (0 : EReal)) (n : Fin 1024) :
    Host.reduceAdd (shapeCast S1x1x1024 (Host.reduceAdd y z reducesTo_S2x2048x1024_S1024_d0_1 h_S_) shapeCasts_S1024_S1x1x1024) z'
      reducesTo_S1x1x1024_S1024_d0_1 h_S_ (ix1 n) = ∑ b : Fin 2, ∑ s : Fin 2048, (y (ix3 b s n) : EReal) := by
  have e : (Host.reduceAdd y z reducesTo_S2x2048x1024_S1024_d0_1 h_S_ (ix1 n) : EReal) = ∑ b : Fin 2, ∑ s : Fin 2048, (y (ix3 b s n) : EReal) := by
    refine (Cert.ReferenceIdeal.FB.sum_a01 (n0 := 2) (n1 := 2048) (n2 := 1024) reducesTo_S2x2048x1024_S1024_d0_1 y (z (Shape.Idx.first h_S_)) n).trans ?_
    rw [hz, zero_add]
  refine (Cert.ReferenceIdeal.FB.sum_a01 (n0 := 1) (n1 := 1) (n2 := 1024) reducesTo_S1x1x1024_S1024_d0_1 _ (z' (Shape.Idx.first h_S_)) n).trans ?_
  rw [hz', zero_add, Fin.sum_univ_one, Fin.sum_univ_one, ← e]
  generalize Host.reduceAdd y z reducesTo_S2x2048x1024_S1024_d0_1 h_S_ = v
  pointwise
theorem v58_at : val_main_v58 A.du A.wa A.wb A.x1 A.md (ix3 b s k) = A.dxg (Args.row b s) k * A.xn (Args.row b s) k := by
  unfold val_main_v58
  rw [← v57_at A b s k, ← v31_at A b s k]
  generalize val_main_v57 A.du A.wa A.wb A.md = x
  generalize val_main_v31 A.x1 = z
  pointwise
  exact mul_comm _ _
theorem dg_at : val_main_v90 A.du A.wa A.wb A.x1 A.md (ix2 0 k) = A.dg k := by
  refine Eq.trans (b := val_main_v63 A.du A.wa A.wb A.x1 A.md (ix1 k)) ?_ ?_
  · unfold val_main_v90
    generalize val_main_v63 A.du A.wa A.wb A.x1 A.md = x
    pointwise
  · refine (sum_twice (val_main_v58 A.du A.wa A.wb A.x1 A.md) _ _ (by unfold val_main_cst_6; pointwise) (by unfold val_main_cst_7; pointwise) k).trans ?_
    simp only [v58_at]
    unfold Args.dg
    refine Fin.sum_mul_add_congr fun b s hl => ?_
    rfl

end Cert.Reference4Ideal.UpRef
end
-- ==== Proof.Call4.lean ====
/- The gradient through the up projection and the normalisation before it: its claims. -/
module

public import proofs.«01_k».proof.Defs
public import proofs.«01_k».proof.Proof.Gen.Kernel4
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.UpBack
public import proofs.«01_k».proof.Proof.UpRef
public import Idealize.ShloMosaic.Adequacy
public import Idealize.ShloMosaic.Init

@[expose] public section

noncomputable section

namespace Cert.Call4

open Idealize.ShloMosaic Idealize.SL.Sem
open scoped BigOperators

set_option maxHeartbeats 1000000 in
/-- The two programs have one text: their tables of bodies are the same. -/
theorem defs_eq {F : FTy → Type} [FloatOps F] : Cert.Kernel4Ideal.defs (F := F) = Cert.Kernel4.defs := by
  have h : Cert.Kernel4Ideal.defs₀ (F := F) = Cert.Kernel4.defs₀ := by
    unfold Cert.Kernel4Ideal.defs₀ Cert.Kernel4.defs₀
    congr 1
    funext x y
    obtain ⟨n, hn⟩ := x
    cases n with
    | zero => obtain ⟨t, s⟩ := y; rfl
    | succ n => exact absurd hn (Nat.not_lt.2 (Nat.le_add_left _ _))
  exact congrArg (Pipeline.defs (Cert.Kernel4Ideal.pcfgs (F := F))) h

set_option maxHeartbeats 1000000 in
theorem frame_kernel : Cert.quiescent_Kernel4 := fun m ρ _ => by
  have h := Cert.Kernel4Ideal.Gen.frame (F := Bits) m ρ
  rw [defs_eq] at h
  exact h

theorem frame_kernelIdeal : Cert.quiescent_Kernel4Ideal := fun m ρ _ => Cert.Kernel4Ideal.Gen.frame m ρ

theorem frame_reference : Cert.quiescent_Reference4Ideal := fun m ρ _ =>
  (θ_run Cert.Reference4Ideal.defs _ _).mono (fun r h => ⟨fun c => (h c).2.2.2.2.2.2, sem_eq_zero_of_no_sems (by decide) r.2⟩)
    (Cert.Reference4Ideal.Value.run m ρ)

open Cert.Reference4Ideal in
theorem ix3_unit (y : S2x1x1024.Idx) : ix3 (y 0) 0 (y 2) = y :=
  (congrArg (fun j : Fin 1 => ix3 (y 0) j (y 2)) (Subsingleton.elim _ _)).trans (ix3_eta y)
open Cert.Reference4Ideal in
theorem ix2_unit (y : S1x1024.Idx) : ix2 0 (y 1) = y :=
  (congrArg (fun j : Fin 1 => ix2 j (y 1)) (Subsingleton.elim _ _)).trans (ix2_eta y)

theorem algebraic : Cert.algebraic_Kernel4Ideal_Reference4Ideal := fun m g m' g' _ heq =>
  ⟨fun c y => (Cert.Kernel4Ideal.UpBack.ins m c).dx1 (y 0) (y 1),
    fun c y => (Cert.Kernel4Ideal.UpBack.ins m c).dmix (y 0) (y 1),
    fun c y => (Cert.Kernel4Ideal.UpBack.ins m c).dshift (y 0) (y 2),
    fun c y => (Cert.Kernel4Ideal.UpBack.ins m c).dscale (y 0) (y 2),
    fun c y => (Cert.Kernel4Ideal.UpBack.ins m c).dgate (y 0) (y 2),
    fun c y => (Cert.Kernel4Ideal.UpBack.ins m c).dg (y 1),
    (θ_run _ _ _).mono (fun r h c => ⟨(h c).1.trans (Cert.Kernel4Ideal.UpBack.dx1_array m c), (h c).2.1.trans (Cert.Kernel4Ideal.UpBack.dmix_array m c), (h c).2.2.1.trans (Cert.Kernel4Ideal.UpBack.dshift_array m c), (h c).2.2.2.1.trans (Cert.Kernel4Ideal.UpBack.dscale_array m c), (h c).2.2.2.2.1.trans (Cert.Kernel4Ideal.UpBack.dgate_array m c), (h c).2.2.2.2.2.1.trans (Cert.Kernel4Ideal.UpBack.dg_array m c), (h c).2.2.2.2.2.2⟩)
      (Cert.Kernel4Ideal.Value.run_blocks m g),
    (θ_run _ _ _).mono (fun r h c => by
      obtain ⟨e0, e1, e2, e3, e4, e5, e6, e7⟩ := heq c
      refine ⟨(h c).1.trans ?_, (h c).2.1.trans ?_, (h c).2.2.1.trans ?_, (h c).2.2.2.1.trans ?_, (h c).2.2.2.2.1.trans ?_, (h c).2.2.2.2.2.1.trans ?_, (h c).2.2.2.2.2.2⟩
      · rw [Cert.Reference4Ideal.Read.val_main_v87_eq, e0, e1, e2, e3, e4, e5, e6]
        funext y
        exact (congrArg _ (ix2_eta y).symm).trans (Cert.Reference4Ideal.UpRef.dx1_at (Cert.Kernel4Ideal.UpBack.ins m c) (y 1) (y 0))
      · rw [Cert.Reference4Ideal.Read.val_main_v89_eq, e0, e1, e2, e3, e4, e5, e6]
        funext y
        exact (congrArg _ (ix2_eta y).symm).trans (Cert.Reference4Ideal.UpRef.dmix_at (Cert.Kernel4Ideal.UpBack.ins m c) (y 1) (y 0))
      · rw [Cert.Reference4Ideal.Read.val_main_v52_eq, e0, e1, e2]
        funext y
        exact (congrArg _ (ix3_unit y).symm).trans (Cert.Reference4Ideal.UpRef.dshift_at (Cert.Kernel4Ideal.UpBack.ins m c) (y 0) (y 2))
      · rw [Cert.Reference4Ideal.Read.val_main_v55_eq, e0, e1, e2, e3, e5]
        funext y
        exact (congrArg _ (ix3_unit y).symm).trans (Cert.Reference4Ideal.UpRef.dscale_at (Cert.Kernel4Ideal.UpBack.ins m c) (y 0) (y 2))
      · rw [Cert.Reference4Ideal.Read.val_main_v86_eq, e0, e1, e2, e3, e4, e5, e6, e7]
        funext y
        exact (congrArg _ (ix3_unit y).symm).trans (Cert.Reference4Ideal.UpRef.dgate_at (Cert.Kernel4Ideal.UpBack.ins m c) (y 0) (y 2))
      · rw [Cert.Reference4Ideal.Read.val_main_v90_eq, e0, e1, e2, e3, e4]
        funext y
        exact (congrArg _ (ix2_unit y).symm).trans (Cert.Reference4Ideal.UpRef.dg_at (Cert.Kernel4Ideal.UpBack.ins m c) (y 1)))
      (Cert.Reference4Ideal.Value.run m' g')⟩

end Cert.Call4

end
-- ==== Proof.OutBack.lean ====
/- The gradient through the output projection and the two row normalisations before it: its arrays as functions of the arguments. -/
module

public import proofs.«01_k».proof.Proof.Gen.Kernel5Ideal.Value
public import proofs.«01_k».proof.Proof.Rms
public import Idealize.ShloMosaic.Lib.Pipeline.ValueKit

@[expose] public section

noncomputable section

namespace Cert.Kernel5Ideal.OutBack

open Cert.Kernel5Ideal Cert.Kernel5Ideal.Gen Idealize.ShloMosaic Idealize.ShloMosaic.TcCoe Idealize.ShloMosaic.Pipeline
open scoped BigOperators

/-- The arguments: the gradient by the mixed rows, the projection's weight, the rows it took, the two attentions' rows, and the scales
    of their normalisations. -/
structure Args where
  dmix : Vec Ideal S4096x1024 .bf16
  w : Vec Ideal S1024x1024 .bf16
  oab : Vec Ideal S4096x1024 .bf16
  oa : Vec Ideal S4096x512 .f32
  ob : Vec Ideal S4096x512 .f32
  ga : Vec Ideal S1x512 .f32
  gb : Vec Ideal S1x512 .f32

namespace Args

variable (A : Args)

/-- The gradient by the normalised and scaled rows, of both attentions side by side. -/
def dh (l : Fin 4096) (k : Fin 1024) : EReal := ∑ q : Fin 1024, A.dmix (ix2 l q) * A.w (ix2 k q)
def da (l : Fin 4096) (k : Fin 512) : EReal := A.dh l ⟨k.val, by omega⟩
def db (l : Fin 4096) (k : Fin 512) : EReal := A.dh l ⟨512 + k.val, by omega⟩
def xa (l : Fin 4096) (k : Fin 512) : EReal := A.oa (ix2 l k)
def xb (l : Fin 4096) (k : Fin 512) : EReal := A.ob (ix2 l k)
def ea (l : Fin 4096) (k : Fin 512) : EReal := A.da l k * A.ga (ix2 0 k)
def eb (l : Fin 4096) (k : Fin 512) : EReal := A.db l k * A.gb (ix2 0 k)
def doa (l : Fin 4096) (k : Fin 512) : EReal := Rms.back Rms.w512 (A.xa l) (A.ea l) k
def dob (l : Fin 4096) (k : Fin 512) : EReal := Rms.back Rms.w512 (A.xb l) (A.eb l) k
def gw (k n : Fin 1024) : EReal := ∑ l : Fin 4096, A.oab (ix2 l k) * A.dmix (ix2 l n)
def dga (k : Fin 512) : EReal := ∑ l : Fin 4096, A.da l k * Rms.norm Rms.w512 (A.xa l) k
def dgb (k : Fin 512) : EReal := ∑ l : Fin 4096, A.db l k * Rms.norm Rms.w512 (A.xb l) k

end Args

section payloads

variable (a w o acc : Vec Ideal S1024x1024 .bf16) (s : Vec Ideal S1024x1024 .f32) (x : Vec Ideal S1024x512 .f32) (g : Vec Ideal S1x512 .f32)
  (i : Fin 1024) (k : Fin 512)

theorem inv_at : k0_pay8 (F := Ideal) x (ix2 i 0) = Rms.inv Rms.w512 (fun k => x (ix2 i k)) := by
  pointwise [k0_pay8]
  rfl
theorem norm_at : k0_pay9 (F := Ideal) x (ix2 i k) = Rms.norm Rms.w512 (fun k => x (ix2 i k)) k := by
  refine Eq.trans (b := x (ix2 i k) * k0_pay8 (F := Ideal) x (ix2 i 0)) ?_ (congrArg _ (inv_at x i))
  pointwise [k0_pay9]
theorem inv'_at : k0_pay15 (F := Ideal) x (ix2 i 0) = Rms.inv Rms.w512 (fun k => x (ix2 i k)) := by
  pointwise [k0_pay15]
  rfl
theorem norm'_at : k0_pay16 (F := Ideal) x (ix2 i k) = Rms.norm Rms.w512 (fun k => x (ix2 i k)) k := by
  refine Eq.trans (b := x (ix2 i k) * k0_pay15 (F := Ideal) x (ix2 i 0)) ?_ (congrArg _ (inv'_at x i))
  pointwise [k0_pay16]
theorem whole_at (k : Fin 1024) : k0_pay7 (F := Ideal) a w (ix2 i k) = ∑ q : Fin 1024, a (ix2 i q) * w (ix2 k q) := by pointwise [k0_pay7]
theorem left_at : k0_pay10 (F := Ideal) a w (ix2 i k) = ∑ q : Fin 1024, a (ix2 i q) * w (ix2 ⟨k.val, by omega⟩ q) := by
  rw [← whole_at a w i]
  pointwise [k0_pay10]
  try blk_ext []
theorem right_at : k0_pay17 (F := Ideal) (k0_pay7 a w) (ix2 i k) = ∑ q : Fin 1024, a (ix2 i q) * w (ix2 ⟨512 + k.val, by omega⟩ q) := by
  rw [← whole_at a w i]
  generalize k0_pay7 (F := Ideal) a w = v
  pointwise [k0_pay17]
theorem back_at (d : FVec Ideal S1024x512 .f32) : k0_pay14 (k0_pay8 x) (k0_pay9 x) d g (ix2 i k)
    = Rms.back Rms.w512 (fun k => x (ix2 i k)) (fun k => d (ix2 i k) * g (ix2 0 k)) k := by
  unfold Rms.back
  rw [← inv_at x i, ← norm_at x i k]
  simp only [← norm_at x i]
  generalize k0_pay8 (F := Ideal) x = u
  generalize k0_pay9 (F := Ideal) x = v
  pointwise [k0_pay14]
theorem back'_at (d : FVec Ideal S1024x512 .f32) : k0_pay1 (k0_pay15 x) (k0_pay16 x) d g (ix2 i k)
    = Rms.back Rms.w512 (fun k => x (ix2 i k)) (fun k => d (ix2 i k) * g (ix2 0 k)) k := by
  unfold Rms.back
  rw [← inv'_at x i, ← norm'_at x i k]
  simp only [← norm'_at x i]
  generalize k0_pay15 (F := Ideal) x = u
  generalize k0_pay16 (F := Ideal) x = v
  pointwise [k0_pay1]
theorem wStep_at (y : S1024x1024.Idx) : k0_pay5 a s o y = s y + ∑ i : Fin 1024, o (ix2 i (y 0)) * a (ix2 i (y 1)) := by pointwise [k0_pay5]
theorem copy_at (y : S1024x1024.Idx) : k0_pay6 s y = s y := by pointwise [k0_pay6]
theorem aStep_at (y : S1x512.Idx) : k0_pay13 (k0_pay11 g) (k0_pay12 a w x) y
    = g y + ∑ i : Fin 1024, k0_pay10 (F := Ideal) a w (ix2 i (y 1)) * k0_pay9 (F := Ideal) x (ix2 i (y 1)) := by
  unfold k0_pay12
  generalize k0_pay10 (F := Ideal) a w = u
  generalize k0_pay9 (F := Ideal) x = v
  pointwise [k0_pay13, k0_pay11]
theorem bStep_at (y : S1x512.Idx) : k0_pay18 (k0_pay7 a w) x g y
    = g y + ∑ i : Fin 1024, k0_pay17 (F := Ideal) (k0_pay7 a w) (ix2 i (y 1)) * k0_pay16 (F := Ideal) x (ix2 i (y 1)) := by
  unfold k0_pay18
  generalize k0_pay17 (F := Ideal) (k0_pay7 a w) = u
  generalize k0_pay16 (F := Ideal) x = v
  pointwise
theorem zeroW_at (y : S1024x1024.Idx) : k0_pay2 (F := Ideal) y = 0 := by pointwise [k0_pay2]
theorem zeroA_at (y : S1x512.Idx) : k0_pay3 (F := Ideal) y = 0 := by pointwise [k0_pay3]
theorem zeroB_at (y : S1x512.Idx) : k0_pay4 (F := Ideal) y = 0 := by pointwise [k0_pay4]

end payloads

variable (m : (ℓ : Loc nD τ sig) → Buf (Elt Ideal) ℓ)

def ins (c : Dev nD) : Args :=
  ⟨m ((c.tc : Thread nD τ).loc main_arg0), m ((c.tc : Thread nD τ).loc main_arg1), m ((c.tc : Thread nD τ).loc main_arg2),
    m ((c.tc : Thread nD τ).loc main_arg3), m ((c.tc : Thread nD τ).loc main_arg4), m ((c.tc : Thread nD τ).loc main_arg5),
    m ((c.tc : Thread nD τ).loc main_arg6)⟩

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] ∧ win0_6.index t = ![0, 0]
    ∧ win0_7.index t = ![t.val, 0] ∧ win0_8.index t = ![t.val, 0] ∧ win0_9.index t = ![0, 0] ∧ win0_10.index t = ![0, 0]
    ∧ win0_11.index t = ![0, 0] ∧ win0_12.index t = ![0, 0] :=
  (by decide +kernel : ∀ t : Fin grid0.N, _)
theorem points : cfg0.N = 4 := by decide +kernel

def prow (p : Fin cfg0.N) (i : Fin 1024) : Fin 4096 := ⟨p.val * 1024 + i.val, by have := lt_of_lt_of_eq p.isLt points; omega⟩

section point
variable (c : Dev nD) (t : Fin cfg0.N) (i : Fin 1024)

theorem dmix_at (q : Fin 1024) : (show Vec Ideal S1024x1024 .bf16 from iblk m c 0 t) (ix2 i q) = (ins m c).dmix (ix2 (prow t i) q) := by
  unfold prow ins
  dsimp only
  blk_point [iblk, V, idx t]
theorem w_at (k q : Fin 1024) : (show Vec Ideal S1024x1024 .bf16 from iblk m c 1 t) (ix2 k q) = (ins m c).w (ix2 k q) := by
  unfold ins
  dsimp only
  blk_point [iblk, V, idx t]
theorem oab_at (q : Fin 1024) : (show Vec Ideal S1024x1024 .bf16 from iblk m c 2 t) (ix2 i q) = (ins m c).oab (ix2 (prow t i) q) := by
  unfold prow ins
  dsimp only
  blk_point [iblk, V, idx t]
theorem xa_at (k : Fin 512) : (show Vec Ideal S1024x512 .f32 from iblk m c 3 t) (ix2 i k) = (ins m c).xa (prow t i) k := by
  unfold Args.xa prow ins
  dsimp only
  blk_point [iblk, V, idx t]
theorem xb_at (k : Fin 512) : (show Vec Ideal S1024x512 .f32 from iblk m c 4 t) (ix2 i k) = (ins m c).xb (prow t i) k := by
  unfold Args.xb prow ins
  dsimp only
  blk_point [iblk, V, idx t]
theorem ga_at (k : Fin 512) : (show Vec Ideal S1x512 .f32 from iblk m c 5 t) (ix2 0 k) = (ins m c).ga (ix2 0 k) := by
  unfold ins
  dsimp only
  blk_point [iblk, V, idx t]
theorem gb_at (k : Fin 512) : (show Vec Ideal S1x512 .f32 from iblk m c 6 t) (ix2 0 k) = (ins m c).gb (ix2 0 k) := by
  unfold ins
  dsimp only
  blk_point [iblk, V, idx t]
theorem da_at (k : Fin 512) : k0_pay10 (F := Ideal) (iblk m c 0 t) (iblk m c 1 t) (ix2 i k) = (ins m c).da (prow t i) k :=
  (left_at (iblk m c 0 t) (iblk m c 1 t) i k).trans (Fin.sum_fin_congr fun q => congrArg₂ (· * ·) (dmix_at m c t i q) (w_at m c t _ q))
theorem db_at (k : Fin 512) : k0_pay17 (F := Ideal) (k0_pay7 (iblk m c 0 t) (iblk m c 1 t)) (ix2 i k) = (ins m c).db (prow t i) k :=
  (right_at (iblk m c 0 t) (iblk m c 1 t) i k).trans (Fin.sum_fin_congr fun q => congrArg₂ (· * ·) (dmix_at m c t i q) (w_at m c t _ q))
theorem na_at (k : Fin 512) : k0_pay9 (F := Ideal) (iblk m c 3 t) (ix2 i k) = Rms.norm Rms.w512 ((ins m c).xa (prow t i)) k :=
  (norm_at (iblk m c 3 t) i k).trans (congrArg (fun x => Rms.norm Rms.w512 x k) (funext fun k => xa_at m c t i k))
theorem nb_at (k : Fin 512) : k0_pay16 (F := Ideal) (iblk m c 4 t) (ix2 i k) = Rms.norm Rms.w512 ((ins m c).xb (prow t i)) k :=
  (norm'_at (iblk m c 4 t) i k).trans (congrArg (fun x => Rms.norm Rms.w512 x k) (funext fun k => xb_at m c t i k))
theorem doa_at (k : Fin 512) : k0_pay14 (k0_pay8 (iblk m c 3 t)) (k0_pay9 (iblk m c 3 t)) (k0_pay10 (iblk m c 0 t) (iblk m c 1 t)) (iblk m c 5 t) (ix2 i k)
    = (ins m c).doa (prow t i) k :=
  (back_at (iblk m c 3 t) (iblk m c 5 t) i k (k0_pay10 (iblk m c 0 t) (iblk m c 1 t))).trans
    (congrArg₂ (fun p q => Rms.back Rms.w512 p q k) (funext fun k => xa_at m c t i k)
      (funext fun k => congrArg₂ (· * ·) (da_at m c t i k) (ga_at m c t k)))
theorem dob_at (k : Fin 512) : k0_pay1 (k0_pay15 (iblk m c 4 t)) (k0_pay16 (iblk m c 4 t)) (k0_pay17 (k0_pay7 (iblk m c 0 t) (iblk m c 1 t))) (iblk m c 6 t) (ix2 i k)
    = (ins m c).dob (prow t i) k :=
  (back'_at (iblk m c 4 t) (iblk m c 6 t) i k (k0_pay17 (k0_pay7 (iblk m c 0 t) (iblk m c 1 t)))).trans
    (congrArg₂ (fun p q => Rms.back Rms.w512 p q k) (funext fun k => xb_at m c t i k)
      (funext fun k => congrArg₂ (· * ·) (db_at m c t i k) (gb_at m c t k)))

end point

/-- The parts of the sums a point adds. -/
def wPart (c : Dev nD) (p : Fin cfg0.N) (y : S1024x1024.Idx) : EReal :=
  ∑ i : Fin 1024, (ins m c).oab (ix2 (prow p i) (y 0)) * (ins m c).dmix (ix2 (prow p i) (y 1))
def aPart (c : Dev nD) (p : Fin cfg0.N) (y : S1x512.Idx) : EReal :=
  ∑ i : Fin 1024, (ins m c).da (prow p i) (y 1) * Rms.norm Rms.w512 ((ins m c).xa (prow p i)) (y 1)
def bPart (c : Dev nD) (p : Fin cfg0.N) (y : S1x512.Idx) : EReal :=
  ∑ i : Fin 1024, (ins m c).db (prow p i) (y 1) * Rms.norm Rms.w512 ((ins m c).xb (prow p i)) (y 1)

section steps
variable (c : Dev nD) (p : Fin cfg0.N)

theorem wStep (acc : Vec Ideal S1024x1024 .f32) (y : S1024x1024.Idx) : k0_pay5 (iblk m c 0 p) acc (iblk m c 2 p) y = acc y + wPart m c p y :=
  (wStep_at (iblk m c 0 p) (iblk m c 2 p) acc y).trans (congrArg _ (Fin.sum_fin_congr fun i =>
    congrArg₂ (· * ·) (oab_at m c p i (y 0)) (dmix_at m c p i (y 1))))
theorem aStep (acc : Vec Ideal S1x512 .f32) (y : S1x512.Idx) :
    k0_pay13 (k0_pay11 acc) (k0_pay12 (iblk m c 0 p) (iblk m c 1 p) (iblk m c 3 p)) y = acc y + aPart m c p y :=
  (aStep_at (iblk m c 0 p) (iblk m c 1 p) (iblk m c 3 p) acc y).trans (congrArg _ (Fin.sum_fin_congr fun i =>
    congrArg₂ (· * ·) (da_at m c p i (y 1)) (na_at m c p i (y 1))))
theorem bStep (acc : Vec Ideal S1x512 .f32) (y : S1x512.Idx) :
    k0_pay18 (k0_pay7 (iblk m c 0 p) (iblk m c 1 p)) (iblk m c 4 p) acc y = acc y + bPart m c p y :=
  (bStep_at (iblk m c 0 p) (iblk m c 1 p) (iblk m c 4 p) acc y).trans (congrArg _ (Fin.sum_fin_congr fun i =>
    congrArg₂ (· * ·) (db_at m c p i (y 1)) (nb_at m c p i (y 1))))

end steps

/-- The four points take the rows, one run of them after another. -/
theorem allRows (f : Fin 4096 → EReal) (t : Fin cfg0.N) (h : t.val % 4 = 3) :
    ∑ s : Fin 4, ∑ i : Fin 1024, f (prow ⟨4 * (t.val / 4) + s, Pipeline.run_point_lt_of_flush t h s⟩ i) = ∑ l : Fin 4096, f l := by
  refine Fin.sum_mul_add_congr fun s k hl => congrArg f (Fin.ext ?_)
  have := lt_of_lt_of_eq t.isLt points
  unfold prow
  dsimp only
  omega

theorem wSum (c : Dev nD) (t : Fin cfg0.N) (h : t.val % 4 = 3) (y : S1024x1024.Idx) :
    (outsAt0 m c t.val t.isLt).2.2.1 y = (ins m c).gw (y 0) (y 1) := by
  rw [Pipeline.eq_sum_fin_of_reset_step_apply_of_flush (fun n h => (outsAt0 m c n h).2.2.1) 4 (fun _ => 0) (fun p y => wPart m c p y)
    (fun t h y => by rw [outsAt0_A m c t h (by omega)]; frame_out; exact (wStep m c t _ y).trans (by rw [zeroW_at]))
    (fun t h y => by
      by_cases h1 : t.val % 4 = 3
      · rw [outsAt0_C m c t h h1]; frame_out; exact wStep m c t _ y
      · rw [outsAt0_B m c t h h1]; frame_out; exact wStep m c t _ y)
    t h y, zero_add]
  exact allRows (fun l => (ins m c).oab (ix2 l (y 0)) * (ins m c).dmix (ix2 l (y 1))) t h
theorem aSum (c : Dev nD) (t : Fin cfg0.N) (h : t.val % 4 = 3) (y : S1x512.Idx) :
    (outsAt0 m c t.val t.isLt).2.2.2.2.1 y = (ins m c).dga (y 1) := by
  rw [Pipeline.eq_sum_fin_of_reset_step_apply_of_flush (fun n h => (outsAt0 m c n h).2.2.2.2.1) 4 (fun _ => 0) (fun p y => aPart m c p y)
    (fun t h y => by rw [outsAt0_A m c t h (by omega)]; frame_out; exact (aStep m c t _ y).trans (by rw [zeroA_at]))
    (fun t h y => by
      by_cases h1 : t.val % 4 = 3
      · rw [outsAt0_C m c t h h1]; frame_out; exact aStep m c t _ y
      · rw [outsAt0_B m c t h h1]; frame_out; exact aStep m c t _ y)
    t h y, zero_add]
  exact allRows (fun l => (ins m c).da l (y 1) * Rms.norm Rms.w512 ((ins m c).xa l) (y 1)) t h
theorem bSum (c : Dev nD) (t : Fin cfg0.N) (h : t.val % 4 = 3) (y : S1x512.Idx) :
    (outsAt0 m c t.val t.isLt).2.2.2.2.2 y = (ins m c).dgb (y 1) := by
  rw [Pipeline.eq_sum_fin_of_reset_step_apply_of_flush (fun n h => (outsAt0 m c n h).2.2.2.2.2) 4 (fun _ => 0) (fun p y => bPart m c p y)
    (fun t h y => by rw [outsAt0_A m c t h (by omega)]; frame_out; exact (bStep m c t _ y).trans (by rw [zeroB_at]))
    (fun t h y => by
      by_cases h1 : t.val % 4 = 3
      · rw [outsAt0_C m c t h h1]; frame_out; exact bStep m c t _ y
      · rw [outsAt0_B m c t h h1]; frame_out; exact bStep m c t _ y)
    t h y, zero_add]
  exact allRows (fun l => (ins m c).db l (y 1) * Rms.norm Rms.w512 ((ins m c).xb l) (y 1)) t h
/-- The copy the last point writes is of the sum it leaves. -/
theorem copy_last (c : Dev nD) (t : Fin cfg0.N) (h : t.val % 4 = 3) (y : S1024x1024.Idx) :
    (outsAt0 m c t.val t.isLt).2.2.2.1 y = (outsAt0 m c t.val t.isLt).2.2.1 y := by
  rw [outsAt0_C m c t (by omega) h]
  frame_out
  exact copy_at _ y
theorem doaOut (c : Dev nD) (t : Fin cfg0.N) (y : S1024x512.Idx) : (outsAt0 m c t.val t.isLt).1 y = (ins m c).doa (prow t (y 0)) (y 1) := by
  rw [← doa_at m c t (y 0) (y 1), ← ix2_eta y]
  by_cases h0 : t.val % 4 = 0
  · rw [outsAt0_A m c t h0 (by omega)]; frame_out; rfl
  · by_cases h1 : t.val % 4 = 3
    · rw [outsAt0_C m c t h0 h1]; frame_out; rfl
    · rw [outsAt0_B m c t h0 h1]; frame_out; rfl
theorem dobOut (c : Dev nD) (t : Fin cfg0.N) (y : S1024x512.Idx) : (outsAt0 m c t.val t.isLt).2.1 y = (ins m c).dob (prow t (y 0)) (y 1) := by
  rw [← dob_at m c t (y 0) (y 1), ← ix2_eta y]
  by_cases h0 : t.val % 4 = 0
  · rw [outsAt0_A m c t h0 (by omega)]; frame_out; rfl
  · by_cases h1 : t.val % 4 = 3
    · rw [outsAt0_C m c t h0 h1]; frame_out; rfl
    · rw [outsAt0_B m c t h0 h1]; frame_out; rfl

theorem doa_array (c : Dev nD) : (dats m 0 c).arrAt 7 cfg0.N = fun y => (ins m c).doa (y 0) (y 1) := by
  refine (dats m 0 c).arrAt_eq_of_covers 7 _ (by decide +kernel) fun t _ y => ?_
  blk_simp
  rw [after0_7]
  refine (doaOut m c t _).trans (congrArg₂ (ins m c).doa (Fin.ext ?_) (Fin.ext ?_)) <;> (try unfold prow) <;> blk_simp [idx t] <;> try omega
theorem dob_array (c : Dev nD) : (dats m 0 c).arrAt 8 cfg0.N = fun y => (ins m c).dob (y 0) (y 1) := by
  refine (dats m 0 c).arrAt_eq_of_covers 8 _ (by decide +kernel) fun t _ y => ?_
  blk_simp
  rw [after0_8]
  refine (dobOut m c t _).trans (congrArg₂ (ins m c).dob (Fin.ext ?_) (Fin.ext ?_)) <;> (try unfold prow) <;> blk_simp [idx t] <;> try omega
theorem gw_array (c : Dev nD) : (dats m 0 c).arrAt 9 cfg0.N = fun y => (ins m c).gw (y 0) (y 1) := by
  refine (dats m 0 c).arrAt_eq_of_covers 9 _ (by decide +kernel) fun t hf y => ?_
  blk_simp
  rw [after0_9]
  refine (wSum m c t ((flush0_9 t).mp hf) _).trans (congrArg₂ (ins m c).gw (Fin.ext ?_) (Fin.ext ?_)) <;> blk_simp [idx t] <;> try omega
theorem copy_array (c : Dev nD) : (dats m 0 c).arrAt 10 cfg0.N = fun y => (ins m c).gw (y 0) (y 1) := by
  refine (dats m 0 c).arrAt_eq_of_covers 10 _ (by decide +kernel) fun t hf y => ?_
  blk_simp
  rw [after0_10]
  refine (copy_last m c t ((flush0_10 t).mp hf) _).trans ((wSum m c t ((flush0_10 t).mp hf) _).trans
    (congrArg₂ (ins m c).gw (Fin.ext ?_) (Fin.ext ?_))) <;> blk_simp [idx t] <;> try omega
theorem dga_array (c : Dev nD) : (dats m 0 c).arrAt 11 cfg0.N = fun y => (ins m c).dga (y 1) := by
  refine (dats m 0 c).arrAt_eq_of_covers 11 _ (by decide +kernel) fun t hf y => ?_
  blk_simp
  rw [after0_11]
  refine (aSum m c t ((flush0_11 t).mp hf) _).trans (congrArg (ins m c).dga (Fin.ext ?_)) <;> blk_simp [idx t] <;> try omega
theorem dgb_array (c : Dev nD) : (dats m 0 c).arrAt 12 cfg0.N = fun y => (ins m c).dgb (y 1) := by
  refine (dats m 0 c).arrAt_eq_of_covers 12 _ (by decide +kernel) fun t hf y => ?_
  blk_simp
  rw [after0_12]
  refine (bSum m c t ((flush0_12 t).mp hf) _).trans (congrArg (ins m c).dgb (Fin.ext ?_)) <;> blk_simp [idx t] <;> try omega

end Cert.Kernel5Ideal.OutBack

end
-- ==== Proof.OutRef.lean ====
/- The reference's gradient through the output projection, at an index. -/
module

public import proofs.«01_k».proof.Proof.Gen.Reference5Ideal.Read
public import proofs.«01_k».proof.Proof.OutBack
public import proofs.«01_k».proof.Proof.RefVals

@[expose] public section

noncomputable section

namespace Cert.Reference5Ideal.OutRef

open Cert.Reference5Ideal Cert.Reference5Ideal.Gen Cert.Reference5Ideal.Read Idealize.ShloMosaic Idealize.ShloMosaic.TcCoe
open Cert.Kernel5Ideal.OutBack (Args)
open scoped BigOperators

variable (A : Args) (l : Fin 4096) (k : Fin 512)

theorem gw_at (i j : Fin 1024) : val_main_v5 A.dmix A.oab (ix2 i j) = A.gw i j := by
  unfold val_main_v5 val_main_v4 val_main_v3 val_main_v0 Args.gw
  generalize A.dmix = x
  generalize A.oab = z
  pointwise
  exact Fin.sum_fin_congr fun l => mul_comm _ _
theorem copy_at (i j : Fin 1024) : val_main_v86 A.dmix A.oab (ix2 i j) = A.gw i j := by
  unfold val_main_v86
  rw [← gw_at A i j]
  generalize val_main_v5 A.dmix A.oab = x
  pointwise
theorem v6_at (k : Fin 1024) : val_main_v6 A.dmix A.w (ix2 l k) = A.dh l k := by
  unfold val_main_v6 val_main_v3 val_main_v1 Args.dh
  generalize A.dmix = x
  generalize A.w = z
  pointwise
theorem v42_at : val_main_v42 A.dmix A.w (ix2 l k) = A.da l k := by
  unfold val_main_v42 Args.da
  rw [← v6_at A l]
  generalize val_main_v6 A.dmix A.w = x
  pointwise
  try blk_ext []
theorem v43_at : val_main_v43 A.dmix A.w (ix2 l k) = A.db l k := by
  unfold val_main_v43 Args.db
  rw [← v6_at A l]
  generalize val_main_v6 A.dmix A.w = x
  pointwise

theorem v15_at : val_main_v15 A.oa (ix2 l 0) = Rms.var Rms.w512 (A.xa l) := by
  unfold val_main_v15 val_main_v14 val_main_v13 val_main_v12 val_main_v11 val_main_v10 val_main_v9 val_main_cst val_main_cst_0 val_main_cst_1 Rms.var Args.xa
  generalize A.oa = x
  pointwise
theorem v16_at : val_main_v16 A.oa (ix2 l 0) = Rms.inv Rms.w512 (A.xa l) := by
  unfold val_main_v16 Rms.inv
  rw [← v15_at A l]
  rfl
theorem v19_at : val_main_v19 A.oa (ix2 l 0) = Rms.mhalf * Ideal.div (Rms.inv Rms.w512 (A.xa l)) (Rms.var Rms.w512 (A.xa l)) := by
  unfold val_main_v19 val_main_v18 val_main_v17 val_main_cst_2
  rw [← v16_at A l, ← v15_at A l]
  generalize val_main_v16 A.oa = x
  generalize val_main_v15 A.oa = z
  pointwise
theorem v21_at : val_main_v21 A.oa (ix2 l k) = Rms.norm Rms.w512 (A.xa l) k := by
  unfold val_main_v21 val_main_v20 Rms.norm
  rw [← v16_at A l]
  unfold Args.xa
  generalize val_main_v16 A.oa = x
  generalize A.oa = z
  pointwise
theorem v68_at : val_main_v68 A.dmix A.w A.ga (ix2 l k) = A.ea l k := by
  unfold val_main_v68 val_main_v67 val_main_v22 val_main_v7 Args.ea
  rw [← v42_at A l k]
  generalize val_main_v42 A.dmix A.w = x
  generalize A.ga = z
  pointwise
theorem v72_at : val_main_v72 A.dmix A.w A.oa A.ga (ix2 l 0) = ∑ k, A.xa l k * A.ea l k := by
  unfold val_main_v72 val_main_v71 val_main_v70 val_main_cst_14 Args.xa
  have e := v68_at A l
  generalize val_main_v68 A.dmix A.w A.ga = x at e
  generalize A.oa = z
  pointwise
  simp only [e]
theorem v77_at : val_main_v77 A.dmix A.w A.oa A.ga (ix2 l 0) = Rms.slope Rms.w512 (A.xa l) (A.ea l) := by
  unfold val_main_v77 val_main_v76 val_main_v75 val_main_cst_15 Rms.slope
  rw [← v72_at A l, ← v19_at A l]
  generalize val_main_v72 A.dmix A.w A.oa A.ga = x
  generalize val_main_v19 A.oa = z
  pointwise
theorem v79_at : val_main_v79 A.dmix A.w A.oa A.ga (ix2 l k) = Rms.slope Rms.w512 (A.xa l) (A.ea l) := by
  unfold val_main_v79 val_main_v78 val_main_cst_16
  rw [← v77_at A l]
  generalize val_main_v77 A.dmix A.w A.oa A.ga = x
  pointwise
  exact Fin.sum_univ_one _
theorem v74_at : val_main_v74 A.dmix A.w A.oa A.ga (ix2 l k) = A.ea l k * Rms.inv Rms.w512 (A.xa l) := by
  unfold val_main_v74 val_main_v73
  rw [← v68_at A l k, ← v16_at A l]
  generalize val_main_v68 A.dmix A.w A.ga = x
  generalize val_main_v16 A.oa = z
  pointwise
theorem doa_at : val_main_v84 A.dmix A.w A.oa A.ga (ix2 l k) = A.doa l k := by
  unfold val_main_v84 val_main_v83 val_main_v82 val_main_v81 val_main_v80 Args.doa
  refine Eq.trans ?_ (zero_add _)
  rw [← Rms.back_eq Rms.w512 (A.xa l) (A.ea l) 512 Rms.w512_eq (by norm_num), zero_add, ← v74_at A l k, ← v79_at A l k]
  unfold Args.xa
  generalize val_main_v79 A.dmix A.w A.oa A.ga = x
  generalize val_main_v74 A.dmix A.w A.oa A.ga = z
  generalize A.oa = u
  pointwise
theorem v64_at : val_main_v64 A.dmix A.w A.oa (ix2 l k) = A.da l k * Rms.norm Rms.w512 (A.xa l) k := by
  unfold val_main_v64
  rw [← v42_at A l k, ← v21_at A l k]
  generalize val_main_v42 A.dmix A.w = x
  generalize val_main_v21 A.oa = z
  pointwise
  exact mul_comm _ _
theorem dga_at : val_main_v87 A.dmix A.w A.oa (ix2 0 k) = A.dga k := by
  unfold val_main_v87 val_main_v69 val_main_v66 val_main_v65 val_main_cst_12 val_main_cst_13 Args.dga
  have e := fun l => v64_at A l k
  generalize val_main_v64 A.dmix A.w A.oa = x at e
  pointwise
  refine (Fin.sum_univ_one _).trans ?_
  simp only [e]

theorem v31_at : val_main_v31 A.ob (ix2 l 0) = Rms.var Rms.w512 (A.xb l) := by
  unfold val_main_v31 val_main_v30 val_main_v29 val_main_v28 val_main_v27 val_main_v26 val_main_v25 val_main_cst_3 val_main_cst_4 val_main_cst_5 Rms.var Args.xb
  generalize A.ob = x
  pointwise
theorem v32_at : val_main_v32 A.ob (ix2 l 0) = Rms.inv Rms.w512 (A.xb l) := by
  unfold val_main_v32 Rms.inv
  rw [← v31_at A l]
  rfl
theorem v35_at : val_main_v35 A.ob (ix2 l 0) = Rms.mhalf * Ideal.div (Rms.inv Rms.w512 (A.xb l)) (Rms.var Rms.w512 (A.xb l)) := by
  unfold val_main_v35 val_main_v34 val_main_v33 val_main_cst_6
  rw [← v32_at A l, ← v31_at A l]
  generalize val_main_v32 A.ob = x
  generalize val_main_v31 A.ob = z
  pointwise
theorem v37_at : val_main_v37 A.ob (ix2 l k) = Rms.norm Rms.w512 (A.xb l) k := by
  unfold val_main_v37 val_main_v36 Rms.norm
  rw [← v32_at A l]
  unfold Args.xb
  generalize val_main_v32 A.ob = x
  generalize A.ob = z
  pointwise
theorem v48_at : val_main_v48 A.dmix A.w A.gb (ix2 l k) = A.eb l k := by
  unfold val_main_v48 val_main_v47 val_main_v38 val_main_v8 Args.eb
  rw [← v43_at A l k]
  generalize val_main_v43 A.dmix A.w = x
  generalize A.gb = z
  pointwise
theorem v52_at : val_main_v52 A.dmix A.w A.ob A.gb (ix2 l 0) = ∑ k, A.xb l k * A.eb l k := by
  unfold val_main_v52 val_main_v51 val_main_v50 val_main_cst_9 Args.xb
  have e := v48_at A l
  generalize val_main_v48 A.dmix A.w A.gb = x at e
  generalize A.ob = z
  pointwise
  simp only [e]
theorem v57_at : val_main_v57 A.dmix A.w A.ob A.gb (ix2 l 0) = Rms.slope Rms.w512 (A.xb l) (A.eb l) := by
  unfold val_main_v57 val_main_v56 val_main_v55 val_main_cst_10 Rms.slope
  rw [← v52_at A l, ← v35_at A l]
  generalize val_main_v52 A.dmix A.w A.ob A.gb = x
  generalize val_main_v35 A.ob = z
  pointwise
theorem v59_at : val_main_v59 A.dmix A.w A.ob A.gb (ix2 l k) = Rms.slope Rms.w512 (A.xb l) (A.eb l) := by
  unfold val_main_v59 val_main_v58 val_main_cst_11
  rw [← v57_at A l]
  generalize val_main_v57 A.dmix A.w A.ob A.gb = x
  pointwise
  exact Fin.sum_univ_one _
theorem v54_at : val_main_v54 A.dmix A.w A.ob A.gb (ix2 l k) = A.eb l k * Rms.inv Rms.w512 (A.xb l) := by
  unfold val_main_v54 val_main_v53
  rw [← v48_at A l k, ← v32_at A l]
  generalize val_main_v48 A.dmix A.w A.gb = x
  generalize val_main_v32 A.ob = z
  pointwise
theorem dob_at : val_main_v85 A.dmix A.w A.ob A.gb (ix2 l k) = A.dob l k := by
  unfold val_main_v85 val_main_v63 val_main_v62 val_main_v61 val_main_v60 Args.dob
  refine Eq.trans ?_ (zero_add _)
  rw [← Rms.back_eq Rms.w512 (A.xb l) (A.eb l) 512 Rms.w512_eq (by norm_num), zero_add, ← v54_at A l k, ← v59_at A l k]
  unfold Args.xb
  generalize val_main_v59 A.dmix A.w A.ob A.gb = x
  generalize val_main_v54 A.dmix A.w A.ob A.gb = z
  generalize A.ob = u
  pointwise
theorem v44_at : val_main_v44 A.dmix A.w A.ob (ix2 l k) = A.db l k * Rms.norm Rms.w512 (A.xb l) k := by
  unfold val_main_v44
  rw [← v43_at A l k, ← v37_at A l k]
  generalize val_main_v43 A.dmix A.w = x
  generalize val_main_v37 A.ob = z
  pointwise
  exact mul_comm _ _
theorem dgb_at : val_main_v88 A.dmix A.w A.ob (ix2 0 k) = A.dgb k := by
  unfold val_main_v88 val_main_v49 val_main_v46 val_main_v45 val_main_cst_7 val_main_cst_8 Args.dgb
  have e := fun l => v44_at A l k
  generalize val_main_v44 A.dmix A.w A.ob = x at e
  pointwise
  refine (Fin.sum_univ_one _).trans ?_
  simp only [e]

end Cert.Reference5Ideal.OutRef
end
-- ==== Proof.Call5.lean ====
/- The gradient through the output projection and the normalisations before it: its claims. -/
module

public import proofs.«01_k».proof.Defs
public import proofs.«01_k».proof.Proof.Gen.Kernel5
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.OutBack
public import proofs.«01_k».proof.Proof.OutRef
public import Idealize.ShloMosaic.Adequacy
public import Idealize.ShloMosaic.Init

@[expose] public section

noncomputable section

namespace Cert.Call5

open Idealize.ShloMosaic Idealize.SL.Sem
open scoped BigOperators

set_option maxHeartbeats 1000000 in
/-- The two programs have one text: their tables of bodies are the same. -/
theorem defs_eq {F : FTy → Type} [FloatOps F] : Cert.Kernel5Ideal.defs (F := F) = Cert.Kernel5.defs := by
  have h : Cert.Kernel5Ideal.defs₀ (F := F) = Cert.Kernel5.defs₀ := by
    unfold Cert.Kernel5Ideal.defs₀ Cert.Kernel5.defs₀
    congr 1
    funext x y
    obtain ⟨n, hn⟩ := x
    cases n with
    | zero => obtain ⟨t, s⟩ := y; rfl
    | succ n => exact absurd hn (Nat.not_lt.2 (Nat.le_add_left _ _))
  exact congrArg (Pipeline.defs (Cert.Kernel5Ideal.pcfgs (F := F))) h

set_option maxHeartbeats 1000000 in
theorem frame_kernel : Cert.quiescent_Kernel5 := fun m ρ _ => by
  have h := Cert.Kernel5Ideal.Gen.frame (F := Bits) m ρ
  rw [defs_eq] at h
  exact h

theorem frame_kernelIdeal : Cert.quiescent_Kernel5Ideal := fun m ρ _ => Cert.Kernel5Ideal.Gen.frame m ρ

theorem frame_reference : Cert.quiescent_Reference5Ideal := fun m ρ _ =>
  (θ_run Cert.Reference5Ideal.defs _ _).mono (fun r h => ⟨fun c => (h c).2.2.2.2.2.2, sem_eq_zero_of_no_sems (by decide) r.2⟩)
    (Cert.Reference5Ideal.Value.run m ρ)

open Cert.Reference5Ideal in
theorem ix2_unit (y : S1x512.Idx) : ix2 0 (y 1) = y :=
  (congrArg (fun j : Fin 1 => ix2 j (y 1)) (Subsingleton.elim _ _)).trans (ix2_eta y)

theorem algebraic : Cert.algebraic_Kernel5Ideal_Reference5Ideal := fun m g m' g' _ heq =>
  ⟨fun c y => (Cert.Kernel5Ideal.OutBack.ins m c).doa (y 0) (y 1),
    fun c y => (Cert.Kernel5Ideal.OutBack.ins m c).dob (y 0) (y 1),
    fun c y => (Cert.Kernel5Ideal.OutBack.ins m c).gw (y 0) (y 1),
    fun c y => (Cert.Kernel5Ideal.OutBack.ins m c).gw (y 0) (y 1),
    fun c y => (Cert.Kernel5Ideal.OutBack.ins m c).dga (y 1),
    fun c y => (Cert.Kernel5Ideal.OutBack.ins m c).dgb (y 1),
    (θ_run _ _ _).mono (fun r h c => ⟨(h c).1.trans (Cert.Kernel5Ideal.OutBack.doa_array m c), (h c).2.1.trans (Cert.Kernel5Ideal.OutBack.dob_array m c), (h c).2.2.1.trans (Cert.Kernel5Ideal.OutBack.gw_array m c), (h c).2.2.2.1.trans (Cert.Kernel5Ideal.OutBack.copy_array m c), (h c).2.2.2.2.1.trans (Cert.Kernel5Ideal.OutBack.dga_array m c), (h c).2.2.2.2.2.1.trans (Cert.Kernel5Ideal.OutBack.dgb_array m c), (h c).2.2.2.2.2.2⟩)
      (Cert.Kernel5Ideal.Value.run_blocks m g),
    (θ_run _ _ _).mono (fun r h c => by
      obtain ⟨e0, e1, e2, e3, e4, e5, e6⟩ := heq c
      refine ⟨(h c).1.trans ?_, (h c).2.1.trans ?_, (h c).2.2.1.trans ?_, (h c).2.2.2.1.trans ?_, (h c).2.2.2.2.1.trans ?_, (h c).2.2.2.2.2.1.trans ?_, (h c).2.2.2.2.2.2⟩
      · rw [Cert.Reference5Ideal.Read.val_main_v84_eq, e0, e1, e3, e5]
        funext y
        exact (congrArg _ (ix2_eta y).symm).trans (Cert.Reference5Ideal.OutRef.doa_at (Cert.Kernel5Ideal.OutBack.ins m c) (y 0) (y 1))
      · rw [Cert.Reference5Ideal.Read.val_main_v85_eq, e0, e1, e4, e6]
        funext y
        exact (congrArg _ (ix2_eta y).symm).trans (Cert.Reference5Ideal.OutRef.dob_at (Cert.Kernel5Ideal.OutBack.ins m c) (y 0) (y 1))
      · rw [Cert.Reference5Ideal.Read.val_main_v5_eq, e0, e2]
        funext y
        exact (congrArg _ (ix2_eta y).symm).trans (Cert.Reference5Ideal.OutRef.gw_at (Cert.Kernel5Ideal.OutBack.ins m c) (y 0) (y 1))
      · rw [Cert.Reference5Ideal.Read.val_main_v86_eq, e0, e2]
        funext y
        exact (congrArg _ (ix2_eta y).symm).trans (Cert.Reference5Ideal.OutRef.copy_at (Cert.Kernel5Ideal.OutBack.ins m c) (y 0) (y 1))
      · rw [Cert.Reference5Ideal.Read.val_main_v87_eq, e0, e1, e3]
        funext y
        exact (congrArg _ (ix2_unit y).symm).trans (Cert.Reference5Ideal.OutRef.dga_at (Cert.Kernel5Ideal.OutBack.ins m c) (y 1))
      · rw [Cert.Reference5Ideal.Read.val_main_v88_eq, e0, e1, e4]
        funext y
        exact (congrArg _ (ix2_unit y).symm).trans (Cert.Reference5Ideal.OutRef.dgb_at (Cert.Kernel5Ideal.OutBack.ins m c) (y 1)))
      (Cert.Reference5Ideal.Value.run m' g')⟩

end Cert.Call5

end
-- ==== Proof.InRows.lean ====
/- The gradient through the mixer's input projection and the row normalisation before it: a point's rows as functions of the arguments. -/
module

public import proofs.«01_k».proof.Proof.Gen.Kernel6Ideal.Value
public import proofs.«01_k».proof.Proof.Rms
public import Idealize.ShloMosaic.Lib.Pipeline.ValueKit
public import Idealize.ShloMosaic.Lib.StableHlo.RunRead

@[expose] public section

noncomputable section

namespace Cert.Kernel6Ideal.InBack

open Cert.Kernel6Ideal Cert.Kernel6Ideal.Gen Idealize.ShloMosaic Idealize.ShloMosaic.TcCoe Idealize.ShloMosaic.Pipeline
open scoped BigOperators

/-- The arguments: the gradients by the first attention's queries, keys and values, by the second attention's turned queries and keys
    and its values, the projection's weight with a row for every column of the projection, the rows it took, the rows normalised, the
    modulation of each half of the rows, the scale of the normalisation, the gradient by the sum behind, and the cosines and sines of
    the angles. -/
structure Args where
  dqa : Vec Ideal S4096x512 .bf16
  dka : Vec Ideal S4096x512 .bf16
  dva : Vec Ideal S4096x512 .bf16
  dq : Vec Ideal S4096x512 .f32
  dk : Vec Ideal S4096x128 .f32
  dv : Vec Ideal S4096x128 .bf16
  w : Vec Ideal S2304x1024 .bf16
  h1 : Vec Ideal S4096x1024 .bf16
  x0 : Vec Ideal S4096x1024 .f32
  md : Vec Ideal S2x1x6144 .f32
  g : Vec Ideal S1x1024 .f32
  dx1 : Vec Ideal S4096x1024 .f32
  cos : Vec Ideal S2048x32 .f32
  sin : Vec Ideal S2048x32 .f32

namespace Args

variable (A : Args)

def pos (l : Fin 4096) : Fin 2048 := ⟨l.val % 2048, by omega⟩
/-- The gradient by the turned queries and keys side by side. -/
def qk (l : Fin 4096) (j : Fin 640) : EReal := if h : j.val < 512 then A.dq (ix2 l ⟨j.val, h⟩) else A.dk (ix2 l ⟨j.val - 512, by omega⟩)
def cosAt (l : Fin 4096) (j : Fin 640) : EReal := A.cos (ix2 (pos l) ⟨j.val % 32, by omega⟩)
def sinAt (l : Fin 4096) (j : Fin 640) : EReal := A.sin (ix2 (pos l) ⟨j.val % 32, by omega⟩)
/-- The gradient by the queries and keys before the turn: each head's columns turned back. -/
def turned (l : Fin 4096) (j : Fin 640) : EReal :=
  if h : j.val % 64 < 32 then A.qk l j * A.cosAt l j + A.qk l ⟨j.val + 32, by omega⟩ * A.sinAt l j
  else A.qk l j * A.cosAt l j + A.qk l ⟨j.val - 32, by omega⟩ * -A.sinAt l j
/-- The gradient by the projection. -/
def proj (l : Fin 4096) (n : Fin 2304) : EReal :=
  if h : n.val < 512 then A.dqa (ix2 l ⟨n.val, h⟩)
  else if h : n.val < 1024 then A.dka (ix2 l ⟨n.val - 512, by omega⟩)
  else if h : n.val < 1536 then A.dva (ix2 l ⟨n.val - 1024, by omega⟩)
  else if h : n.val < 2176 then A.turned l ⟨n.val - 1536, by omega⟩
  else A.dv (ix2 l ⟨n.val - 2176, by omega⟩)
def gw (n : Fin 2304) (k : Fin 1024) : EReal := ∑ l : Fin 4096, A.proj l n * A.h1 (ix2 l k)
/-- The gradient by the modulated row. -/
def dh (l : Fin 4096) (k : Fin 1024) : EReal := ∑ n : Fin 2304, A.proj l n * A.w (ix2 n k)
def scale (l : Fin 4096) (k : Fin 1024) : EReal := A.md (ix3 ⟨l.val / 2048, by omega⟩ 0 ⟨1024 + k.val, by omega⟩)
def x (l : Fin 4096) (k : Fin 1024) : EReal := A.x0 (ix2 l k)
/-- The gradient by the normalised and scaled row. -/
def dxg (l : Fin 4096) (k : Fin 1024) : EReal := A.dh l k * (1 + A.scale l k)
def dxn (l : Fin 4096) (k : Fin 1024) : EReal := A.dxg l k * A.g (ix2 0 k)
def xn (l : Fin 4096) : Fin 1024 → EReal := Rms.norm Rms.w1024 (A.x l)
def dx (l : Fin 4096) (k : Fin 1024) : EReal := A.dx1 (ix2 l k) + Rms.back Rms.w1024 (A.x l) (A.dxn l) k
def row (b : Fin 2) (s : Fin 2048) : Fin 4096 := ⟨b.val * 2048 + s.val, by omega⟩
def dshift (b : Fin 2) (k : Fin 1024) : EReal := ∑ s : Fin 2048, A.dh (row b s) k
def dscale (b : Fin 2) (k : Fin 1024) : EReal := ∑ s : Fin 2048, A.dh (row b s) k * (A.xn (row b s) k * A.g (ix2 0 k))
def dg (k : Fin 1024) : EReal := ∑ l : Fin 4096, A.dxg l k * A.xn l k

end Args

section payloads

/-- Whether a column is of the first half of its head. -/
def firstHalf : IVec S512x640 1 :=
  cmpi .slt (Idealize.ShloMosaic.select (andi (xori (cmpi .slt k0_pay11 (broadcast S512x640 0#32))
    (broadcastTo S512x640 (broadcast S512x640 (Scalar.cmpi .slt 64#32 0#32)) broadcasts_S512x640_S512x640)) k0_pay12)
    (addi k0_pay11 (broadcast S512x640 64#32)) k0_pay11) (broadcast S512x640 32#32)
theorem firstHalf_at (i : Fin 512) (j : Fin 640) : firstHalf (ix2 i j) = if j.val % 64 < 32 then 1#1 else 0#1 := by
  pointwise [firstHalf, k0_pay11, k0_pay12]
  revert j
  decide +kernel

variable (a : Vec Ideal S512x512 .f32) (b cs sn : Vec Ideal S512x128 .f32) (u v : FVec Ideal S512x640 .f32) (i : Fin 512)

/-- Two blocks side by side, and one block five times. -/
def pair (j : Fin 640) : EReal := if h : j.val < 512 then a (ix2 i ⟨j.val, h⟩) else b (ix2 i ⟨j.val - 512, by omega⟩)
theorem pair_at (j : Fin 640) : k0_pay8 (F := Ideal) a b (ix2 i j) = pair a b i j := by
  unfold pair
  pointwise [k0_pay8]
theorem five (d : Fin 128 → EReal) (j : Fin 640) : (if h : j.val < 128 then d ⟨j.val, h⟩
    else if h : j.val - 128 < 128 then d ⟨j.val - 128, h⟩ else if h : j.val - 128 - 128 < 128 then d ⟨j.val - 128 - 128, h⟩
    else if h : j.val - 128 - 128 - 128 < 128 then d ⟨j.val - 128 - 128 - 128, h⟩ else d ⟨j.val - 128 - 128 - 128 - 128, by omega⟩)
    = d ⟨j.val % 128, by omega⟩ := by
  split_ifs <;> refine congrArg d (Fin.ext ?_) <;> dsimp only <;> omega
theorem cosTimes_at (j : Fin 640) : k0_pay9 (F := Ideal) a b cs (ix2 i j) = pair a b i j * cs (ix2 i ⟨j.val % 128, by omega⟩) := by
  rw [← pair_at a b i j, ← five (fun k => cs (ix2 i k)) j]
  unfold k0_pay9
  generalize k0_pay8 (F := Ideal) a b = p
  pointwise
theorem sinTimes_at (j : Fin 640) : k0_pay10 (F := Ideal) a b sn (ix2 i j) = pair a b i j * sn (ix2 i ⟨j.val % 128, by omega⟩) := by
  rw [← pair_at a b i j, ← five (fun k => sn (ix2 i k)) j]
  unfold k0_pay10
  generalize k0_pay8 (F := Ideal) a b = p
  pointwise
def turn : FVec Ideal S512x640 .f32 :=
  addf u (Idealize.ShloMosaic.select firstHalf (dynamicRotate 1 608#32 none v rotates_S512x640_d1) (dynamicRotate 1 32#32 none v rotates_S512x640_d1))
theorem turn_at (j : Fin 640) : turn u v (ix2 i j) = if h : j.val % 64 < 32 then u (ix2 i j) + v (ix2 i ⟨j.val + 32, by omega⟩)
    else u (ix2 i j) + v (ix2 i ⟨j.val - 32, by omega⟩) := by
  have e := firstHalf_at i j
  unfold turn
  generalize firstHalf = f at e ⊢
  pointwise
  rw [e]
  by_cases h : j.val % 64 < 32
  · rw [if_pos h, dif_pos h]
    refine congrArg (fun n => u (ix2 i j) + v (ix2 i n)) (Fin.ext ?_)
    dsimp only
    omega
  · rw [if_neg h, dif_neg h]
    refine congrArg (fun n => u (ix2 i j) + v (ix2 i n)) (Fin.ext ?_)
    dsimp only
    omega

variable (p q r : Vec Ideal S512x512 .bf16) (d : Vec Ideal S512x128 .bf16)

/-- The gradient by the projection at a point, its five blocks side by side. -/
theorem proj_at (n : Fin 2304) : k0_pay13 (F := Ideal) u v 64#32 k0_pay11 k0_pay12 0#32 p q r d (ix2 i n)
    = if h : n.val < 512 then p (ix2 i ⟨n.val, h⟩)
      else if h : n.val < 1024 then q (ix2 i ⟨n.val - 512, by omega⟩)
      else if h : n.val < 1536 then r (ix2 i ⟨n.val - 1024, by omega⟩)
      else if h : n.val < 2176 then turn u v (ix2 i ⟨n.val - 1536, by omega⟩)
      else d (ix2 i ⟨n.val - 2176, by omega⟩) := by
  have e : k0_pay13 (F := Ideal) u v 64#32 k0_pay11 k0_pay12 0#32 p q r d = concatenate S512x2304 1 [⟨S512x512, p⟩, ⟨S512x512, q⟩,
      ⟨S512x512, r⟩, ⟨S512x640, truncf (F := Ideal) .bf16 (turn u v) bitsLt_bf16_f32⟩, ⟨S512x128, d⟩]
      concatenates_S512x512_S512x512_S512x512_S512x640_S512x128_S512x2304_d1 := rfl
  rw [e]
  generalize turn u v = f
  pointwise
  by_cases h1 : n.val < 512
  · rw [dif_pos h1, dif_pos h1]
  rw [dif_neg h1, dif_neg h1]
  by_cases h2 : n.val < 1024
  · rw [dif_pos (show n.val - 512 < 512 by omega), dif_pos h2]
  rw [dif_neg (show ¬ n.val - 512 < 512 by omega), dif_neg h2]
  by_cases h3 : n.val < 1536
  · rw [dif_pos (show n.val - 512 - 512 < 512 by omega), dif_pos h3]
    exact congrArg r (congrArg (ix2 i) (Fin.ext (by dsimp only; omega)))
  rw [dif_neg (show ¬ n.val - 512 - 512 < 512 by omega), dif_neg h3]
  by_cases h4 : n.val < 2176
  · rw [dif_pos (show n.val - 512 - 512 - 512 < 640 by omega), dif_pos h4]
    exact congrArg f (congrArg (ix2 i) (Fin.ext (by dsimp only; omega)))
  rw [dif_neg (show ¬ n.val - 512 - 512 - 512 < 640 by omega), dif_neg h4]
  exact congrArg d (congrArg (ix2 i) (Fin.ext (by dsimp only; omega)))

end payloads

variable (m : (ℓ : Loc nD τ sig) → Buf (Elt Ideal) ℓ)

def ins (c : Dev nD) : Args :=
  ⟨m ((c.tc : Thread nD τ).loc main_arg0), m ((c.tc : Thread nD τ).loc main_arg1), m ((c.tc : Thread nD τ).loc main_arg2),
    m ((c.tc : Thread nD τ).loc main_arg3), m ((c.tc : Thread nD τ).loc main_arg4), m ((c.tc : Thread nD τ).loc main_arg5),
    m ((c.tc : Thread nD τ).loc main_arg6), m ((c.tc : Thread nD τ).loc main_arg7), m ((c.tc : Thread nD τ).loc main_arg8),
    m ((c.tc : Thread nD τ).loc main_arg9), m ((c.tc : Thread nD τ).loc main_arg10), m ((c.tc : Thread nD τ).loc main_arg11),
    m ((c.tc : Thread nD τ).loc main_arg12), m ((c.tc : Thread nD τ).loc main_arg13)⟩

/-- Four blocks of a table side by side. -/
def side (a b c d : FVec Ideal S2048x32 .f32) : FVec Ideal S2048x128 .f32 :=
  concatenate S2048x128 1 [⟨S2048x32, a⟩, ⟨S2048x32, b⟩, ⟨S2048x32, c⟩, ⟨S2048x32, d⟩]
    concatenates_S2048x32_S2048x32_S2048x32_S2048x32_S2048x128_d1
theorem side_at (a b : FVec Ideal S2048x32 .f32) (s : Fin 2048) (k : Fin 128) :
    side a b a b (ix2 s k) = if k.val % 64 < 32 then a (ix2 s ⟨k.val % 32, by omega⟩) else b (ix2 s ⟨k.val % 32, by omega⟩) := by
  pointwise [side]
  by_cases h1 : k.val < 32
  · rw [dif_pos h1, if_pos (show k.val % 64 < 32 by omega)]
    exact congrArg a (congrArg (ix2 s) (Fin.ext (by dsimp only; omega)))
  rw [dif_neg h1]
  by_cases h2 : k.val - 32 < 32
  · rw [dif_pos h2, if_neg (show ¬ k.val % 64 < 32 by omega)]
    exact congrArg b (congrArg (ix2 s) (Fin.ext (by dsimp only; omega)))
  rw [dif_neg h2]
  by_cases h3 : k.val - 32 - 32 < 32
  · rw [dif_pos h3, if_pos (show k.val % 64 < 32 by omega)]
    exact congrArg a (congrArg (ix2 s) (Fin.ext (by dsimp only; omega)))
  rw [dif_neg h3, if_neg (show ¬ k.val % 64 < 32 by omega)]
  exact congrArg b (congrArg (ix2 s) (Fin.ext (by dsimp only; omega)))
theorem cosTable (c : Dev nD) (a : Vec Ideal S2048x32 .f32) (h : a = m ((c.tc : Thread nD τ).loc main_arg12)) : V m c main_v0 = side a a a a := by
  subst h
  show StableHlo.after hostOps0 _ _ = _
  after_reads_simp
  rfl
theorem sinTable (c : Dev nD) (a : Vec Ideal S2048x32 .f32) (h : a = m ((c.tc : Thread nD τ).loc main_arg13)) :
    V m c main_v3 = side (Host.negf (F := Ideal) a) a (Host.negf (F := Ideal) a) a := by
  subst h
  show StableHlo.after hostOps0 _ _ = _
  after_reads_simp
  rfl

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![0, 0]
    ∧ win0_7.index t = ![t.val, 0] ∧ win0_8.index t = ![t.val, 0] ∧ win0_9.index t = ![t.val / 4, 0, 0] ∧ win0_10.index t = ![0, 0]
    ∧ win0_11.index t = ![t.val, 0] ∧ win0_12.index t = ![t.val % 4, 0] ∧ win0_13.index t = ![t.val % 4, 0]
    ∧ win0_14.index t = ![t.val, 0] ∧ win0_15.index t = ![0, 0] ∧ win0_16.index t = ![0, 0] ∧ win0_17.index t = ![t.val / 4, 0, 0]
    ∧ win0_18.index t = ![t.val / 4, 0, 0] ∧ win0_19.index t = ![0, 0] :=
  (by decide +kernel : ∀ t : Fin grid0.N, _)
theorem points : cfg0.N = 8 := by decide +kernel

def prow (p : Fin cfg0.N) (i : Fin 512) : Fin 4096 := ⟨p.val * 512 + i.val, by have := lt_of_lt_of_eq p.isLt points; omega⟩

section point
variable (c : Dev nD) (t : Fin cfg0.N) (i : Fin 512)

theorem dqa_at (q : Fin 512) : (show Vec Ideal S512x512 .bf16 from iblk m c 0 t) (ix2 i q) = (ins m c).dqa (ix2 (prow t i) q) := by
  unfold iblk prow ins
  rw [V_main_arg0]
  dsimp only
  blk_point [idx t]
theorem dka_at (q : Fin 512) : (show Vec Ideal S512x512 .bf16 from iblk m c 1 t) (ix2 i q) = (ins m c).dka (ix2 (prow t i) q) := by
  unfold iblk prow ins
  rw [V_main_arg1]
  dsimp only
  blk_point [idx t]
theorem dva_at (q : Fin 512) : (show Vec Ideal S512x512 .bf16 from iblk m c 2 t) (ix2 i q) = (ins m c).dva (ix2 (prow t i) q) := by
  unfold iblk prow ins
  rw [V_main_arg2]
  dsimp only
  blk_point [idx t]
theorem dq_at (q : Fin 512) : (show Vec Ideal S512x512 .f32 from iblk m c 3 t) (ix2 i q) = (ins m c).dq (ix2 (prow t i) q) := by
  unfold iblk prow ins
  rw [V_main_arg3]
  dsimp only
  blk_point [idx t]
theorem dk_at (q : Fin 128) : (show Vec Ideal S512x128 .f32 from iblk m c 4 t) (ix2 i q) = (ins m c).dk (ix2 (prow t i) q) := by
  unfold iblk prow ins
  rw [V_main_arg4]
  dsimp only
  blk_point [idx t]
theorem dv_at (q : Fin 128) : (show Vec Ideal S512x128 .bf16 from iblk m c 5 t) (ix2 i q) = (ins m c).dv (ix2 (prow t i) q) := by
  unfold iblk prow ins
  rw [V_main_arg5]
  dsimp only
  blk_point [idx t]
theorem w_at (n : Fin 2304) (k : Fin 1024) : (show Vec Ideal S2304x1024 .bf16 from iblk m c 6 t) (ix2 n k) = (ins m c).w (ix2 n k) := by
  unfold iblk ins
  rw [V_main_arg6]
  dsimp only
  blk_point [idx t]
theorem h1_at (k : Fin 1024) : (show Vec Ideal S512x1024 .bf16 from iblk m c 7 t) (ix2 i k) = (ins m c).h1 (ix2 (prow t i) k) := by
  unfold iblk prow ins
  rw [V_main_arg7]
  dsimp only
  blk_point [idx t]
theorem x_at (k : Fin 1024) : (show Vec Ideal S512x1024 .f32 from iblk m c 8 t) (ix2 i k) = (ins m c).x (prow t i) k := by
  unfold iblk Args.x prow ins
  rw [V_main_arg8]
  dsimp only
  blk_point [idx t]
theorem g_at (k : Fin 1024) : (show Vec Ideal S1x1024 .f32 from iblk m c 10 t) (ix2 0 k) = (ins m c).g (ix2 0 k) := by
  unfold iblk ins
  rw [V_main_arg10]
  dsimp only
  blk_point [idx t]
theorem dx1_at (k : Fin 1024) : (show Vec Ideal S512x1024 .f32 from iblk m c 11 t) (ix2 i k) = (ins m c).dx1 (ix2 (prow t i) k) := by
  unfold iblk prow ins
  rw [V_main_arg11]
  dsimp only
  blk_point [idx t]
theorem cosTab_at (q : Fin 128) : (show Vec Ideal S512x128 .f32 from iblk m c 12 t) (ix2 i q)
    = (ins m c).cos (ix2 (Args.pos (prow t i)) ⟨q.val % 32, by omega⟩) := by
  have e := side_at (ins m c).cos (ins m c).cos (Args.pos (prow t i)) q
  rw [ite_self] at e
  rw [← e]
  unfold iblk
  rw [cosTable m c (ins m c).cos rfl]
  generalize side _ _ _ _ = v
  unfold Args.pos prow
  blk_point [idx t]
theorem sinTab_at (q : Fin 128) : (show Vec Ideal S512x128 .f32 from iblk m c 13 t) (ix2 i q)
    = if q.val % 64 < 32 then -(ins m c).sin (ix2 (Args.pos (prow t i)) ⟨q.val % 32, by omega⟩)
      else (ins m c).sin (ix2 (Args.pos (prow t i)) ⟨q.val % 32, by omega⟩) := by
  refine Eq.trans ?_ (side_at (Host.negf (F := Ideal) (ins m c).sin) (ins m c).sin (Args.pos (prow t i)) q)
  unfold iblk
  rw [sinTable m c (ins m c).sin rfl]
  generalize side _ _ _ _ = v
  unfold Args.pos prow
  blk_point [idx t]

/-- The queries' and keys' gradients of a point, side by side, times the cosines and times the signed sines. -/
def cosB : FVec Ideal S512x640 .f32 := k0_pay9 (iblk m c 3 t) (iblk m c 4 t) (iblk m c 12 t)
def sinB : FVec Ideal S512x640 .f32 := k0_pay10 (iblk m c 3 t) (iblk m c 4 t) (iblk m c 13 t)
theorem qk_at (j : Fin 640) : pair (iblk m c 3 t) (iblk m c 4 t) i j = (ins m c).qk (prow t i) j := by
  unfold pair Args.qk
  by_cases h : j.val < 512
  · rw [dif_pos h, dif_pos h]; exact dq_at m c t i _
  · rw [dif_neg h, dif_neg h]; exact dk_at m c t i _
theorem cosB_at (j : Fin 640) : cosB m c t (ix2 i j) = (ins m c).qk (prow t i) j * (ins m c).cosAt (prow t i) j := by
  refine (cosTimes_at (iblk m c 3 t) (iblk m c 4 t) (iblk m c 12 t) i j).trans (congrArg₂ (· * ·) (qk_at m c t i j) ?_)
  refine (cosTab_at m c t i _).trans (congrArg (ins m c).cos (congrArg (ix2 _) (Fin.ext ?_)))
  dsimp only
  omega
theorem sinB_at (j : Fin 640) : sinB m c t (ix2 i j) = (ins m c).qk (prow t i) j
    * if j.val % 64 < 32 then -(ins m c).sinAt (prow t i) j else (ins m c).sinAt (prow t i) j := by
  refine (sinTimes_at (iblk m c 3 t) (iblk m c 4 t) (iblk m c 13 t) i j).trans (congrArg₂ (· * ·) (qk_at m c t i j) ?_)
  refine (sinTab_at m c t i _).trans ?_
  have e : (⟨j.val % 128 % 32, by omega⟩ : Fin 32) = ⟨j.val % 32, by omega⟩ := Fin.ext (by dsimp only; omega)
  unfold Args.sinAt
  by_cases h : j.val % 64 < 32
  · rw [if_pos h, if_pos (show j.val % 128 % 64 < 32 by omega)]
    exact congrArg (fun n => -(ins m c).sin (ix2 _ n)) e
  · rw [if_neg h, if_neg (show ¬ j.val % 128 % 64 < 32 by omega)]
    exact congrArg (fun n => (ins m c).sin (ix2 _ n)) e
theorem turned_at (j : Fin 640) : turn (cosB m c t) (sinB m c t) (ix2 i j) = (ins m c).turned (prow t i) j := by
  refine (turn_at (cosB m c t) (sinB m c t) i j).trans ?_
  unfold Args.turned
  by_cases h : j.val % 64 < 32
  · rw [dif_pos h, dif_pos h]
    refine congrArg₂ (· + ·) (cosB_at m c t i j) ((sinB_at m c t i _).trans ?_)
    rw [if_neg (show ¬ (j.val + 32) % 64 < 32 by omega)]
    refine congrArg (_ * ·) (congrArg (ins m c).sin (congrArg (ix2 _) (Fin.ext ?_)))
    dsimp only
    omega
  · rw [dif_neg h, dif_neg h]
    refine congrArg₂ (· + ·) (cosB_at m c t i j) ((sinB_at m c t i _).trans ?_)
    rw [if_pos (show (j.val - 32) % 64 < 32 by omega)]
    refine congrArg (fun n => _ * -(ins m c).sin (ix2 _ n)) (Fin.ext ?_)
    dsimp only
    omega

/-- The gradient by the projection at a point. -/
def projB : FVec Ideal S512x2304 .bf16 :=
  k0_pay13 (cosB m c t) (sinB m c t) 64#32 k0_pay11 k0_pay12 0#32 (iblk m c 0 t) (iblk m c 1 t) (iblk m c 2 t) (iblk m c 5 t)
theorem projB_at (n : Fin 2304) : projB m c t (ix2 i n) = (ins m c).proj (prow t i) n := by
  refine (proj_at (cosB m c t) (sinB m c t) i (iblk m c 0 t) (iblk m c 1 t) (iblk m c 2 t) (iblk m c 5 t) n).trans ?_
  unfold Args.proj
  by_cases h1 : n.val < 512
  · rw [dif_pos h1, dif_pos h1]; exact dqa_at m c t i _
  rw [dif_neg h1, dif_neg h1]
  by_cases h2 : n.val < 1024
  · rw [dif_pos h2, dif_pos h2]; exact dka_at m c t i _
  rw [dif_neg h2, dif_neg h2]
  by_cases h3 : n.val < 1536
  · rw [dif_pos h3, dif_pos h3]; exact dva_at m c t i _
  rw [dif_neg h3, dif_neg h3]
  by_cases h4 : n.val < 2176
  · rw [dif_pos h4, dif_pos h4]; exact turned_at m c t i _
  rw [dif_neg h4, dif_neg h4]; exact dv_at m c t i _

/-- The gradient by a point's modulated rows, and the modulation's scale there. -/
def dhB : FVec Ideal S512x1024 .f32 :=
  k0_pay16 (cosB m c t) (sinB m c t) 64#32 k0_pay11 k0_pay12 0#32 (iblk m c 0 t) (iblk m c 1 t) (iblk m c 2 t) (iblk m c 5 t) (iblk m c 6 t)
def scaleB : Vec Ideal S1x1x1024 .f32 := View.ld (iblk m c 9 t) (Rect.unit ![0, 0, 1024] ![1, 1, 1024] inb_S1x1x6144_S1x1x1024_0_0_1024)
theorem dh_at (k : Fin 1024) : dhB m c t (ix2 i k) = (ins m c).dh (prow t i) k := by
  unfold dhB k0_pay16 Args.dh
  simp only [← projB_at m c t i]
  unfold projB
  generalize k0_pay13 (F := Ideal) _ _ _ _ _ _ _ _ _ _ = p
  refine Eq.trans (b := ∑ n : Fin 2304, p (ix2 i n) * (show Vec Ideal S2304x1024 .bf16 from iblk m c 6 t) (ix2 n k)) ?_
    (Fin.sum_fin_congr fun n => congrArg _ (w_at m c t n k))
  generalize iblk m c 6 t = v
  pointwise
theorem scale_at (k : Fin 1024) : scaleB m c t (ix3 0 0 k) = (ins m c).scale (prow t i) k := by
  unfold scaleB Args.scale prow ins
  dsimp only
  blk_point [iblk, V_main_arg9, idx t]

end point

end Cert.Kernel6Ideal.InBack

end
-- ==== Proof.InBack.lean ====
/- The gradient through the mixer's input projection and the row normalisation before it: its arrays as functions of the arguments. -/
module

public import proofs.«01_k».proof.Proof.InRows

@[expose] public section

noncomputable section

namespace Cert.Kernel6Ideal.InBack

open Cert.Kernel6Ideal Cert.Kernel6Ideal.Gen Idealize.ShloMosaic Idealize.ShloMosaic.TcCoe Idealize.ShloMosaic.Pipeline
open scoped BigOperators

section payloads

variable (a b x d : FVec Ideal S512x1024 .f32) (g : FVec Ideal S1x1024 .f32) (e acc : Vec Ideal S1x1x1024 .f32) (i : Fin 512) (k : Fin 1024)

theorem inv_at : k0_pay17 (F := Ideal) x (ix2 i 0) = Rms.inv Rms.w1024 (fun k => x (ix2 i k)) := by
  pointwise [k0_pay17]
  rfl
theorem norm_at : k0_pay18 (F := Ideal) x (ix2 i k) = Rms.norm Rms.w1024 (fun k => x (ix2 i k)) k := by
  refine Eq.trans (b := x (ix2 i k) * k0_pay17 (F := Ideal) x (ix2 i 0)) ?_ (congrArg _ (inv_at x i))
  pointwise [k0_pay18]
theorem scaled_at : k0_pay19 x g (ix2 i k) = k0_pay18 x (ix2 i k) * g (ix2 0 k) := by
  unfold k0_pay19
  generalize k0_pay18 (F := Ideal) x = v
  pointwise
theorem modulated_at : k0_pay20 a e (ix2 i k) = a (ix2 i k) * (1 + e (ix3 0 0 k)) := by pointwise [k0_pay20]
theorem back_at : k0_pay21 a e x d g (ix2 i k) = d (ix2 i k)
    + Rms.back Rms.w1024 (fun k => x (ix2 i k)) (fun k => k0_pay20 a e (ix2 i k) * g (ix2 0 k)) k := by
  unfold Rms.back
  rw [← inv_at x i, ← norm_at x i k]
  simp only [← norm_at x i]
  unfold k0_pay21
  generalize k0_pay17 (F := Ideal) x = u
  generalize k0_pay18 (F := Ideal) x = v
  generalize k0_pay20 (F := Ideal) a e = z
  pointwise
theorem shiftStep_at (y : S1x1x1024.Idx) : k0_pay2 a acc y = acc y + ∑ i : Fin 512, a (ix2 i (y 2)) := by pointwise [k0_pay2]
theorem scaleStep_at (y : S1x1x1024.Idx) : k0_pay3 a b acc y = acc y + ∑ i : Fin 512, a (ix2 i (y 2)) * b (ix2 i (y 2)) := by pointwise [k0_pay3]
theorem gStep_at (y : S1x1024.Idx) : k0_pay1 (k0_pay22 g) (k0_pay23 a e x) y
    = g y + ∑ i : Fin 512, k0_pay20 a e (ix2 i (y 1)) * k0_pay18 x (ix2 i (y 1)) := by
  unfold k0_pay23
  generalize k0_pay18 (F := Ideal) x = v
  generalize k0_pay20 (F := Ideal) a e = z
  pointwise [k0_pay1, k0_pay22]
theorem zeroW_at (y : S2304x1024.Idx) : k0_pay4 (F := Ideal) y = 0 := by pointwise [k0_pay4]
theorem zeroG_at (y : S1x1024.Idx) : k0_pay5 (F := Ideal) y = 0 := by pointwise [k0_pay5]
theorem zeroShift_at (y : S1x1x1024.Idx) : k0_pay6 (F := Ideal) y = 0 := by pointwise [k0_pay6]
theorem zeroScale_at (y : S1x1x1024.Idx) : k0_pay7 (F := Ideal) y = 0 := by pointwise [k0_pay7]
theorem copy_at (s : Vec Ideal S2304x1024 .f32) (y : S2304x1024.Idx) : k0_pay15 s y = s y := by pointwise [k0_pay15]

end payloads

variable (m : (ℓ : Loc nD τ sig) → Buf (Elt Ideal) ℓ)

section point
variable (c : Dev nD) (t : Fin cfg0.N) (i : Fin 512) (k : Fin 1024)

theorem row_at : (fun k => (show Vec Ideal S512x1024 .f32 from iblk m c 8 t) (ix2 i k)) = (ins m c).x (prow t i) :=
  funext fun k => x_at m c t i k
theorem xn_at : k0_pay18 (iblk m c 8 t) (ix2 i k) = (ins m c).xn (prow t i) k :=
  (norm_at (iblk m c 8 t) i k).trans (by unfold Args.xn; rw [← row_at])
theorem xg_at : k0_pay19 (iblk m c 8 t) (iblk m c 10 t) (ix2 i k) = (ins m c).xn (prow t i) k * (ins m c).g (ix2 0 k) :=
  (scaled_at (iblk m c 8 t) (iblk m c 10 t) i k).trans (congrArg₂ (· * ·) (xn_at m c t i k) (g_at m c t k))
theorem dxg_at : k0_pay20 (dhB m c t) (scaleB m c t) (ix2 i k) = (ins m c).dxg (prow t i) k := by
  refine (modulated_at (dhB m c t) (scaleB m c t) i k).trans ?_
  rw [dh_at, scale_at m c t i k]
  rfl
theorem dx_at : k0_pay21 (dhB m c t) (scaleB m c t) (iblk m c 8 t) (iblk m c 11 t) (iblk m c 10 t) (ix2 i k) = (ins m c).dx (prow t i) k := by
  refine (back_at (dhB m c t) (iblk m c 8 t) (iblk m c 11 t) (iblk m c 10 t) (scaleB m c t) i k).trans ?_
  unfold Args.dx
  refine congrArg₂ (· + ·) (dx1_at m c t i k) ?_
  refine congrArg₂ (fun p q => Rms.back Rms.w1024 p q k) (row_at m c t i) (funext fun k => ?_)
  unfold Args.dxn
  exact congrArg₂ (· * ·) (dxg_at m c t i k) (g_at m c t k)

end point

/-- The parts of the sums a point adds. -/
def wPart (c : Dev nD) (p : Fin cfg0.N) (y : S2304x1024.Idx) : EReal :=
  ∑ i : Fin 512, (ins m c).proj (prow p i) (y 0) * (ins m c).h1 (ix2 (prow p i) (y 1))
def shiftPart (c : Dev nD) (p : Fin cfg0.N) (y : S1x1x1024.Idx) : EReal := ∑ i : Fin 512, (ins m c).dh (prow p i) (y 2)
def scalePart (c : Dev nD) (p : Fin cfg0.N) (y : S1x1x1024.Idx) : EReal :=
  ∑ i : Fin 512, (ins m c).dh (prow p i) (y 2) * ((ins m c).xn (prow p i) (y 2) * (ins m c).g (ix2 0 (y 2)))
def gPart (c : Dev nD) (p : Fin cfg0.N) (y : S1x1024.Idx) : EReal := ∑ i : Fin 512, (ins m c).dxg (prow p i) (y 1) * (ins m c).xn (prow p i) (y 1)

section steps
variable (c : Dev nD) (p : Fin cfg0.N) (acc : Vec Ideal S1x1x1024 .f32) (y : S1x1x1024.Idx)

theorem wStep (acc : Vec Ideal S2304x1024 .f32) (y : S2304x1024.Idx) :
    k0_pay14 (cosB m c p) (sinB m c p) 64#32 k0_pay11 k0_pay12 0#32 (iblk m c 0 p) (iblk m c 1 p) (iblk m c 2 p) (iblk m c 5 p) acc (iblk m c 7 p) y
      = acc y + wPart m c p y := by
  refine Eq.trans (b := acc y + ∑ i : Fin 512, projB m c p (ix2 i (y 0)) * (show Vec Ideal S512x1024 .bf16 from iblk m c 7 p) (ix2 i (y 1))) ?_
    (congrArg _ (Fin.sum_fin_congr fun i => congrArg₂ (· * ·) (projB_at m c p i (y 0)) (h1_at m c p i (y 1))))
  unfold k0_pay14 projB
  generalize k0_pay13 (F := Ideal) _ _ _ _ _ _ _ _ _ _ = v
  generalize iblk m c 7 p = h
  pointwise
theorem shiftStep : k0_pay2 (dhB m c p) acc y = acc y + shiftPart m c p y := by
  refine (shiftStep_at (dhB m c p) acc y).trans (congrArg _ (Fin.sum_fin_congr fun i => ?_))
  exact dh_at m c p i (y 2)
theorem scaleStep : k0_pay3 (dhB m c p) (k0_pay19 (iblk m c 8 p) (iblk m c 10 p)) acc y = acc y + scalePart m c p y := by
  refine (scaleStep_at (dhB m c p) (k0_pay19 (iblk m c 8 p) (iblk m c 10 p)) acc y).trans (congrArg _ (Fin.sum_fin_congr fun i => ?_))
  exact congrArg₂ (· * ·) (dh_at m c p i (y 2)) (xg_at m c p i (y 2))
theorem gStep (acc : Vec Ideal S1x1024 .f32) (y : S1x1024.Idx) :
    k0_pay1 (k0_pay22 acc) (k0_pay23 (dhB m c p) (scaleB m c p) (iblk m c 8 p)) y = acc y + gPart m c p y := by
  refine (gStep_at (dhB m c p) (iblk m c 8 p) acc (scaleB m c p) y).trans (congrArg _ (Fin.sum_fin_congr fun i => ?_))
  exact congrArg₂ (· * ·) (dxg_at m c p i (y 1)) (xn_at m c p i (y 1))

end steps

/-- A batch's points take its rows, one run of them after another. -/
theorem rows (f : Fin 4096 → EReal) (t : Fin cfg0.N) (h : t.val % 4 = 3) (b : Fin 2) (hb : b.val = t.val / 4) :
    ∑ s : Fin 4, ∑ i : Fin 512, f (prow ⟨4 * (t.val / 4) + s, Pipeline.run_point_lt_of_flush t h s⟩ i) = ∑ s : Fin 2048, f (Args.row b s) := by
  refine Fin.sum_mul_add_congr fun s k hl => congrArg f (Fin.ext ?_)
  unfold prow Args.row
  dsimp only
  omega
theorem allRows (f : Fin 4096 → EReal) (t : Fin cfg0.N) (h : t.val % 8 = 7) :
    ∑ s : Fin 8, ∑ i : Fin 512, f (prow ⟨8 * (t.val / 8) + s, Pipeline.run_point_lt_of_flush t h s⟩ i) = ∑ l : Fin 4096, f l := by
  refine Fin.sum_mul_add_congr fun s k hl => congrArg f (Fin.ext ?_)
  have := lt_of_lt_of_eq t.isLt points
  unfold prow
  dsimp only
  omega

theorem wSum (c : Dev nD) (t : Fin cfg0.N) (h : t.val % 8 = 7) (y : S2304x1024.Idx) :
    (outsAt0 m c t.val t.isLt).2.1 y = (ins m c).gw (y 0) (y 1) := by
  rw [Pipeline.eq_sum_fin_of_reset_step_apply_of_flush (fun n h => (outsAt0 m c n h).2.1) 8 (fun _ => 0) (fun p y => wPart m c p y)
    (fun t h y => by rw [outsAt0_A m c t h (by omega) (by omega)]; frame_out; exact (wStep m c t _ y).trans (by rw [zeroW_at]))
    (fun t h y => by
      by_cases h1 : t.val % 4 = 0
      · rw [outsAt0_C m c t h h1 (by omega)]; frame_out; exact wStep m c t _ y
      · by_cases h2 : t.val % 8 = 7
        · rw [outsAt0_D m c t h h1 h2]; frame_out; exact wStep m c t _ y
        · rw [outsAt0_B m c t h h1 h2]; frame_out; exact wStep m c t _ y)
    t h y, zero_add]
  exact allRows (fun l => (ins m c).proj l (y 0) * (ins m c).h1 (ix2 l (y 1))) t h
theorem shiftSum (c : Dev nD) (t : Fin cfg0.N) (h : t.val % 4 = 3) (y : S1x1x1024.Idx) :
    (outsAt0 m c t.val t.isLt).2.2.2.1 y = ∑ s : Fin 4, shiftPart m c ⟨4 * (t.val / 4) + s, Pipeline.run_point_lt_of_flush t h s⟩ y := by
  rw [Pipeline.eq_sum_fin_of_reset_step_apply_of_flush (fun n h => (outsAt0 m c n h).2.2.2.1) 4 (fun _ => 0) (fun p y => shiftPart m c p y)
    (fun t h y => by
      by_cases h0 : t.val % 8 = 0
      · rw [outsAt0_A m c t h0 h (by omega)]; frame_out; exact (shiftStep m c t _ y).trans (by rw [zeroShift_at])
      · rw [outsAt0_C m c t h0 h (by omega)]; frame_out; exact (shiftStep m c t _ y).trans (by rw [zeroShift_at]))
    (fun t h y => by
      by_cases h2 : t.val % 8 = 7
      · rw [outsAt0_D m c t (by omega) h h2]; frame_out; exact shiftStep m c t _ y
      · rw [outsAt0_B m c t (by omega) h h2]; frame_out; exact shiftStep m c t _ y)
    t h y, zero_add]
theorem scaleSum (c : Dev nD) (t : Fin cfg0.N) (h : t.val % 4 = 3) (y : S1x1x1024.Idx) :
    (outsAt0 m c t.val t.isLt).2.2.2.2.1 y = ∑ s : Fin 4, scalePart m c ⟨4 * (t.val / 4) + s, Pipeline.run_point_lt_of_flush t h s⟩ y := by
  rw [Pipeline.eq_sum_fin_of_reset_step_apply_of_flush (fun n h => (outsAt0 m c n h).2.2.2.2.1) 4 (fun _ => 0) (fun p y => scalePart m c p y)
    (fun t h y => by
      by_cases h0 : t.val % 8 = 0
      · rw [outsAt0_A m c t h0 h (by omega)]; frame_out; exact (scaleStep m c t _ y).trans (by rw [zeroScale_at])
      · rw [outsAt0_C m c t h0 h (by omega)]; frame_out; exact (scaleStep m c t _ y).trans (by rw [zeroScale_at]))
    (fun t h y => by
      by_cases h2 : t.val % 8 = 7
      · rw [outsAt0_D m c t (by omega) h h2]; frame_out; exact scaleStep m c t _ y
      · rw [outsAt0_B m c t (by omega) h h2]; frame_out; exact scaleStep m c t _ y)
    t h y, zero_add]
theorem gSum (c : Dev nD) (t : Fin cfg0.N) (h : t.val % 8 = 7) (y : S1x1024.Idx) :
    (outsAt0 m c t.val t.isLt).2.2.2.2.2 y = (ins m c).dg (y 1) := by
  rw [Pipeline.eq_sum_fin_of_reset_step_apply_of_flush (fun n h => (outsAt0 m c n h).2.2.2.2.2) 8 (fun _ => 0) (fun p y => gPart m c p y)
    (fun t h y => by rw [outsAt0_A m c t h (by omega) (by omega)]; frame_out; exact (gStep m c t _ y).trans (by rw [zeroG_at]))
    (fun t h y => by
      by_cases h1 : t.val % 4 = 0
      · rw [outsAt0_C m c t h h1 (by omega)]; frame_out; exact gStep m c t _ y
      · by_cases h2 : t.val % 8 = 7
        · rw [outsAt0_D m c t h h1 h2]; frame_out; exact gStep m c t _ y
        · rw [outsAt0_B m c t h h1 h2]; frame_out; exact gStep m c t _ y)
    t h y, zero_add]
  exact allRows (fun l => (ins m c).dxg l (y 1) * (ins m c).xn l (y 1)) t h
/-- The copy the last point writes is of the sum it leaves. -/
theorem copy_last (c : Dev nD) (t : Fin cfg0.N) (h : t.val % 8 = 7) (y : S2304x1024.Idx) :
    (outsAt0 m c t.val t.isLt).2.2.1 y = (outsAt0 m c t.val t.isLt).2.1 y := by
  rw [outsAt0_D m c t (by omega) (by omega) h]
  frame_out
  exact copy_at _ y
theorem dxOut (c : Dev nD) (t : Fin cfg0.N) (y : S512x1024.Idx) : (outsAt0 m c t.val t.isLt).1 y = (ins m c).dx (prow t (y 0)) (y 1) := by
  rw [← dx_at m c t (y 0) (y 1), ← ix2_eta y]
  by_cases h0 : t.val % 8 = 0
  · rw [outsAt0_A m c t h0 (by omega) (by omega)]; frame_out; rfl
  · by_cases h1 : t.val % 4 = 0
    · rw [outsAt0_C m c t h0 h1 (by omega)]; frame_out; rfl
    · by_cases h2 : t.val % 8 = 7
      · rw [outsAt0_D m c t h0 h1 h2]; frame_out; rfl
      · rw [outsAt0_B m c t h0 h1 h2]; frame_out; rfl

theorem dx_array (c : Dev nD) : (dats m 0 c).arrAt 14 cfg0.N = fun y => (ins m c).dx (y 0) (y 1) := by
  refine (dats m 0 c).arrAt_eq_of_covers 14 _ (by decide +kernel) fun t _ y => ?_
  blk_simp
  rw [after0_14]
  refine (dxOut m c t _).trans (congrArg₂ (ins m c).dx (Fin.ext ?_) (Fin.ext ?_)) <;> (try unfold prow) <;> blk_simp [idx t] <;> try omega
theorem gw_array (c : Dev nD) : (dats m 0 c).arrAt 15 cfg0.N = fun y => (ins m c).gw (y 0) (y 1) := by
  refine (dats m 0 c).arrAt_eq_of_covers 15 _ (by decide +kernel) fun t hf y => ?_
  blk_simp
  rw [after0_15]
  refine (wSum m c t ((flush0_15 t).mp hf) _).trans (congrArg₂ (ins m c).gw (Fin.ext ?_) (Fin.ext ?_)) <;> blk_simp [idx t] <;> try omega
theorem copy_array (c : Dev nD) : (dats m 0 c).arrAt 16 cfg0.N = fun y => (ins m c).gw (y 0) (y 1) := by
  refine (dats m 0 c).arrAt_eq_of_covers 16 _ (by decide +kernel) fun t hf y => ?_
  blk_simp
  rw [after0_16]
  refine (copy_last m c t ((flush0_16 t).mp hf) _).trans ((wSum m c t ((flush0_16 t).mp hf) _).trans
    (congrArg₂ (ins m c).gw (Fin.ext ?_) (Fin.ext ?_))) <;> blk_simp [idx t] <;> try omega
theorem dshift_array (c : Dev nD) : (dats m 0 c).arrAt 17 cfg0.N = fun y => (ins m c).dshift (y 0) (y 2) := by
  refine (dats m 0 c).arrAt_eq_of_covers 17 _ (by decide +kernel) fun t hf y => ?_
  have h := (flush0_17 t).mp hf
  have := lt_of_lt_of_eq t.isLt points
  blk_simp
  rw [after0_17]
  refine (shiftSum m c t h _).trans ((rows (fun l => (ins m c).dh l (y 2)) t h ⟨t.val / 4, by omega⟩ rfl).trans ?_)
  refine congrArg₂ (ins m c).dshift (Fin.ext ?_) (Fin.ext ?_) <;> blk_simp [idx t] <;> try omega
theorem dscale_array (c : Dev nD) : (dats m 0 c).arrAt 18 cfg0.N = fun y => (ins m c).dscale (y 0) (y 2) := by
  refine (dats m 0 c).arrAt_eq_of_covers 18 _ (by decide +kernel) fun t hf y => ?_
  have h := (flush0_18 t).mp hf
  have := lt_of_lt_of_eq t.isLt points
  blk_simp
  rw [after0_18]
  refine (scaleSum m c t h _).trans ((rows (fun l => (ins m c).dh l (y 2) * ((ins m c).xn l (y 2) * (ins m c).g (ix2 0 (y 2)))) t h ⟨t.val / 4, by omega⟩ rfl).trans ?_)
  refine congrArg₂ (ins m c).dscale (Fin.ext ?_) (Fin.ext ?_) <;> blk_simp [idx t] <;> try omega
theorem dg_array (c : Dev nD) : (dats m 0 c).arrAt 19 cfg0.N = fun y => (ins m c).dg (y 1) := by
  refine (dats m 0 c).arrAt_eq_of_covers 19 _ (by decide +kernel) fun t hf y => ?_
  blk_simp
  rw [after0_19]
  refine (gSum m c t ((flush0_19 t).mp hf) _).trans (congrArg (ins m c).dg (Fin.ext ?_)) <;> blk_simp [idx t] <;> try omega

end Cert.Kernel6Ideal.InBack

end
-- ==== Proof.InRef.lean ====
/- The reference's gradient through the mixer's input projection, at an index. -/
module

public import proofs.«01_k».proof.Proof.Gen.Reference6Ideal.Read
public import proofs.«01_k».proof.Proof.InBack
public import proofs.«01_k».proof.Proof.RefVals

@[expose] public section

noncomputable section

namespace Cert.Reference6Ideal.InRef

open Cert.Reference6Ideal Cert.Reference6Ideal.Gen Cert.Reference6Ideal.Read Idealize.ShloMosaic Idealize.ShloMosaic.TcCoe
open Cert.Kernel6Ideal.InBack (Args)
open scoped BigOperators

variable (A : Args) (b : Fin 2) (s : Fin 2048) (k : Fin 1024)

theorem v41_at (h : Fin 8) (d : Fin 32) : val_main_v41 A.dq (ix4 b s h d) = A.qk (Args.row b s) ⟨h.val * 64 + d.val, by omega⟩ := by
  unfold val_main_v41 val_main_v23 val_main_v18 Args.qk Args.row
  dsimp only
  rw [dif_pos (show h.val * 64 + d.val < 512 by omega)]
  generalize A.dq = x
  pointwise
  blk_ext []
theorem v42_at (h : Fin 8) (d : Fin 32) : val_main_v42 A.dq (ix4 b s h d) = A.qk (Args.row b s) ⟨h.val * 64 + (32 + d.val), by omega⟩ := by
  unfold val_main_v42 val_main_v23 val_main_v18 Args.qk Args.row
  dsimp only
  rw [dif_pos (show h.val * 64 + (32 + d.val) < 512 by omega)]
  generalize A.dq = x
  pointwise
  blk_ext []
theorem v53_at (h : Fin 8) (d : Fin 32) : val_main_v53 A.dq A.cos A.sin (ix4 b s h d) = A.turned (Args.row b s) ⟨h.val * 64 + d.val, by omega⟩ := by
  unfold Args.turned
  rw [dif_pos (show (h.val * 64 + d.val) % 64 < 32 by omega)]
  refine Eq.trans (b := A.qk (Args.row b s) ⟨h.val * 64 + (32 + d.val), by omega⟩ * A.sin (ix2 s d) + A.qk (Args.row b s) ⟨h.val * 64 + d.val, by omega⟩ * A.cos (ix2 s d)) ?_ ?_
  · rw [← v41_at, ← v42_at]
    unfold val_main_v53 val_main_v52 val_main_v51 val_main_v44 val_main_v43 val_main_v8 val_main_v9
    generalize val_main_v41 A.dq = x
    generalize val_main_v42 A.dq = z
    generalize A.cos = p
    generalize A.sin = q
    pointwise
  · refine (add_comm _ _).trans (congrArg₂ (· + ·) (congrArg₂ (· * ·) rfl ?_) (congrArg₂ (· * ·) (congrArg _ (Fin.ext ?_)) ?_))
    · exact congrArg₂ (fun p q => A.cos (ix2 p q)) (Fin.ext (by unfold Args.row Args.pos; dsimp only; omega)) (Fin.ext (by dsimp only; omega))
    · dsimp only; omega
    · exact congrArg₂ (fun p q => A.sin (ix2 p q)) (Fin.ext (by unfold Args.row Args.pos; dsimp only; omega)) (Fin.ext (by dsimp only; omega))
theorem v50_at (h : Fin 8) (d : Fin 32) : val_main_v50 A.dq A.cos A.sin (ix4 b s h d) = A.turned (Args.row b s) ⟨h.val * 64 + (32 + d.val), by omega⟩ := by
  unfold Args.turned
  rw [dif_neg (show ¬(h.val * 64 + (32 + d.val)) % 64 < 32 by omega)]
  refine Eq.trans (b := A.qk (Args.row b s) ⟨h.val * 64 + (32 + d.val), by omega⟩ * A.cos (ix2 s d) + -A.qk (Args.row b s) ⟨h.val * 64 + d.val, by omega⟩ * A.sin (ix2 s d)) ?_ ?_
  · rw [← v41_at, ← v42_at]
    unfold val_main_v50 val_main_v49 val_main_v48 val_main_v47 val_main_v46 val_main_v45 val_main_v8 val_main_v9
    generalize val_main_v41 A.dq = x
    generalize val_main_v42 A.dq = z
    generalize A.cos = p
    generalize A.sin = q
    pointwise
  · refine congrArg₂ (· + ·) (congrArg₂ (· * ·) rfl ?_) ((neg_mul_comm _ _).trans (congrArg₂ (fun u v => u * -v) (congrArg _ (Fin.ext ?_)) ?_))
    · exact congrArg₂ (fun p q => A.cos (ix2 p q)) (Fin.ext (by unfold Args.row Args.pos; dsimp only; omega)) (Fin.ext (by dsimp only; omega))
    · dsimp only; omega
    · exact congrArg₂ (fun p q => A.sin (ix2 p q)) (Fin.ext (by unfold Args.row Args.pos; dsimp only; omega)) (Fin.ext (by dsimp only; omega))
theorem v57_at (j : Fin 512) : val_main_v57 A.dq A.cos A.sin (ix3 b s j) = A.turned (Args.row b s) ⟨j.val, by omega⟩ := by
  unfold val_main_v57 val_main_v56 val_main_v54 val_main_v55 val_main_cst_1 val_main_cst_2
  have e1 := v53_at A b s
  have e2 := v50_at A b s
  generalize val_main_v53 A.dq A.cos A.sin = x at e1
  generalize val_main_v50 A.dq A.cos A.sin = z at e2
  pointwise
  by_cases h : j.val % 64 < 32
  · rw [dif_neg (show ¬(j.val / 64 < 8 ∧ 32 ≤ j.val % 64 ∧ j.val % 64 - 32 < 32) by omega), dif_pos (show j.val / 64 < 8 ∧ j.val % 64 < 32 by omega), zero_add, e1]
    exact congrArg _ (Fin.ext (by dsimp only; omega))
  · rw [dif_pos (show j.val / 64 < 8 ∧ 32 ≤ j.val % 64 ∧ j.val % 64 - 32 < 32 by omega), dif_neg (show ¬(j.val / 64 < 8 ∧ j.val % 64 < 32) by omega), add_zero, e2]
    exact congrArg _ (Fin.ext (by dsimp only; omega))
theorem v24_at (h : Fin 2) (d : Fin 32) : val_main_v24 A.dk (ix4 b s h d) = A.qk (Args.row b s) ⟨512 + (h.val * 64 + d.val), by omega⟩ := by
  unfold val_main_v24 val_main_v22 val_main_v19 Args.qk Args.row
  dsimp only
  rw [dif_neg (show ¬512 + (h.val * 64 + d.val) < 512 by omega)]
  generalize A.dk = x
  pointwise
  blk_ext []
theorem v25_at (h : Fin 2) (d : Fin 32) : val_main_v25 A.dk (ix4 b s h d) = A.qk (Args.row b s) ⟨512 + (h.val * 64 + (32 + d.val)), by omega⟩ := by
  unfold val_main_v25 val_main_v22 val_main_v19 Args.qk Args.row
  dsimp only
  rw [dif_neg (show ¬512 + (h.val * 64 + (32 + d.val)) < 512 by omega)]
  generalize A.dk = x
  pointwise
  blk_ext []
theorem v36_at (h : Fin 2) (d : Fin 32) : val_main_v36 A.dk A.cos A.sin (ix4 b s h d) = A.turned (Args.row b s) ⟨512 + (h.val * 64 + d.val), by omega⟩ := by
  unfold Args.turned
  rw [dif_pos (show (512 + (h.val * 64 + d.val)) % 64 < 32 by omega)]
  refine Eq.trans (b := A.qk (Args.row b s) ⟨512 + (h.val * 64 + (32 + d.val)), by omega⟩ * A.sin (ix2 s d) + A.qk (Args.row b s) ⟨512 + (h.val * 64 + d.val), by omega⟩ * A.cos (ix2 s d)) ?_ ?_
  · rw [← v24_at, ← v25_at]
    unfold val_main_v36 val_main_v35 val_main_v34 val_main_v27 val_main_v26 val_main_v10 val_main_v11
    generalize val_main_v24 A.dk = x
    generalize val_main_v25 A.dk = z
    generalize A.cos = p
    generalize A.sin = q
    pointwise
  · refine (add_comm _ _).trans (congrArg₂ (· + ·) (congrArg₂ (· * ·) rfl ?_) (congrArg₂ (· * ·) (congrArg _ (Fin.ext ?_)) ?_))
    · exact congrArg₂ (fun p q => A.cos (ix2 p q)) (Fin.ext (by unfold Args.row Args.pos; dsimp only; omega)) (Fin.ext (by dsimp only; omega))
    · dsimp only; omega
    · exact congrArg₂ (fun p q => A.sin (ix2 p q)) (Fin.ext (by unfold Args.row Args.pos; dsimp only; omega)) (Fin.ext (by dsimp only; omega))
theorem v33_at (h : Fin 2) (d : Fin 32) : val_main_v33 A.dk A.cos A.sin (ix4 b s h d) = A.turned (Args.row b s) ⟨512 + (h.val * 64 + (32 + d.val)), by omega⟩ := by
  unfold Args.turned
  rw [dif_neg (show ¬(512 + (h.val * 64 + (32 + d.val))) % 64 < 32 by omega)]
  refine Eq.trans (b := A.qk (Args.row b s) ⟨512 + (h.val * 64 + (32 + d.val)), by omega⟩ * A.cos (ix2 s d) + -A.qk (Args.row b s) ⟨512 + (h.val * 64 + d.val), by omega⟩ * A.sin (ix2 s d)) ?_ ?_
  · rw [← v24_at, ← v25_at]
    unfold val_main_v33 val_main_v32 val_main_v31 val_main_v30 val_main_v29 val_main_v28 val_main_v10 val_main_v11
    generalize val_main_v24 A.dk = x
    generalize val_main_v25 A.dk = z
    generalize A.cos = p
    generalize A.sin = q
    pointwise
  · refine congrArg₂ (· + ·) (congrArg₂ (· * ·) rfl ?_) ((neg_mul_comm _ _).trans (congrArg₂ (fun u v => u * -v) (congrArg _ (Fin.ext ?_)) ?_))
    · exact congrArg₂ (fun p q => A.cos (ix2 p q)) (Fin.ext (by unfold Args.row Args.pos; dsimp only; omega)) (Fin.ext (by dsimp only; omega))
    · dsimp only; omega
    · exact congrArg₂ (fun p q => A.sin (ix2 p q)) (Fin.ext (by unfold Args.row Args.pos; dsimp only; omega)) (Fin.ext (by dsimp only; omega))
theorem v40_at (j : Fin 128) : val_main_v40 A.dk A.cos A.sin (ix3 b s j) = A.turned (Args.row b s) ⟨512 + j.val, by omega⟩ := by
  unfold val_main_v40 val_main_v39 val_main_v37 val_main_v38 val_main_cst val_main_cst_0
  have e1 := v36_at A b s
  have e2 := v33_at A b s
  generalize val_main_v36 A.dk A.cos A.sin = x at e1
  generalize val_main_v33 A.dk A.cos A.sin = z at e2
  pointwise
  by_cases h : j.val % 64 < 32
  · rw [dif_neg (show ¬(j.val / 64 < 2 ∧ 32 ≤ j.val % 64 ∧ j.val % 64 - 32 < 32) by omega), dif_pos (show j.val / 64 < 2 ∧ j.val % 64 < 32 by omega), zero_add, e1]
    exact congrArg _ (Fin.ext (by dsimp only; omega))
  · rw [dif_pos (show j.val / 64 < 2 ∧ 32 ≤ j.val % 64 ∧ j.val % 64 - 32 < 32 by omega), dif_neg (show ¬(j.val / 64 < 2 ∧ j.val % 64 < 32) by omega), add_zero, e2]
    exact congrArg _ (Fin.ext (by dsimp only; omega))

theorem v13_at (k : Fin 512) : val_main_v13 A.dqa (ix3 b s k) = A.dqa (ix2 (Args.row b s) k) := by
  unfold val_main_v13 val_main_v12 Args.row
  generalize A.dqa = x
  pointwise
  try blk_ext []
theorem v15_at (k : Fin 512) : val_main_v15 A.dka (ix3 b s k) = A.dka (ix2 (Args.row b s) k) := by
  unfold val_main_v15 val_main_v14 Args.row
  generalize A.dka = x
  pointwise
  try blk_ext []
theorem v17_at (k : Fin 512) : val_main_v17 A.dva (ix3 b s k) = A.dva (ix2 (Args.row b s) k) := by
  unfold val_main_v17 val_main_v16 Args.row
  generalize A.dva = x
  pointwise
  try blk_ext []
theorem v21_at (k : Fin 128) : val_main_v21 A.dv (ix3 b s k) = A.dv (ix2 (Args.row b s) k) := by
  unfold val_main_v21 val_main_v20 Args.row
  generalize A.dv = x
  pointwise
  try blk_ext []
theorem v58_at (n : Fin 2304) : val_main_v58 A.dqa A.dka A.dva A.dq A.dk A.dv A.cos A.sin (ix3 b s n) = A.proj (Args.row b s) n := by
  unfold val_main_v58 Args.proj
  have e1 := v13_at A b s
  have e2 := v15_at A b s
  have e3 := v17_at A b s
  have e4 := v57_at A b s
  have e5 := v40_at A b s
  have e6 := v21_at A b s
  generalize val_main_v13 A.dqa = x1 at e1
  generalize val_main_v15 A.dka = x2 at e2
  generalize val_main_v17 A.dva = x3 at e3
  generalize val_main_v57 A.dq A.cos A.sin = x4 at e4
  generalize val_main_v40 A.dk A.cos A.sin = x5 at e5
  generalize val_main_v21 A.dv = x6 at e6
  pointwise
  by_cases h1 : n.val < 512
  · rw [dif_pos h1, dif_pos h1, e1]
  rw [dif_neg h1, dif_neg h1]
  by_cases h2 : n.val < 1024
  · rw [dif_pos (show n.val - 512 < 512 by omega), dif_pos h2, e2]
  rw [dif_neg (show ¬n.val - 512 < 512 by omega), dif_neg h2]
  by_cases h3 : n.val < 1536
  · rw [dif_pos (show n.val - 512 - 512 < 512 by omega), dif_pos h3, e3]
    exact congrArg (fun j => A.dva (ix2 _ j)) (Fin.ext (by dsimp only; omega))
  rw [dif_neg (show ¬n.val - 512 - 512 < 512 by omega), dif_neg h3]
  by_cases h4 : n.val < 2176
  · rw [dif_pos h4]
    by_cases h5 : n.val < 2048
    · rw [dif_pos (show n.val - 512 - 512 - 512 < 512 by omega), e4]
      exact congrArg _ (Fin.ext (by dsimp only; omega))
    · rw [dif_neg (show ¬n.val - 512 - 512 - 512 < 512 by omega), dif_pos (show n.val - 512 - 512 - 512 - 512 < 128 by omega), e5]
      exact congrArg _ (Fin.ext (by dsimp only; omega))
  · rw [dif_neg (show ¬n.val - 512 - 512 - 512 < 512 by omega), dif_neg (show ¬n.val - 512 - 512 - 512 - 512 < 128 by omega), dif_neg h4, e6]
    exact congrArg (fun j => A.dv (ix2 _ j)) (Fin.ext (by dsimp only; omega))
theorem v60_at : val_main_v60 A.h1 (ix3 b s k) = A.h1 (ix2 (Args.row b s) k) := by
  unfold val_main_v60 val_main_v59 Args.row
  generalize A.h1 = x
  pointwise
  try blk_ext []
theorem v61_at (n : Fin 2304) : val_main_v61 A.dqa A.dka A.dva A.dq A.dk A.dv A.h1 A.cos A.sin (ix2 n k) = A.gw n k := by
  unfold val_main_v61 Args.gw
  have e1 := v58_at A
  have e2 := v60_at A
  generalize val_main_v58 A.dqa A.dka A.dva A.dq A.dk A.dv A.cos A.sin = x at e1
  generalize val_main_v60 A.h1 = z at e2
  pointwise
  refine Fin.sum_mul_add_congr fun b s hl => ?_
  rw [e1, e2]
  rfl
theorem v7_at (n : Fin 2304) : val_main_v7 A.w (ix2 k n) = A.w (ix2 n k) := by
  unfold val_main_v7 val_main_v6
  generalize A.w = x
  pointwise
theorem v89_at : val_main_v89 A.dqa A.dka A.dva A.dq A.dk A.dv A.w A.cos A.sin (ix3 b s k) = A.dh (Args.row b s) k := by
  unfold val_main_v89 Args.dh
  have e1 := v58_at A b s
  have e2 := v7_at A k
  generalize val_main_v58 A.dqa A.dka A.dva A.dq A.dk A.dv A.cos A.sin = x at e1
  generalize val_main_v7 A.w = z at e2
  pointwise
  simp only [e1, e2]
theorem v63_at : val_main_v63 A.x0 (ix3 b s k) = A.x (Args.row b s) k := by
  unfold val_main_v63 Args.x Args.row
  generalize A.x0 = x
  pointwise
  try blk_ext []
theorem v71_at : val_main_v71 A.x0 (ix3 b s 0) = Rms.var Rms.w1024 (A.x (Args.row b s)) := by
  unfold val_main_v71 val_main_v70 val_main_v69 val_main_v68 val_main_v67 val_main_v66 val_main_v65 val_main_cst_3 val_main_cst_4 val_main_cst_5 Rms.var
  have e := v63_at A b s
  generalize val_main_v63 A.x0 = x at e
  pointwise
  simp only [e]
theorem v72_at : val_main_v72 A.x0 (ix3 b s 0) = Rms.inv Rms.w1024 (A.x (Args.row b s)) := by
  unfold val_main_v72 Rms.inv
  rw [← v71_at A b s]
  rfl
theorem v75_at : val_main_v75 A.x0 (ix3 b s 0) = Rms.mhalf * Ideal.div (Rms.inv Rms.w1024 (A.x (Args.row b s))) (Rms.var Rms.w1024 (A.x (Args.row b s))) := by
  unfold val_main_v75 val_main_v74 val_main_v73 val_main_cst_6
  rw [← v72_at A b s, ← v71_at A b s]
  generalize val_main_v72 A.x0 = x
  generalize val_main_v71 A.x0 = z
  pointwise
theorem v77_at : val_main_v77 A.x0 (ix3 b s k) = A.xn (Args.row b s) k := by
  unfold val_main_v77 val_main_v76 Args.xn Rms.norm
  rw [← v72_at A b s, ← v63_at A b s k]
  generalize val_main_v72 A.x0 = x
  generalize val_main_v63 A.x0 = z
  pointwise
theorem v80_at : val_main_v80 A.x0 A.g (ix3 b s k) = A.xn (Args.row b s) k * A.g (ix2 0 k) := by
  unfold val_main_v80 val_main_v79 val_main_v78 val_main_v64
  rw [← v77_at A b s k]
  generalize val_main_v77 A.x0 = x
  generalize A.g = g
  pointwise
theorem v96_at : val_main_v96 A.dqa A.dka A.dva A.dq A.dk A.dv A.w A.md A.cos A.sin (ix3 b s k) = A.dxg (Args.row b s) k := by
  unfold val_main_v96 val_main_v95 val_main_v82 val_main_v81 val_main_v1 val_main_cst_7 Args.dxg Args.scale
  rw [← v89_at A b s k]
  generalize val_main_v89 A.dqa A.dka A.dva A.dq A.dk A.dv A.w A.cos A.sin = x
  generalize A.md = z
  pointwise
  refine congrArg (fun c => _ * (1 + z (ix3 c 0 _))) (Fin.ext ?_)
  unfold Args.row
  dsimp only
  omega
theorem v101_at : val_main_v101 A.dqa A.dka A.dva A.dq A.dk A.dv A.w A.md A.g A.cos A.sin (ix3 b s k) = A.dxn (Args.row b s) k := by
  unfold val_main_v101 val_main_v100 val_main_v78 val_main_v64 Args.dxn
  rw [← v96_at A b s k]
  generalize val_main_v96 A.dqa A.dka A.dva A.dq A.dk A.dv A.w A.md A.cos A.sin = x
  generalize A.g = g
  pointwise

theorem v105_at : val_main_v105 A.dqa A.dka A.dva A.dq A.dk A.dv A.w A.x0 A.md A.g A.cos A.sin (ix3 b s 0) = ∑ k, A.x (Args.row b s) k * A.dxn (Args.row b s) k := by
  unfold val_main_v105 val_main_v104 val_main_v103 val_main_cst_12
  have e1 := v63_at A b s
  have e2 := v101_at A b s
  generalize val_main_v63 A.x0 = x at e1
  generalize val_main_v101 A.dqa A.dka A.dva A.dq A.dk A.dv A.w A.md A.g A.cos A.sin = z at e2
  pointwise
  simp only [e1, e2]
theorem v111_at : val_main_v111 A.dqa A.dka A.dva A.dq A.dk A.dv A.w A.x0 A.md A.g A.cos A.sin (ix3 b s 0) = Rms.slope Rms.w1024 (A.x (Args.row b s)) (A.dxn (Args.row b s)) := by
  unfold val_main_v111 val_main_v110 val_main_v109 val_main_cst_13 Rms.slope
  rw [← v105_at A b s, ← v75_at A b s]
  generalize val_main_v105 A.dqa A.dka A.dva A.dq A.dk A.dv A.w A.x0 A.md A.g A.cos A.sin = x
  generalize val_main_v75 A.x0 = z
  pointwise
theorem v113_at : val_main_v113 A.dqa A.dka A.dva A.dq A.dk A.dv A.w A.x0 A.md A.g A.cos A.sin (ix3 b s k) = Rms.slope Rms.w1024 (A.x (Args.row b s)) (A.dxn (Args.row b s)) := by
  unfold val_main_v113 val_main_v112 val_main_cst_14
  rw [← v111_at A b s]
  generalize val_main_v111 A.dqa A.dka A.dva A.dq A.dk A.dv A.w A.x0 A.md A.g A.cos A.sin = x
  pointwise
  exact Fin.sum_univ_one _
theorem v107_at : val_main_v107 A.dqa A.dka A.dva A.dq A.dk A.dv A.w A.x0 A.md A.g A.cos A.sin (ix3 b s k) = A.dxn (Args.row b s) k * Rms.inv Rms.w1024 (A.x (Args.row b s)) := by
  unfold val_main_v107 val_main_v106
  rw [← v101_at A b s k, ← v72_at A b s]
  generalize val_main_v101 A.dqa A.dka A.dva A.dq A.dk A.dv A.w A.md A.g A.cos A.sin = x
  generalize val_main_v72 A.x0 = z
  pointwise
theorem v88_at : val_main_v88 A.dx1 (ix3 b s k) = A.dx1 (ix2 (Args.row b s) k) := by
  unfold val_main_v88 Args.row
  generalize A.dx1 = x
  pointwise
  try blk_ext []
theorem v117_at : val_main_v117 A.dqa A.dka A.dva A.dq A.dk A.dv A.w A.x0 A.md A.g A.dx1 A.cos A.sin (ix3 b s k) = A.dx (Args.row b s) k := by
  unfold val_main_v117 val_main_v116 val_main_v115 val_main_v114 val_main_v108 Args.dx
  rw [← Rms.back_eq Rms.w1024 (A.x (Args.row b s)) (A.dxn (Args.row b s)) 1024 Rms.w1024_eq (by norm_num), ← v88_at A b s k, ← v107_at A b s k, ← v113_at A b s k,
    ← v63_at A b s k]
  generalize val_main_v113 A.dqa A.dka A.dva A.dq A.dk A.dv A.w A.x0 A.md A.g A.cos A.sin = x
  generalize val_main_v107 A.dqa A.dka A.dva A.dq A.dk A.dv A.w A.x0 A.md A.g A.cos A.sin = z
  generalize val_main_v63 A.x0 = w
  generalize val_main_v88 A.dx1 = u
  pointwise

theorem row_at (l : Fin 4096) : Args.row ⟨l.val / 2048, by omega⟩ ⟨l.val % 2048, by omega⟩ = l := Fin.ext (by unfold Args.row; dsimp only; omega)

/-- The six arrays. -/
theorem dx_at (l : Fin 4096) : val_main_v118 A.dqa A.dka A.dva A.dq A.dk A.dv A.w A.x0 A.md A.g A.dx1 A.cos A.sin (ix2 l k) = A.dx l k := by
  unfold val_main_v118
  rw [← row_at l, ← v117_at A, row_at]
  generalize val_main_v117 A.dqa A.dka A.dva A.dq A.dk A.dv A.w A.x0 A.md A.g A.dx1 A.cos A.sin = x
  pointwise
  try blk_ext []
theorem gw_at (n : Fin 2304) : val_main_v119 A.dqa A.dka A.dva A.dq A.dk A.dv A.h1 A.cos A.sin (ix2 n k) = A.gw n k := by
  unfold val_main_v119 val_main_v62
  rw [← v61_at A k n]
  generalize val_main_v61 A.dqa A.dka A.dva A.dq A.dk A.dv A.h1 A.cos A.sin = x
  pointwise
theorem copy_at (n : Fin 2304) : val_main_v121 A.dqa A.dka A.dva A.dq A.dk A.dv A.h1 A.cos A.sin (ix2 n k) = A.gw n k := by
  unfold val_main_v121 val_main_v120 val_main_v62
  rw [← v61_at A k n]
  generalize val_main_v61 A.dqa A.dka A.dva A.dq A.dk A.dv A.h1 A.cos A.sin = x
  pointwise
theorem dshift_at : val_main_v91 A.dqa A.dka A.dva A.dq A.dk A.dv A.w A.cos A.sin (ix3 b 0 k) = A.dshift b k := by
  unfold val_main_v91 val_main_v90 val_main_cst_8 Args.dshift
  have e := fun s => v89_at A b s k
  generalize val_main_v89 A.dqa A.dka A.dva A.dq A.dk A.dv A.w A.cos A.sin = x at e
  pointwise
  simp only [e]
theorem dscale_at : val_main_v94 A.dqa A.dka A.dva A.dq A.dk A.dv A.w A.x0 A.g A.cos A.sin (ix3 b 0 k) = A.dscale b k := by
  unfold val_main_v94 val_main_v93 val_main_v92 val_main_cst_9 Args.dscale
  have e := fun s => v89_at A b s k
  have e' := fun s => v80_at A b s k
  generalize val_main_v89 A.dqa A.dka A.dva A.dq A.dk A.dv A.w A.cos A.sin = x at e
  generalize val_main_v80 A.x0 A.g = z at e'
  pointwise
  simp only [e, e']
  exact Fin.sum_fin_congr fun s => mul_comm _ _
/-- Two sums over rows and batches, the second of one entry, are the sum over both. -/
theorem sum_twice (y : FVec Ideal S2x2048x1024 .f32) (z z' : FVec Ideal S_ .f32)
    (hz : z (Shape.Idx.first h_S_) = (0 : EReal)) (hz' : z' (Shape.Idx.first h_S_) = (0 : EReal)) (n : Fin 1024) :
    Host.reduceAdd (shapeCast S1x1x1024 (Host.reduceAdd y z reducesTo_S2x2048x1024_S1024_d0_1 h_S_) shapeCasts_S1024_S1x1x1024) z'
      reducesTo_S1x1x1024_S1024_d0_1 h_S_ (ix1 n) = ∑ b : Fin 2, ∑ s : Fin 2048, (y (ix3 b s n) : EReal) := by
  have e : (Host.reduceAdd y z reducesTo_S2x2048x1024_S1024_d0_1 h_S_ (ix1 n) : EReal) = ∑ b : Fin 2, ∑ s : Fin 2048, (y (ix3 b s n) : EReal) := by
    refine (Cert.ReferenceIdeal.FB.sum_a01 (n0 := 2) (n1 := 2048) (n2 := 1024) reducesTo_S2x2048x1024_S1024_d0_1 y (z (Shape.Idx.first h_S_)) n).trans ?_
    rw [hz, zero_add]
  refine (Cert.ReferenceIdeal.FB.sum_a01 (n0 := 1) (n1 := 1) (n2 := 1024) reducesTo_S1x1x1024_S1024_d0_1 _ (z' (Shape.Idx.first h_S_)) n).trans ?_
  rw [hz', zero_add, Fin.sum_univ_one, Fin.sum_univ_one, ← e]
  generalize Host.reduceAdd y z reducesTo_S2x2048x1024_S1024_d0_1 h_S_ = v
  pointwise
theorem v97_at : val_main_v97 A.dqa A.dka A.dva A.dq A.dk A.dv A.w A.x0 A.md A.cos A.sin (ix3 b s k) = A.dxg (Args.row b s) k * A.xn (Args.row b s) k := by
  unfold val_main_v97
  rw [← v96_at A b s k, ← v77_at A b s k]
  generalize val_main_v96 A.dqa A.dka A.dva A.dq A.dk A.dv A.w A.md A.cos A.sin = x
  generalize val_main_v77 A.x0 = z
  pointwise
  exact mul_comm _ _
theorem dg_at : val_main_v122 A.dqa A.dka A.dva A.dq A.dk A.dv A.w A.x0 A.md A.cos A.sin (ix2 0 k) = A.dg k := by
  refine Eq.trans (b := val_main_v102 A.dqa A.dka A.dva A.dq A.dk A.dv A.w A.x0 A.md A.cos A.sin (ix1 k)) ?_ ?_
  · unfold val_main_v122
    generalize val_main_v102 A.dqa A.dka A.dva A.dq A.dk A.dv A.w A.x0 A.md A.cos A.sin = x
    pointwise
  · refine (sum_twice (val_main_v97 A.dqa A.dka A.dva A.dq A.dk A.dv A.w A.x0 A.md A.cos A.sin) _ _ (by unfold val_main_cst_10; pointwise) (by unfold val_main_cst_11; pointwise) k).trans ?_
    simp only [v97_at]
    unfold Args.dg
    refine Fin.sum_mul_add_congr fun b s hl => ?_
    rfl

end Cert.Reference6Ideal.InRef
end
-- ==== Proof.Call6.lean ====
/- The gradient through the mixer's input projection and the normalisation before it: its claims. -/
module

public import proofs.«01_k».proof.Defs
public import proofs.«01_k».proof.Proof.Gen.Kernel6
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.InBack
public import proofs.«01_k».proof.Proof.InRef
public import Idealize.ShloMosaic.Adequacy
public import Idealize.ShloMosaic.Init

@[expose] public section

noncomputable section

namespace Cert.Call6

open Idealize.ShloMosaic Idealize.SL.Sem
open scoped BigOperators

set_option maxHeartbeats 1000000 in
/-- The two programs have one text: their tables of bodies are the same. -/
theorem defs_eq {F : FTy → Type} [FloatOps F] : Cert.Kernel6Ideal.defs (F := F) = Cert.Kernel6.defs := by
  have h : Cert.Kernel6Ideal.defs₀ (F := F) = Cert.Kernel6.defs₀ := by
    unfold Cert.Kernel6Ideal.defs₀ Cert.Kernel6.defs₀
    congr 1
    funext x y
    obtain ⟨n, hn⟩ := x
    cases n with
    | zero => obtain ⟨t, s⟩ := y; rfl
    | succ n => exact absurd hn (Nat.not_lt.2 (Nat.le_add_left _ _))
  exact congrArg (Pipeline.defs (Cert.Kernel6Ideal.pcfgs (F := F))) h

set_option maxHeartbeats 1000000 in
theorem frame_kernel : Cert.quiescent_Kernel6 := fun m ρ _ => by
  have h := Cert.Kernel6Ideal.Gen.frame (F := Bits) m ρ
  rw [defs_eq] at h
  exact h

theorem frame_kernelIdeal : Cert.quiescent_Kernel6Ideal := fun m ρ _ => Cert.Kernel6Ideal.Gen.frame m ρ

theorem frame_reference : Cert.quiescent_Reference6Ideal := fun m ρ _ =>
  (θ_run Cert.Reference6Ideal.defs _ _).mono (fun r h => ⟨fun c => (h c).2.2.2.2.2.2, sem_eq_zero_of_no_sems (by decide) r.2⟩)
    (Cert.Reference6Ideal.Value.run m ρ)

open Cert.Reference6Ideal in
theorem ix3_unit (y : S2x1x1024.Idx) : ix3 (y 0) 0 (y 2) = y :=
  (congrArg (fun j : Fin 1 => ix3 (y 0) j (y 2)) (Subsingleton.elim _ _)).trans (ix3_eta y)
open Cert.Reference6Ideal in
theorem ix2_unit (y : S1x1024.Idx) : ix2 0 (y 1) = y :=
  (congrArg (fun j : Fin 1 => ix2 j (y 1)) (Subsingleton.elim _ _)).trans (ix2_eta y)

theorem algebraic : Cert.algebraic_Kernel6Ideal_Reference6Ideal := fun m g m' g' _ heq =>
  ⟨fun c y => (Cert.Kernel6Ideal.InBack.ins m c).dx (y 0) (y 1),
    fun c y => (Cert.Kernel6Ideal.InBack.ins m c).gw (y 0) (y 1),
    fun c y => (Cert.Kernel6Ideal.InBack.ins m c).gw (y 0) (y 1),
    fun c y => (Cert.Kernel6Ideal.InBack.ins m c).dshift (y 0) (y 2),
    fun c y => (Cert.Kernel6Ideal.InBack.ins m c).dscale (y 0) (y 2),
    fun c y => (Cert.Kernel6Ideal.InBack.ins m c).dg (y 1),
    (θ_run _ _ _).mono (fun r h c => ⟨(h c).1.trans (Cert.Kernel6Ideal.InBack.dx_array m c), (h c).2.1.trans (Cert.Kernel6Ideal.InBack.gw_array m c), (h c).2.2.1.trans (Cert.Kernel6Ideal.InBack.copy_array m c), (h c).2.2.2.1.trans (Cert.Kernel6Ideal.InBack.dshift_array m c), (h c).2.2.2.2.1.trans (Cert.Kernel6Ideal.InBack.dscale_array m c), (h c).2.2.2.2.2.1.trans (Cert.Kernel6Ideal.InBack.dg_array m c), (h c).2.2.2.2.2.2⟩)
      (Cert.Kernel6Ideal.Value.run_blocks m g),
    (θ_run _ _ _).mono (fun r h c => by
      obtain ⟨e0, e1, e2, e3, e4, e5, e6, e7, e8, e9, e10, e11, e12, e13⟩ := heq c
      refine ⟨(h c).1.trans ?_, (h c).2.1.trans ?_, (h c).2.2.1.trans ?_, (h c).2.2.2.1.trans ?_, (h c).2.2.2.2.1.trans ?_, (h c).2.2.2.2.2.1.trans ?_, (h c).2.2.2.2.2.2⟩
      · rw [Cert.Reference6Ideal.Read.val_main_v118_eq, e0, e1, e2, e3, e4, e5, e6, e8, e9, e10, e11, e12, e13]
        funext y
        exact (congrArg _ (ix2_eta y).symm).trans (Cert.Reference6Ideal.InRef.dx_at (Cert.Kernel6Ideal.InBack.ins m c) (y 1) (y 0))
      · rw [Cert.Reference6Ideal.Read.val_main_v119_eq, e0, e1, e2, e3, e4, e5, e7, e12, e13]
        funext y
        exact (congrArg _ (ix2_eta y).symm).trans (Cert.Reference6Ideal.InRef.gw_at (Cert.Kernel6Ideal.InBack.ins m c) (y 1) (y 0))
      · rw [Cert.Reference6Ideal.Read.val_main_v121_eq, e0, e1, e2, e3, e4, e5, e7, e12, e13]
        funext y
        exact (congrArg _ (ix2_eta y).symm).trans (Cert.Reference6Ideal.InRef.copy_at (Cert.Kernel6Ideal.InBack.ins m c) (y 1) (y 0))
      · rw [Cert.Reference6Ideal.Read.val_main_v91_eq, e0, e1, e2, e3, e4, e5, e6, e12, e13]
        funext y
        exact (congrArg _ (ix3_unit y).symm).trans (Cert.Reference6Ideal.InRef.dshift_at (Cert.Kernel6Ideal.InBack.ins m c) (y 0) (y 2))
      · rw [Cert.Reference6Ideal.Read.val_main_v94_eq, e0, e1, e2, e3, e4, e5, e6, e8, e10, e12, e13]
        funext y
        exact (congrArg _ (ix3_unit y).symm).trans (Cert.Reference6Ideal.InRef.dscale_at (Cert.Kernel6Ideal.InBack.ins m c) (y 0) (y 2))
      · rw [Cert.Reference6Ideal.Read.val_main_v122_eq, e0, e1, e2, e3, e4, e5, e6, e8, e9, e12, e13]
        funext y
        exact (congrArg _ (ix2_unit y).symm).trans (Cert.Reference6Ideal.InRef.dg_at (Cert.Kernel6Ideal.InBack.ins m c) (y 1)))
      (Cert.Reference6Ideal.Value.run m' g')⟩

end Cert.Call6

end
-- ==== Proof.UpProj.lean ====
/- The up projection's array, and the reference's, as one function of the arguments. -/
module

public import proofs.«01_k».proof.Proof.Gen.Kernel7Ideal.Value
public import proofs.«01_k».proof.Proof.Gen.Reference7Ideal.Read
public import Idealize.ShloMosaic.Lib.Pipeline.ValueKit

@[expose] public section

noncomputable section

open Idealize.ShloMosaic Idealize.ShloMosaic.TcCoe
open scoped BigOperators

namespace Cert.Kernel7Ideal.UpProj

open Cert.Kernel7Ideal Cert.Kernel7Ideal.Gen Idealize.ShloMosaic.Pipeline

/-- A row of the input against a column of the weight, whose top and bottom halves come as slots of columns:
    column `n` of half `c` is column `n % 1408` of slot `2 c + n / 1408`. -/
def prod (h : Vec Ideal S4096x1024 .bf16) (wa wb : Vec Ideal S4x512x1408 .bf16) (c : Fin 2) (l : Fin 4096) (n : Fin 2816) : EReal :=
  (∑ k : Fin 512, h (ix2 l ⟨k, by omega⟩) * wa (ix3 ⟨c * 2 + n / 1408, by omega⟩ k ⟨n % 1408, by omega⟩))
    + ∑ k : Fin 512, h (ix2 l ⟨512 + k, by omega⟩) * wb (ix3 ⟨c * 2 + n / 1408, by omega⟩ k ⟨n % 1408, by omega⟩)

theorem pay_at (v0 : Vec Ideal S1024x512 .bf16) (v1 : Vec Ideal S1x512x1408 .bf16) (v4 : Vec Ideal S1024x512 .bf16)
    (v5 : Vec Ideal S1x512x1408 .bf16) (y : S1x1024x1408.Idx) :
    k0_pay1 v0 v1 v4 v5 y = (∑ k : Fin 512, v0 (ix2 (y 1) k) * v1 (ix3 0 k (y 2))) + ∑ k : Fin 512, v4 (ix2 (y 1) k) * v5 (ix3 0 k (y 2)) := by
  pointwise [k0_pay1]

variable (m : (ℓ : Loc nD τ sig) → Buf (Elt Ideal) ℓ)

theorem idx : ∀ t : Fin cfg0.N, win0_0.index t = ![t.val % 4, 0] ∧ win0_1.index t = ![t.val / 4, 0, 0]
    ∧ win0_2.index t = ![t.val / 4, 0, 0] ∧ win0_3.index t = ![t.val / 4 / 2, t.val % 4, t.val / 4 % 2] :=
  (by decide +kernel : ∀ t : Fin grid0.N, _)

theorem array (c : Dev nD) : (dats m 0 c).arrAt 3 cfg0.N = fun y => prod (m ((c.tc : Thread nD τ).loc main_arg0))
    (m ((c.tc : Thread nD τ).loc main_arg1)) (m ((c.tc : Thread nD τ).loc main_arg2)) (y 0) (y 1) (y 2) := by
  refine (dats m 0 c).arrAt_eq_of_covers 3 _ (by decide +kernel) fun t _ y => ?_
  blk_simp
  rw [after0_3]
  frame_out
  refine (pay_at _ _ _ _ _).trans ?_
  unfold prod
  refine congrArg₂ (· + ·) (Fin.sum_fin_congr fun k => ?_) (Fin.sum_fin_congr fun k => ?_) <;> blk_point [iblk, V, idx t]

end Cert.Kernel7Ideal.UpProj

namespace Cert.Reference7Ideal.UpProj

open Cert.Reference7Ideal Cert.Reference7Ideal.Gen Cert.Reference7Ideal.Read

theorem v7_top (wa wb : Vec Ideal S4x512x1408 .bf16) (k : Fin 512) (n : Fin 5632) :
    val_main_v7 wa wb (ix2 ⟨k, by omega⟩ n) = wa (ix3 ⟨n / 1408, by omega⟩ k ⟨n % 1408, by omega⟩) := by
  unfold val_main_v7 val_main_v6 val_main_v5 val_main_v4 val_main_v3 val_main_v2 val_main_v1
  pointwise
  blk_ext []
theorem v7_bot (wa wb : Vec Ideal S4x512x1408 .bf16) (k : Fin 512) (n : Fin 5632) :
    val_main_v7 wa wb (ix2 ⟨512 + k, by omega⟩ n) = wb (ix3 ⟨n / 1408, by omega⟩ k ⟨n % 1408, by omega⟩) := by
  unfold val_main_v7 val_main_v6 val_main_v5 val_main_v4 val_main_v3 val_main_v2 val_main_v1
  pointwise
  blk_ext []

theorem v8_at (h : Vec Ideal S4096x1024 .bf16) (wa wb : Vec Ideal S4x512x1408 .bf16) (l : Fin 4096) (n : Fin 5632) :
    val_main_v8 h wa wb (ix2 l n)
      = (∑ k : Fin 512, h (ix2 l ⟨k, by omega⟩) * wa (ix3 ⟨n / 1408, by omega⟩ k ⟨n % 1408, by omega⟩))
        + ∑ k : Fin 512, h (ix2 l ⟨512 + k, by omega⟩) * wb (ix3 ⟨n / 1408, by omega⟩ k ⟨n % 1408, by omega⟩) := by
  unfold val_main_v8
  have e : val_main_v0 (F := Ideal) h = h := rfl
  rw [e]
  have ea := v7_top wa wb
  have eb := v7_bot wa wb
  generalize val_main_v7 wa wb = x at ea eb
  pointwise
  refine (Fin.sum_univ_add (a := 512) (b := 512) fun k : Fin 1024 => h (ix2 l k) * x (ix2 k n)).trans ?_
  exact congrArg₂ (· + ·) (Fin.sum_fin_congr fun k => congrArg _ (ea k n)) (Fin.sum_fin_congr fun k => congrArg _ (eb k n))

theorem v14_at (h : Vec Ideal S4096x1024 .bf16) (wa wb : Vec Ideal S4x512x1408 .bf16) (c : Fin 2) (l : Fin 4096) (n : Fin 2816) :
    val_main_v14 h wa wb (ix3 c l n) = Cert.Kernel7Ideal.UpProj.prod h wa wb c l n := by
  unfold val_main_v14 val_main_v13 val_main_v12 val_main_v11 val_main_v10 val_main_v9
  have e8 := v8_at h wa wb
  generalize val_main_v8 h wa wb = x at e8
  refine Eq.trans (b := x (ix2 l ⟨c * 2816 + n, by omega⟩)) ?_ ((e8 _ _).trans ?_)
  · pointwise
    split <;> blk_ext []
  · unfold Cert.Kernel7Ideal.UpProj.prod
    refine congrArg₂ (· + ·) (Fin.sum_fin_congr fun k => congrArg _ ?_) (Fin.sum_fin_congr fun k => congrArg _ ?_) <;> blk_ext []

end Cert.Reference7Ideal.UpProj
end
-- ==== Proof.Call7.lean ====
/- The up projection of the forward pass: its claims. -/
module

public import proofs.«01_k».proof.Defs
public import proofs.«01_k».proof.Proof.Gen.Kernel7
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.UpProj
public import Idealize.ShloMosaic.Adequacy
public import Idealize.ShloMosaic.Init

@[expose] public section

noncomputable section

namespace Cert.Call7

open Idealize.ShloMosaic Idealize.SL.Sem
open scoped BigOperators

/-- The two programs have one text: their tables of bodies are the same. -/
theorem defs_eq {F : FTy → Type} [FloatOps F] : Cert.Kernel7Ideal.defs (F := F) = Cert.Kernel7.defs := by
  have h : Cert.Kernel7Ideal.defs₀ (F := F) = Cert.Kernel7.defs₀ := by
    unfold Cert.Kernel7Ideal.defs₀ Cert.Kernel7.defs₀
    congr 1
    funext x y
    obtain ⟨n, hn⟩ := x
    cases n with
    | zero => obtain ⟨t, s⟩ := y; rfl
    | succ n => exact absurd hn (Nat.not_lt.2 (Nat.le_add_left _ _))
  unfold Cert.Kernel7Ideal.defs
  rw [h]
  rfl

theorem frame_kernel : Cert.quiescent_Kernel7 := fun m ρ _ => by
  have h := Cert.Kernel7Ideal.Gen.frame (F := Bits) m ρ
  rw [defs_eq] at h
  exact h

theorem frame_kernelIdeal : Cert.quiescent_Kernel7Ideal := fun m ρ _ => Cert.Kernel7Ideal.Gen.frame m ρ

theorem frame_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run m ρ)

theorem algebraic : Cert.algebraic_Kernel7Ideal_Reference7Ideal := fun m g m' g' _ heq =>
  ⟨fun c y => Cert.Kernel7Ideal.UpProj.prod (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (y 0) (y 1) (y 2),
    (θ_run _ _ _).mono (fun r h c => ⟨(h c).1.trans (Cert.Kernel7Ideal.UpProj.array m c), (h c).2⟩)
      (Cert.Kernel7Ideal.Value.run_blocks m g),
    (θ_run _ _ _).mono (fun r h c => by
      obtain ⟨e0, e1, e2⟩ := heq c
      refine ⟨(h c).1.trans ?_, (h c).2⟩
      · rw [Cert.Reference7Ideal.Read.val_main_v14_eq, e0, e1, e2]
        funext y
        exact (congrArg _ (ix3_eta y).symm).trans (Cert.Reference7Ideal.UpProj.v14_at _ _ _ (y 0) (y 1) (y 2)))
      (Cert.Reference7Ideal.Value.run m' g')⟩

end Cert.Call7

end
-- ==== Proof.LossBack.lean ====
/- The down projection, the loss and its gradient by the projection's result, the residual stream, the gate and the last scale: its arrays as
   functions of the arguments. -/
module

public import proofs.«01_k».proof.Proof.Gen.Kernel8Ideal.Value
public import proofs.«01_k».proof.Proof.Rms
public import Idealize.ShloMosaic.Lib.Pipeline.ValueKit
public import Idealize.ShloMosaic.Lib.StableHlo.RunRead

@[expose] public section

noncomputable section

namespace Cert.Kernel8Ideal.LossBack

open Cert.Kernel8Ideal Cert.Kernel8Ideal.Gen Idealize.ShloMosaic Idealize.ShloMosaic.TcCoe Idealize.ShloMosaic.Pipeline
open scoped BigOperators

/-- One half, as the programs write it. -/
abbrev half : EReal := Ideal.ofBits .f32 0x3F000000#32
theorem half_eq : half = ((1 / 2 : ℝ) : EReal) := by
  simp [half, Ideal.ofBits, Ideal.ieee]
  rw [← EReal.coe_mul]
  norm_num

/-- The arguments: the rows the down projection takes, its weight, the residual stream before it, the modulation of each half of the rows,
    the scale of the last normalisation, and the target. -/
structure Args where
  a : Vec Ideal S4096x2816 .bf16
  w : Vec Ideal S2816x1024 .bf16
  x1 : Vec Ideal S4096x1024 .f32
  md : Vec Ideal S2x1x6144 .f32
  g : Vec Ideal S1x1024 .f32
  tgt : Vec Ideal S4096x1024 .f32

namespace Args

variable (A : Args)

/-- The projection, its gate, and the residual stream behind. -/
def f (l : Fin 4096) (k : Fin 1024) : EReal := ∑ n : Fin 2816, A.a (ix2 l n) * A.w (ix2 n k)
def gate (l : Fin 4096) (k : Fin 1024) : EReal := A.md (ix3 ⟨l.val / 2048, by omega⟩ 0 ⟨5120 + k.val, by omega⟩)
def x (l : Fin 4096) (k : Fin 1024) : EReal := A.x1 (ix2 l k) + A.gate l k * A.f l k
def xn (l : Fin 4096) : Fin 1024 → EReal := Rms.norm Rms.w1024 (A.x l)
def err (l : Fin 4096) (k : Fin 1024) : EReal := A.xn l k * A.g (ix2 0 k) - A.tgt (ix2 l k)
/-- A row's mean squared error, and half their sum. -/
def mse (l : Fin 4096) : EReal := Ideal.div (∑ k : Fin 1024, A.err l k * A.err l k) Rms.w1024
def loss : EReal := half * ∑ l : Fin 4096, A.mse l
/-- The gradient by the last row, by the normalised row, by the residual stream, and by the projection. -/
def dy (l : Fin 4096) (k : Fin 1024) : EReal := Ideal.div (A.err l k) Rms.w1024
def dxn (l : Fin 4096) (k : Fin 1024) : EReal := A.dy l k * A.g (ix2 0 k)
def dx (l : Fin 4096) (k : Fin 1024) : EReal := Rms.back Rms.w1024 (A.x l) (A.dxn l) k
def df (l : Fin 4096) (k : Fin 1024) : EReal := A.dx l k * A.gate l k
def row (b : Fin 2) (s : Fin 2048) : Fin 4096 := ⟨b.val * 2048 + s.val, by omega⟩
def dgate (b : Fin 2) (k : Fin 1024) : EReal := ∑ s : Fin 2048, A.dx (row b s) k * A.f (row b s) k
def dg (k : Fin 1024) : EReal := ∑ l : Fin 4096, A.dy l k * A.xn l k

end Args

section payloads

variable (a : Vec Ideal S512x2816 .bf16) (w : Vec Ideal S2816x1024 .bf16) (e acc : Vec Ideal S1x1x1024 .f32) (x tgt : Vec Ideal S512x1024 .f32)
  (g : Vec Ideal S1x1024 .f32) (u : FVec Ideal S512x1 .f32) (p q r : FVec Ideal S512x1024 .f32) (i : Fin 512) (k : Fin 1024)

theorem f_at : k0_pay4 a w (ix2 i k) = ∑ n : Fin 2816, a (ix2 i n) * w (ix2 n k) := by pointwise [k0_pay4]
theorem stream_at : k0_pay6 a w e x (ix2 i k) = x (ix2 i k) + e (ix3 0 0 k) * k0_pay4 (F := Ideal) a w (ix2 i k) := by
  unfold k0_pay6
  generalize k0_pay4 (F := Ideal) a w = v
  pointwise [k0_pay5]
theorem inv_at : k0_pay7 a w e x (ix2 i 0) = Rms.inv Rms.w1024 (fun k => k0_pay6 (F := Ideal) a w e x (ix2 i k)) := by
  unfold k0_pay7
  generalize k0_pay6 (F := Ideal) a w e x = v
  pointwise
  rfl
theorem norm_at : k0_pay8 a w e x (ix2 i k) = Rms.norm Rms.w1024 (fun k => k0_pay6 (F := Ideal) a w e x (ix2 i k)) k := by
  unfold Rms.norm
  rw [← inv_at]
  unfold k0_pay8
  generalize k0_pay7 (F := Ideal) a w e x = u
  generalize k0_pay6 (F := Ideal) a w e x = v
  pointwise
theorem err_at : k0_pay9 a w e x g tgt (ix2 i k) = k0_pay8 (F := Ideal) a w e x (ix2 i k) * g (ix2 0 k) - tgt (ix2 i k) := by
  unfold k0_pay9
  generalize k0_pay8 (F := Ideal) a w e x = v
  pointwise
theorem dy_at : k0_pay11 a w e x g tgt (ix2 i k) = Ideal.div (k0_pay9 (F := Ideal) a w e x g tgt (ix2 i k)) Rms.w1024 := by
  unfold k0_pay11
  generalize k0_pay9 (F := Ideal) a w e x g tgt = v
  pointwise
theorem back_at : k0_pay12 u p q g (ix2 i k) = u (ix2 i 0) * (q (ix2 i k) * g (ix2 0 k)
    - p (ix2 i k) * Ideal.div (∑ k, q (ix2 i k) * g (ix2 0 k) * p (ix2 i k)) Rms.w1024) := by
  pointwise [k0_pay12]
theorem gated_at : k0_pay13 (k0_pay5 e) u p q g (ix2 i k) = k0_pay12 (F := Ideal) u p q g (ix2 i k) * e (ix3 0 0 k) := by
  unfold k0_pay13
  generalize k0_pay12 (F := Ideal) u p q g = v
  pointwise [k0_pay5]
theorem part_at : k0_pay10 (F := Ideal) a w e x g tgt = half * ∑ i : Fin 512, Ideal.div (∑ k : Fin 1024,
    k0_pay9 (F := Ideal) a w e x g tgt (ix2 i k) * k0_pay9 (F := Ideal) a w e x g tgt (ix2 i k)) Rms.w1024 := by
  unfold k0_pay10
  generalize k0_pay9 (F := Ideal) a w e x g tgt = v
  pointwise
  exact congrArg (half * ·) (Fin.sum_fin_congr fun i => Fin.sum_univ_one _)
theorem lossStep_at (s : Vec Ideal S8x128 .f32) (z : EReal) (y : S8x128.Idx) : k0_pay1 (k0_pay17 s) (k0_pay18 (F := Ideal) z) y = s y + z := by
  pointwise [k0_pay1, k0_pay17, k0_pay18]
theorem gStep_at (s : Vec Ideal S1x1024 .f32) (y : S1x1024.Idx) : k0_pay2 p q s y = s y + ∑ i : Fin 512, q (ix2 i (y 1)) * p (ix2 i (y 1)) := by
  pointwise [k0_pay2]
theorem gateStep_at (y : S1x1x1024.Idx) : k0_pay3 p q acc y = acc y + ∑ i : Fin 512, q (ix2 i (y 2)) * p (ix2 i (y 2)) := by pointwise [k0_pay3]
theorem zeroLoss_at (y : S8x128.Idx) : k0_pay14 (F := Ideal) y = 0 := by pointwise [k0_pay14]
theorem zeroG_at (y : S1x1024.Idx) : k0_pay15 (F := Ideal) y = 0 := by pointwise [k0_pay15]
theorem zeroGate_at (y : S1x1x1024.Idx) : k0_pay16 (F := Ideal) y = 0 := by pointwise [k0_pay16]

end payloads

variable (m : (ℓ : Loc nD τ sig) → Buf (Elt Ideal) ℓ)

def ins (c : Dev nD) : Args :=
  ⟨m ((c.tc : Thread nD τ).loc main_arg0), m ((c.tc : Thread nD τ).loc main_arg1), m ((c.tc : Thread nD τ).loc main_arg2),
    m ((c.tc : Thread nD τ).loc main_arg3), m ((c.tc : Thread nD τ).loc main_arg4), m ((c.tc : Thread nD τ).loc main_arg5)⟩

theorem idx : ∀ t : Fin cfg0.N, win0_0.index t = ![t.val, 0] ∧ win0_1.index t = ![0, 0] ∧ win0_2.index t = ![t.val, 0]
    ∧ win0_3.index t = ![t.val / 4, 0, 0] ∧ win0_4.index t = ![0, 0] ∧ win0_5.index t = ![t.val, 0] ∧ win0_6.index t = ![t.val, 0]
    ∧ win0_7.index t = ![t.val, 0] ∧ win0_8.index t = ![0, 0] ∧ win0_9.index t = ![t.val / 4, 0, 0] ∧ win0_10.index t = ![0, 0] :=
  (by decide +kernel : ∀ t : Fin grid0.N, _)
theorem points : cfg0.N = 8 := by decide +kernel

def prow (p : Fin cfg0.N) (i : Fin 512) : Fin 4096 := ⟨p.val * 512 + i.val, by have := lt_of_lt_of_eq p.isLt points; omega⟩

section point
variable (c : Dev nD) (t : Fin cfg0.N) (i : Fin 512) (k : Fin 1024)

theorem a_at (n : Fin 2816) : (show Vec Ideal S512x2816 .bf16 from iblk m c 0 t) (ix2 i n) = (ins m c).a (ix2 (prow t i) n) := by
  unfold iblk prow ins
  rw [V_main_arg0]
  dsimp only
  blk_point [idx t]
theorem w_at (n : Fin 2816) : (show Vec Ideal S2816x1024 .bf16 from iblk m c 1 t) (ix2 n k) = (ins m c).w (ix2 n k) := by
  unfold iblk ins
  rw [V_main_arg1]
  dsimp only
  blk_point [idx t]
theorem x1_at : (show Vec Ideal S512x1024 .f32 from iblk m c 2 t) (ix2 i k) = (ins m c).x1 (ix2 (prow t i) k) := by
  unfold iblk prow ins
  rw [V_main_arg2]
  dsimp only
  blk_point [idx t]
theorem g_at : (show Vec Ideal S1x1024 .f32 from iblk m c 4 t) (ix2 0 k) = (ins m c).g (ix2 0 k) := by
  unfold iblk ins
  rw [V_main_arg4]
  dsimp only
  blk_point [idx t]
theorem tgt_at : (show Vec Ideal S512x1024 .f32 from iblk m c 5 t) (ix2 i k) = (ins m c).tgt (ix2 (prow t i) k) := by
  unfold iblk prow ins
  rw [V_main_arg5]
  dsimp only
  blk_point [idx t]
/-- The gate of a point's rows. -/
def gateB : Vec Ideal S1x1x1024 .f32 := View.ld (iblk m c 3 t) (Rect.unit ![0, 0, 5120] ![1, 1, 1024] inb_S1x1x6144_S1x1x1024_0_0_5120)
theorem gate_at : gateB m c t (ix3 0 0 k) = (ins m c).gate (prow t i) k := by
  unfold gateB Args.gate prow ins
  dsimp only
  blk_point [iblk, V_main_arg3, idx t]

/-- A point's rows: the projection, the reciprocal roots, the normalised rows, the error, and the gradients. -/
def fB : FVec Ideal S512x1024 .f32 := k0_pay4 (iblk m c 0 t) (iblk m c 1 t)
def invB : FVec Ideal S512x1 .f32 := k0_pay7 (iblk m c 0 t) (iblk m c 1 t) (gateB m c t) (iblk m c 2 t)
def xnB : FVec Ideal S512x1024 .f32 := k0_pay8 (iblk m c 0 t) (iblk m c 1 t) (gateB m c t) (iblk m c 2 t)
def errB : FVec Ideal S512x1024 .f32 := k0_pay9 (iblk m c 0 t) (iblk m c 1 t) (gateB m c t) (iblk m c 2 t) (iblk m c 4 t) (iblk m c 5 t)
def lossB : EReal := k0_pay10 (F := Ideal) (iblk m c 0 t) (iblk m c 1 t) (gateB m c t) (iblk m c 2 t) (iblk m c 4 t) (iblk m c 5 t)
def dyB : FVec Ideal S512x1024 .f32 := k0_pay11 (iblk m c 0 t) (iblk m c 1 t) (gateB m c t) (iblk m c 2 t) (iblk m c 4 t) (iblk m c 5 t)
def dxB : FVec Ideal S512x1024 .f32 := k0_pay12 (invB m c t) (xnB m c t) (dyB m c t) (iblk m c 4 t)

theorem fB_at : fB m c t (ix2 i k) = (ins m c).f (prow t i) k := by
  refine (f_at (iblk m c 0 t) (iblk m c 1 t) i k).trans ?_
  exact Fin.sum_fin_congr fun n => congrArg₂ (· * ·) (a_at m c t i n) (w_at m c t k n)
theorem streamB_at : k0_pay6 (F := Ideal) (iblk m c 0 t) (iblk m c 1 t) (gateB m c t) (iblk m c 2 t) (ix2 i k) = (ins m c).x (prow t i) k := by
  refine (stream_at (iblk m c 0 t) (iblk m c 1 t) (gateB m c t) (iblk m c 2 t) i k).trans ?_
  exact congrArg₂ (· + ·) (x1_at m c t i k) (congrArg₂ (· * ·) (gate_at m c t i k) (fB_at m c t i k))
theorem row_at : (fun k => k0_pay6 (F := Ideal) (iblk m c 0 t) (iblk m c 1 t) (gateB m c t) (iblk m c 2 t) (ix2 i k)) = (ins m c).x (prow t i) :=
  funext fun k => streamB_at m c t i k
theorem invB_at : invB m c t (ix2 i 0) = Rms.inv Rms.w1024 ((ins m c).x (prow t i)) :=
  (inv_at (iblk m c 0 t) (iblk m c 1 t) (gateB m c t) (iblk m c 2 t) i).trans (congrArg _ (row_at m c t i))
theorem xnB_at : xnB m c t (ix2 i k) = (ins m c).xn (prow t i) k :=
  (norm_at (iblk m c 0 t) (iblk m c 1 t) (gateB m c t) (iblk m c 2 t) i k).trans (congrArg (fun r => Rms.norm Rms.w1024 r k) (row_at m c t i))
theorem errB_at : errB m c t (ix2 i k) = (ins m c).err (prow t i) k := by
  refine (err_at (iblk m c 0 t) (iblk m c 1 t) (gateB m c t) (iblk m c 2 t) (iblk m c 5 t) (iblk m c 4 t) i k).trans ?_
  exact congrArg₂ (· - ·) (congrArg₂ (· * ·) (xnB_at m c t i k) (g_at m c t k)) (tgt_at m c t i k)
theorem dyB_at : dyB m c t (ix2 i k) = (ins m c).dy (prow t i) k :=
  (dy_at (iblk m c 0 t) (iblk m c 1 t) (gateB m c t) (iblk m c 2 t) (iblk m c 5 t) (iblk m c 4 t) i k).trans
    (congrArg (fun r => Ideal.div r Rms.w1024) (errB_at m c t i k))
theorem dxnB_at : dyB m c t (ix2 i k) * (show Vec Ideal S1x1024 .f32 from iblk m c 4 t) (ix2 0 k) = (ins m c).dxn (prow t i) k :=
  congrArg₂ (· * ·) (dyB_at m c t i k) (g_at m c t k)
theorem dxB_at : dxB m c t (ix2 i k) = (ins m c).dx (prow t i) k := by
  refine (back_at (iblk m c 4 t) (invB m c t) (xnB m c t) (dyB m c t) i k).trans ?_
  refine congrArg₂ (· * ·) (invB_at m c t i) (congrArg₂ (· - ·) (dxnB_at m c t i k) (congrArg₂ (· * ·) (xnB_at m c t i k) ?_))
  exact congrArg (fun r => Ideal.div r Rms.w1024) (Fin.sum_fin_congr fun k => congrArg₂ (· * ·) (dxnB_at m c t i k) (xnB_at m c t i k))
theorem dfB_at : k0_pay13 (F := Ideal) (k0_pay5 (gateB m c t)) (invB m c t) (xnB m c t) (dyB m c t) (iblk m c 4 t) (ix2 i k) = (ins m c).df (prow t i) k :=
  (gated_at (gateB m c t) (iblk m c 4 t) (invB m c t) (xnB m c t) (dyB m c t) i k).trans
    (congrArg₂ (· * ·) (dxB_at m c t i k) (gate_at m c t i k))

end point

/-- The parts of the sums a point adds. -/
def lossPart (c : Dev nD) (p : Fin cfg0.N) : EReal := half * ∑ i : Fin 512, (ins m c).mse (prow p i)
def gatePart (c : Dev nD) (p : Fin cfg0.N) (y : S1x1x1024.Idx) : EReal :=
  ∑ i : Fin 512, (ins m c).dx (prow p i) (y 2) * (ins m c).f (prow p i) (y 2)
def gPart (c : Dev nD) (p : Fin cfg0.N) (y : S1x1024.Idx) : EReal := ∑ i : Fin 512, (ins m c).dy (prow p i) (y 1) * (ins m c).xn (prow p i) (y 1)

section steps
variable (c : Dev nD) (p : Fin cfg0.N)

theorem lossB_at : lossB m c p = lossPart m c p := by
  refine (part_at (iblk m c 0 p) (iblk m c 1 p) (gateB m c p) (iblk m c 2 p) (iblk m c 5 p) (iblk m c 4 p)).trans ?_
  refine congrArg (half * ·) (Fin.sum_fin_congr fun i => congrArg (fun r => Ideal.div r Rms.w1024) (Fin.sum_fin_congr fun k => ?_))
  exact congrArg₂ (· * ·) (errB_at m c p i k) (errB_at m c p i k)
theorem lossStep (acc : Vec Ideal S8x128 .f32) (y : S8x128.Idx) :
    k0_pay1 (k0_pay17 acc) (k0_pay18 (F := Ideal) (lossB m c p)) y = acc y + lossPart m c p :=
  (lossStep_at acc (lossB m c p) y).trans (congrArg _ (lossB_at m c p))
theorem gateStep (acc : Vec Ideal S1x1x1024 .f32) (y : S1x1x1024.Idx) : k0_pay3 (fB m c p) (dxB m c p) acc y = acc y + gatePart m c p y := by
  refine (gateStep_at acc (fB m c p) (dxB m c p) y).trans (congrArg _ (Fin.sum_fin_congr fun i => ?_))
  exact congrArg₂ (· * ·) (dxB_at m c p i (y 2)) (fB_at m c p i (y 2))
theorem gStep (acc : Vec Ideal S1x1024 .f32) (y : S1x1024.Idx) : k0_pay2 (xnB m c p) (dyB m c p) acc y = acc y + gPart m c p y := by
  refine (gStep_at (xnB m c p) (dyB m c p) acc y).trans (congrArg _ (Fin.sum_fin_congr fun i => ?_))
  exact congrArg₂ (· * ·) (dyB_at m c p i (y 1)) (xnB_at m c p i (y 1))

end steps

/-- A batch's points take its rows, one run of them after another. -/
theorem rows (f : Fin 4096 → EReal) (t : Fin cfg0.N) (h : t.val % 4 = 3) (b : Fin 2) (hb : b.val = t.val / 4) :
    ∑ s : Fin 4, ∑ i : Fin 512, f (prow ⟨4 * (t.val / 4) + s, Pipeline.run_point_lt_of_flush t h s⟩ i) = ∑ s : Fin 2048, f (Args.row b s) := by
  refine Fin.sum_mul_add_congr fun s k hl => congrArg f (Fin.ext ?_)
  unfold prow Args.row
  dsimp only
  omega
theorem allRows (f : Fin 4096 → EReal) (t : Fin cfg0.N) (h : t.val % 8 = 7) :
    ∑ s : Fin 8, ∑ i : Fin 512, f (prow ⟨8 * (t.val / 8) + s, Pipeline.run_point_lt_of_flush t h s⟩ i) = ∑ l : Fin 4096, f l := by
  refine Fin.sum_mul_add_congr fun s k hl => congrArg f (Fin.ext ?_)
  have := lt_of_lt_of_eq t.isLt points
  unfold prow
  dsimp only
  omega

theorem lossSum (c : Dev nD) (t : Fin cfg0.N) (h : t.val % 8 = 7) (y : S8x128.Idx) :
    (outsAt0 m c t.val t.isLt).2.2.1 y = (ins m c).loss := by
  rw [Pipeline.eq_sum_fin_of_reset_step_apply_of_flush (fun n h => (outsAt0 m c n h).2.2.1) 8 (fun _ => 0) (fun p _ => lossPart m c p)
    (fun t h y => by rw [outsAt0_A m c t h (by omega)]; frame_out; exact (lossStep m c t _ y).trans (by rw [zeroLoss_at]))
    (fun t h y => by
      by_cases h1 : t.val % 4 = 0
      · rw [outsAt0_C m c t h h1]; frame_out; exact lossStep m c t _ y
      · rw [outsAt0_B m c t h h1]; frame_out; exact lossStep m c t _ y)
    t h y, zero_add]
  unfold lossPart Args.loss
  rw [half_eq, Rms.coe_mul_sum _ (by norm_num)]
  exact congrArg _ (allRows (ins m c).mse t h)
theorem gateSum (c : Dev nD) (t : Fin cfg0.N) (h : t.val % 4 = 3) (y : S1x1x1024.Idx) :
    (outsAt0 m c t.val t.isLt).2.2.2.1 y = ∑ s : Fin 4, gatePart m c ⟨4 * (t.val / 4) + s, Pipeline.run_point_lt_of_flush t h s⟩ y := by
  rw [Pipeline.eq_sum_fin_of_reset_step_apply_of_flush (fun n h => (outsAt0 m c n h).2.2.2.1) 4 (fun _ => 0) (fun p y => gatePart m c p y)
    (fun t h y => by
      by_cases h0 : t.val % 8 = 0
      · rw [outsAt0_A m c t h0 h]; frame_out; exact (gateStep m c t _ y).trans (by rw [zeroGate_at])
      · rw [outsAt0_C m c t h0 h]; frame_out; exact (gateStep m c t _ y).trans (by rw [zeroGate_at]))
    (fun t h y => by rw [outsAt0_B m c t (by omega) h]; frame_out; exact gateStep m c t _ y)
    t h y, zero_add]
theorem gSum (c : Dev nD) (t : Fin cfg0.N) (h : t.val % 8 = 7) (y : S1x1024.Idx) :
    (outsAt0 m c t.val t.isLt).2.2.2.2 y = (ins m c).dg (y 1) := by
  rw [Pipeline.eq_sum_fin_of_reset_step_apply_of_flush (fun n h => (outsAt0 m c n h).2.2.2.2) 8 (fun _ => 0) (fun p y => gPart m c p y)
    (fun t h y => by rw [outsAt0_A m c t h (by omega)]; frame_out; exact (gStep m c t _ y).trans (by rw [zeroG_at]))
    (fun t h y => by
      by_cases h1 : t.val % 4 = 0
      · rw [outsAt0_C m c t h h1]; frame_out; exact gStep m c t _ y
      · rw [outsAt0_B m c t h h1]; frame_out; exact gStep m c t _ y)
    t h y, zero_add]
  exact allRows (fun l => (ins m c).dy l (y 1) * (ins m c).xn l (y 1)) t h
theorem dxOut (c : Dev nD) (t : Fin cfg0.N) (y : S512x1024.Idx) : (outsAt0 m c t.val t.isLt).1 y = (ins m c).dx (prow t (y 0)) (y 1) := by
  rw [← dxB_at m c t (y 0) (y 1), ← ix2_eta y]
  by_cases h0 : t.val % 8 = 0
  · rw [outsAt0_A m c t h0 (by omega)]; frame_out; rfl
  · by_cases h1 : t.val % 4 = 0
    · rw [outsAt0_C m c t h0 h1]; frame_out; rfl
    · rw [outsAt0_B m c t h0 h1]; frame_out; rfl
theorem dfOut (c : Dev nD) (t : Fin cfg0.N) (y : S512x1024.Idx) : (outsAt0 m c t.val t.isLt).2.1 y = (ins m c).df (prow t (y 0)) (y 1) := by
  rw [← dfB_at m c t (y 0) (y 1), ← ix2_eta y]
  by_cases h0 : t.val % 8 = 0
  · rw [outsAt0_A m c t h0 (by omega)]; frame_out; rfl
  · by_cases h1 : t.val % 4 = 0
    · rw [outsAt0_C m c t h0 h1]; frame_out; rfl
    · rw [outsAt0_B m c t h0 h1]; frame_out; rfl

theorem dx_array (c : Dev nD) : (dats m 0 c).arrAt 6 cfg0.N = fun y => (ins m c).dx (y 0) (y 1) := by
  refine (dats m 0 c).arrAt_eq_of_covers 6 _ (by decide +kernel) fun t _ y => ?_
  blk_simp
  rw [after0_6]
  refine (dxOut m c t _).trans (congrArg₂ (ins m c).dx (Fin.ext ?_) (Fin.ext ?_)) <;> (try unfold prow) <;> blk_simp [idx t] <;> try omega
theorem df_array (c : Dev nD) : (dats m 0 c).arrAt 7 cfg0.N = fun y => (ins m c).df (y 0) (y 1) := by
  refine (dats m 0 c).arrAt_eq_of_covers 7 _ (by decide +kernel) fun t _ y => ?_
  blk_simp
  rw [after0_7]
  refine (dfOut m c t _).trans (congrArg₂ (ins m c).df (Fin.ext ?_) (Fin.ext ?_)) <;> (try unfold prow) <;> blk_simp [idx t] <;> try omega
theorem loss_array (c : Dev nD) : (dats m 0 c).arrAt 8 cfg0.N = fun _ => (ins m c).loss := by
  refine (dats m 0 c).arrAt_eq_of_covers 8 _ (by decide +kernel) fun t hf y => ?_
  blk_simp
  rw [after0_8]
  exact lossSum m c t ((flush0_8 t).mp hf) _
theorem dgate_array (c : Dev nD) : (dats m 0 c).arrAt 9 cfg0.N = fun y => (ins m c).dgate (y 0) (y 2) := by
  refine (dats m 0 c).arrAt_eq_of_covers 9 _ (by decide +kernel) fun t hf y => ?_
  have h := (flush0_9 t).mp hf
  have := lt_of_lt_of_eq t.isLt points
  blk_simp
  rw [after0_9]
  refine (gateSum m c t h _).trans ((rows (fun l => (ins m c).dx l (y 2) * (ins m c).f l (y 2)) t h ⟨t.val / 4, by omega⟩ rfl).trans ?_)
  refine congrArg₂ (ins m c).dgate (Fin.ext ?_) (Fin.ext ?_) <;> blk_simp [idx t] <;> try omega
theorem dg_array (c : Dev nD) : (dats m 0 c).arrAt 10 cfg0.N = fun y => (ins m c).dg (y 1) := by
  refine (dats m 0 c).arrAt_eq_of_covers 10 _ (by decide +kernel) fun t hf y => ?_
  blk_simp
  rw [after0_10]
  refine (gSum m c t ((flush0_10 t).mp hf) _).trans (congrArg (ins m c).dg (Fin.ext ?_)) <;> blk_simp [idx t] <;> try omega

end Cert.Kernel8Ideal.LossBack

end
-- ==== Proof.LossRef.lean ====
/- The reference's down projection, loss and gradients, at an index. -/
module

public import proofs.«01_k».proof.Proof.Gen.Reference8Ideal.Read
public import proofs.«01_k».proof.Proof.LossBack
public import proofs.«01_k».proof.Proof.RefVals

@[expose] public section

noncomputable section

namespace Cert.Reference8Ideal.LossRef

open Cert.Reference8Ideal Cert.Reference8Ideal.Gen Cert.Reference8Ideal.Read Idealize.ShloMosaic Idealize.ShloMosaic.TcCoe
open Cert.Kernel8Ideal.LossBack (Args half half_eq)
open scoped BigOperators

/-- The square's two. -/
abbrev two : EReal := Ideal.ofBits .f32 0x40000000#32
theorem two_eq : two = ((2 : ℝ) : EReal) := by
  simp [two, Ideal.ofBits, Ideal.ieee]
  rw [← EReal.coe_mul]
  norm_num
/-- Half of the mean's derivative, times the square's, is the error over the row's width. -/
theorem half_two (z : EReal) : Ideal.div (half * 1) Rms.w1024 * (two * z) = Ideal.div z Rms.w1024 := by
  rw [Rms.w1024_eq, Rms.div_coe _ _ (by norm_num), Rms.div_coe _ _ (by norm_num), mul_one, half_eq, two_eq, ← EReal.coe_mul, ← mul_assoc,
    ← EReal.coe_mul, mul_comm z]
  norm_num

variable (A : Args) (b : Fin 2) (s : Fin 2048) (k : Fin 1024)

theorem v7_at (n : Fin 2816) : val_main_v7 A.a (ix3 b s n) = A.a (ix2 (Args.row b s) n) := by
  unfold val_main_v7 val_main_v6 Args.row
  generalize A.a = x
  pointwise
  try blk_ext []
theorem v9_at : val_main_v9 A.a A.w (ix3 b s k) = A.f (Args.row b s) k := by
  unfold val_main_v9 val_main_v8 Args.f
  have e := v7_at A b s
  generalize val_main_v7 A.a = x at e
  generalize A.w = z
  pointwise
  simp only [e]
theorem v10_at : val_main_v10 A.x1 (ix3 b s k) = A.x1 (ix2 (Args.row b s) k) := by
  unfold val_main_v10 Args.row
  generalize A.x1 = x
  pointwise
  try blk_ext []
theorem v31_at : val_main_v31 A.tgt (ix3 b s k) = A.tgt (ix2 (Args.row b s) k) := by
  unfold val_main_v31 Args.row
  generalize A.tgt = x
  pointwise
  try blk_ext []
theorem v5_at : val_main_v5 A.md (ix3 b 0 k) = A.gate (Args.row b s) k := by
  unfold val_main_v5 Args.gate
  generalize A.md = z
  pointwise
  refine congrArg (fun c => z (ix3 c 0 _)) (Fin.ext ?_)
  unfold Args.row
  dsimp only
  omega
theorem v14_at : val_main_v14 A.a A.w A.x1 A.md (ix3 b s k) = A.x (Args.row b s) k := by
  unfold val_main_v14 val_main_v13 val_main_v12 Args.x
  rw [← v10_at A b s k, ← v9_at A b s k, ← v5_at A b s k]
  generalize val_main_v9 A.a A.w = x
  generalize val_main_v10 A.x1 = z
  generalize val_main_v5 A.md = u
  pointwise
theorem v21_at : val_main_v21 A.a A.w A.x1 A.md (ix3 b s 0) = Rms.var Rms.w1024 (A.x (Args.row b s)) := by
  unfold val_main_v21 val_main_v20 val_main_v19 val_main_v18 val_main_v17 val_main_v16 val_main_v15 val_main_cst val_main_cst_0 val_main_cst_1 Rms.var
  have e := v14_at A b s
  generalize val_main_v14 A.a A.w A.x1 A.md = x at e
  pointwise
  simp only [e]
theorem v22_at : val_main_v22 A.a A.w A.x1 A.md (ix3 b s 0) = Rms.inv Rms.w1024 (A.x (Args.row b s)) := by
  unfold val_main_v22 Rms.inv
  rw [← v21_at A b s]
  rfl
theorem v25_at : val_main_v25 A.a A.w A.x1 A.md (ix3 b s 0) = Rms.mhalf * Ideal.div (Rms.inv Rms.w1024 (A.x (Args.row b s))) (Rms.var Rms.w1024 (A.x (Args.row b s))) := by
  unfold val_main_v25 val_main_v24 val_main_v23 val_main_cst_2
  rw [← v22_at A b s, ← v21_at A b s]
  generalize val_main_v22 A.a A.w A.x1 A.md = x
  generalize val_main_v21 A.a A.w A.x1 A.md = z
  pointwise
theorem v27_at : val_main_v27 A.a A.w A.x1 A.md (ix3 b s k) = A.xn (Args.row b s) k := by
  unfold val_main_v27 val_main_v26 Args.xn Rms.norm
  rw [← v22_at A b s, ← v14_at A b s k]
  generalize val_main_v22 A.a A.w A.x1 A.md = x
  generalize val_main_v14 A.a A.w A.x1 A.md = z
  pointwise
theorem v32_at : val_main_v32 A.a A.w A.x1 A.md A.g A.tgt (ix3 b s k) = A.err (Args.row b s) k := by
  unfold val_main_v32 val_main_v30 val_main_v29 val_main_v28 val_main_v11 Args.err
  rw [← v27_at A b s k, ← v31_at A b s k]
  generalize val_main_v27 A.a A.w A.x1 A.md = x
  generalize val_main_v31 A.tgt = z
  generalize A.g = g
  pointwise
theorem v38_at : val_main_v38 A.a A.w A.x1 A.md A.g A.tgt (ix2 b s) = A.mse (Args.row b s) := by
  unfold val_main_v38 val_main_v37 val_main_v36 val_main_v33 val_main_cst_4 val_main_cst_5 Args.mse
  have e := v32_at A b s
  generalize val_main_v32 A.a A.w A.x1 A.md A.g A.tgt = x at e
  pointwise
  simp only [e]
/-- A sum over the pairs of a batch and a position. -/
theorem sum_pairs (v : S2x2048.Idx → EReal) : ∑ j, v j = ∑ b : Fin 2, ∑ s : Fin 2048, v (ix2 b s) := by
  rw [← Fintype.sum_prod_type']
  exact (Fintype.sum_equiv (⟨fun p => ix2 p.1 p.2, fun j => (j 0, j 1), fun _ => rfl, fun j => ix2_eta j⟩ : Fin 2 × Fin 2048 ≃ S2x2048.Idx) _ _ fun _ => rfl).symm
theorem v39_at (j : S_.Idx) : val_main_v39 A.a A.w A.x1 A.md A.g A.tgt j = ∑ l : Fin 4096, A.mse l := by
  have hz : (val_main_cst_6 (F := Ideal)) (Shape.Idx.first h_S_) = (0 : EReal) := by unfold val_main_cst_6; pointwise
  refine (val_main_v39_apply A.a A.w A.x1 A.md A.g A.tgt j).trans ?_
  rw [hz, zero_add, sum_pairs]
  refine Fin.sum_mul_add_congr fun b s hl => ?_
  exact v38_at A b s
theorem v40_at (j : S_.Idx) : val_main_v40 A.a A.w A.x1 A.md A.g A.tgt j = A.loss := by
  unfold val_main_v40 val_main_cst_7 Args.loss
  rw [← v39_at A j]
  rfl
theorem v46_at : val_main_v46 A.a A.w A.x1 A.md A.g A.tgt (ix3 b s k) = A.dy (Args.row b s) k := by
  unfold val_main_v46 val_main_v45 val_main_v44 val_main_v43 val_main_v42 val_main_v41 val_main_v35 val_main_v34 val_main_cst_3 val_main_cst_8 val_main_cst_9
    val_main_cst_10 Args.dy
  rw [← half_two, ← v32_at A b s k]
  generalize val_main_v32 A.a A.w A.x1 A.md A.g A.tgt = x
  pointwise
theorem v51_at : val_main_v51 A.a A.w A.x1 A.md A.g A.tgt (ix3 b s k) = A.dxn (Args.row b s) k := by
  unfold val_main_v51 val_main_v50 val_main_v28 val_main_v11 Args.dxn
  rw [← v46_at A b s k]
  generalize val_main_v46 A.a A.w A.x1 A.md A.g A.tgt = x
  generalize A.g = g
  pointwise
theorem v55_at : val_main_v55 A.a A.w A.x1 A.md A.g A.tgt (ix3 b s 0) = ∑ k, A.x (Args.row b s) k * A.dxn (Args.row b s) k := by
  unfold val_main_v55 val_main_v54 val_main_v53 val_main_cst_13
  have e1 := v14_at A b s
  have e2 := v51_at A b s
  generalize val_main_v14 A.a A.w A.x1 A.md = x at e1
  generalize val_main_v51 A.a A.w A.x1 A.md A.g A.tgt = z at e2
  pointwise
  simp only [e1, e2]
theorem v60_at : val_main_v60 A.a A.w A.x1 A.md A.g A.tgt (ix3 b s 0) = Rms.slope Rms.w1024 (A.x (Args.row b s)) (A.dxn (Args.row b s)) := by
  unfold val_main_v60 val_main_v59 val_main_v58 val_main_cst_14 Rms.slope
  rw [← v55_at A b s, ← v25_at A b s]
  generalize val_main_v55 A.a A.w A.x1 A.md A.g A.tgt = x
  generalize val_main_v25 A.a A.w A.x1 A.md = z
  pointwise
theorem v62_at : val_main_v62 A.a A.w A.x1 A.md A.g A.tgt (ix3 b s k) = Rms.slope Rms.w1024 (A.x (Args.row b s)) (A.dxn (Args.row b s)) := by
  unfold val_main_v62 val_main_v61 val_main_cst_15
  rw [← v60_at A b s]
  generalize val_main_v60 A.a A.w A.x1 A.md A.g A.tgt = x
  pointwise
  exact Fin.sum_univ_one _
theorem v57_at : val_main_v57 A.a A.w A.x1 A.md A.g A.tgt (ix3 b s k) = A.dxn (Args.row b s) k * Rms.inv Rms.w1024 (A.x (Args.row b s)) := by
  unfold val_main_v57 val_main_v56
  rw [← v51_at A b s k, ← v22_at A b s]
  generalize val_main_v51 A.a A.w A.x1 A.md A.g A.tgt = x
  generalize val_main_v22 A.a A.w A.x1 A.md = z
  pointwise
theorem v66_at : val_main_v66 A.a A.w A.x1 A.md A.g A.tgt (ix3 b s k) = A.dx (Args.row b s) k := by
  unfold val_main_v66 val_main_v65 val_main_v64 val_main_v63 Args.dx
  refine Eq.trans ?_ (zero_add _)
  rw [← Rms.back_eq Rms.w1024 (A.x (Args.row b s)) (A.dxn (Args.row b s)) 1024 Rms.w1024_eq (by norm_num), zero_add, ← v57_at A b s k, ← v62_at A b s k,
    ← v14_at A b s k]
  generalize val_main_v62 A.a A.w A.x1 A.md A.g A.tgt = x
  generalize val_main_v57 A.a A.w A.x1 A.md A.g A.tgt = z
  generalize val_main_v14 A.a A.w A.x1 A.md = w
  pointwise
theorem v68_at : val_main_v68 A.a A.w A.x1 A.md A.g A.tgt (ix3 b s k) = A.df (Args.row b s) k := by
  unfold val_main_v68 val_main_v67 Args.df
  rw [← v66_at A b s k, ← v5_at A b s k]
  generalize val_main_v66 A.a A.w A.x1 A.md A.g A.tgt = x
  generalize val_main_v5 A.md = z
  pointwise
  exact mul_comm _ _

theorem row_at (l : Fin 4096) : Args.row ⟨l.val / 2048, by omega⟩ ⟨l.val % 2048, by omega⟩ = l := Fin.ext (by unfold Args.row; dsimp only; omega)

/-- The five arrays. -/
theorem dx_at (l : Fin 4096) : val_main_v72 A.a A.w A.x1 A.md A.g A.tgt (ix2 l k) = A.dx l k := by
  unfold val_main_v72
  rw [← row_at l, ← v66_at A, row_at]
  generalize val_main_v66 A.a A.w A.x1 A.md A.g A.tgt = x
  pointwise
  try blk_ext []
theorem df_at (l : Fin 4096) : val_main_v74 A.a A.w A.x1 A.md A.g A.tgt (ix2 l k) = A.df l k := by
  unfold val_main_v74 val_main_v73
  rw [← row_at l, ← v68_at A, row_at]
  generalize val_main_v68 A.a A.w A.x1 A.md A.g A.tgt = x
  pointwise
  try blk_ext []
theorem loss_at (y : S8x128.Idx) : val_main_v75 A.a A.w A.x1 A.md A.g A.tgt y = A.loss :=
  (val_main_v75_apply A.a A.w A.x1 A.md A.g A.tgt y).trans (v40_at A _)
theorem dgate_at : val_main_v71 A.a A.w A.x1 A.md A.g A.tgt (ix3 b 0 k) = A.dgate b k := by
  unfold val_main_v71 val_main_v70 val_main_v69 val_main_cst_16 Args.dgate
  have e := fun s => v66_at A b s k
  have e' := fun s => v9_at A b s k
  generalize val_main_v66 A.a A.w A.x1 A.md A.g A.tgt = x at e
  generalize val_main_v9 A.a A.w = z at e'
  pointwise
  simp only [e, e']
/-- Two sums over rows and batches, the second of one entry, are the sum over both. -/
theorem sum_twice (y : FVec Ideal S2x2048x1024 .f32) (z z' : FVec Ideal S_ .f32)
    (hz : z (Shape.Idx.first h_S_) = (0 : EReal)) (hz' : z' (Shape.Idx.first h_S_) = (0 : EReal)) (n : Fin 1024) :
    Host.reduceAdd (shapeCast S1x1x1024 (Host.reduceAdd y z reducesTo_S2x2048x1024_S1024_d0_1 h_S_) shapeCasts_S1024_S1x1x1024) z'
      reducesTo_S1x1x1024_S1024_d0_1 h_S_ (ix1 n) = ∑ b : Fin 2, ∑ s : Fin 2048, (y (ix3 b s n) : EReal) := by
  have e : (Host.reduceAdd y z reducesTo_S2x2048x1024_S1024_d0_1 h_S_ (ix1 n) : EReal) = ∑ b : Fin 2, ∑ s : Fin 2048, (y (ix3 b s n) : EReal) := by
    refine (Cert.ReferenceIdeal.FB.sum_a01 (n0 := 2) (n1 := 2048) (n2 := 1024) reducesTo_S2x2048x1024_S1024_d0_1 y (z (Shape.Idx.first h_S_)) n).trans ?_
    rw [hz, zero_add]
  refine (Cert.ReferenceIdeal.FB.sum_a01 (n0 := 1) (n1 := 1) (n2 := 1024) reducesTo_S1x1x1024_S1024_d0_1 _ (z' (Shape.Idx.first h_S_)) n).trans ?_
  rw [hz', zero_add, Fin.sum_univ_one, Fin.sum_univ_one, ← e]
  generalize Host.reduceAdd y z reducesTo_S2x2048x1024_S1024_d0_1 h_S_ = v
  pointwise
theorem v47_at : val_main_v47 A.a A.w A.x1 A.md A.g A.tgt (ix3 b s k) = A.dy (Args.row b s) k * A.xn (Args.row b s) k := by
  unfold val_main_v47
  rw [← v46_at A b s k, ← v27_at A b s k]
  generalize val_main_v46 A.a A.w A.x1 A.md A.g A.tgt = x
  generalize val_main_v27 A.a A.w A.x1 A.md = z
  pointwise
  exact mul_comm _ _
theorem dg_at : val_main_v76 A.a A.w A.x1 A.md A.g A.tgt (ix2 0 k) = A.dg k := by
  refine Eq.trans (b := val_main_v52 A.a A.w A.x1 A.md A.g A.tgt (ix1 k)) ?_ ?_
  · unfold val_main_v76
    generalize val_main_v52 A.a A.w A.x1 A.md A.g A.tgt = x
    pointwise
  · refine (sum_twice (val_main_v47 A.a A.w A.x1 A.md A.g A.tgt) _ _ (by unfold val_main_cst_11; pointwise) (by unfold val_main_cst_12; pointwise) k).trans ?_
    simp only [v47_at]
    unfold Args.dg
    refine Fin.sum_mul_add_congr fun b s hl => ?_
    rfl

end Cert.Reference8Ideal.LossRef

end
-- ==== Proof.Call8.lean ====
/- The down projection, the loss and its gradients: its claims. -/
module

public import proofs.«01_k».proof.Defs
public import proofs.«01_k».proof.Proof.Gen.Kernel8
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.LossBack
public import proofs.«01_k».proof.Proof.LossRef
public import Idealize.ShloMosaic.Adequacy
public import Idealize.ShloMosaic.Init

@[expose] public section

noncomputable section

namespace Cert.Call8

open Idealize.ShloMosaic Idealize.SL.Sem
open scoped BigOperators

set_option maxHeartbeats 1000000 in
/-- The two programs have one text: their tables of bodies are the same. -/
theorem defs_eq {F : FTy → Type} [FloatOps F] : Cert.Kernel8Ideal.defs (F := F) = Cert.Kernel8.defs := by
  have h : Cert.Kernel8Ideal.defs₀ (F := F) = Cert.Kernel8.defs₀ := by
    unfold Cert.Kernel8Ideal.defs₀ Cert.Kernel8.defs₀
    congr 1
    funext x y
    obtain ⟨n, hn⟩ := x
    cases n with
    | zero => obtain ⟨t, s⟩ := y; rfl
    | succ n => exact absurd hn (Nat.not_lt.2 (Nat.le_add_left _ _))
  exact congrArg (Pipeline.defs (Cert.Kernel8Ideal.pcfgs (F := F))) h

set_option maxHeartbeats 1000000 in
theorem frame_kernel : Cert.quiescent_Kernel8 := fun m ρ _ => by
  have h := Cert.Kernel8Ideal.Gen.frame (F := Bits) m ρ
  rw [defs_eq] at h
  exact h

theorem frame_kernelIdeal : Cert.quiescent_Kernel8Ideal := fun m ρ _ => Cert.Kernel8Ideal.Gen.frame m ρ

theorem frame_reference : Cert.quiescent_Reference8Ideal := fun m ρ _ =>
  (θ_run Cert.Reference8Ideal.defs _ _).mono (fun r h => ⟨fun c => (h c).2.2.2.2.2, sem_eq_zero_of_no_sems (by decide) r.2⟩)
    (Cert.Reference8Ideal.Value.run m ρ)

open Cert.Reference8Ideal in
theorem ix3_unit (y : S2x1x1024.Idx) : ix3 (y 0) 0 (y 2) = y :=
  (congrArg (fun j : Fin 1 => ix3 (y 0) j (y 2)) (Subsingleton.elim _ _)).trans (ix3_eta y)
open Cert.Reference8Ideal in
theorem ix2_unit (y : S1x1024.Idx) : ix2 0 (y 1) = y :=
  (congrArg (fun j : Fin 1 => ix2 j (y 1)) (Subsingleton.elim _ _)).trans (ix2_eta y)

theorem algebraic : Cert.algebraic_Kernel8Ideal_Reference8Ideal := fun m g m' g' _ heq =>
  ⟨fun c y => (Cert.Kernel8Ideal.LossBack.ins m c).dx (y 0) (y 1),
    fun c y => (Cert.Kernel8Ideal.LossBack.ins m c).df (y 0) (y 1),
    fun c _ => (Cert.Kernel8Ideal.LossBack.ins m c).loss,
    fun c y => (Cert.Kernel8Ideal.LossBack.ins m c).dgate (y 0) (y 2),
    fun c y => (Cert.Kernel8Ideal.LossBack.ins m c).dg (y 1),
    (θ_run _ _ _).mono (fun r h c => ⟨(h c).1.trans (Cert.Kernel8Ideal.LossBack.dx_array m c), (h c).2.1.trans (Cert.Kernel8Ideal.LossBack.df_array m c), (h c).2.2.1.trans (Cert.Kernel8Ideal.LossBack.loss_array m c), (h c).2.2.2.1.trans (Cert.Kernel8Ideal.LossBack.dgate_array m c), (h c).2.2.2.2.1.trans (Cert.Kernel8Ideal.LossBack.dg_array m c), (h c).2.2.2.2.2⟩)
      (Cert.Kernel8Ideal.Value.run_blocks m g),
    (θ_run _ _ _).mono (fun r h c => by
      obtain ⟨e0, e1, e2, e3, e4, e5⟩ := heq c
      refine ⟨(h c).1.trans ?_, (h c).2.1.trans ?_, (h c).2.2.1.trans ?_, (h c).2.2.2.1.trans ?_, (h c).2.2.2.2.1.trans ?_, (h c).2.2.2.2.2⟩
      · rw [Cert.Reference8Ideal.Read.val_main_v72_eq, e0, e1, e2, e3, e4, e5]
        funext y
        exact (congrArg _ (ix2_eta y).symm).trans (Cert.Reference8Ideal.LossRef.dx_at (Cert.Kernel8Ideal.LossBack.ins m c) (y 1) (y 0))
      · rw [Cert.Reference8Ideal.Read.val_main_v74_eq, e0, e1, e2, e3, e4, e5]
        funext y
        exact (congrArg _ (ix2_eta y).symm).trans (Cert.Reference8Ideal.LossRef.df_at (Cert.Kernel8Ideal.LossBack.ins m c) (y 1) (y 0))
      · rw [Cert.Reference8Ideal.Read.val_main_v75_eq, e0, e1, e2, e3, e4, e5]
        funext y
        exact Cert.Reference8Ideal.LossRef.loss_at (Cert.Kernel8Ideal.LossBack.ins m c) y
      · rw [Cert.Reference8Ideal.Read.val_main_v71_eq, e0, e1, e2, e3, e4, e5]
        funext y
        exact (congrArg _ (ix3_unit y).symm).trans (Cert.Reference8Ideal.LossRef.dgate_at (Cert.Kernel8Ideal.LossBack.ins m c) (y 0) (y 2))
      · rw [Cert.Reference8Ideal.Read.val_main_v76_eq, e0, e1, e2, e3, e4, e5]
        funext y
        exact (congrArg _ (ix2_unit y).symm).trans (Cert.Reference8Ideal.LossRef.dg_at (Cert.Kernel8Ideal.LossBack.ins m c) (y 1)))
      (Cert.Reference8Ideal.Value.run m' g')⟩

end Cert.Call8

end
-- ==== Proof.OutProj.lean ====
/- The output projection of the mixer, the residual stream behind it, and the normalised and modulated rows after: its arrays as
   functions of the arguments. -/
module

public import proofs.«01_k».proof.Proof.Gen.Kernel9Ideal.Value
public import proofs.«01_k».proof.Proof.Rms
public import Idealize.ShloMosaic.Lib.Pipeline.ValueKit

@[expose] public section

noncomputable section

namespace Cert.Kernel9Ideal.OutProj

open Cert.Kernel9Ideal Cert.Kernel9Ideal.Gen Idealize.ShloMosaic Idealize.ShloMosaic.TcCoe Idealize.ShloMosaic.Pipeline
open scoped BigOperators

/-- The arguments: the rows of the two attentions, the scales of their normalisations, the projection's weight, the residual stream,
    the modulation of each half of the rows, and the scale of the normalisation behind. -/
structure Args where
  oa : Vec Ideal S4096x512 .f32
  ob : Vec Ideal S4096x512 .f32
  ga : Vec Ideal S1x512 .f32
  gb : Vec Ideal S1x512 .f32
  w : Vec Ideal S1024x1024 .bf16
  x0 : Vec Ideal S4096x1024 .f32
  md : Vec Ideal S2x1x6144 .f32
  g : Vec Ideal S1x1024 .f32

namespace Args

variable (A : Args)

def xa (l : Fin 4096) (k : Fin 512) : EReal := A.oa (ix2 l k)
def xb (l : Fin 4096) (k : Fin 512) : EReal := A.ob (ix2 l k)
/-- The two normalised and scaled rows side by side. -/
def o (l : Fin 4096) (k : Fin 1024) : EReal :=
  if h : k.val < 512 then Rms.norm Rms.w512 (A.xa l) ⟨k.val, h⟩ * A.ga (ix2 0 ⟨k.val, h⟩)
  else Rms.norm Rms.w512 (A.xb l) ⟨k.val - 512, by omega⟩ * A.gb (ix2 0 ⟨k.val - 512, by omega⟩)
def mix (l : Fin 4096) (k : Fin 1024) : EReal := ∑ n : Fin 1024, A.o l n * A.w (ix2 n k)
def gate (l : Fin 4096) (k : Fin 1024) : EReal := A.md (ix3 ⟨l.val / 2048, by omega⟩ 0 ⟨2048 + k.val, by omega⟩)
def shift (l : Fin 4096) (k : Fin 1024) : EReal := A.md (ix3 ⟨l.val / 2048, by omega⟩ 0 ⟨3072 + k.val, by omega⟩)
def scale (l : Fin 4096) (k : Fin 1024) : EReal := A.md (ix3 ⟨l.val / 2048, by omega⟩ 0 ⟨4096 + k.val, by omega⟩)
def x1 (l : Fin 4096) (k : Fin 1024) : EReal := A.x0 (ix2 l k) + A.gate l k * A.mix l k
def h2 (l : Fin 4096) (k : Fin 1024) : EReal := Rms.norm Rms.w1024 (A.x1 l) k * A.g (ix2 0 k) * (1 + A.scale l k) + A.shift l k
def row (b : Fin 2) (s : Fin 2048) : Fin 4096 := ⟨b.val * 2048 + s.val, by omega⟩

end Args

section payloads

variable (a b : Vec Ideal S512x512 .f32) (ga gb : Vec Ideal S1x512 .f32) (w : Vec Ideal S1024x1024 .bf16) (e f d : Vec Ideal S1x1x1024 .f32)
  (x : Vec Ideal S512x1024 .f32) (g : Vec Ideal S1x1024 .f32) (v : FVec Ideal S512x1024 .f32) (i : Fin 512) (k : Fin 1024)

theorem sides_at : k0_pay3 a b ga gb (ix2 i k)
    = if h : k.val < 512 then Rms.norm Rms.w512 (fun k => a (ix2 i k)) ⟨k.val, h⟩ * ga (ix2 0 ⟨k.val, h⟩)
      else Rms.norm Rms.w512 (fun k => b (ix2 i k)) ⟨k.val - 512, by omega⟩ * gb (ix2 0 ⟨k.val - 512, by omega⟩) := by
  unfold Rms.norm Rms.inv Rms.var
  pointwise [k0_pay3]
theorem mix_at : k0_pay4 a b ga gb w (ix2 i k) = ∑ n : Fin 1024, k0_pay3 (F := Ideal) a b ga gb (ix2 i n) * w (ix2 n k) := by
  unfold k0_pay4
  generalize k0_pay3 (F := Ideal) a b ga gb = z
  pointwise
theorem stream_at : k0_pay1 v e x (ix2 i k) = x (ix2 i k) + e (ix3 0 0 k) * v (ix2 i k) := by pointwise [k0_pay1]
theorem rows_at : k0_pay2 v e f d x g (ix2 i k) = Rms.norm Rms.w1024 (fun k => k0_pay1 (F := Ideal) v e x (ix2 i k)) k * g (ix2 0 k)
    * (1 + d (ix3 0 0 k)) + f (ix3 0 0 k) := by
  unfold k0_pay2 Rms.norm Rms.inv Rms.var
  generalize k0_pay1 (F := Ideal) v e x = z
  pointwise

end payloads

variable (m : (ℓ : Loc nD τ sig) → Buf (Elt Ideal) ℓ)

def ins (c : Dev nD) : Args :=
  ⟨m ((c.tc : Thread nD τ).loc main_arg0), m ((c.tc : Thread nD τ).loc main_arg1), m ((c.tc : Thread nD τ).loc main_arg2),
    m ((c.tc : Thread nD τ).loc main_arg3), m ((c.tc : Thread nD τ).loc main_arg4), m ((c.tc : Thread nD τ).loc main_arg5),
    m ((c.tc : Thread nD τ).loc main_arg6), m ((c.tc : Thread nD τ).loc main_arg7)⟩

theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] ∧ win0_6.index t = ![t.val / 4, 0, 0]
    ∧ win0_7.index t = ![0, 0] ∧ win0_8.index t = ![t.val, 0] ∧ win0_9.index t = ![t.val, 0] ∧ win0_10.index t = ![t.val, 0]
    ∧ win0_11.index t = ![t.val, 0] :=
  (by decide +kernel : ∀ t : Fin grid0.N, _)
theorem points : cfg0.N = 8 := by decide +kernel

def prow (p : Fin cfg0.N) (i : Fin 512) : Fin 4096 := ⟨p.val * 512 + i.val, by have := lt_of_lt_of_eq p.isLt points; omega⟩

section point
variable (c : Dev nD) (t : Fin cfg0.N) (i : Fin 512) (k : Fin 1024)

theorem oa_at (q : Fin 512) : (show Vec Ideal S512x512 .f32 from iblk m c 0 t) (ix2 i q) = (ins m c).xa (prow t i) q := by
  unfold iblk Args.xa prow ins
  rw [V_main_arg0]
  dsimp only
  blk_point [idx t]
theorem ob_at (q : Fin 512) : (show Vec Ideal S512x512 .f32 from iblk m c 1 t) (ix2 i q) = (ins m c).xb (prow t i) q := by
  unfold iblk Args.xb prow ins
  rw [V_main_arg1]
  dsimp only
  blk_point [idx t]
theorem ga_at (q : Fin 512) : (show Vec Ideal S1x512 .f32 from iblk m c 2 t) (ix2 0 q) = (ins m c).ga (ix2 0 q) := by
  unfold iblk ins
  rw [V_main_arg2]
  dsimp only
  blk_point [idx t]
theorem gb_at (q : Fin 512) : (show Vec Ideal S1x512 .f32 from iblk m c 3 t) (ix2 0 q) = (ins m c).gb (ix2 0 q) := by
  unfold iblk ins
  rw [V_main_arg3]
  dsimp only
  blk_point [idx t]
theorem w_at (n : Fin 1024) : (show Vec Ideal S1024x1024 .bf16 from iblk m c 4 t) (ix2 n k) = (ins m c).w (ix2 n k) := by
  unfold iblk ins
  rw [V_main_arg4]
  dsimp only
  blk_point [idx t]
theorem x0_at : (show Vec Ideal S512x1024 .f32 from iblk m c 5 t) (ix2 i k) = (ins m c).x0 (ix2 (prow t i) k) := by
  unfold iblk prow ins
  rw [V_main_arg5]
  dsimp only
  blk_point [idx t]
theorem g_at : (show Vec Ideal S1x1024 .f32 from iblk m c 7 t) (ix2 0 k) = (ins m c).g (ix2 0 k) := by
  unfold iblk ins
  rw [V_main_arg7]
  dsimp only
  blk_point [idx t]
/-- The gate, the shift and the scale of a point's rows. -/
def gateB : Vec Ideal S1x1x1024 .f32 := View.ld (iblk m c 6 t) (Rect.unit ![0, 0, 2048] ![1, 1, 1024] inb_S1x1x6144_S1x1x1024_0_0_2048)
def shiftB : Vec Ideal S1x1x1024 .f32 := View.ld (iblk m c 6 t) (Rect.unit ![0, 0, 3072] ![1, 1, 1024] inb_S1x1x6144_S1x1x1024_0_0_3072)
def scaleB : Vec Ideal S1x1x1024 .f32 := View.ld (iblk m c 6 t) (Rect.unit ![0, 0, 4096] ![1, 1, 1024] inb_S1x1x6144_S1x1x1024_0_0_4096)
theorem gate_at : gateB m c t (ix3 0 0 k) = (ins m c).gate (prow t i) k := by
  unfold gateB Args.gate prow ins
  dsimp only
  blk_point [iblk, V_main_arg6, idx t]
theorem shift_at : shiftB m c t (ix3 0 0 k) = (ins m c).shift (prow t i) k := by
  unfold shiftB Args.shift prow ins
  dsimp only
  blk_point [iblk, V_main_arg6, idx t]
theorem scale_at : scaleB m c t (ix3 0 0 k) = (ins m c).scale (prow t i) k := by
  unfold scaleB Args.scale prow ins
  dsimp only
  blk_point [iblk, V_main_arg6, idx t]

/-- A point's rows: the normalised ones side by side, their projection, the residual stream, and its normalised and modulated rows. -/
def oB : FVec Ideal S512x1024 .bf16 := k0_pay3 (iblk m c 0 t) (iblk m c 1 t) (iblk m c 2 t) (iblk m c 3 t)
def mixB : FVec Ideal S512x1024 .f32 := k0_pay4 (iblk m c 0 t) (iblk m c 1 t) (iblk m c 2 t) (iblk m c 3 t) (iblk m c 4 t)
def x1B : FVec Ideal S512x1024 .f32 := k0_pay1 (mixB m c t) (gateB m c t) (iblk m c 5 t)
def h2B : FVec Ideal S512x1024 .bf16 := k0_pay2 (mixB m c t) (gateB m c t) (shiftB m c t) (scaleB m c t) (iblk m c 5 t) (iblk m c 7 t)

theorem oB_at : oB m c t (ix2 i k) = (ins m c).o (prow t i) k := by
  refine (sides_at (iblk m c 0 t) (iblk m c 1 t) (iblk m c 2 t) (iblk m c 3 t) i k).trans ?_
  unfold Args.o
  by_cases h : k.val < 512
  · rw [dif_pos h, dif_pos h]
    exact congrArg₂ (· * ·) (congrArg (fun r => Rms.norm Rms.w512 r ⟨k.val, h⟩) (funext fun q => oa_at m c t i q)) (ga_at m c t _)
  · rw [dif_neg h, dif_neg h]
    exact congrArg₂ (· * ·) (congrArg (fun r => Rms.norm Rms.w512 r ⟨k.val - 512, by omega⟩) (funext fun q => ob_at m c t i q)) (gb_at m c t _)
theorem mixB_at : mixB m c t (ix2 i k) = (ins m c).mix (prow t i) k := by
  refine (mix_at (iblk m c 0 t) (iblk m c 1 t) (iblk m c 2 t) (iblk m c 3 t) (iblk m c 4 t) i k).trans ?_
  exact Fin.sum_fin_congr fun n => congrArg₂ (· * ·) (oB_at m c t i n) (w_at m c t k n)
theorem x1B_at : x1B m c t (ix2 i k) = (ins m c).x1 (prow t i) k := by
  refine (stream_at (gateB m c t) (iblk m c 5 t) (mixB m c t) i k).trans ?_
  exact congrArg₂ (· + ·) (x0_at m c t i k) (congrArg₂ (· * ·) (gate_at m c t i k) (mixB_at m c t i k))
theorem h2B_at : h2B m c t (ix2 i k) = (ins m c).h2 (prow t i) k := by
  refine (rows_at (gateB m c t) (shiftB m c t) (scaleB m c t) (iblk m c 5 t) (iblk m c 7 t) (mixB m c t) i k).trans ?_
  refine congrArg₂ (· + ·) (congrArg₂ (· * ·) (congrArg₂ (· * ·) (congrArg (fun r => Rms.norm Rms.w1024 r k) ?_) (g_at m c t k))
    (congrArg (1 + ·) (scale_at m c t i k))) (shift_at m c t i k)
  exact funext fun k => x1B_at m c t i k

end point

theorem o_array (c : Dev nD) : (dats m 0 c).arrAt 8 cfg0.N = fun y => (ins m c).o (y 0) (y 1) := by
  refine (dats m 0 c).arrAt_eq_of_covers 8 _ (by decide +kernel) fun t _ y => ?_
  blk_simp
  rw [after0_8]
  frame_out
  refine ((congrArg (oB m c t) (ix2_eta _).symm).trans (oB_at m c t _ _)).trans (congrArg₂ (ins m c).o (Fin.ext ?_) (Fin.ext ?_)) <;> (try unfold prow) <;> blk_simp [idx t] <;> try omega
theorem mix_array (c : Dev nD) : (dats m 0 c).arrAt 9 cfg0.N = fun y => (ins m c).mix (y 0) (y 1) := by
  refine (dats m 0 c).arrAt_eq_of_covers 9 _ (by decide +kernel) fun t _ y => ?_
  blk_simp
  rw [after0_9]
  frame_out
  refine ((congrArg (mixB m c t) (ix2_eta _).symm).trans (mixB_at m c t _ _)).trans (congrArg₂ (ins m c).mix (Fin.ext ?_) (Fin.ext ?_)) <;> (try unfold prow) <;> blk_simp [idx t] <;> try omega
/-- The projected rows as the later stores take them. -/
theorem pay5 (c : Dev nD) (t : Fin cfg0.N) : k0_pay5 (iblk m c 0 t) (iblk m c 1 t) (iblk m c 2 t) (iblk m c 3 t) (iblk m c 4 t) (iblk m c 5 t)
    (iblk m c 6 t) (iblk m c 7 t) = mixB m c t := by
  unfold k0_pay5 mixB
  simp (disch := decide) only [View.ld_unit_lit']
theorem x1_out (c : Dev nD) (t : Fin cfg0.N) (y : S512x1024.Idx) : (dats m 0 c).after 10 t y = x1B m c t y := by
  rw [after0_10]
  unfold out0_10
  rw [pay5]
  simp (disch := decide) only [View.canon_cons_unit_lit', View.ld_unit_lit']
  rfl
theorem h2_out (c : Dev nD) (t : Fin cfg0.N) (y : S512x1024.Idx) : (dats m 0 c).after 11 t y = h2B m c t y := by
  rw [after0_11]
  unfold out0_11
  rw [pay5]
  simp (disch := decide) only [View.canon_cons_unit_lit', View.ld_unit_lit']
  rfl

theorem x1_array (c : Dev nD) : (dats m 0 c).arrAt 10 cfg0.N = fun y => (ins m c).x1 (y 0) (y 1) := by
  refine (dats m 0 c).arrAt_eq_of_covers 10 _ (by decide +kernel) fun t _ y => ?_
  blk_simp
  refine (x1_out m c t _).trans ?_
  refine ((congrArg (x1B m c t) (ix2_eta _).symm).trans (x1B_at m c t _ _)).trans (congrArg₂ (ins m c).x1 (Fin.ext ?_) (Fin.ext ?_)) <;> (try unfold prow) <;> blk_simp [idx t] <;> try omega
theorem h2_array (c : Dev nD) : (dats m 0 c).arrAt 11 cfg0.N = fun y => (ins m c).h2 (y 0) (y 1) := by
  refine (dats m 0 c).arrAt_eq_of_covers 11 _ (by decide +kernel) fun t _ y => ?_
  blk_simp
  refine (h2_out m c t _).trans ?_
  refine ((congrArg (h2B m c t) (ix2_eta _).symm).trans (h2B_at m c t _ _)).trans (congrArg₂ (ins m c).h2 (Fin.ext ?_) (Fin.ext ?_)) <;> (try unfold prow) <;> blk_simp [idx t] <;> try omega

end Cert.Kernel9Ideal.OutProj

end
-- ==== Proof.OutMix.lean ====
/- The reference's output projection, residual stream, and normalised and modulated rows, at an index. -/
module

public import proofs.«01_k».proof.Proof.Gen.Reference9Ideal.Read
public import proofs.«01_k».proof.Proof.OutProj
public import proofs.«01_k».proof.Proof.RefVals

@[expose] public section

noncomputable section

namespace Cert.Reference9Ideal.OutMix

open Cert.Reference9Ideal Cert.Reference9Ideal.Gen Cert.Reference9Ideal.Read Idealize.ShloMosaic Idealize.ShloMosaic.TcCoe
open Cert.Kernel9Ideal.OutProj (Args)
open scoped BigOperators

variable (A : Args) (l : Fin 4096) (b : Fin 2) (s : Fin 2048) (k : Fin 1024)

theorem v13_at : val_main_v13 A.oa (ix2 l 0) = Rms.var Rms.w512 (A.xa l) := by
  unfold val_main_v13 val_main_v12 val_main_v11 val_main_v10 val_main_v9 val_main_v8 val_main_v7 val_main_cst val_main_cst_0 val_main_cst_1 Rms.var Args.xa
  generalize A.oa = x
  pointwise
theorem v14_at : val_main_v14 A.oa (ix2 l 0) = Rms.inv Rms.w512 (A.xa l) := by
  unfold val_main_v14 Rms.inv
  rw [← v13_at A l]
  rfl
theorem v19_at (k : Fin 512) : val_main_v19 A.oa A.ga (ix2 l k) = Rms.norm Rms.w512 (A.xa l) k * A.ga (ix2 0 k) := by
  unfold val_main_v19 val_main_v18 val_main_v17 val_main_v16 val_main_v15 val_main_v6 Rms.norm
  rw [← v14_at A l]
  unfold Args.xa
  generalize val_main_v14 A.oa = z
  generalize A.oa = x
  generalize A.ga = g
  pointwise
theorem v27_at : val_main_v27 A.ob (ix2 l 0) = Rms.var Rms.w512 (A.xb l) := by
  unfold val_main_v27 val_main_v26 val_main_v25 val_main_v24 val_main_v23 val_main_v22 val_main_v21 val_main_cst_2 val_main_cst_3 val_main_cst_4 Rms.var Args.xb
  generalize A.ob = x
  pointwise
theorem v28_at : val_main_v28 A.ob (ix2 l 0) = Rms.inv Rms.w512 (A.xb l) := by
  unfold val_main_v28 Rms.inv
  rw [← v27_at A l]
  rfl
theorem v33_at (k : Fin 512) : val_main_v33 A.ob A.gb (ix2 l k) = Rms.norm Rms.w512 (A.xb l) k * A.gb (ix2 0 k) := by
  unfold val_main_v33 val_main_v32 val_main_v31 val_main_v30 val_main_v29 val_main_v20 Rms.norm
  rw [← v28_at A l]
  unfold Args.xb
  generalize val_main_v28 A.ob = z
  generalize A.ob = x
  generalize A.gb = g
  pointwise
theorem v34_at : val_main_v34 A.oa A.ob A.ga A.gb (ix2 l k) = A.o l k := by
  unfold val_main_v34 Args.o
  have ea := v19_at A l
  have eb := v33_at A l
  generalize val_main_v19 A.oa A.ga = x at ea
  generalize val_main_v33 A.ob A.gb = z at eb
  pointwise
  simp only [ea, eb]
theorem v36_at : val_main_v36 A.oa A.ob A.ga A.gb A.w (ix2 l k) = A.mix l k := by
  unfold val_main_v36 val_main_v35 Args.mix
  have e := v34_at A l
  generalize val_main_v34 A.oa A.ob A.ga A.gb = x at e
  generalize A.w = z
  pointwise
  simp only [e]
theorem v38_at : val_main_v38 A.oa A.ob A.ga A.gb A.w (ix3 b s k) = A.mix (Args.row b s) k := by
  unfold val_main_v38
  rw [← v36_at A]
  unfold Args.row
  generalize val_main_v36 A.oa A.ob A.ga A.gb A.w = x
  pointwise
  try blk_ext []
theorem v37_at : val_main_v37 A.x0 (ix3 b s k) = A.x0 (ix2 (Args.row b s) k) := by
  unfold val_main_v37 Args.row
  generalize A.x0 = x
  pointwise
  try blk_ext []
theorem v2_at : val_main_v2 A.md (ix3 b 0 k) = A.gate (Args.row b s) k := by
  unfold val_main_v2 Args.gate
  generalize A.md = z
  pointwise
  refine congrArg (fun c => z (ix3 c 0 _)) (Fin.ext ?_)
  unfold Args.row
  dsimp only
  omega
theorem v3_at : val_main_v3 A.md (ix3 b 0 k) = A.shift (Args.row b s) k := by
  unfold val_main_v3 Args.shift
  generalize A.md = z
  pointwise
  refine congrArg (fun c => z (ix3 c 0 _)) (Fin.ext ?_)
  unfold Args.row
  dsimp only
  omega
theorem v4_at : val_main_v4 A.md (ix3 b 0 k) = A.scale (Args.row b s) k := by
  unfold val_main_v4 Args.scale
  generalize A.md = z
  pointwise
  refine congrArg (fun c => z (ix3 c 0 _)) (Fin.ext ?_)
  unfold Args.row
  dsimp only
  omega
theorem v41_at : val_main_v41 A.oa A.ob A.ga A.gb A.w A.x0 A.md (ix3 b s k) = A.x1 (Args.row b s) k := by
  unfold val_main_v41 val_main_v40 val_main_v39 Args.x1
  rw [← v37_at A b s k, ← v38_at A b s k, ← v2_at A b s k]
  generalize val_main_v37 A.x0 = x
  generalize val_main_v38 A.oa A.ob A.ga A.gb A.w = z
  generalize val_main_v2 A.md = u
  pointwise
theorem v49_at : val_main_v49 A.oa A.ob A.ga A.gb A.w A.x0 A.md (ix3 b s 0) = Rms.var Rms.w1024 (A.x1 (Args.row b s)) := by
  unfold val_main_v49 val_main_v48 val_main_v47 val_main_v46 val_main_v45 val_main_v44 val_main_v43 val_main_cst_5 val_main_cst_6 val_main_cst_7 Rms.var
  have e := v41_at A b s
  generalize val_main_v41 A.oa A.ob A.ga A.gb A.w A.x0 A.md = x at e
  pointwise
  simp only [e]
theorem v50_at : val_main_v50 A.oa A.ob A.ga A.gb A.w A.x0 A.md (ix3 b s 0) = Rms.inv Rms.w1024 (A.x1 (Args.row b s)) := by
  unfold val_main_v50 Rms.inv
  rw [← v49_at A b s]
  rfl
theorem v52_at : val_main_v52 A.oa A.ob A.ga A.gb A.w A.x0 A.md (ix3 b s k) = Rms.norm Rms.w1024 (A.x1 (Args.row b s)) k := by
  unfold val_main_v52 val_main_v51 Rms.norm
  rw [← v50_at A b s, ← v41_at A b s k]
  generalize val_main_v50 A.oa A.ob A.ga A.gb A.w A.x0 A.md = x
  generalize val_main_v41 A.oa A.ob A.ga A.gb A.w A.x0 A.md = z
  pointwise
theorem v61_at : val_main_v61 A.oa A.ob A.ga A.gb A.w A.x0 A.md A.g (ix3 b s k) = A.h2 (Args.row b s) k := by
  unfold val_main_v61 val_main_v60 val_main_v59 val_main_v58 val_main_v57 val_main_v56 val_main_v55 val_main_v54 val_main_v53 val_main_v42 val_main_cst_8 Args.h2
  rw [← v52_at A b s k, ← v3_at A b s k, ← v4_at A b s k]
  generalize val_main_v52 A.oa A.ob A.ga A.gb A.w A.x0 A.md = x
  generalize val_main_v3 A.md = u
  generalize val_main_v4 A.md = v
  generalize A.g = g
  pointwise

theorem row_at (l : Fin 4096) : Args.row ⟨l.val / 2048, by omega⟩ ⟨l.val % 2048, by omega⟩ = l := Fin.ext (by unfold Args.row; dsimp only; omega)

/-- The four arrays. -/
theorem o_at : val_main_v62 A.oa A.ob A.ga A.gb (ix2 l k) = A.o l k := by
  unfold val_main_v62
  rw [← v34_at A l k]
  generalize val_main_v34 A.oa A.ob A.ga A.gb = x
  pointwise
theorem x1_at : val_main_v63 A.oa A.ob A.ga A.gb A.w A.x0 A.md (ix2 l k) = A.x1 l k := by
  unfold val_main_v63
  rw [← row_at l, ← v41_at A, row_at]
  generalize val_main_v41 A.oa A.ob A.ga A.gb A.w A.x0 A.md = x
  pointwise
  try blk_ext []
theorem h2_at : val_main_v65 A.oa A.ob A.ga A.gb A.w A.x0 A.md A.g (ix2 l k) = A.h2 l k := by
  unfold val_main_v65 val_main_v64
  rw [← row_at l, ← v61_at A, row_at]
  generalize val_main_v61 A.oa A.ob A.ga A.gb A.w A.x0 A.md A.g = x
  pointwise
  try blk_ext []

end Cert.Reference9Ideal.OutMix

end
-- ==== Proof.Call9.lean ====
/- The mixer's output projection, the residual stream and its normalised and modulated rows: its claims. -/
module

public import proofs.«01_k».proof.Defs
public import proofs.«01_k».proof.Proof.Gen.Kernel9
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.OutProj
public import proofs.«01_k».proof.Proof.OutMix
public import Idealize.ShloMosaic.Adequacy
public import Idealize.ShloMosaic.Init

@[expose] public section

noncomputable section

namespace Cert.Call9

open Idealize.ShloMosaic Idealize.SL.Sem
open scoped BigOperators

set_option maxHeartbeats 1000000 in
/-- The two programs have one text: their tables of bodies are the same. -/
theorem defs_eq {F : FTy → Type} [FloatOps F] : Cert.Kernel9Ideal.defs (F := F) = Cert.Kernel9.defs := by
  have h : Cert.Kernel9Ideal.defs₀ (F := F) = Cert.Kernel9.defs₀ := by
    unfold Cert.Kernel9Ideal.defs₀ Cert.Kernel9.defs₀
    congr 1
    funext x y
    obtain ⟨n, hn⟩ := x
    cases n with
    | zero => obtain ⟨t, s⟩ := y; rfl
    | succ n => exact absurd hn (Nat.not_lt.2 (Nat.le_add_left _ _))
  exact congrArg (Pipeline.defs (Cert.Kernel9Ideal.pcfgs (F := F))) h

set_option maxHeartbeats 1000000 in
theorem frame_kernel : Cert.quiescent_Kernel9 := fun m ρ _ => by
  have h := Cert.Kernel9Ideal.Gen.frame (F := Bits) m ρ
  rw [defs_eq] at h
  exact h

theorem frame_kernelIdeal : Cert.quiescent_Kernel9Ideal := fun m ρ _ => Cert.Kernel9Ideal.Gen.frame m ρ

theorem frame_reference : Cert.quiescent_Reference9Ideal := fun m ρ _ =>
  (θ_run Cert.Reference9Ideal.defs _ _).mono (fun r h => ⟨fun c => (h c).2.2.2.2, sem_eq_zero_of_no_sems (by decide) r.2⟩)
    (Cert.Reference9Ideal.Value.run m ρ)

theorem algebraic : Cert.algebraic_Kernel9Ideal_Reference9Ideal := fun m g m' g' _ heq =>
  ⟨fun c y => (Cert.Kernel9Ideal.OutProj.ins m c).o (y 0) (y 1),
    fun c y => (Cert.Kernel9Ideal.OutProj.ins m c).mix (y 0) (y 1),
    fun c y => (Cert.Kernel9Ideal.OutProj.ins m c).x1 (y 0) (y 1),
    fun c y => (Cert.Kernel9Ideal.OutProj.ins m c).h2 (y 0) (y 1),
    (θ_run _ _ _).mono (fun r h c => ⟨(h c).1.trans (Cert.Kernel9Ideal.OutProj.o_array m c), (h c).2.1.trans (Cert.Kernel9Ideal.OutProj.mix_array m c), (h c).2.2.1.trans (Cert.Kernel9Ideal.OutProj.x1_array m c), (h c).2.2.2.1.trans (Cert.Kernel9Ideal.OutProj.h2_array m c), (h c).2.2.2.2⟩)
      (Cert.Kernel9Ideal.Value.run_blocks m g),
    (θ_run _ _ _).mono (fun r h c => by
      obtain ⟨e0, e1, e2, e3, e4, e5, e6, e7⟩ := heq c
      refine ⟨(h c).1.trans ?_, (h c).2.1.trans ?_, (h c).2.2.1.trans ?_, (h c).2.2.2.1.trans ?_, (h c).2.2.2.2⟩
      · rw [Cert.Reference9Ideal.Read.val_main_v62_eq, e0, e1, e2, e3]
        funext y
        exact (congrArg _ (ix2_eta y).symm).trans (Cert.Reference9Ideal.OutMix.o_at (Cert.Kernel9Ideal.OutProj.ins m c) (y 0) (y 1))
      · rw [Cert.Reference9Ideal.Read.val_main_v36_eq, e0, e1, e2, e3, e4]
        funext y
        exact (congrArg _ (ix2_eta y).symm).trans (Cert.Reference9Ideal.OutMix.v36_at (Cert.Kernel9Ideal.OutProj.ins m c) (y 0) (y 1))
      · rw [Cert.Reference9Ideal.Read.val_main_v63_eq, e0, e1, e2, e3, e4, e5, e6]
        funext y
        exact (congrArg _ (ix2_eta y).symm).trans (Cert.Reference9Ideal.OutMix.x1_at (Cert.Kernel9Ideal.OutProj.ins m c) (y 0) (y 1))
      · rw [Cert.Reference9Ideal.Read.val_main_v65_eq, e0, e1, e2, e3, e4, e5, e6, e7]
        funext y
        exact (congrArg _ (ix2_eta y).symm).trans (Cert.Reference9Ideal.OutMix.h2_at (Cert.Kernel9Ideal.OutProj.ins m c) (y 0) (y 1)))
      (Cert.Reference9Ideal.Value.run m' g')⟩

end Cert.Call9

end
-- ==== Proof.InProj.lean ====
/- The mixer's input projection: a point's rows as functions of the arguments. -/
module

public import proofs.«01_k».proof.Proof.Gen.Kernel10Ideal.Value
public import proofs.«01_k».proof.Proof.Rms
public import Idealize.ShloMosaic.Lib.Pipeline.ValueKit
public import Idealize.ShloMosaic.Lib.StableHlo.RunRead

@[expose] public section

noncomputable section

namespace Cert.Kernel10Ideal.InProj

open Cert.Kernel10Ideal Cert.Kernel10Ideal.Gen Idealize.ShloMosaic Idealize.ShloMosaic.TcCoe Idealize.ShloMosaic.Pipeline
open scoped BigOperators

/-- The arguments: the rows, the modulation of each half of them, the scale of their normalisation, the projection's weight with a row
    for every column of the projection, and the cosines and sines of the angles. -/
structure Args where
  x0 : Vec Ideal S4096x1024 .f32
  md : Vec Ideal S2x1x6144 .f32
  g : Vec Ideal S1x1024 .f32
  w : Vec Ideal S2304x1024 .bf16
  cos : Vec Ideal S2048x32 .f32
  sin : Vec Ideal S2048x32 .f32

namespace Args

variable (A : Args)

def pos (l : Fin 4096) : Fin 2048 := ⟨l.val % 2048, by omega⟩
def shift (l : Fin 4096) (k : Fin 1024) : EReal := A.md (ix3 ⟨l.val / 2048, by omega⟩ 0 ⟨k.val, by omega⟩)
def scale (l : Fin 4096) (k : Fin 1024) : EReal := A.md (ix3 ⟨l.val / 2048, by omega⟩ 0 ⟨1024 + k.val, by omega⟩)
def x (l : Fin 4096) (k : Fin 1024) : EReal := A.x0 (ix2 l k)
/-- The normalised and modulated row. -/
def h (l : Fin 4096) (k : Fin 1024) : EReal := Rms.norm Rms.w1024 (A.x l) k * A.g (ix2 0 k) * (1 + A.scale l k) + A.shift l k
def proj (l : Fin 4096) (n : Fin 2304) : EReal := ∑ k : Fin 1024, A.h l k * A.w (ix2 n k)
/-- The second attention's queries and keys side by side, before the turn. -/
def qk (l : Fin 4096) (j : Fin 640) : EReal := A.proj l ⟨1536 + j.val, by omega⟩
def cosAt (l : Fin 4096) (j : Fin 640) : EReal := A.cos (ix2 (pos l) ⟨j.val % 32, by omega⟩)
def sinAt (l : Fin 4096) (j : Fin 640) : EReal := A.sin (ix2 (pos l) ⟨j.val % 32, by omega⟩)
/-- The queries and keys, each head's columns turned. -/
def turned (l : Fin 4096) (j : Fin 640) : EReal :=
  if h : j.val % 64 < 32 then A.qk l j * A.cosAt l j + A.qk l ⟨j.val + 32, by omega⟩ * -A.sinAt l j
  else A.qk l j * A.cosAt l j + A.qk l ⟨j.val - 32, by omega⟩ * A.sinAt l j
/-- The projection with the second attention's queries and keys turned. -/
def p (l : Fin 4096) (n : Fin 2304) : EReal :=
  if n.val < 1536 then A.proj l n else if h : n.val < 2176 then A.turned l ⟨n.val - 1536, by omega⟩ else A.proj l n
def row (b : Fin 2) (s : Fin 2048) : Fin 4096 := ⟨b.val * 2048 + s.val, by omega⟩

end Args

section payloads

/-- A column within its head, and whether it is of the head's first half. -/
def column : IVec S1024x640 32 :=
  remsi (iota .tc S1024x640 32 [1] iota_S1024x640_d1_w32) (broadcast S1024x640 (Scalar.select (Scalar.cmpi .eq 64#32 0#32) 1#32 64#32))
def firstHalf : IVec S1024x640 1 :=
  cmpi .slt (Idealize.ShloMosaic.select (andi (xori (cmpi .slt column (broadcast S1024x640 0#32))
    (broadcastTo S1024x640 (broadcast S1024x640 (Scalar.cmpi .slt (Scalar.select (Scalar.cmpi .eq 64#32 0#32) 1#32 64#32) 0#32))
      broadcasts_S1024x640_S1024x640)) (cmpi .ne column (broadcast S1024x640 0#32)))
    (addi column (broadcast S1024x640 (Scalar.select (Scalar.cmpi .eq 64#32 0#32) 1#32 64#32))) column) (broadcast S1024x640 32#32)
theorem firstHalf_at (i : Fin 1024) (j : Fin 640) : firstHalf (ix2 i j) = if j.val % 64 < 32 then 1#1 else 0#1 := by
  pointwise [firstHalf, column]
  revert j
  decide +kernel

variable (x : Vec Ideal S1024x1024 .f32) (sh sc : Vec Ideal S1x1x1024 .f32) (g : Vec Ideal S1x1024 .f32) (a : Vec Ideal S1536x1024 .bf16)
  (b : Vec Ideal S640x1024 .bf16) (d : Vec Ideal S128x1024 .bf16) (z : FVec Ideal S1024x1024 .bf16) (v : FVec Ideal S1024x640 .f32)
  (cs sn : Vec Ideal S1024x128 .f32) (i : Fin 1024)

theorem rows_at (k : Fin 1024) : k0_pay3 x sh sc g (ix2 i k) = Rms.norm Rms.w1024 (fun k => x (ix2 i k)) k * g (ix2 0 k)
    * (1 + sc (ix3 0 0 k)) + sh (ix3 0 0 k) := by
  unfold Rms.norm Rms.inv Rms.var
  pointwise [k0_pay3]
theorem front_at (n : Fin 1536) : k0_pay4 x sh sc g a (ix2 i n) = ∑ k : Fin 1024, k0_pay3 (F := Ideal) x sh sc g (ix2 i k) * a (ix2 n k) := by
  unfold k0_pay4
  generalize k0_pay3 (F := Ideal) x sh sc g = z
  pointwise
theorem middle_at (n : Fin 640) : k0_pay5 x sh sc g b (ix2 i n) = ∑ k : Fin 1024, k0_pay3 (F := Ideal) x sh sc g (ix2 i k) * b (ix2 n k) := by
  unfold k0_pay5
  generalize k0_pay3 (F := Ideal) x sh sc g = z
  pointwise
theorem last_at (n : Fin 128) : k0_pay2 z d (ix2 i n) = ∑ k : Fin 1024, z (ix2 i k) * d (ix2 n k) := by pointwise [k0_pay2]

theorem five (d : Fin 128 → EReal) (j : Fin 640) : (if h : j.val < 128 then d ⟨j.val, h⟩
    else if h : j.val - 128 < 128 then d ⟨j.val - 128, h⟩ else if h : j.val - 128 - 128 < 128 then d ⟨j.val - 128 - 128, h⟩
    else if h : j.val - 128 - 128 - 128 < 128 then d ⟨j.val - 128 - 128 - 128, h⟩ else d ⟨j.val - 128 - 128 - 128 - 128, by omega⟩)
    = d ⟨j.val % 128, by omega⟩ := by
  split_ifs <;> refine congrArg d (Fin.ext ?_) <;> dsimp only <;> omega
/-- A block five times side by side. -/
def fiveTimes : FVec Ideal S1024x640 .f32 :=
  concatenate S1024x640 1 [⟨S1024x128, shapeCast S1024x128 cs shapeCasts_S1024x128_S1024x128⟩,
    ⟨S1024x128, shapeCast S1024x128 cs shapeCasts_S1024x128_S1024x128⟩, ⟨S1024x128, shapeCast S1024x128 cs shapeCasts_S1024x128_S1024x128⟩,
    ⟨S1024x128, shapeCast S1024x128 cs shapeCasts_S1024x128_S1024x128⟩, ⟨S1024x128, shapeCast S1024x128 cs shapeCasts_S1024x128_S1024x128⟩]
    concatenates_S1024x128_S1024x128_S1024x128_S1024x128_S1024x128_S1024x640_d1
theorem fiveTimes_at (j : Fin 640) : fiveTimes cs (ix2 i j) = cs (ix2 i ⟨j.val % 128, by omega⟩) := by
  rw [← five (fun k => cs (ix2 i k)) j]
  pointwise [fiveTimes]
theorem turn_at (j : Fin 640) : k0_pay1 (F := Ideal) v cs sn (ix2 i j) = if h : j.val % 64 < 32
    then v (ix2 i j) * cs (ix2 i ⟨j.val % 128, by omega⟩) + v (ix2 i ⟨j.val + 32, by omega⟩) * sn (ix2 i ⟨j.val % 128, by omega⟩)
    else v (ix2 i j) * cs (ix2 i ⟨j.val % 128, by omega⟩) + v (ix2 i ⟨j.val - 32, by omega⟩) * sn (ix2 i ⟨j.val % 128, by omega⟩) := by
  have e : k0_pay1 (F := Ideal) v cs sn = truncf (F := Ideal) .bf16 (addf (mulf v (fiveTimes cs)) (mulf (Idealize.ShloMosaic.select firstHalf
      (dynamicRotate 1 608#32 none v rotates_S1024x640_d1) (dynamicRotate 1 32#32 none v rotates_S1024x640_d1)) (fiveTimes sn)))
      bitsLt_bf16_f32 := rfl
  have ef := firstHalf_at i j
  rw [e, ← fiveTimes_at cs i j, ← fiveTimes_at sn i j]
  clear e
  generalize firstHalf = f at ef ⊢
  generalize fiveTimes cs = p
  generalize fiveTimes sn = q
  pointwise
  rw [ef]
  by_cases h : j.val % 64 < 32
  · rw [if_pos h, dif_pos h]
    refine congrArg (fun n => v (ix2 i j) * p (ix2 i j) + v (ix2 i n) * q (ix2 i j)) (Fin.ext ?_)
    dsimp only
    omega
  · rw [if_neg h, dif_neg h]
    refine congrArg (fun n => v (ix2 i j) * p (ix2 i j) + v (ix2 i n) * q (ix2 i j)) (Fin.ext ?_)
    dsimp only
    omega

end payloads

variable (m : (ℓ : Loc nD τ sig) → Buf (Elt Ideal) ℓ)

def ins (c : Dev nD) : Args :=
  ⟨m ((c.tc : Thread nD τ).loc main_arg0), m ((c.tc : Thread nD τ).loc main_arg1), m ((c.tc : Thread nD τ).loc main_arg2),
    m ((c.tc : Thread nD τ).loc main_arg3), m ((c.tc : Thread nD τ).loc main_arg4), m ((c.tc : Thread nD τ).loc main_arg5)⟩

/-- Four blocks of a table side by side. -/
def side (a b c d : FVec Ideal S2048x32 .f32) : FVec Ideal S2048x128 .f32 :=
  concatenate S2048x128 1 [⟨S2048x32, a⟩, ⟨S2048x32, b⟩, ⟨S2048x32, c⟩, ⟨S2048x32, d⟩]
    concatenates_S2048x32_S2048x32_S2048x32_S2048x32_S2048x128_d1
theorem side_at (a b : FVec Ideal S2048x32 .f32) (s : Fin 2048) (k : Fin 128) :
    side a b a b (ix2 s k) = if k.val % 64 < 32 then a (ix2 s ⟨k.val % 32, by omega⟩) else b (ix2 s ⟨k.val % 32, by omega⟩) := by
  pointwise [side]
  by_cases h1 : k.val < 32
  · rw [dif_pos h1, if_pos (show k.val % 64 < 32 by omega)]
    exact congrArg a (congrArg (ix2 s) (Fin.ext (by dsimp only; omega)))
  rw [dif_neg h1]
  by_cases h2 : k.val - 32 < 32
  · rw [dif_pos h2, if_neg (show ¬ k.val % 64 < 32 by omega)]
    exact congrArg b (congrArg (ix2 s) (Fin.ext (by dsimp only; omega)))
  rw [dif_neg h2]
  by_cases h3 : k.val - 32 - 32 < 32
  · rw [dif_pos h3, if_pos (show k.val % 64 < 32 by omega)]
    exact congrArg a (congrArg (ix2 s) (Fin.ext (by dsimp only; omega)))
  rw [dif_neg h3, if_neg (show ¬ k.val % 64 < 32 by omega)]
  exact congrArg b (congrArg (ix2 s) (Fin.ext (by dsimp only; omega)))
theorem cosTable (c : Dev nD) (a : Vec Ideal S2048x32 .f32) (h : a = m ((c.tc : Thread nD τ).loc main_arg4)) : V m c main_v0 = side a a a a := by
  subst h
  show StableHlo.after hostOps0 _ _ = _
  after_reads_simp
  rfl
theorem sinTable (c : Dev nD) (a : Vec Ideal S2048x32 .f32) (h : a = m ((c.tc : Thread nD τ).loc main_arg5)) :
    V m c main_v3 = side (Host.negf (F := Ideal) a) a (Host.negf (F := Ideal) a) a := by
  subst h
  show StableHlo.after hostOps0 _ _ = _
  after_reads_simp
  rfl

theorem idx : ∀ t : Fin cfg0.N, win0_0.index t = ![t.val, 0] ∧ win0_1.index t = ![t.val / 2, 0, 0] ∧ win0_2.index t = ![0, 0]
    ∧ win0_3.index t = ![0, 0] ∧ win0_4.index t = ![t.val % 2, 0] ∧ win0_5.index t = ![t.val % 2, 0] ∧ win0_6.index t = ![t.val, 0]
    ∧ win0_7.index t = ![t.val, 0] :=
  (by decide +kernel : ∀ t : Fin grid0.N, _)
theorem points : cfg0.N = 4 := by decide +kernel

def prow (p : Fin cfg0.N) (i : Fin 1024) : Fin 4096 := ⟨p.val * 1024 + i.val, by have := lt_of_lt_of_eq p.isLt points; omega⟩

section point
variable (c : Dev nD) (t : Fin cfg0.N) (i : Fin 1024)

theorem x_at (k : Fin 1024) : (show Vec Ideal S1024x1024 .f32 from iblk m c 0 t) (ix2 i k) = (ins m c).x (prow t i) k := by
  unfold iblk Args.x prow ins
  rw [V_main_arg0]
  dsimp only
  blk_point [idx t]
theorem g_at (k : Fin 1024) : (show Vec Ideal S1x1024 .f32 from iblk m c 2 t) (ix2 0 k) = (ins m c).g (ix2 0 k) := by
  unfold iblk ins
  rw [V_main_arg2]
  dsimp only
  blk_point [idx t]
theorem cosTab_at (q : Fin 128) : (show Vec Ideal S1024x128 .f32 from iblk m c 4 t) (ix2 i q)
    = (ins m c).cos (ix2 (Args.pos (prow t i)) ⟨q.val % 32, by omega⟩) := by
  have e := side_at (ins m c).cos (ins m c).cos (Args.pos (prow t i)) q
  rw [ite_self] at e
  rw [← e]
  unfold iblk
  rw [cosTable m c (ins m c).cos rfl]
  generalize side _ _ _ _ = v
  unfold Args.pos prow
  blk_point [idx t]
theorem sinTab_at (q : Fin 128) : (show Vec Ideal S1024x128 .f32 from iblk m c 5 t) (ix2 i q)
    = if q.val % 64 < 32 then -(ins m c).sin (ix2 (Args.pos (prow t i)) ⟨q.val % 32, by omega⟩)
      else (ins m c).sin (ix2 (Args.pos (prow t i)) ⟨q.val % 32, by omega⟩) := by
  refine Eq.trans ?_ (side_at (Host.negf (F := Ideal) (ins m c).sin) (ins m c).sin (Args.pos (prow t i)) q)
  unfold iblk
  rw [sinTable m c (ins m c).sin rfl]
  generalize side _ _ _ _ = v
  unfold Args.pos prow
  blk_point [idx t]
/-- The shift and the scale of a point's rows, and the three parts of the weight. -/
def shiftB : Vec Ideal S1x1x1024 .f32 := View.ld (iblk m c 1 t) (Rect.unit ![0, 0, 0] ![1, 1, 1024] inb_S1x1x6144_S1x1x1024_0_0_0)
def scaleB : Vec Ideal S1x1x1024 .f32 := View.ld (iblk m c 1 t) (Rect.unit ![0, 0, 1024] ![1, 1, 1024] inb_S1x1x6144_S1x1x1024_0_0_1024)
def frontW : Vec Ideal S1536x1024 .bf16 := View.ld (iblk m c 3 t) (Rect.unit ![0, 0] ![1536, 1024] inb_S2304x1024_S1536x1024_0_0)
def middleW : Vec Ideal S640x1024 .bf16 := View.ld (iblk m c 3 t) (Rect.unit ![1536, 0] ![640, 1024] inb_S2304x1024_S640x1024_1536_0)
def lastW : Vec Ideal S128x1024 .bf16 := View.ld (iblk m c 3 t) (Rect.unit ![2176, 0] ![128, 1024] inb_S2304x1024_S128x1024_2176_0)
theorem shift_at (k : Fin 1024) : shiftB m c t (ix3 0 0 k) = (ins m c).shift (prow t i) k := by
  unfold shiftB Args.shift prow ins
  dsimp only
  blk_point [iblk, V_main_arg1, idx t]
theorem scale_at (k : Fin 1024) : scaleB m c t (ix3 0 0 k) = (ins m c).scale (prow t i) k := by
  unfold scaleB Args.scale prow ins
  dsimp only
  blk_point [iblk, V_main_arg1, idx t]
theorem frontW_at (n : Fin 1536) (k : Fin 1024) : frontW m c t (ix2 n k) = (ins m c).w (ix2 ⟨n.val, by omega⟩ k) := by
  unfold frontW ins
  dsimp only
  blk_point [iblk, V_main_arg3, idx t]
theorem middleW_at (n : Fin 640) (k : Fin 1024) : middleW m c t (ix2 n k) = (ins m c).w (ix2 ⟨1536 + n.val, by omega⟩ k) := by
  unfold middleW ins
  dsimp only
  blk_point [iblk, V_main_arg3, idx t]
theorem lastW_at (n : Fin 128) (k : Fin 1024) : lastW m c t (ix2 n k) = (ins m c).w (ix2 ⟨2176 + n.val, by omega⟩ k) := by
  unfold lastW ins
  dsimp only
  blk_point [iblk, V_main_arg3, idx t]

/-- A point's normalised and modulated rows, and the parts of their projection. -/
def hB : FVec Ideal S1024x1024 .bf16 := k0_pay3 (iblk m c 0 t) (shiftB m c t) (scaleB m c t) (iblk m c 2 t)
def frontB : FVec Ideal S1024x1536 .bf16 := k0_pay4 (iblk m c 0 t) (shiftB m c t) (scaleB m c t) (iblk m c 2 t) (frontW m c t)
def middleB : FVec Ideal S1024x640 .f32 := k0_pay5 (iblk m c 0 t) (shiftB m c t) (scaleB m c t) (iblk m c 2 t) (middleW m c t)
def turnedB : FVec Ideal S1024x640 .bf16 := k0_pay1 (middleB m c t) (iblk m c 4 t) (iblk m c 5 t)
def lastB : FVec Ideal S1024x128 .bf16 := k0_pay2 (hB m c t) (lastW m c t)
theorem hB_at (k : Fin 1024) : hB m c t (ix2 i k) = (ins m c).h (prow t i) k := by
  refine (rows_at (iblk m c 0 t) (shiftB m c t) (scaleB m c t) (iblk m c 2 t) i k).trans ?_
  refine congrArg₂ (· + ·) (congrArg₂ (· * ·) (congrArg₂ (· * ·) (congrArg (fun r => Rms.norm Rms.w1024 r k) ?_) (g_at m c t k))
    (congrArg (1 + ·) (scale_at m c t i k))) (shift_at m c t i k)
  exact funext fun k => x_at m c t i k
theorem frontB_at (n : Fin 1536) : frontB m c t (ix2 i n) = (ins m c).proj (prow t i) ⟨n.val, by omega⟩ := by
  refine (front_at (iblk m c 0 t) (shiftB m c t) (scaleB m c t) (iblk m c 2 t) (frontW m c t) i n).trans ?_
  exact Fin.sum_fin_congr fun k => congrArg₂ (· * ·) (hB_at m c t i k) (frontW_at m c t n k)
theorem middleB_at (n : Fin 640) : middleB m c t (ix2 i n) = (ins m c).qk (prow t i) n := by
  refine (middle_at (iblk m c 0 t) (shiftB m c t) (scaleB m c t) (iblk m c 2 t) (middleW m c t) i n).trans ?_
  exact Fin.sum_fin_congr fun k => congrArg₂ (· * ·) (hB_at m c t i k) (middleW_at m c t n k)
theorem lastB_at (n : Fin 128) : lastB m c t (ix2 i n) = (ins m c).proj (prow t i) ⟨2176 + n.val, by omega⟩ := by
  refine (last_at (lastW m c t) (hB m c t) i n).trans ?_
  exact Fin.sum_fin_congr fun k => congrArg₂ (· * ·) (hB_at m c t i k) (lastW_at m c t n k)
theorem turnedB_at (j : Fin 640) : turnedB m c t (ix2 i j) = (ins m c).turned (prow t i) j := by
  refine (turn_at (middleB m c t) (iblk m c 4 t) (iblk m c 5 t) i j).trans ?_
  have ec : (show Vec Ideal S1024x128 .f32 from iblk m c 4 t) (ix2 i ⟨j.val % 128, by omega⟩) = (ins m c).cosAt (prow t i) j := by
    refine (cosTab_at m c t i _).trans (congrArg (ins m c).cos (congrArg (ix2 _) (Fin.ext ?_)))
    dsimp only
    omega
  have en : (⟨j.val % 128 % 32, by omega⟩ : Fin 32) = ⟨j.val % 32, by omega⟩ := Fin.ext (by dsimp only; omega)
  have es := sinTab_at m c t i ⟨j.val % 128, by omega⟩
  unfold Args.turned
  by_cases h : j.val % 64 < 32
  · rw [dif_pos h, dif_pos h]
    rw [if_pos (show j.val % 128 % 64 < 32 by omega)] at es
    refine congrArg₂ (· + ·) (congrArg₂ (· * ·) (middleB_at m c t i j) ec) (congrArg₂ (· * ·) (middleB_at m c t i _) (es.trans ?_))
    exact congrArg (fun n => -(ins m c).sin (ix2 _ n)) en
  · rw [dif_neg h, dif_neg h]
    rw [if_neg (show ¬ j.val % 128 % 64 < 32 by omega)] at es
    refine congrArg₂ (· + ·) (congrArg₂ (· * ·) (middleB_at m c t i j) ec) (congrArg₂ (· * ·) (middleB_at m c t i _) (es.trans ?_))
    exact congrArg (fun n => (ins m c).sin (ix2 _ n)) en

theorem hOut (y : S1024x1024.Idx) : (outsAt0 m c t).1 y = (ins m c).h (prow t (y 0)) (y 1) := by
  rw [← hB_at m c t (y 0) (y 1), ← ix2_eta y]
  unfold outsAt0
  dsimp only
  frame_out
  rfl
theorem pOut (y : S1024x2304.Idx) : (outsAt0 m c t).2 y = (ins m c).p (prow t (y 0)) (y 1) := by
  unfold outsAt0
  dsimp only
  frame_out
  show View.canon (Val := Elt Ideal) (s := S1024x2304) (e := .bf16) [⟨Rect.unit ![0, 2176] ![1024, 128] inb_S1024x2304_S1024x128_0_2176, lastB m c t⟩,
    ⟨Rect.unit ![0, 1536] ![1024, 640] inb_S1024x2304_S1024x640_0_1536, turnedB m c t⟩,
    ⟨Rect.unit ![0, 0] ![1024, 1536] inb_S1024x2304_S1024x1536_0_0, frontB m c t⟩] y = _
  have e (n : Fin 1024) (h : (y 0).val = n.val) : prow t n = prow t (y 0) := congrArg (prow t) (Fin.ext h.symm)
  unfold Args.p
  canon_tiles x h using View.cover_of_tiledBy _ ![1024, 128] (by sl_kernel_rfl) y
  · refine (congrArg (lastB m c t) (ix2_eta x).symm).trans ((lastB_at m c t (x 0) (x 1)).trans ?_)
    rw [if_neg (by omega), dif_neg (by omega)]
    exact congrArg₂ (ins m c).proj (e _ h0) (Fin.ext h1.symm)
  · refine (congrArg (turnedB m c t) (ix2_eta x).symm).trans ((turnedB_at m c t (x 0) (x 1)).trans ?_)
    rw [if_neg (by omega), dif_pos (by omega)]
    refine congrArg₂ (ins m c).turned (e _ h0) (Fin.ext ?_)
    dsimp only
    omega
  · refine (congrArg (frontB m c t) (ix2_eta x).symm).trans ((frontB_at m c t (x 0) (x 1)).trans ?_)
    rw [if_pos (by omega)]
    exact congrArg₂ (ins m c).proj (e _ h0) (Fin.ext h1.symm)

end point

theorem h_array (c : Dev nD) : (dats m 0 c).arrAt 6 cfg0.N = fun y => (ins m c).h (y 0) (y 1) := by
  refine (dats m 0 c).arrAt_eq_of_covers 6 _ (by decide +kernel) fun t _ y => ?_
  blk_simp
  rw [after0_6]
  refine (hOut m c t _).trans (congrArg₂ (ins m c).h (Fin.ext ?_) (Fin.ext ?_)) <;> (try unfold prow) <;> blk_simp [idx t] <;> try omega
theorem p_array (c : Dev nD) : (dats m 0 c).arrAt 7 cfg0.N = fun y => (ins m c).p (y 0) (y 1) := by
  refine (dats m 0 c).arrAt_eq_of_covers 7 _ (by decide +kernel) fun t _ y => ?_
  blk_simp
  rw [after0_7]
  refine (pOut m c t _).trans (congrArg₂ (ins m c).p (Fin.ext ?_) (Fin.ext ?_)) <;> (try unfold prow) <;> blk_simp [idx t] <;> try omega

end Cert.Kernel10Ideal.InProj

end
-- ==== Proof.InMix.lean ====
/- The reference's normalised and modulated rows and their projection, the queries and keys turned, at an index. -/
module

public import proofs.«01_k».proof.Proof.Gen.Reference10Ideal.Read
public import proofs.«01_k».proof.Proof.InProj
public import proofs.«01_k».proof.Proof.RefVals

@[expose] public section

noncomputable section

namespace Cert.Reference10Ideal.InMix

open Cert.Reference10Ideal Cert.Reference10Ideal.Gen Cert.Reference10Ideal.Read Idealize.ShloMosaic Idealize.ShloMosaic.TcCoe
open Cert.Kernel10Ideal.InProj (Args)
open scoped BigOperators

variable (A : Args) (l : Fin 4096) (b : Fin 2) (s : Fin 2048)

theorem v6_at (k : Fin 1024) : val_main_v6 A.x0 (ix3 b s k) = A.x (Args.row b s) k := by
  unfold val_main_v6 Args.x Args.row
  generalize A.x0 = x
  pointwise
  try blk_ext []
theorem v14_at : val_main_v14 A.x0 (ix3 b s 0) = Rms.var Rms.w1024 (A.x (Args.row b s)) := by
  unfold val_main_v14 val_main_v13 val_main_v12 val_main_v11 val_main_v10 val_main_v9 val_main_v8 val_main_cst val_main_cst_0 val_main_cst_1 Rms.var
  have e := v6_at A b s
  generalize val_main_v6 A.x0 = x at e
  pointwise
  simp only [e]
theorem v15_at : val_main_v15 A.x0 (ix3 b s 0) = Rms.inv Rms.w1024 (A.x (Args.row b s)) := by
  unfold val_main_v15 Rms.inv
  rw [← v14_at A b s]
  rfl
theorem v17_at (k : Fin 1024) : val_main_v17 A.x0 (ix3 b s k) = Rms.norm Rms.w1024 (A.x (Args.row b s)) k := by
  unfold val_main_v17 val_main_v16 Rms.norm
  rw [← v15_at A b s, ← v6_at A b s k]
  generalize val_main_v15 A.x0 = x
  generalize val_main_v6 A.x0 = z
  pointwise
theorem v0_at (k : Fin 1024) : val_main_v0 A.md (ix3 b 0 k) = A.shift (Args.row b s) k := by
  unfold val_main_v0 Args.shift
  generalize A.md = z
  pointwise
  refine congrArg (fun c => z (ix3 c 0 _)) (Fin.ext ?_)
  unfold Args.row
  dsimp only
  omega
theorem v1_at (k : Fin 1024) : val_main_v1 A.md (ix3 b 0 k) = A.scale (Args.row b s) k := by
  unfold val_main_v1 Args.scale
  generalize A.md = z
  pointwise
  refine congrArg (fun c => z (ix3 c 0 _)) (Fin.ext ?_)
  unfold Args.row
  dsimp only
  omega
theorem v26_at (k : Fin 1024) : val_main_v26 A.x0 A.md A.g (ix3 b s k) = A.h (Args.row b s) k := by
  unfold val_main_v26 val_main_v25 val_main_v24 val_main_v23 val_main_v22 val_main_v21 val_main_v20 val_main_v19 val_main_v18 val_main_v7 val_main_cst_2 Args.h
  rw [← v17_at A b s k, ← v0_at A b s k, ← v1_at A b s k]
  generalize val_main_v17 A.x0 = x
  generalize val_main_v0 A.md = u
  generalize val_main_v1 A.md = v
  generalize A.g = g
  pointwise
theorem v29_at (n : Fin 2304) : val_main_v29 A.x0 A.md A.g A.w (ix3 b s n) = A.proj (Args.row b s) n := by
  unfold val_main_v29 val_main_v28 val_main_v27 Args.proj
  have e := v26_at A b s
  generalize val_main_v26 A.x0 A.md A.g = x at e
  generalize A.w = w
  pointwise
  simp only [e]

/-- A head's halves before the turn, and the head turned: the queries' eight heads, then the keys' two. -/
theorem v39_at (h : Fin 8) (r : Fin 32) : val_main_v39 A.x0 A.md A.g A.w (ix4 b s h r) = A.proj (Args.row b s) ⟨1536 + (h.val * 64 + r.val), by omega⟩ := by
  rw [← v29_at]
  unfold val_main_v39 val_main_v36 val_main_v33
  generalize val_main_v29 A.x0 A.md A.g A.w = z
  pointwise
  try blk_ext []
theorem v40_at (h : Fin 8) (r : Fin 32) : val_main_v40 A.x0 A.md A.g A.w (ix4 b s h r) = A.proj (Args.row b s) ⟨1536 + (h.val * 64 + r.val + 32), by omega⟩ := by
  rw [← v29_at]
  unfold val_main_v40 val_main_v36 val_main_v33
  generalize val_main_v29 A.x0 A.md A.g A.w = z
  pointwise
  try blk_ext []
theorem v56_at (h : Fin 2) (r : Fin 32) : val_main_v56 A.x0 A.md A.g A.w (ix4 b s h r) = A.proj (Args.row b s) ⟨2048 + (h.val * 64 + r.val), by omega⟩ := by
  rw [← v29_at]
  unfold val_main_v56 val_main_v53 val_main_v34
  generalize val_main_v29 A.x0 A.md A.g A.w = z
  pointwise
  try blk_ext []
theorem v57_at (h : Fin 2) (r : Fin 32) : val_main_v57 A.x0 A.md A.g A.w (ix4 b s h r) = A.proj (Args.row b s) ⟨2048 + (h.val * 64 + r.val + 32), by omega⟩ := by
  rw [← v29_at]
  unfold val_main_v57 val_main_v53 val_main_v34
  generalize val_main_v29 A.x0 A.md A.g A.w = z
  pointwise
  try blk_ext []
theorem v45_at (h : Fin 8) (r : Fin 32) : val_main_v45 A.x0 A.md A.g A.w A.cos A.sin (ix4 b s h r)
    = A.proj (Args.row b s) ⟨1536 + (h.val * 64 + r.val), by omega⟩ * A.cos (ix2 s r)
      - A.proj (Args.row b s) ⟨1536 + (h.val * 64 + r.val + 32), by omega⟩ * A.sin (ix2 s r) := by
  unfold val_main_v45 val_main_v44 val_main_v43 val_main_v42 val_main_v41 val_main_v38 val_main_v37
  rw [← v39_at, ← v40_at]
  generalize val_main_v39 A.x0 A.md A.g A.w = x
  generalize val_main_v40 A.x0 A.md A.g A.w = z
  generalize A.cos = c
  generalize A.sin = n
  pointwise
theorem v50_at (h : Fin 8) (r : Fin 32) : val_main_v50 A.x0 A.md A.g A.w A.cos A.sin (ix4 b s h r)
    = A.proj (Args.row b s) ⟨1536 + (h.val * 64 + r.val + 32), by omega⟩ * A.cos (ix2 s r)
      + A.proj (Args.row b s) ⟨1536 + (h.val * 64 + r.val), by omega⟩ * A.sin (ix2 s r) := by
  unfold val_main_v50 val_main_v49 val_main_v48 val_main_v47 val_main_v46 val_main_v38 val_main_v37
  rw [← v39_at, ← v40_at]
  generalize val_main_v39 A.x0 A.md A.g A.w = x
  generalize val_main_v40 A.x0 A.md A.g A.w = z
  generalize A.cos = c
  generalize A.sin = n
  pointwise
theorem v62_at (h : Fin 2) (r : Fin 32) : val_main_v62 A.x0 A.md A.g A.w A.cos A.sin (ix4 b s h r)
    = A.proj (Args.row b s) ⟨2048 + (h.val * 64 + r.val), by omega⟩ * A.cos (ix2 s r)
      - A.proj (Args.row b s) ⟨2048 + (h.val * 64 + r.val + 32), by omega⟩ * A.sin (ix2 s r) := by
  unfold val_main_v62 val_main_v61 val_main_v60 val_main_v59 val_main_v58 val_main_v55 val_main_v54
  rw [← v56_at, ← v57_at]
  generalize val_main_v56 A.x0 A.md A.g A.w = x
  generalize val_main_v57 A.x0 A.md A.g A.w = z
  generalize A.cos = c
  generalize A.sin = n
  pointwise
theorem v67_at (h : Fin 2) (r : Fin 32) : val_main_v67 A.x0 A.md A.g A.w A.cos A.sin (ix4 b s h r)
    = A.proj (Args.row b s) ⟨2048 + (h.val * 64 + r.val + 32), by omega⟩ * A.cos (ix2 s r)
      + A.proj (Args.row b s) ⟨2048 + (h.val * 64 + r.val), by omega⟩ * A.sin (ix2 s r) := by
  unfold val_main_v67 val_main_v66 val_main_v65 val_main_v64 val_main_v63 val_main_v55 val_main_v54
  rw [← v56_at, ← v57_at]
  generalize val_main_v56 A.x0 A.md A.g A.w = x
  generalize val_main_v57 A.x0 A.md A.g A.w = z
  generalize A.cos = c
  generalize A.sin = n
  pointwise

/-- The turn of a column from the projection's columns and the table's. -/
theorem first_half (j : Fin 640) (r : Fin 32) (n n' : Fin 2304) (hr : j.val % 64 = r.val) (hn : n.val = 1536 + j.val) (hn' : n'.val = 1536 + j.val + 32) :
    A.proj (Args.row b s) n * A.cos (ix2 s r) - A.proj (Args.row b s) n' * A.sin (ix2 s r) = A.turned (Args.row b s) j := by
  have e1 : Args.pos (Args.row b s) = s := Fin.ext (by unfold Args.pos Args.row; dsimp only; omega)
  have e2 : (⟨j.val % 32, by omega⟩ : Fin 32) = r := Fin.ext (by dsimp only; omega)
  unfold Args.turned Args.cosAt Args.sinAt Args.qk
  rw [dif_pos (show j.val % 64 < 32 by omega), e1, e2, mul_neg, ← sub_eq_add_neg]
  refine congrArg₂ (· - ·) (congrArg (· * _) (congrArg (A.proj _) (Fin.ext hn))) (congrArg (· * _) (congrArg (A.proj _) (Fin.ext ?_)))
  dsimp only
  omega
theorem second_half (j : Fin 640) (r : Fin 32) (n n' : Fin 2304) (hr : j.val % 64 = r.val + 32) (hn : n.val = 1536 + j.val) (hn' : n'.val + 32 = 1536 + j.val) :
    A.proj (Args.row b s) n * A.cos (ix2 s r) + A.proj (Args.row b s) n' * A.sin (ix2 s r) = A.turned (Args.row b s) j := by
  have e1 : Args.pos (Args.row b s) = s := Fin.ext (by unfold Args.pos Args.row; dsimp only; omega)
  have e2 : (⟨j.val % 32, by omega⟩ : Fin 32) = r := Fin.ext (by dsimp only; omega)
  unfold Args.turned Args.cosAt Args.sinAt Args.qk
  rw [dif_neg (show ¬ j.val % 64 < 32 by omega), e1, e2]
  refine congrArg₂ (· + ·) (congrArg (· * _) (congrArg (A.proj _) (Fin.ext hn))) (congrArg (· * _) (congrArg (A.proj _) (Fin.ext ?_)))
  dsimp only
  omega
theorem v52_at (j : Fin 512) : val_main_v52 A.x0 A.md A.g A.w A.cos A.sin (ix3 b s j) = A.turned (Args.row b s) ⟨j.val, by omega⟩ := by
  unfold val_main_v52 val_main_v51
  have e1 := v45_at A b s
  have e2 := v50_at A b s
  generalize val_main_v45 A.x0 A.md A.g A.w A.cos A.sin = x at e1
  generalize val_main_v50 A.x0 A.md A.g A.w A.cos A.sin = z at e2
  pointwise
  by_cases h : j.val % 64 < 32
  · rw [dif_pos h, e1]
    exact first_half A b s ⟨j.val, by omega⟩ ⟨j.val % 64, h⟩ _ _ (by dsimp only <;> omega) (by dsimp only <;> omega) (by dsimp only <;> omega)
  · rw [dif_neg h, e2]
    exact second_half A b s ⟨j.val, by omega⟩ ⟨j.val % 64 - 32, by omega⟩ _ _ (by dsimp only <;> omega) (by dsimp only <;> omega) (by dsimp only <;> omega)
theorem v69_at (j : Fin 128) : val_main_v69 A.x0 A.md A.g A.w A.cos A.sin (ix3 b s j) = A.turned (Args.row b s) ⟨512 + j.val, by omega⟩ := by
  unfold val_main_v69 val_main_v68
  have e1 := v62_at A b s
  have e2 := v67_at A b s
  generalize val_main_v62 A.x0 A.md A.g A.w A.cos A.sin = x at e1
  generalize val_main_v67 A.x0 A.md A.g A.w A.cos A.sin = z at e2
  pointwise
  by_cases h : j.val % 64 < 32
  · rw [dif_pos h, e1]
    exact first_half A b s ⟨512 + j.val, by omega⟩ ⟨j.val % 64, h⟩ _ _ (by dsimp only <;> omega) (by dsimp only <;> omega) (by dsimp only <;> omega)
  · rw [dif_neg h, e2]
    exact second_half A b s ⟨512 + j.val, by omega⟩ ⟨j.val % 64 - 32, by omega⟩ _ _ (by dsimp only <;> omega) (by dsimp only <;> omega) (by dsimp only <;> omega)
theorem v30_at (j : Fin 512) : val_main_v30 A.x0 A.md A.g A.w (ix3 b s j) = A.proj (Args.row b s) ⟨j.val, by omega⟩ := by
  rw [← v29_at]
  unfold val_main_v30
  generalize val_main_v29 A.x0 A.md A.g A.w = z
  pointwise
theorem v31_at (j : Fin 512) : val_main_v31 A.x0 A.md A.g A.w (ix3 b s j) = A.proj (Args.row b s) ⟨512 + j.val, by omega⟩ := by
  rw [← v29_at]
  unfold val_main_v31
  generalize val_main_v29 A.x0 A.md A.g A.w = z
  pointwise
theorem v32_at (j : Fin 512) : val_main_v32 A.x0 A.md A.g A.w (ix3 b s j) = A.proj (Args.row b s) ⟨1024 + j.val, by omega⟩ := by
  rw [← v29_at]
  unfold val_main_v32
  generalize val_main_v29 A.x0 A.md A.g A.w = z
  pointwise
theorem v35_at (j : Fin 128) : val_main_v35 A.x0 A.md A.g A.w (ix3 b s j) = A.proj (Args.row b s) ⟨2176 + j.val, by omega⟩ := by
  rw [← v29_at]
  unfold val_main_v35
  generalize val_main_v29 A.x0 A.md A.g A.w = z
  pointwise
theorem v72_at (n : Fin 2304) : val_main_v72 A.x0 A.md A.g A.w A.cos A.sin (ix3 b s n) = A.p (Args.row b s) n := by
  have e1 := v30_at A b s
  have e2 := v31_at A b s
  have e3 := v32_at A b s
  have e4 := v52_at A b s
  have e5 := v69_at A b s
  have e6 := v35_at A b s
  unfold val_main_v72
  generalize val_main_v30 A.x0 A.md A.g A.w = z1 at e1
  generalize val_main_v31 A.x0 A.md A.g A.w = z2 at e2
  generalize val_main_v32 A.x0 A.md A.g A.w = z3 at e3
  generalize val_main_v52 A.x0 A.md A.g A.w A.cos A.sin = z4 at e4
  generalize val_main_v69 A.x0 A.md A.g A.w A.cos A.sin = z5 at e5
  generalize val_main_v35 A.x0 A.md A.g A.w = z6 at e6
  pointwise
  unfold Args.p
  by_cases h1 : n.val < 512
  · rw [dif_pos h1]
    exact (e1 ⟨n.val, h1⟩).trans (if_pos (by omega)).symm
  rw [dif_neg h1]
  by_cases h2 : n.val < 1024
  · rw [dif_pos (show n.val - 512 < 512 by omega)]
    exact ((e2 ⟨n.val - 512, by omega⟩).trans (congrArg (A.proj _) (Fin.ext (by dsimp only <;> omega)))).trans (if_pos (by omega)).symm
  rw [dif_neg (show ¬ n.val - 512 < 512 by omega)]
  by_cases h3 : n.val < 1536
  · rw [dif_pos (show n.val - 512 - 512 < 512 by omega)]
    exact ((e3 ⟨n.val - 512 - 512, by omega⟩).trans (congrArg (A.proj _) (Fin.ext (by dsimp only <;> omega)))).trans (if_pos h3).symm
  rw [dif_neg (show ¬ n.val - 512 - 512 < 512 by omega)]
  by_cases h4 : n.val < 2048
  · rw [dif_pos (show n.val - 512 - 512 - 512 < 512 by omega)]
    refine (e4 ⟨n.val - 512 - 512 - 512, by omega⟩).trans (Eq.trans ?_ ((if_neg h3).trans (dif_pos (show n.val < 2176 by omega))).symm)
    exact congrArg (A.turned _) (Fin.ext (by dsimp only <;> omega))
  rw [dif_neg (show ¬ n.val - 512 - 512 - 512 < 512 by omega)]
  by_cases h5 : n.val < 2176
  · rw [dif_pos (show n.val - 512 - 512 - 512 - 512 < 128 by omega)]
    refine (e5 ⟨n.val - 512 - 512 - 512 - 512, by omega⟩).trans (Eq.trans ?_ ((if_neg h3).trans (dif_pos h5)).symm)
    exact congrArg (A.turned _) (Fin.ext (by dsimp only <;> omega))
  rw [dif_neg (show ¬ n.val - 512 - 512 - 512 - 512 < 128 by omega)]
  refine (e6 ⟨n.val - 512 - 512 - 512 - 512 - 128, by omega⟩).trans (Eq.trans ?_ ((if_neg h3).trans (dif_neg h5)).symm)
  exact congrArg (A.proj _) (Fin.ext (by dsimp only <;> omega))

theorem row_at (l : Fin 4096) : Args.row ⟨l.val / 2048, by omega⟩ ⟨l.val % 2048, by omega⟩ = l := Fin.ext (by unfold Args.row; dsimp only; omega)

/-- The two arrays. -/
theorem h_at (k : Fin 1024) : val_main_v71 A.x0 A.md A.g (ix2 l k) = A.h l k := by
  unfold val_main_v71 val_main_v70
  rw [← row_at l, ← v26_at A, row_at]
  generalize val_main_v26 A.x0 A.md A.g = x
  pointwise
  try blk_ext []
theorem p_at (n : Fin 2304) : val_main_v74 A.x0 A.md A.g A.w A.cos A.sin (ix2 l n) = A.p l n := by
  unfold val_main_v74 val_main_v73
  rw [← row_at l, ← v72_at A, row_at]
  generalize val_main_v72 A.x0 A.md A.g A.w A.cos A.sin = x
  pointwise
  try blk_ext []

end Cert.Reference10Ideal.InMix

end
-- ==== Proof.Call10.lean ====
/- The mixer's input projection: its claims. -/
module

public import proofs.«01_k».proof.Defs
public import proofs.«01_k».proof.Proof.Gen.Kernel10
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.InProj
public import proofs.«01_k».proof.Proof.InMix
public import Idealize.ShloMosaic.Adequacy
public import Idealize.ShloMosaic.Init

@[expose] public section

noncomputable section

namespace Cert.Call10

open Idealize.ShloMosaic Idealize.SL.Sem
open scoped BigOperators

set_option maxHeartbeats 1000000 in
/-- The two programs have one text: their tables of bodies are the same. -/
theorem defs_eq {F : FTy → Type} [FloatOps F] : Cert.Kernel10Ideal.defs (F := F) = Cert.Kernel10.defs := by
  have h : Cert.Kernel10Ideal.defs₀ (F := F) = Cert.Kernel10.defs₀ := by
    unfold Cert.Kernel10Ideal.defs₀ Cert.Kernel10.defs₀
    congr 1
    funext x y
    obtain ⟨n, hn⟩ := x
    cases n with
    | zero => obtain ⟨t, s⟩ := y; rfl
    | succ n => exact absurd hn (Nat.not_lt.2 (Nat.le_add_left _ _))
  exact congrArg (Pipeline.defs (Cert.Kernel10Ideal.pcfgs (F := F))) h

set_option maxHeartbeats 1000000 in
theorem frame_kernel : Cert.quiescent_Kernel10 := fun m ρ _ => by
  have h := Cert.Kernel10Ideal.Gen.frame (F := Bits) m ρ
  rw [defs_eq] at h
  exact h

theorem frame_kernelIdeal : Cert.quiescent_Kernel10Ideal := fun m ρ _ => Cert.Kernel10Ideal.Gen.frame m ρ

theorem frame_reference : Cert.quiescent_Reference10Ideal := fun m ρ _ =>
  (θ_run Cert.Reference10Ideal.defs _ _).mono (fun r h => ⟨fun c => (h c).2.2, sem_eq_zero_of_no_sems (by decide) r.2⟩)
    (Cert.Reference10Ideal.Value.run m ρ)

theorem algebraic : Cert.algebraic_Kernel10Ideal_Reference10Ideal := fun m g m' g' _ heq =>
  ⟨fun c y => (Cert.Kernel10Ideal.InProj.ins m c).h (y 0) (y 1),
    fun c y => (Cert.Kernel10Ideal.InProj.ins m c).p (y 0) (y 1),
    (θ_run _ _ _).mono (fun r h c => ⟨(h c).1.trans (Cert.Kernel10Ideal.InProj.h_array m c), (h c).2.1.trans (Cert.Kernel10Ideal.InProj.p_array m c), (h c).2.2⟩)
      (Cert.Kernel10Ideal.Value.run_blocks m g),
    (θ_run _ _ _).mono (fun r h c => by
      obtain ⟨e0, e1, e2, e3, e4, e5⟩ := heq c
      refine ⟨(h c).1.trans ?_, (h c).2.1.trans ?_, (h c).2.2⟩
      · rw [Cert.Reference10Ideal.Read.val_main_v71_eq, e0, e1, e2]
        funext y
        exact (congrArg _ (ix2_eta y).symm).trans (Cert.Reference10Ideal.InMix.h_at (Cert.Kernel10Ideal.InProj.ins m c) (y 0) (y 1))
      · rw [Cert.Reference10Ideal.Read.val_main_v74_eq, e0, e1, e2, e3, e4, e5]
        funext y
        exact (congrArg _ (ix2_eta y).symm).trans (Cert.Reference10Ideal.InMix.p_at (Cert.Kernel10Ideal.InProj.ins m c) (y 0) (y 1)))
      (Cert.Reference10Ideal.Value.run m' g')⟩

end Cert.Call10

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Grid
public import proofs.«01_k».proof.Proof.Arrays
public import proofs.«01_k».proof.Proof.RefDu
public import proofs.«01_k».proof.Proof.Finite
public import proofs.«01_k».proof.Proof.Call2
public import proofs.«01_k».proof.Proof.Call3
public import proofs.«01_k».proof.Proof.Call4
public import proofs.«01_k».proof.Proof.Call5
public import proofs.«01_k».proof.Proof.Call6
public import proofs.«01_k».proof.Proof.Call7
public import proofs.«01_k».proof.Proof.Call8
public import proofs.«01_k».proof.Proof.Call9
public import proofs.«01_k».proof.Proof.Call10
public import Idealize.ShloMosaic.Adequacy
public import Idealize.ShloMosaic.Init

@[expose] public section

noncomputable section

namespace Cert.Proof

open Idealize.ShloMosaic Idealize.SL.Sem

/-- The two programs have one text: their tables of bodies are the same. -/
theorem defs_eq {F : FTy → Type} [FloatOps F] : Cert.KernelIdeal.defs (F := F) = Cert.Kernel.defs := by
  have h : Cert.KernelIdeal.defs₀ (F := F) = Cert.Kernel.defs₀ := by
    unfold Cert.KernelIdeal.defs₀ Cert.Kernel.defs₀
    congr 1
    funext x y
    obtain ⟨n, hn⟩ := x
    cases n with
    | zero => obtain ⟨t, s⟩ := y; rfl
    | succ n => exact absurd hn (Nat.not_lt.2 (Nat.le_add_left _ _))
  unfold Cert.KernelIdeal.defs
  rw [h]
  rfl

theorem frame_kernel : Cert.quiescent_Kernel := fun m ρ _ => by
  have h := Cert.KernelIdeal.FB.frame_main (F := Bits) m ρ
  rw [defs_eq] at h
  exact h

theorem frame_kernelIdeal : Cert.quiescent_KernelIdeal := fun m ρ _ => Cert.KernelIdeal.FB.frame_main m ρ

theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run m ρ)

/-- The kernel's run with its three results as functions of the arguments. -/
theorem run_kernel (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      fun r => ∀ c : Dev Cert.KernelIdeal.nD,
        r.2.mem ((c.tc : Thread Cert.KernelIdeal.nD Cert.KernelIdeal.τ).loc Cert.KernelIdeal.main_v0_0)
          = (fun y => (Cert.KernelIdeal.FB.ins m c).du (y 2) (y 0) (y 1))
        ∧ r.2.mem ((c.tc : Thread Cert.KernelIdeal.nD Cert.KernelIdeal.τ).loc Cert.KernelIdeal.main_v0_1)
          = (fun y => (Cert.KernelIdeal.FB.ins m c).gw (y 1) (y 0))
        ∧ r.2.mem ((c.tc : Thread Cert.KernelIdeal.nD Cert.KernelIdeal.τ).loc Cert.KernelIdeal.main_v0_2)
          = (fun y => (Cert.KernelIdeal.FB.ins m c).gb (y 1)) :=
  (θ_run Cert.KernelIdeal.defs _ _).mono (fun r h c =>
    ⟨((h c).1 5).trans (Cert.KernelIdeal.FB.du_array m c), ((h c).1 6).trans (Cert.KernelIdeal.FB.gw_array m c),
      ((h c).1 7).trans (Cert.KernelIdeal.FB.gb_array m c)⟩) (Cert.KernelIdeal.FB.run_main m g)

/-- The reference's arguments are the kernel's. -/
theorem args_eq (m : (ℓ : Loc Cert.KernelIdeal.nD Cert.KernelIdeal.τ Cert.KernelIdeal.sig) → Buf (Elt Ideal) ℓ)
    (c : Dev Cert.KernelIdeal.nD) :
    Cert.ReferenceIdeal.FB.args (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
    = Cert.KernelIdeal.FB.ins m c := rfl

/-- What comes back through the down projection, times the value, is real under the precondition. -/
theorem back_real (m : (ℓ : Loc Cert.KernelIdeal.nD Cert.KernelIdeal.τ Cert.KernelIdeal.sig) → Buf (Elt Ideal) ℓ)
    (h : Cert.Pre_KernelIdeal_finite m) (c : Dev Cert.KernelIdeal.nD) (b : Fin 2) (n : Fin 2816) (s : Fin 2048) :
    Cert.FB.IsReal ((Cert.KernelIdeal.FB.ins m c).a b n s * (Cert.KernelIdeal.FB.ins m c).v b n s) :=
  have ⟨h0, h1, h2⟩ := Cert.Pre_finite.real_of_fn _ _ _ _ _ (h c)
  ((Cert.KernelIdeal.FB.ins m c).a_real (fun _ _ => h0 _) (fun _ _ => h1 _) b n s).mul (h2 _ n)

theorem algebraic : Cert.algebraic_KernelIdeal_ReferenceIdeal_pre_finite := fun m g m' g' hpre heq =>
  ⟨fun c y => (Cert.KernelIdeal.FB.ins m c).du (y 2) (y 0) (y 1), fun c y => (Cert.KernelIdeal.FB.ins m c).gw (y 1) (y 0),
    fun c y => (Cert.KernelIdeal.FB.ins m c).gb (y 1),
    (θ_run _ _ _).mono (fun r h c => ⟨(h.1 c).1, (h.1 c).2.1, (h.1 c).2.2, h.2.1 c⟩)
      (θ_run_and (run_kernel m g) (Cert.KernelIdeal.FB.frame_main m g)),
    (θ_run _ _ _).mono (fun r h c => by
      obtain ⟨e0, e1, e2, e3, e4⟩ := heq c
      have hr := back_real m hpre c
      refine ⟨(h c).1.trans ?_, (h c).2.1.trans ?_, (h c).2.2.1.trans ?_, (h c).2.2.2⟩
      · rw [Cert.ReferenceIdeal.Read.val_main_v86_eq, e0, e1, e2, e3, e4]
        funext y
        exact (congrArg _ (ix3_eta y).symm).trans (Cert.ReferenceIdeal.FB.v86_at _ _ _ _ _ hr (y 0) (y 1) (y 2))
      · rw [Cert.ReferenceIdeal.Read.val_main_v76_eq, e0, e1, e2, e3, e4]
        funext y
        exact (congrArg _ (ix2_eta y).symm).trans (Cert.ReferenceIdeal.FB.v76_at _ _ _ _ _ hr (y 0) (y 1))
      · rw [Cert.ReferenceIdeal.Read.val_main_v47_eq, e0, e1, e2, e3, e4]
        funext y
        have e : y = ix2 0 (y 1) := (ix2_eta y).symm.trans (congrArg (ix2 · (y 1)) (Subsingleton.elim (α := Fin 1) _ _))
        exact (congrArg _ e).trans (Cert.ReferenceIdeal.FB.v47_at _ _ _ _ _ hr (y 1)))
      (Cert.ReferenceIdeal.Value.run m' g')⟩

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts,
  Cert.Kernel6Ideal.Gen.facts, Cert.Reference6Ideal.Gen.facts, Cert.Kernel7.Gen.facts, Cert.Kernel7Ideal.Gen.facts,
  Cert.Reference7Ideal.Gen.facts, Cert.Kernel8.Gen.facts, Cert.Kernel8Ideal.Gen.facts, Cert.Reference8Ideal.Gen.facts,
  Cert.Kernel9.Gen.facts, Cert.Kernel9Ideal.Gen.facts, Cert.Reference9Ideal.Gen.facts, Cert.Kernel10.Gen.facts,
  Cert.Kernel10Ideal.Gen.facts, Cert.Reference10Ideal.Gen.facts, Cert.Pre_finite.facts,
  frame_kernel, frame_kernelIdeal, fun m g _ => frame_kernelIdeal m g trivial, frame_reference,
  fun m g _ => frame_reference m g trivial,
  Cert.Call2.frame_kernel, Cert.Call2.frame_kernelIdeal, Cert.Call2.frame_reference,
  Cert.Call3.frame_kernel, Cert.Call3.frame_kernelIdeal, Cert.Call3.frame_reference,
  Cert.Call4.frame_kernel, Cert.Call4.frame_kernelIdeal, Cert.Call4.frame_reference,
  Cert.Call5.frame_kernel, Cert.Call5.frame_kernelIdeal, Cert.Call5.frame_reference,
  Cert.Call6.frame_kernel, Cert.Call6.frame_kernelIdeal, Cert.Call6.frame_reference,
  Cert.Call7.frame_kernel, Cert.Call7.frame_kernelIdeal, Cert.Call7.frame_reference,
  Cert.Call8.frame_kernel, Cert.Call8.frame_kernelIdeal, Cert.Call8.frame_reference,
  Cert.Call9.frame_kernel, Cert.Call9.frame_kernelIdeal, Cert.Call9.frame_reference,
  Cert.Call10.frame_kernel, Cert.Call10.frame_kernelIdeal, Cert.Call10.frame_reference,
  trivial, algebraic, trivial, Cert.Call2.algebraic, trivial, Cert.Call3.algebraic, trivial, Cert.Call4.algebraic,
  trivial, Cert.Call5.algebraic, trivial, Cert.Call6.algebraic, trivial, Cert.Call7.algebraic, trivial, Cert.Call8.algebraic,
  trivial, Cert.Call9.algebraic, trivial, Cert.Call10.algebraic⟩

end Cert.Proof

end
